-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_RefMlpIdeal (m : (ℓ : Loc Cert.RefMlpIdeal.nD Cert.RefMlpIdeal.τ Cert.RefMlpIdeal.sig) → Buf (Elt Ideal) ℓ) : Prop :=
  True

def Pre_ProjNa (m : (ℓ : Loc Cert.ProjNa.nD Cert.ProjNa.τ Cert.ProjNa.sig) → Buf (Elt Bits) ℓ) : Prop :=
  True

def Pre_ProjNaIdeal (m : (ℓ : Loc Cert.ProjNaIdeal.nD Cert.ProjNaIdeal.τ Cert.ProjNaIdeal.sig) → Buf (Elt Ideal) ℓ) : Prop :=
  True

def Pre_RefNaIdeal (m : (ℓ : Loc Cert.RefNaIdeal.nD Cert.RefNaIdeal.τ Cert.RefNaIdeal.sig) → Buf (Elt Ideal) ℓ) : Prop :=
  True

def Pre_ProjDn (m : (ℓ : Loc Cert.ProjDn.nD Cert.ProjDn.τ Cert.ProjDn.sig) → Buf (Elt Bits) ℓ) : Prop :=
  True

def Pre_ProjDnIdeal (m : (ℓ : Loc Cert.ProjDnIdeal.nD Cert.ProjDnIdeal.τ Cert.ProjDnIdeal.sig) → Buf (Elt Ideal) ℓ) : Prop :=
  True

def Pre_RefDnIdeal (m : (ℓ : Loc Cert.RefDnIdeal.nD Cert.RefDnIdeal.τ Cert.RefDnIdeal.sig) → Buf (Elt Ideal) ℓ) : Prop :=
  True

def Pre_ProjZg (m : (ℓ : Loc Cert.ProjZg.nD Cert.ProjZg.τ Cert.ProjZg.sig) → Buf (Elt Bits) ℓ) : Prop :=
  True

def Pre_ProjZgIdeal (m : (ℓ : Loc Cert.ProjZgIdeal.nD Cert.ProjZgIdeal.τ Cert.ProjZgIdeal.sig) → Buf (Elt Ideal) ℓ) : Prop :=
  True

def Pre_RefZgIdeal (m : (ℓ : Loc Cert.RefZgIdeal.nD Cert.RefZgIdeal.τ Cert.RefZgIdeal.sig) → Buf (Elt Ideal) ℓ) : Prop :=
  True

def Pre_ProjSmall (m : (ℓ : Loc Cert.ProjSmall.nD Cert.ProjSmall.τ Cert.ProjSmall.sig) → Buf (Elt Bits) ℓ) : Prop :=
  True

def Pre_ProjSmallIdeal (m : (ℓ : Loc Cert.ProjSmallIdeal.nD Cert.ProjSmallIdeal.τ Cert.ProjSmallIdeal.sig) → Buf (Elt Ideal) ℓ) : Prop :=
  True

def Pre_RefSmallIdeal (m : (ℓ : Loc Cert.RefSmallIdeal.nD Cert.RefSmallIdeal.τ Cert.RefSmallIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_RefMergeIdeal (m : (ℓ : Loc Cert.RefMergeIdeal.nD Cert.RefMergeIdeal.τ Cert.RefMergeIdeal.sig) → Buf (Elt Ideal) ℓ) : Prop :=
  True

def Pre_MlaKv (m : (ℓ : Loc Cert.MlaKv.nD Cert.MlaKv.τ Cert.MlaKv.sig) → Buf (Elt Bits) ℓ) : Prop :=
  True

def Pre_MlaKvIdeal (m : (ℓ : Loc Cert.MlaKvIdeal.nD Cert.MlaKvIdeal.τ Cert.MlaKvIdeal.sig) → Buf (Elt Ideal) ℓ) : Prop :=
  True

def Pre_RefKvIdeal (m : (ℓ : Loc Cert.RefKvIdeal.nD Cert.RefKvIdeal.τ Cert.RefKvIdeal.sig) → Buf (Elt Ideal) ℓ) : Prop :=
  True

def Pre_MlaQ (m : (ℓ : Loc Cert.MlaQ.nD Cert.MlaQ.τ Cert.MlaQ.sig) → Buf (Elt Bits) ℓ) : Prop :=
  True

def Pre_MlaQIdeal (m : (ℓ : Loc Cert.MlaQIdeal.nD Cert.MlaQIdeal.τ Cert.MlaQIdeal.sig) → Buf (Elt Ideal) ℓ) : Prop :=
  True

def Pre_RefQIdeal (m : (ℓ : Loc Cert.RefQIdeal.nD Cert.RefQIdeal.τ Cert.RefQIdeal.sig) → Buf (Elt Ideal) ℓ) : Prop :=
  True

def Pre_MlpCtx (m : (ℓ : Loc Cert.MlpCtx.nD Cert.MlpCtx.τ Cert.MlpCtx.sig) → Buf (Elt Bits) ℓ) : Prop :=
  True

def Pre_MlpCtxIdeal (m : (ℓ : Loc Cert.MlpCtxIdeal.nD Cert.MlpCtxIdeal.τ Cert.MlpCtxIdeal.sig) → Buf (Elt Ideal) ℓ) : Prop :=
  True

def Pre_RefMlpCtxIdeal (m : (ℓ : Loc Cert.RefMlpCtxIdeal.nD Cert.RefMlpCtxIdeal.τ Cert.RefMlpCtxIdeal.sig) → Buf (Elt Ideal) ℓ) : Prop :=
  True

def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanIdeal_finite_scan [hPre_finite_scan : Cert.Pre_finite_scan.Facts] (m : (ℓ : Loc Cert.ScanIdeal.nD Cert.ScanIdeal.τ Cert.ScanIdeal.sig) → Buf (Elt Ideal) ℓ) : Prop :=
  ∀ c : Dev Cert.ScanIdeal.nD,
    (Cert.Pre_finite_scan.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1))) = (fun _ => 1#1)

def Pre_RefScanIdeal (m : (ℓ : Loc Cert.RefScanIdeal.nD Cert.RefScanIdeal.τ Cert.RefScanIdeal.sig) → Buf (Elt Ideal) ℓ) : Prop :=
  True

def Pre_RefScanIdeal_finite_scan [hPre_finite_scan : Cert.Pre_finite_scan.Facts] (m : (ℓ : Loc Cert.RefScanIdeal.nD Cert.RefScanIdeal.τ Cert.RefScanIdeal.sig) → Buf (Elt Ideal) ℓ) : Prop :=
  ∀ c : Dev Cert.RefScanIdeal.nD,
    (Cert.Pre_finite_scan.fn (F := Ideal) (m ((c.tc : Thread Cert.RefScanIdeal.nD Cert.RefScanIdeal.τ).loc Cert.RefScanIdeal.main_arg0)) (m ((c.tc : Thread Cert.RefScanIdeal.nD Cert.RefScanIdeal.τ).loc Cert.RefScanIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ r.2.sem = fun _ => 0)

def quiescent_RefMlpIdeal [hRefMlpIdeal : Cert.RefMlpIdeal.Facts] : Prop :=
  ∀ (m : (ℓ : Loc Cert.RefMlpIdeal.nD Cert.RefMlpIdeal.τ Cert.RefMlpIdeal.sig) → Buf (Elt Ideal) ℓ) (g : Dev Cert.RefMlpIdeal.nD → PrngReg), Pre_RefMlpIdeal m →
    θ_run (Cert.RefMlpIdeal.defs (F := Ideal)) (onTc (τ := Cert.RefMlpIdeal.τ) (Cert.RefMlpIdeal.main (F := Ideal))) ⟨m, fun _ => 0, g⟩ (fun r => (∀ c : Dev Cert.RefMlpIdeal.nD,
      r.2.mem ((c.tc : Thread Cert.RefMlpIdeal.nD Cert.RefMlpIdeal.τ).loc Cert.RefMlpIdeal.main_arg0) = m ((c.tc : Thread Cert.RefMlpIdeal.nD Cert.RefMlpIdeal.τ).loc Cert.RefMlpIdeal.main_arg0)
      ∧ r.2.mem ((c.tc : Thread Cert.RefMlpIdeal.nD Cert.RefMlpIdeal.τ).loc Cert.RefMlpIdeal.main_arg1) = m ((c.tc : Thread Cert.RefMlpIdeal.nD Cert.RefMlpIdeal.τ).loc Cert.RefMlpIdeal.main_arg1)
      ∧ r.2.mem ((c.tc : Thread Cert.RefMlpIdeal.nD Cert.RefMlpIdeal.τ).loc Cert.RefMlpIdeal.main_arg2) = m ((c.tc : Thread Cert.RefMlpIdeal.nD Cert.RefMlpIdeal.τ).loc Cert.RefMlpIdeal.main_arg2)
      ∧ r.2.mem ((c.tc : Thread Cert.RefMlpIdeal.nD Cert.RefMlpIdeal.τ).loc Cert.RefMlpIdeal.main_arg3) = m ((c.tc : Thread Cert.RefMlpIdeal.nD Cert.RefMlpIdeal.τ).loc Cert.RefMlpIdeal.main_arg3)
      ∧ r.2.mem ((c.tc : Thread Cert.RefMlpIdeal.nD Cert.RefMlpIdeal.τ).loc Cert.RefMlpIdeal.main_arg4) = m ((c.tc : Thread Cert.RefMlpIdeal.nD Cert.RefMlpIdeal.τ).loc Cert.RefMlpIdeal.main_arg4)
      ∧ r.2.mem ((c.tc : Thread Cert.RefMlpIdeal.nD Cert.RefMlpIdeal.τ).loc Cert.RefMlpIdeal.main_arg5) = m ((c.tc : Thread Cert.RefMlpIdeal.nD Cert.RefMlpIdeal.τ).loc Cert.RefMlpIdeal.main_arg5)
      ∧ r.2.mem ((c.tc : Thread Cert.RefMlpIdeal.nD Cert.RefMlpIdeal.τ).loc Cert.RefMlpIdeal.main_arg6) = m ((c.tc : Thread Cert.RefMlpIdeal.nD Cert.RefMlpIdeal.τ).loc Cert.RefMlpIdeal.main_arg6)
      ∧ r.2.mem ((c.tc : Thread Cert.RefMlpIdeal.nD Cert.RefMlpIdeal.τ).loc Cert.RefMlpIdeal.main_arg7) = m ((c.tc : Thread Cert.RefMlpIdeal.nD Cert.RefMlpIdeal.τ).loc Cert.RefMlpIdeal.main_arg7))
      ∧ r.2.sem = fun _ => 0)

def quiescent_ProjNa [hProjNa : Cert.ProjNa.Facts] : Prop :=
  ∀ (m : (ℓ : Loc Cert.ProjNa.nD Cert.ProjNa.τ Cert.ProjNa.sig) → Buf (Elt Bits) ℓ) (g : Dev Cert.ProjNa.nD → PrngReg), Pre_ProjNa m →
    θ_run (Cert.ProjNa.defs (F := Bits)) (onTc (τ := Cert.ProjNa.τ) (Cert.ProjNa.main (F := Bits))) ⟨m, fun _ => 0, g⟩ (fun r => (∀ c : Dev Cert.ProjNa.nD,
      r.2.mem ((c.tc : Thread Cert.ProjNa.nD Cert.ProjNa.τ).loc Cert.ProjNa.main_arg0) = m ((c.tc : Thread Cert.ProjNa.nD Cert.ProjNa.τ).loc Cert.ProjNa.main_arg0)
      ∧ r.2.mem ((c.tc : Thread Cert.ProjNa.nD Cert.ProjNa.τ).loc Cert.ProjNa.main_arg1) = m ((c.tc : Thread Cert.ProjNa.nD Cert.ProjNa.τ).loc Cert.ProjNa.main_arg1)
      ∧ r.2.mem ((c.tc : Thread Cert.ProjNa.nD Cert.ProjNa.τ).loc Cert.ProjNa.main_arg2) = m ((c.tc : Thread Cert.ProjNa.nD Cert.ProjNa.τ).loc Cert.ProjNa.main_arg2)
      ∧ r.2.mem ((c.tc : Thread Cert.ProjNa.nD Cert.ProjNa.τ).loc Cert.ProjNa.main_arg3) = m ((c.tc : Thread Cert.ProjNa.nD Cert.ProjNa.τ).loc Cert.ProjNa.main_arg3)
      ∧ r.2.mem ((c.tc : Thread Cert.ProjNa.nD Cert.ProjNa.τ).loc Cert.ProjNa.main_arg4) = m ((c.tc : Thread Cert.ProjNa.nD Cert.ProjNa.τ).loc Cert.ProjNa.main_arg4))
      ∧ r.2.sem = fun _ => 0)

def quiescent_ProjNaIdeal [hProjNaIdeal : Cert.ProjNaIdeal.Facts] : Prop :=
  ∀ (m : (ℓ : Loc Cert.ProjNaIdeal.nD Cert.ProjNaIdeal.τ Cert.ProjNaIdeal.sig) → Buf (Elt Ideal) ℓ) (g : Dev Cert.ProjNaIdeal.nD → PrngReg), Pre_ProjNaIdeal m →
    θ_run (Cert.ProjNaIdeal.defs (F := Ideal)) (onTc (τ := Cert.ProjNaIdeal.τ) (Cert.ProjNaIdeal.main (F := Ideal))) ⟨m, fun _ => 0, g⟩ (fun r => (∀ c : Dev Cert.ProjNaIdeal.nD,
      r.2.mem ((c.tc : Thread Cert.ProjNaIdeal.nD Cert.ProjNaIdeal.τ).loc Cert.ProjNaIdeal.main_arg0) = m ((c.tc : Thread Cert.ProjNaIdeal.nD Cert.ProjNaIdeal.τ).loc Cert.ProjNaIdeal.main_arg0)
      ∧ r.2.mem ((c.tc : Thread Cert.ProjNaIdeal.nD Cert.ProjNaIdeal.τ).loc Cert.ProjNaIdeal.main_arg1) = m ((c.tc : Thread Cert.ProjNaIdeal.nD Cert.ProjNaIdeal.τ).loc Cert.ProjNaIdeal.main_arg1)
      ∧ r.2.mem ((c.tc : Thread Cert.ProjNaIdeal.nD Cert.ProjNaIdeal.τ).loc Cert.ProjNaIdeal.main_arg2) = m ((c.tc : Thread Cert.ProjNaIdeal.nD Cert.ProjNaIdeal.τ).loc Cert.ProjNaIdeal.main_arg2)
      ∧ r.2.mem ((c.tc : Thread Cert.ProjNaIdeal.nD Cert.ProjNaIdeal.τ).loc Cert.ProjNaIdeal.main_arg3) = m ((c.tc : Thread Cert.ProjNaIdeal.nD Cert.ProjNaIdeal.τ).loc Cert.ProjNaIdeal.main_arg3)
      ∧ r.2.mem ((c.tc : Thread Cert.ProjNaIdeal.nD Cert.ProjNaIdeal.τ).loc Cert.ProjNaIdeal.main_arg4) = m ((c.tc : Thread Cert.ProjNaIdeal.nD Cert.ProjNaIdeal.τ).loc Cert.ProjNaIdeal.main_arg4))
      ∧ r.2.sem = fun _ => 0)

def quiescent_RefNaIdeal [hRefNaIdeal : Cert.RefNaIdeal.Facts] : Prop :=
  ∀ (m : (ℓ : Loc Cert.RefNaIdeal.nD Cert.RefNaIdeal.τ Cert.RefNaIdeal.sig) → Buf (Elt Ideal) ℓ) (g : Dev Cert.RefNaIdeal.nD → PrngReg), Pre_RefNaIdeal m →
    θ_run (Cert.RefNaIdeal.defs (F := Ideal)) (onTc (τ := Cert.RefNaIdeal.τ) (Cert.RefNaIdeal.main (F := Ideal))) ⟨m, fun _ => 0, g⟩ (fun r => (∀ c : Dev Cert.RefNaIdeal.nD,
      r.2.mem ((c.tc : Thread Cert.RefNaIdeal.nD Cert.RefNaIdeal.τ).loc Cert.RefNaIdeal.main_arg0) = m ((c.tc : Thread Cert.RefNaIdeal.nD Cert.RefNaIdeal.τ).loc Cert.RefNaIdeal.main_arg0)
      ∧ r.2.mem ((c.tc : Thread Cert.RefNaIdeal.nD Cert.RefNaIdeal.τ).loc Cert.RefNaIdeal.main_arg1) = m ((c.tc : Thread Cert.RefNaIdeal.nD Cert.RefNaIdeal.τ).loc Cert.RefNaIdeal.main_arg1)
      ∧ r.2.mem ((c.tc : Thread Cert.RefNaIdeal.nD Cert.RefNaIdeal.τ).loc Cert.RefNaIdeal.main_arg2) = m ((c.tc : Thread Cert.RefNaIdeal.nD Cert.RefNaIdeal.τ).loc Cert.RefNaIdeal.main_arg2)
      ∧ r.2.mem ((c.tc : Thread Cert.RefNaIdeal.nD Cert.RefNaIdeal.τ).loc Cert.RefNaIdeal.main_arg3) = m ((c.tc : Thread Cert.RefNaIdeal.nD Cert.RefNaIdeal.τ).loc Cert.RefNaIdeal.main_arg3)
      ∧ r.2.mem ((c.tc : Thread Cert.RefNaIdeal.nD Cert.RefNaIdeal.τ).loc Cert.RefNaIdeal.main_arg4) = m ((c.tc : Thread Cert.RefNaIdeal.nD Cert.RefNaIdeal.τ).loc Cert.RefNaIdeal.main_arg4))
      ∧ r.2.sem = fun _ => 0)

def quiescent_ProjDn [hProjDn : Cert.ProjDn.Facts] : Prop :=
  ∀ (m : (ℓ : Loc Cert.ProjDn.nD Cert.ProjDn.τ Cert.ProjDn.sig) → Buf (Elt Bits) ℓ) (g : Dev Cert.ProjDn.nD → PrngReg), Pre_ProjDn m →
    θ_run (Cert.ProjDn.defs (F := Bits)) (onTc (τ := Cert.ProjDn.τ) (Cert.ProjDn.main (F := Bits))) ⟨m, fun _ => 0, g⟩ (fun r => (∀ c : Dev Cert.ProjDn.nD,
      r.2.mem ((c.tc : Thread Cert.ProjDn.nD Cert.ProjDn.τ).loc Cert.ProjDn.main_arg0) = m ((c.tc : Thread Cert.ProjDn.nD Cert.ProjDn.τ).loc Cert.ProjDn.main_arg0)
      ∧ r.2.mem ((c.tc : Thread Cert.ProjDn.nD Cert.ProjDn.τ).loc Cert.ProjDn.main_arg1) = m ((c.tc : Thread Cert.ProjDn.nD Cert.ProjDn.τ).loc Cert.ProjDn.main_arg1)
      ∧ r.2.mem ((c.tc : Thread Cert.ProjDn.nD Cert.ProjDn.τ).loc Cert.ProjDn.main_arg2) = m ((c.tc : Thread Cert.ProjDn.nD Cert.ProjDn.τ).loc Cert.ProjDn.main_arg2)
      ∧ r.2.mem ((c.tc : Thread Cert.ProjDn.nD Cert.ProjDn.τ).loc Cert.ProjDn.main_arg3) = m ((c.tc : Thread Cert.ProjDn.nD Cert.ProjDn.τ).loc Cert.ProjDn.main_arg3)
      ∧ r.2.mem ((c.tc : Thread Cert.ProjDn.nD Cert.ProjDn.τ).loc Cert.ProjDn.main_arg4) = m ((c.tc : Thread Cert.ProjDn.nD Cert.ProjDn.τ).loc Cert.ProjDn.main_arg4))
      ∧ r.2.sem = fun _ => 0)

def quiescent_ProjDnIdeal [hProjDnIdeal : Cert.ProjDnIdeal.Facts] : Prop :=
  ∀ (m : (ℓ : Loc Cert.ProjDnIdeal.nD Cert.ProjDnIdeal.τ Cert.ProjDnIdeal.sig) → Buf (Elt Ideal) ℓ) (g : Dev Cert.ProjDnIdeal.nD → PrngReg), Pre_ProjDnIdeal m →
    θ_run (Cert.ProjDnIdeal.defs (F := Ideal)) (onTc (τ := Cert.ProjDnIdeal.τ) (Cert.ProjDnIdeal.main (F := Ideal))) ⟨m, fun _ => 0, g⟩ (fun r => (∀ c : Dev Cert.ProjDnIdeal.nD,
      r.2.mem ((c.tc : Thread Cert.ProjDnIdeal.nD Cert.ProjDnIdeal.τ).loc Cert.ProjDnIdeal.main_arg0) = m ((c.tc : Thread Cert.ProjDnIdeal.nD Cert.ProjDnIdeal.τ).loc Cert.ProjDnIdeal.main_arg0)
      ∧ r.2.mem ((c.tc : Thread Cert.ProjDnIdeal.nD Cert.ProjDnIdeal.τ).loc Cert.ProjDnIdeal.main_arg1) = m ((c.tc : Thread Cert.ProjDnIdeal.nD Cert.ProjDnIdeal.τ).loc Cert.ProjDnIdeal.main_arg1)
      ∧ r.2.mem ((c.tc : Thread Cert.ProjDnIdeal.nD Cert.ProjDnIdeal.τ).loc Cert.ProjDnIdeal.main_arg2) = m ((c.tc : Thread Cert.ProjDnIdeal.nD Cert.ProjDnIdeal.τ).loc Cert.ProjDnIdeal.main_arg2)
      ∧ r.2.mem ((c.tc : Thread Cert.ProjDnIdeal.nD Cert.ProjDnIdeal.τ).loc Cert.ProjDnIdeal.main_arg3) = m ((c.tc : Thread Cert.ProjDnIdeal.nD Cert.ProjDnIdeal.τ).loc Cert.ProjDnIdeal.main_arg3)
      ∧ r.2.mem ((c.tc : Thread Cert.ProjDnIdeal.nD Cert.ProjDnIdeal.τ).loc Cert.ProjDnIdeal.main_arg4) = m ((c.tc : Thread Cert.ProjDnIdeal.nD Cert.ProjDnIdeal.τ).loc Cert.ProjDnIdeal.main_arg4))
      ∧ r.2.sem = fun _ => 0)

def quiescent_RefDnIdeal [hRefDnIdeal : Cert.RefDnIdeal.Facts] : Prop :=
  ∀ (m : (ℓ : Loc Cert.RefDnIdeal.nD Cert.RefDnIdeal.τ Cert.RefDnIdeal.sig) → Buf (Elt Ideal) ℓ) (g : Dev Cert.RefDnIdeal.nD → PrngReg), Pre_RefDnIdeal m →
    θ_run (Cert.RefDnIdeal.defs (F := Ideal)) (onTc (τ := Cert.RefDnIdeal.τ) (Cert.RefDnIdeal.main (F := Ideal))) ⟨m, fun _ => 0, g⟩ (fun r => (∀ c : Dev Cert.RefDnIdeal.nD,
      r.2.mem ((c.tc : Thread Cert.RefDnIdeal.nD Cert.RefDnIdeal.τ).loc Cert.RefDnIdeal.main_arg0) = m ((c.tc : Thread Cert.RefDnIdeal.nD Cert.RefDnIdeal.τ).loc Cert.RefDnIdeal.main_arg0)
      ∧ r.2.mem ((c.tc : Thread Cert.RefDnIdeal.nD Cert.RefDnIdeal.τ).loc Cert.RefDnIdeal.main_arg1) = m ((c.tc : Thread Cert.RefDnIdeal.nD Cert.RefDnIdeal.τ).loc Cert.RefDnIdeal.main_arg1)
      ∧ r.2.mem ((c.tc : Thread Cert.RefDnIdeal.nD Cert.RefDnIdeal.τ).loc Cert.RefDnIdeal.main_arg2) = m ((c.tc : Thread Cert.RefDnIdeal.nD Cert.RefDnIdeal.τ).loc Cert.RefDnIdeal.main_arg2)
      ∧ r.2.mem ((c.tc : Thread Cert.RefDnIdeal.nD Cert.RefDnIdeal.τ).loc Cert.RefDnIdeal.main_arg3) = m ((c.tc : Thread Cert.RefDnIdeal.nD Cert.RefDnIdeal.τ).loc Cert.RefDnIdeal.main_arg3)
      ∧ r.2.mem ((c.tc : Thread Cert.RefDnIdeal.nD Cert.RefDnIdeal.τ).loc Cert.RefDnIdeal.main_arg4) = m ((c.tc : Thread Cert.RefDnIdeal.nD Cert.RefDnIdeal.τ).loc Cert.RefDnIdeal.main_arg4))
      ∧ r.2.sem = fun _ => 0)

def quiescent_ProjZg [hProjZg : Cert.ProjZg.Facts] : Prop :=
  ∀ (m : (ℓ : Loc Cert.ProjZg.nD Cert.ProjZg.τ Cert.ProjZg.sig) → Buf (Elt Bits) ℓ) (g : Dev Cert.ProjZg.nD → PrngReg), Pre_ProjZg m →
    θ_run (Cert.ProjZg.defs (F := Bits)) (onTc (τ := Cert.ProjZg.τ) (Cert.ProjZg.main (F := Bits))) ⟨m, fun _ => 0, g⟩ (fun r => (∀ c : Dev Cert.ProjZg.nD,
      r.2.mem ((c.tc : Thread Cert.ProjZg.nD Cert.ProjZg.τ).loc Cert.ProjZg.main_arg0) = m ((c.tc : Thread Cert.ProjZg.nD Cert.ProjZg.τ).loc Cert.ProjZg.main_arg0)
      ∧ r.2.mem ((c.tc : Thread Cert.ProjZg.nD Cert.ProjZg.τ).loc Cert.ProjZg.main_arg1) = m ((c.tc : Thread Cert.ProjZg.nD Cert.ProjZg.τ).loc Cert.ProjZg.main_arg1)
      ∧ r.2.mem ((c.tc : Thread Cert.ProjZg.nD Cert.ProjZg.τ).loc Cert.ProjZg.main_arg2) = m ((c.tc : Thread Cert.ProjZg.nD Cert.ProjZg.τ).loc Cert.ProjZg.main_arg2)
      ∧ r.2.mem ((c.tc : Thread Cert.ProjZg.nD Cert.ProjZg.τ).loc Cert.ProjZg.main_arg3) = m ((c.tc : Thread Cert.ProjZg.nD Cert.ProjZg.τ).loc Cert.ProjZg.main_arg3)
      ∧ r.2.mem ((c.tc : Thread Cert.ProjZg.nD Cert.ProjZg.τ).loc Cert.ProjZg.main_arg4) = m ((c.tc : Thread Cert.ProjZg.nD Cert.ProjZg.τ).loc Cert.ProjZg.main_arg4))
      ∧ r.2.sem = fun _ => 0)

def quiescent_ProjZgIdeal [hProjZgIdeal : Cert.ProjZgIdeal.Facts] : Prop :=
  ∀ (m : (ℓ : Loc Cert.ProjZgIdeal.nD Cert.ProjZgIdeal.τ Cert.ProjZgIdeal.sig) → Buf (Elt Ideal) ℓ) (g : Dev Cert.ProjZgIdeal.nD → PrngReg), Pre_ProjZgIdeal m →
    θ_run (Cert.ProjZgIdeal.defs (F := Ideal)) (onTc (τ := Cert.ProjZgIdeal.τ) (Cert.ProjZgIdeal.main (F := Ideal))) ⟨m, fun _ => 0, g⟩ (fun r => (∀ c : Dev Cert.ProjZgIdeal.nD,
      r.2.mem ((c.tc : Thread Cert.ProjZgIdeal.nD Cert.ProjZgIdeal.τ).loc Cert.ProjZgIdeal.main_arg0) = m ((c.tc : Thread Cert.ProjZgIdeal.nD Cert.ProjZgIdeal.τ).loc Cert.ProjZgIdeal.main_arg0)
      ∧ r.2.mem ((c.tc : Thread Cert.ProjZgIdeal.nD Cert.ProjZgIdeal.τ).loc Cert.ProjZgIdeal.main_arg1) = m ((c.tc : Thread Cert.ProjZgIdeal.nD Cert.ProjZgIdeal.τ).loc Cert.ProjZgIdeal.main_arg1)
      ∧ r.2.mem ((c.tc : Thread Cert.ProjZgIdeal.nD Cert.ProjZgIdeal.τ).loc Cert.ProjZgIdeal.main_arg2) = m ((c.tc : Thread Cert.ProjZgIdeal.nD Cert.ProjZgIdeal.τ).loc Cert.ProjZgIdeal.main_arg2)
      ∧ r.2.mem ((c.tc : Thread Cert.ProjZgIdeal.nD Cert.ProjZgIdeal.τ).loc Cert.ProjZgIdeal.main_arg3) = m ((c.tc : Thread Cert.ProjZgIdeal.nD Cert.ProjZgIdeal.τ).loc Cert.ProjZgIdeal.main_arg3)
      ∧ r.2.mem ((c.tc : Thread Cert.ProjZgIdeal.nD Cert.ProjZgIdeal.τ).loc Cert.ProjZgIdeal.main_arg4) = m ((c.tc : Thread Cert.ProjZgIdeal.nD Cert.ProjZgIdeal.τ).loc Cert.ProjZgIdeal.main_arg4))
      ∧ r.2.sem = fun _ => 0)

def quiescent_RefZgIdeal [hRefZgIdeal : Cert.RefZgIdeal.Facts] : Prop :=
  ∀ (m : (ℓ : Loc Cert.RefZgIdeal.nD Cert.RefZgIdeal.τ Cert.RefZgIdeal.sig) → Buf (Elt Ideal) ℓ) (g : Dev Cert.RefZgIdeal.nD → PrngReg), Pre_RefZgIdeal m →
    θ_run (Cert.RefZgIdeal.defs (F := Ideal)) (onTc (τ := Cert.RefZgIdeal.τ) (Cert.RefZgIdeal.main (F := Ideal))) ⟨m, fun _ => 0, g⟩ (fun r => (∀ c : Dev Cert.RefZgIdeal.nD,
      r.2.mem ((c.tc : Thread Cert.RefZgIdeal.nD Cert.RefZgIdeal.τ).loc Cert.RefZgIdeal.main_arg0) = m ((c.tc : Thread Cert.RefZgIdeal.nD Cert.RefZgIdeal.τ).loc Cert.RefZgIdeal.main_arg0)
      ∧ r.2.mem ((c.tc : Thread Cert.RefZgIdeal.nD Cert.RefZgIdeal.τ).loc Cert.RefZgIdeal.main_arg1) = m ((c.tc : Thread Cert.RefZgIdeal.nD Cert.RefZgIdeal.τ).loc Cert.RefZgIdeal.main_arg1)
      ∧ r.2.mem ((c.tc : Thread Cert.RefZgIdeal.nD Cert.RefZgIdeal.τ).loc Cert.RefZgIdeal.main_arg2) = m ((c.tc : Thread Cert.RefZgIdeal.nD Cert.RefZgIdeal.τ).loc Cert.RefZgIdeal.main_arg2)
      ∧ r.2.mem ((c.tc : Thread Cert.RefZgIdeal.nD Cert.RefZgIdeal.τ).loc Cert.RefZgIdeal.main_arg3) = m ((c.tc : Thread Cert.RefZgIdeal.nD Cert.RefZgIdeal.τ).loc Cert.RefZgIdeal.main_arg3)
      ∧ r.2.mem ((c.tc : Thread Cert.RefZgIdeal.nD Cert.RefZgIdeal.τ).loc Cert.RefZgIdeal.main_arg4) = m ((c.tc : Thread Cert.RefZgIdeal.nD Cert.RefZgIdeal.τ).loc Cert.RefZgIdeal.main_arg4))
      ∧ r.2.sem = fun _ => 0)

def quiescent_ProjSmall [hProjSmall : Cert.ProjSmall.Facts] : Prop :=
  ∀ (m : (ℓ : Loc Cert.ProjSmall.nD Cert.ProjSmall.τ Cert.ProjSmall.sig) → Buf (Elt Bits) ℓ) (g : Dev Cert.ProjSmall.nD → PrngReg), Pre_ProjSmall m →
    θ_run (Cert.ProjSmall.defs (F := Bits)) (onTc (τ := Cert.ProjSmall.τ) (Cert.ProjSmall.main (F := Bits))) ⟨m, fun _ => 0, g⟩ (fun r => (∀ c : Dev Cert.ProjSmall.nD,
      r.2.mem ((c.tc : Thread Cert.ProjSmall.nD Cert.ProjSmall.τ).loc Cert.ProjSmall.main_arg0) = m ((c.tc : Thread Cert.ProjSmall.nD Cert.ProjSmall.τ).loc Cert.ProjSmall.main_arg0)
      ∧ r.2.mem ((c.tc : Thread Cert.ProjSmall.nD Cert.ProjSmall.τ).loc Cert.ProjSmall.main_arg1) = m ((c.tc : Thread Cert.ProjSmall.nD Cert.ProjSmall.τ).loc Cert.ProjSmall.main_arg1)
      ∧ r.2.mem ((c.tc : Thread Cert.ProjSmall.nD Cert.ProjSmall.τ).loc Cert.ProjSmall.main_arg2) = m ((c.tc : Thread Cert.ProjSmall.nD Cert.ProjSmall.τ).loc Cert.ProjSmall.main_arg2)
      ∧ r.2.mem ((c.tc : Thread Cert.ProjSmall.nD Cert.ProjSmall.τ).loc Cert.ProjSmall.main_arg3) = m ((c.tc : Thread Cert.ProjSmall.nD Cert.ProjSmall.τ).loc Cert.ProjSmall.main_arg3)
      ∧ r.2.mem ((c.tc : Thread Cert.ProjSmall.nD Cert.ProjSmall.τ).loc Cert.ProjSmall.main_arg4) = m ((c.tc : Thread Cert.ProjSmall.nD Cert.ProjSmall.τ).loc Cert.ProjSmall.main_arg4))
      ∧ r.2.sem = fun _ => 0)

def quiescent_ProjSmallIdeal [hProjSmallIdeal : Cert.ProjSmallIdeal.Facts] : Prop :=
  ∀ (m : (ℓ : Loc Cert.ProjSmallIdeal.nD Cert.ProjSmallIdeal.τ Cert.ProjSmallIdeal.sig) → Buf (Elt Ideal) ℓ) (g : Dev Cert.ProjSmallIdeal.nD → PrngReg), Pre_ProjSmallIdeal m →
    θ_run (Cert.ProjSmallIdeal.defs (F := Ideal)) (onTc (τ := Cert.ProjSmallIdeal.τ) (Cert.ProjSmallIdeal.main (F := Ideal))) ⟨m, fun _ => 0, g⟩ (fun r => (∀ c : Dev Cert.ProjSmallIdeal.nD,
      r.2.mem ((c.tc : Thread Cert.ProjSmallIdeal.nD Cert.ProjSmallIdeal.τ).loc Cert.ProjSmallIdeal.main_arg0) = m ((c.tc : Thread Cert.ProjSmallIdeal.nD Cert.ProjSmallIdeal.τ).loc Cert.ProjSmallIdeal.main_arg0)
      ∧ r.2.mem ((c.tc : Thread Cert.ProjSmallIdeal.nD Cert.ProjSmallIdeal.τ).loc Cert.ProjSmallIdeal.main_arg1) = m ((c.tc : Thread Cert.ProjSmallIdeal.nD Cert.ProjSmallIdeal.τ).loc Cert.ProjSmallIdeal.main_arg1)
      ∧ r.2.mem ((c.tc : Thread Cert.ProjSmallIdeal.nD Cert.ProjSmallIdeal.τ).loc Cert.ProjSmallIdeal.main_arg2) = m ((c.tc : Thread Cert.ProjSmallIdeal.nD Cert.ProjSmallIdeal.τ).loc Cert.ProjSmallIdeal.main_arg2)
      ∧ r.2.mem ((c.tc : Thread Cert.ProjSmallIdeal.nD Cert.ProjSmallIdeal.τ).loc Cert.ProjSmallIdeal.main_arg3) = m ((c.tc : Thread Cert.ProjSmallIdeal.nD Cert.ProjSmallIdeal.τ).loc Cert.ProjSmallIdeal.main_arg3)
      ∧ r.2.mem ((c.tc : Thread Cert.ProjSmallIdeal.nD Cert.ProjSmallIdeal.τ).loc Cert.ProjSmallIdeal.main_arg4) = m ((c.tc : Thread Cert.ProjSmallIdeal.nD Cert.ProjSmallIdeal.τ).loc Cert.ProjSmallIdeal.main_arg4))
      ∧ r.2.sem = fun _ => 0)

def quiescent_RefSmallIdeal [hRefSmallIdeal : Cert.RefSmallIdeal.Facts] : Prop :=
  ∀ (m : (ℓ : Loc Cert.RefSmallIdeal.nD Cert.RefSmallIdeal.τ Cert.RefSmallIdeal.sig) → Buf (Elt Ideal) ℓ) (g : Dev Cert.RefSmallIdeal.nD → PrngReg), Pre_RefSmallIdeal m →
    θ_run (Cert.RefSmallIdeal.defs (F := Ideal)) (onTc (τ := Cert.RefSmallIdeal.τ) (Cert.RefSmallIdeal.main (F := Ideal))) ⟨m, fun _ => 0, g⟩ (fun r => (∀ c : Dev Cert.RefSmallIdeal.nD,
      r.2.mem ((c.tc : Thread Cert.RefSmallIdeal.nD Cert.RefSmallIdeal.τ).loc Cert.RefSmallIdeal.main_arg0) = m ((c.tc : Thread Cert.RefSmallIdeal.nD Cert.RefSmallIdeal.τ).loc Cert.RefSmallIdeal.main_arg0)
      ∧ r.2.mem ((c.tc : Thread Cert.RefSmallIdeal.nD Cert.RefSmallIdeal.τ).loc Cert.RefSmallIdeal.main_arg1) = m ((c.tc : Thread Cert.RefSmallIdeal.nD Cert.RefSmallIdeal.τ).loc Cert.RefSmallIdeal.main_arg1)
      ∧ r.2.mem ((c.tc : Thread Cert.RefSmallIdeal.nD Cert.RefSmallIdeal.τ).loc Cert.RefSmallIdeal.main_arg2) = m ((c.tc : Thread Cert.RefSmallIdeal.nD Cert.RefSmallIdeal.τ).loc Cert.RefSmallIdeal.main_arg2)
      ∧ r.2.mem ((c.tc : Thread Cert.RefSmallIdeal.nD Cert.RefSmallIdeal.τ).loc Cert.RefSmallIdeal.main_arg3) = m ((c.tc : Thread Cert.RefSmallIdeal.nD Cert.RefSmallIdeal.τ).loc Cert.RefSmallIdeal.main_arg3)
      ∧ r.2.mem ((c.tc : Thread Cert.RefSmallIdeal.nD Cert.RefSmallIdeal.τ).loc Cert.RefSmallIdeal.main_arg4) = m ((c.tc : Thread Cert.RefSmallIdeal.nD Cert.RefSmallIdeal.τ).loc Cert.RefSmallIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_RefMergeIdeal [hRefMergeIdeal : Cert.RefMergeIdeal.Facts] : Prop :=
  ∀ (m : (ℓ : Loc Cert.RefMergeIdeal.nD Cert.RefMergeIdeal.τ Cert.RefMergeIdeal.sig) → Buf (Elt Ideal) ℓ) (g : Dev Cert.RefMergeIdeal.nD → PrngReg), Pre_RefMergeIdeal m →
    θ_run (Cert.RefMergeIdeal.defs (F := Ideal)) (onTc (τ := Cert.RefMergeIdeal.τ) (Cert.RefMergeIdeal.main (F := Ideal))) ⟨m, fun _ => 0, g⟩ (fun r => (∀ c : Dev Cert.RefMergeIdeal.nD,
      r.2.mem ((c.tc : Thread Cert.RefMergeIdeal.nD Cert.RefMergeIdeal.τ).loc Cert.RefMergeIdeal.main_arg0) = m ((c.tc : Thread Cert.RefMergeIdeal.nD Cert.RefMergeIdeal.τ).loc Cert.RefMergeIdeal.main_arg0)
      ∧ r.2.mem ((c.tc : Thread Cert.RefMergeIdeal.nD Cert.RefMergeIdeal.τ).loc Cert.RefMergeIdeal.main_arg1) = m ((c.tc : Thread Cert.RefMergeIdeal.nD Cert.RefMergeIdeal.τ).loc Cert.RefMergeIdeal.main_arg1)
      ∧ r.2.mem ((c.tc : Thread Cert.RefMergeIdeal.nD Cert.RefMergeIdeal.τ).loc Cert.RefMergeIdeal.main_arg2) = m ((c.tc : Thread Cert.RefMergeIdeal.nD Cert.RefMergeIdeal.τ).loc Cert.RefMergeIdeal.main_arg2)
      ∧ r.2.mem ((c.tc : Thread Cert.RefMergeIdeal.nD Cert.RefMergeIdeal.τ).loc Cert.RefMergeIdeal.main_arg3) = m ((c.tc : Thread Cert.RefMergeIdeal.nD Cert.RefMergeIdeal.τ).loc Cert.RefMergeIdeal.main_arg3)
      ∧ r.2.mem ((c.tc : Thread Cert.RefMergeIdeal.nD Cert.RefMergeIdeal.τ).loc Cert.RefMergeIdeal.main_arg4) = m ((c.tc : Thread Cert.RefMergeIdeal.nD Cert.RefMergeIdeal.τ).loc Cert.RefMergeIdeal.main_arg4)
      ∧ r.2.mem ((c.tc : Thread Cert.RefMergeIdeal.nD Cert.RefMergeIdeal.τ).loc Cert.RefMergeIdeal.main_arg5) = m ((c.tc : Thread Cert.RefMergeIdeal.nD Cert.RefMergeIdeal.τ).loc Cert.RefMergeIdeal.main_arg5)
      ∧ r.2.mem ((c.tc : Thread Cert.RefMergeIdeal.nD Cert.RefMergeIdeal.τ).loc Cert.RefMergeIdeal.main_arg6) = m ((c.tc : Thread Cert.RefMergeIdeal.nD Cert.RefMergeIdeal.τ).loc Cert.RefMergeIdeal.main_arg6)
      ∧ r.2.mem ((c.tc : Thread Cert.RefMergeIdeal.nD Cert.RefMergeIdeal.τ).loc Cert.RefMergeIdeal.main_arg7) = m ((c.tc : Thread Cert.RefMergeIdeal.nD Cert.RefMergeIdeal.τ).loc Cert.RefMergeIdeal.main_arg7))
      ∧ r.2.sem = fun _ => 0)

def quiescent_MlaKv [hMlaKv : Cert.MlaKv.Facts] : Prop :=
  ∀ (m : (ℓ : Loc Cert.MlaKv.nD Cert.MlaKv.τ Cert.MlaKv.sig) → Buf (Elt Bits) ℓ) (g : Dev Cert.MlaKv.nD → PrngReg), Pre_MlaKv m →
    θ_run (Cert.MlaKv.defs (F := Bits)) (onTc (τ := Cert.MlaKv.τ) (Cert.MlaKv.main (F := Bits))) ⟨m, fun _ => 0, g⟩ (fun r => (∀ c : Dev Cert.MlaKv.nD,
      r.2.mem ((c.tc : Thread Cert.MlaKv.nD Cert.MlaKv.τ).loc Cert.MlaKv.main_arg0) = m ((c.tc : Thread Cert.MlaKv.nD Cert.MlaKv.τ).loc Cert.MlaKv.main_arg0)
      ∧ r.2.mem ((c.tc : Thread Cert.MlaKv.nD Cert.MlaKv.τ).loc Cert.MlaKv.main_arg1) = m ((c.tc : Thread Cert.MlaKv.nD Cert.MlaKv.τ).loc Cert.MlaKv.main_arg1)
      ∧ r.2.mem ((c.tc : Thread Cert.MlaKv.nD Cert.MlaKv.τ).loc Cert.MlaKv.main_arg2) = m ((c.tc : Thread Cert.MlaKv.nD Cert.MlaKv.τ).loc Cert.MlaKv.main_arg2))
      ∧ r.2.sem = fun _ => 0)

def quiescent_MlaKvIdeal [hMlaKvIdeal : Cert.MlaKvIdeal.Facts] : Prop :=
  ∀ (m : (ℓ : Loc Cert.MlaKvIdeal.nD Cert.MlaKvIdeal.τ Cert.MlaKvIdeal.sig) → Buf (Elt Ideal) ℓ) (g : Dev Cert.MlaKvIdeal.nD → PrngReg), Pre_MlaKvIdeal m →
    θ_run (Cert.MlaKvIdeal.defs (F := Ideal)) (onTc (τ := Cert.MlaKvIdeal.τ) (Cert.MlaKvIdeal.main (F := Ideal))) ⟨m, fun _ => 0, g⟩ (fun r => (∀ c : Dev Cert.MlaKvIdeal.nD,
      r.2.mem ((c.tc : Thread Cert.MlaKvIdeal.nD Cert.MlaKvIdeal.τ).loc Cert.MlaKvIdeal.main_arg0) = m ((c.tc : Thread Cert.MlaKvIdeal.nD Cert.MlaKvIdeal.τ).loc Cert.MlaKvIdeal.main_arg0)
      ∧ r.2.mem ((c.tc : Thread Cert.MlaKvIdeal.nD Cert.MlaKvIdeal.τ).loc Cert.MlaKvIdeal.main_arg1) = m ((c.tc : Thread Cert.MlaKvIdeal.nD Cert.MlaKvIdeal.τ).loc Cert.MlaKvIdeal.main_arg1)
      ∧ r.2.mem ((c.tc : Thread Cert.MlaKvIdeal.nD Cert.MlaKvIdeal.τ).loc Cert.MlaKvIdeal.main_arg2) = m ((c.tc : Thread Cert.MlaKvIdeal.nD Cert.MlaKvIdeal.τ).loc Cert.MlaKvIdeal.main_arg2))
      ∧ r.2.sem = fun _ => 0)

def quiescent_RefKvIdeal [hRefKvIdeal : Cert.RefKvIdeal.Facts] : Prop :=
  ∀ (m : (ℓ : Loc Cert.RefKvIdeal.nD Cert.RefKvIdeal.τ Cert.RefKvIdeal.sig) → Buf (Elt Ideal) ℓ) (g : Dev Cert.RefKvIdeal.nD → PrngReg), Pre_RefKvIdeal m →
    θ_run (Cert.RefKvIdeal.defs (F := Ideal)) (onTc (τ := Cert.RefKvIdeal.τ) (Cert.RefKvIdeal.main (F := Ideal))) ⟨m, fun _ => 0, g⟩ (fun r => (∀ c : Dev Cert.RefKvIdeal.nD,
      r.2.mem ((c.tc : Thread Cert.RefKvIdeal.nD Cert.RefKvIdeal.τ).loc Cert.RefKvIdeal.main_arg0) = m ((c.tc : Thread Cert.RefKvIdeal.nD Cert.RefKvIdeal.τ).loc Cert.RefKvIdeal.main_arg0)
      ∧ r.2.mem ((c.tc : Thread Cert.RefKvIdeal.nD Cert.RefKvIdeal.τ).loc Cert.RefKvIdeal.main_arg1) = m ((c.tc : Thread Cert.RefKvIdeal.nD Cert.RefKvIdeal.τ).loc Cert.RefKvIdeal.main_arg1)
      ∧ r.2.mem ((c.tc : Thread Cert.RefKvIdeal.nD Cert.RefKvIdeal.τ).loc Cert.RefKvIdeal.main_arg2) = m ((c.tc : Thread Cert.RefKvIdeal.nD Cert.RefKvIdeal.τ).loc Cert.RefKvIdeal.main_arg2))
      ∧ r.2.sem = fun _ => 0)

def quiescent_MlaQ [hMlaQ : Cert.MlaQ.Facts] : Prop :=
  ∀ (m : (ℓ : Loc Cert.MlaQ.nD Cert.MlaQ.τ Cert.MlaQ.sig) → Buf (Elt Bits) ℓ) (g : Dev Cert.MlaQ.nD → PrngReg), Pre_MlaQ m →
    θ_run (Cert.MlaQ.defs (F := Bits)) (onTc (τ := Cert.MlaQ.τ) (Cert.MlaQ.main (F := Bits))) ⟨m, fun _ => 0, g⟩ (fun r => (∀ c : Dev Cert.MlaQ.nD,
      r.2.mem ((c.tc : Thread Cert.MlaQ.nD Cert.MlaQ.τ).loc Cert.MlaQ.main_arg0) = m ((c.tc : Thread Cert.MlaQ.nD Cert.MlaQ.τ).loc Cert.MlaQ.main_arg0)
      ∧ r.2.mem ((c.tc : Thread Cert.MlaQ.nD Cert.MlaQ.τ).loc Cert.MlaQ.main_arg1) = m ((c.tc : Thread Cert.MlaQ.nD Cert.MlaQ.τ).loc Cert.MlaQ.main_arg1)
      ∧ r.2.mem ((c.tc : Thread Cert.MlaQ.nD Cert.MlaQ.τ).loc Cert.MlaQ.main_arg2) = m ((c.tc : Thread Cert.MlaQ.nD Cert.MlaQ.τ).loc Cert.MlaQ.main_arg2))
      ∧ r.2.sem = fun _ => 0)

def quiescent_MlaQIdeal [hMlaQIdeal : Cert.MlaQIdeal.Facts] : Prop :=
  ∀ (m : (ℓ : Loc Cert.MlaQIdeal.nD Cert.MlaQIdeal.τ Cert.MlaQIdeal.sig) → Buf (Elt Ideal) ℓ) (g : Dev Cert.MlaQIdeal.nD → PrngReg), Pre_MlaQIdeal m →
    θ_run (Cert.MlaQIdeal.defs (F := Ideal)) (onTc (τ := Cert.MlaQIdeal.τ) (Cert.MlaQIdeal.main (F := Ideal))) ⟨m, fun _ => 0, g⟩ (fun r => (∀ c : Dev Cert.MlaQIdeal.nD,
      r.2.mem ((c.tc : Thread Cert.MlaQIdeal.nD Cert.MlaQIdeal.τ).loc Cert.MlaQIdeal.main_arg0) = m ((c.tc : Thread Cert.MlaQIdeal.nD Cert.MlaQIdeal.τ).loc Cert.MlaQIdeal.main_arg0)
      ∧ r.2.mem ((c.tc : Thread Cert.MlaQIdeal.nD Cert.MlaQIdeal.τ).loc Cert.MlaQIdeal.main_arg1) = m ((c.tc : Thread Cert.MlaQIdeal.nD Cert.MlaQIdeal.τ).loc Cert.MlaQIdeal.main_arg1)
      ∧ r.2.mem ((c.tc : Thread Cert.MlaQIdeal.nD Cert.MlaQIdeal.τ).loc Cert.MlaQIdeal.main_arg2) = m ((c.tc : Thread Cert.MlaQIdeal.nD Cert.MlaQIdeal.τ).loc Cert.MlaQIdeal.main_arg2))
      ∧ r.2.sem = fun _ => 0)

def quiescent_RefQIdeal [hRefQIdeal : Cert.RefQIdeal.Facts] : Prop :=
  ∀ (m : (ℓ : Loc Cert.RefQIdeal.nD Cert.RefQIdeal.τ Cert.RefQIdeal.sig) → Buf (Elt Ideal) ℓ) (g : Dev Cert.RefQIdeal.nD → PrngReg), Pre_RefQIdeal m →
    θ_run (Cert.RefQIdeal.defs (F := Ideal)) (onTc (τ := Cert.RefQIdeal.τ) (Cert.RefQIdeal.main (F := Ideal))) ⟨m, fun _ => 0, g⟩ (fun r => (∀ c : Dev Cert.RefQIdeal.nD,
      r.2.mem ((c.tc : Thread Cert.RefQIdeal.nD Cert.RefQIdeal.τ).loc Cert.RefQIdeal.main_arg0) = m ((c.tc : Thread Cert.RefQIdeal.nD Cert.RefQIdeal.τ).loc Cert.RefQIdeal.main_arg0)
      ∧ r.2.mem ((c.tc : Thread Cert.RefQIdeal.nD Cert.RefQIdeal.τ).loc Cert.RefQIdeal.main_arg1) = m ((c.tc : Thread Cert.RefQIdeal.nD Cert.RefQIdeal.τ).loc Cert.RefQIdeal.main_arg1)
      ∧ r.2.mem ((c.tc : Thread Cert.RefQIdeal.nD Cert.RefQIdeal.τ).loc Cert.RefQIdeal.main_arg2) = m ((c.tc : Thread Cert.RefQIdeal.nD Cert.RefQIdeal.τ).loc Cert.RefQIdeal.main_arg2))
      ∧ r.2.sem = fun _ => 0)

def quiescent_MlpCtx [hMlpCtx : Cert.MlpCtx.Facts] : Prop :=
  ∀ (m : (ℓ : Loc Cert.MlpCtx.nD Cert.MlpCtx.τ Cert.MlpCtx.sig) → Buf (Elt Bits) ℓ) (g : Dev Cert.MlpCtx.nD → PrngReg), Pre_MlpCtx m →
    θ_run (Cert.MlpCtx.defs (F := Bits)) (onTc (τ := Cert.MlpCtx.τ) (Cert.MlpCtx.main (F := Bits))) ⟨m, fun _ => 0, g⟩ (fun r => (∀ c : Dev Cert.MlpCtx.nD,
      r.2.mem ((c.tc : Thread Cert.MlpCtx.nD Cert.MlpCtx.τ).loc Cert.MlpCtx.main_arg0) = m ((c.tc : Thread Cert.MlpCtx.nD Cert.MlpCtx.τ).loc Cert.MlpCtx.main_arg0)
      ∧ r.2.mem ((c.tc : Thread Cert.MlpCtx.nD Cert.MlpCtx.τ).loc Cert.MlpCtx.main_arg1) = m ((c.tc : Thread Cert.MlpCtx.nD Cert.MlpCtx.τ).loc Cert.MlpCtx.main_arg1)
      ∧ r.2.mem ((c.tc : Thread Cert.MlpCtx.nD Cert.MlpCtx.τ).loc Cert.MlpCtx.main_arg2) = m ((c.tc : Thread Cert.MlpCtx.nD Cert.MlpCtx.τ).loc Cert.MlpCtx.main_arg2)
      ∧ r.2.mem ((c.tc : Thread Cert.MlpCtx.nD Cert.MlpCtx.τ).loc Cert.MlpCtx.main_arg3) = m ((c.tc : Thread Cert.MlpCtx.nD Cert.MlpCtx.τ).loc Cert.MlpCtx.main_arg3)
      ∧ r.2.mem ((c.tc : Thread Cert.MlpCtx.nD Cert.MlpCtx.τ).loc Cert.MlpCtx.main_arg4) = m ((c.tc : Thread Cert.MlpCtx.nD Cert.MlpCtx.τ).loc Cert.MlpCtx.main_arg4)
      ∧ r.2.mem ((c.tc : Thread Cert.MlpCtx.nD Cert.MlpCtx.τ).loc Cert.MlpCtx.main_arg5) = m ((c.tc : Thread Cert.MlpCtx.nD Cert.MlpCtx.τ).loc Cert.MlpCtx.main_arg5)
      ∧ r.2.mem ((c.tc : Thread Cert.MlpCtx.nD Cert.MlpCtx.τ).loc Cert.MlpCtx.main_arg6) = m ((c.tc : Thread Cert.MlpCtx.nD Cert.MlpCtx.τ).loc Cert.MlpCtx.main_arg6)
      ∧ r.2.mem ((c.tc : Thread Cert.MlpCtx.nD Cert.MlpCtx.τ).loc Cert.MlpCtx.main_arg7) = m ((c.tc : Thread Cert.MlpCtx.nD Cert.MlpCtx.τ).loc Cert.MlpCtx.main_arg7))
      ∧ r.2.sem = fun _ => 0)

def quiescent_MlpCtxIdeal [hMlpCtxIdeal : Cert.MlpCtxIdeal.Facts] : Prop :=
  ∀ (m : (ℓ : Loc Cert.MlpCtxIdeal.nD Cert.MlpCtxIdeal.τ Cert.MlpCtxIdeal.sig) → Buf (Elt Ideal) ℓ) (g : Dev Cert.MlpCtxIdeal.nD → PrngReg), Pre_MlpCtxIdeal m →
    θ_run (Cert.MlpCtxIdeal.defs (F := Ideal)) (onTc (τ := Cert.MlpCtxIdeal.τ) (Cert.MlpCtxIdeal.main (F := Ideal))) ⟨m, fun _ => 0, g⟩ (fun r => (∀ c : Dev Cert.MlpCtxIdeal.nD,
      r.2.mem ((c.tc : Thread Cert.MlpCtxIdeal.nD Cert.MlpCtxIdeal.τ).loc Cert.MlpCtxIdeal.main_arg0) = m ((c.tc : Thread Cert.MlpCtxIdeal.nD Cert.MlpCtxIdeal.τ).loc Cert.MlpCtxIdeal.main_arg0)
      ∧ r.2.mem ((c.tc : Thread Cert.MlpCtxIdeal.nD Cert.MlpCtxIdeal.τ).loc Cert.MlpCtxIdeal.main_arg1) = m ((c.tc : Thread Cert.MlpCtxIdeal.nD Cert.MlpCtxIdeal.τ).loc Cert.MlpCtxIdeal.main_arg1)
      ∧ r.2.mem ((c.tc : Thread Cert.MlpCtxIdeal.nD Cert.MlpCtxIdeal.τ).loc Cert.MlpCtxIdeal.main_arg2) = m ((c.tc : Thread Cert.MlpCtxIdeal.nD Cert.MlpCtxIdeal.τ).loc Cert.MlpCtxIdeal.main_arg2)
      ∧ r.2.mem ((c.tc : Thread Cert.MlpCtxIdeal.nD Cert.MlpCtxIdeal.τ).loc Cert.MlpCtxIdeal.main_arg3) = m ((c.tc : Thread Cert.MlpCtxIdeal.nD Cert.MlpCtxIdeal.τ).loc Cert.MlpCtxIdeal.main_arg3)
      ∧ r.2.mem ((c.tc : Thread Cert.MlpCtxIdeal.nD Cert.MlpCtxIdeal.τ).loc Cert.MlpCtxIdeal.main_arg4) = m ((c.tc : Thread Cert.MlpCtxIdeal.nD Cert.MlpCtxIdeal.τ).loc Cert.MlpCtxIdeal.main_arg4)
      ∧ r.2.mem ((c.tc : Thread Cert.MlpCtxIdeal.nD Cert.MlpCtxIdeal.τ).loc Cert.MlpCtxIdeal.main_arg5) = m ((c.tc : Thread Cert.MlpCtxIdeal.nD Cert.MlpCtxIdeal.τ).loc Cert.MlpCtxIdeal.main_arg5)
      ∧ r.2.mem ((c.tc : Thread Cert.MlpCtxIdeal.nD Cert.MlpCtxIdeal.τ).loc Cert.MlpCtxIdeal.main_arg6) = m ((c.tc : Thread Cert.MlpCtxIdeal.nD Cert.MlpCtxIdeal.τ).loc Cert.MlpCtxIdeal.main_arg6)
      ∧ r.2.mem ((c.tc : Thread Cert.MlpCtxIdeal.nD Cert.MlpCtxIdeal.τ).loc Cert.MlpCtxIdeal.main_arg7) = m ((c.tc : Thread Cert.MlpCtxIdeal.nD Cert.MlpCtxIdeal.τ).loc Cert.MlpCtxIdeal.main_arg7))
      ∧ r.2.sem = fun _ => 0)

def quiescent_RefMlpCtxIdeal [hRefMlpCtxIdeal : Cert.RefMlpCtxIdeal.Facts] : Prop :=
  ∀ (m : (ℓ : Loc Cert.RefMlpCtxIdeal.nD Cert.RefMlpCtxIdeal.τ Cert.RefMlpCtxIdeal.sig) → Buf (Elt Ideal) ℓ) (g : Dev Cert.RefMlpCtxIdeal.nD → PrngReg), Pre_RefMlpCtxIdeal m →
    θ_run (Cert.RefMlpCtxIdeal.defs (F := Ideal)) (onTc (τ := Cert.RefMlpCtxIdeal.τ) (Cert.RefMlpCtxIdeal.main (F := Ideal))) ⟨m, fun _ => 0, g⟩ (fun r => (∀ c : Dev Cert.RefMlpCtxIdeal.nD,
      r.2.mem ((c.tc : Thread Cert.RefMlpCtxIdeal.nD Cert.RefMlpCtxIdeal.τ).loc Cert.RefMlpCtxIdeal.main_arg0) = m ((c.tc : Thread Cert.RefMlpCtxIdeal.nD Cert.RefMlpCtxIdeal.τ).loc Cert.RefMlpCtxIdeal.main_arg0)
      ∧ r.2.mem ((c.tc : Thread Cert.RefMlpCtxIdeal.nD Cert.RefMlpCtxIdeal.τ).loc Cert.RefMlpCtxIdeal.main_arg1) = m ((c.tc : Thread Cert.RefMlpCtxIdeal.nD Cert.RefMlpCtxIdeal.τ).loc Cert.RefMlpCtxIdeal.main_arg1)
      ∧ r.2.mem ((c.tc : Thread Cert.RefMlpCtxIdeal.nD Cert.RefMlpCtxIdeal.τ).loc Cert.RefMlpCtxIdeal.main_arg2) = m ((c.tc : Thread Cert.RefMlpCtxIdeal.nD Cert.RefMlpCtxIdeal.τ).loc Cert.RefMlpCtxIdeal.main_arg2)
      ∧ r.2.mem ((c.tc : Thread Cert.RefMlpCtxIdeal.nD Cert.RefMlpCtxIdeal.τ).loc Cert.RefMlpCtxIdeal.main_arg3) = m ((c.tc : Thread Cert.RefMlpCtxIdeal.nD Cert.RefMlpCtxIdeal.τ).loc Cert.RefMlpCtxIdeal.main_arg3)
      ∧ r.2.mem ((c.tc : Thread Cert.RefMlpCtxIdeal.nD Cert.RefMlpCtxIdeal.τ).loc Cert.RefMlpCtxIdeal.main_arg4) = m ((c.tc : Thread Cert.RefMlpCtxIdeal.nD Cert.RefMlpCtxIdeal.τ).loc Cert.RefMlpCtxIdeal.main_arg4)
      ∧ r.2.mem ((c.tc : Thread Cert.RefMlpCtxIdeal.nD Cert.RefMlpCtxIdeal.τ).loc Cert.RefMlpCtxIdeal.main_arg5) = m ((c.tc : Thread Cert.RefMlpCtxIdeal.nD Cert.RefMlpCtxIdeal.τ).loc Cert.RefMlpCtxIdeal.main_arg5)
      ∧ r.2.mem ((c.tc : Thread Cert.RefMlpCtxIdeal.nD Cert.RefMlpCtxIdeal.τ).loc Cert.RefMlpCtxIdeal.main_arg6) = m ((c.tc : Thread Cert.RefMlpCtxIdeal.nD Cert.RefMlpCtxIdeal.τ).loc Cert.RefMlpCtxIdeal.main_arg6)
      ∧ r.2.mem ((c.tc : Thread Cert.RefMlpCtxIdeal.nD Cert.RefMlpCtxIdeal.τ).loc Cert.RefMlpCtxIdeal.main_arg7) = m ((c.tc : Thread Cert.RefMlpCtxIdeal.nD Cert.RefMlpCtxIdeal.τ).loc Cert.RefMlpCtxIdeal.main_arg7))
      ∧ r.2.sem = fun _ => 0)

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1))
      ∧ r.2.sem = fun _ => 0)

def quiescent_ScanIdeal_pre_finite_scan [hScanIdeal : Cert.ScanIdeal.Facts] [hPre_finite_scan : Cert.Pre_finite_scan.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal_finite_scan m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1))
      ∧ r.2.sem = fun _ => 0)

def quiescent_RefScanIdeal [hRefScanIdeal : Cert.RefScanIdeal.Facts] : Prop :=
  ∀ (m : (ℓ : Loc Cert.RefScanIdeal.nD Cert.RefScanIdeal.τ Cert.RefScanIdeal.sig) → Buf (Elt Ideal) ℓ) (g : Dev Cert.RefScanIdeal.nD → PrngReg), Pre_RefScanIdeal m →
    θ_run (Cert.RefScanIdeal.defs (F := Ideal)) (onTc (τ := Cert.RefScanIdeal.τ) (Cert.RefScanIdeal.main (F := Ideal))) ⟨m, fun _ => 0, g⟩ (fun r => (∀ c : Dev Cert.RefScanIdeal.nD,
      r.2.mem ((c.tc : Thread Cert.RefScanIdeal.nD Cert.RefScanIdeal.τ).loc Cert.RefScanIdeal.main_arg0) = m ((c.tc : Thread Cert.RefScanIdeal.nD Cert.RefScanIdeal.τ).loc Cert.RefScanIdeal.main_arg0)
      ∧ r.2.mem ((c.tc : Thread Cert.RefScanIdeal.nD Cert.RefScanIdeal.τ).loc Cert.RefScanIdeal.main_arg1) = m ((c.tc : Thread Cert.RefScanIdeal.nD Cert.RefScanIdeal.τ).loc Cert.RefScanIdeal.main_arg1))
      ∧ r.2.sem = fun _ => 0)

def quiescent_RefScanIdeal_pre_finite_scan [hRefScanIdeal : Cert.RefScanIdeal.Facts] [hPre_finite_scan : Cert.Pre_finite_scan.Facts] : Prop :=
  ∀ (m : (ℓ : Loc Cert.RefScanIdeal.nD Cert.RefScanIdeal.τ Cert.RefScanIdeal.sig) → Buf (Elt Ideal) ℓ) (g : Dev Cert.RefScanIdeal.nD → PrngReg), Pre_RefScanIdeal_finite_scan m →
    θ_run (Cert.RefScanIdeal.defs (F := Ideal)) (onTc (τ := Cert.RefScanIdeal.τ) (Cert.RefScanIdeal.main (F := Ideal))) ⟨m, fun _ => 0, g⟩ (fun r => (∀ c : Dev Cert.RefScanIdeal.nD,
      r.2.mem ((c.tc : Thread Cert.RefScanIdeal.nD Cert.RefScanIdeal.τ).loc Cert.RefScanIdeal.main_arg0) = m ((c.tc : Thread Cert.RefScanIdeal.nD Cert.RefScanIdeal.τ).loc Cert.RefScanIdeal.main_arg0)
      ∧ r.2.mem ((c.tc : Thread Cert.RefScanIdeal.nD Cert.RefScanIdeal.τ).loc Cert.RefScanIdeal.main_arg1) = m ((c.tc : Thread Cert.RefScanIdeal.nD Cert.RefScanIdeal.τ).loc Cert.RefScanIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Mlp_MlpIdeal : Prop :=
  True

def algebraic_MlpIdeal_RefMlpIdeal [hMlpIdeal : Cert.MlpIdeal.Facts] [hRefMlpIdeal : Cert.RefMlpIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.RefMlpIdeal.nD Cert.RefMlpIdeal.τ Cert.RefMlpIdeal.sig) → Buf (Elt Ideal) ℓ) (g' : Dev Cert.RefMlpIdeal.nD → PrngReg), Pre_MlpIdeal m →
    (∀ c : Dev Cert.MlpIdeal.nD,
      m' ((c.tc : Thread Cert.RefMlpIdeal.nD Cert.RefMlpIdeal.τ).loc Cert.RefMlpIdeal.main_arg0) = m ((c.tc : Thread Cert.MlpIdeal.nD Cert.MlpIdeal.τ).loc Cert.MlpIdeal.main_arg0)
      ∧ m' ((c.tc : Thread Cert.RefMlpIdeal.nD Cert.RefMlpIdeal.τ).loc Cert.RefMlpIdeal.main_arg1) = m ((c.tc : Thread Cert.MlpIdeal.nD Cert.MlpIdeal.τ).loc Cert.MlpIdeal.main_arg1)
      ∧ m' ((c.tc : Thread Cert.RefMlpIdeal.nD Cert.RefMlpIdeal.τ).loc Cert.RefMlpIdeal.main_arg2) = m ((c.tc : Thread Cert.MlpIdeal.nD Cert.MlpIdeal.τ).loc Cert.MlpIdeal.main_arg2)
      ∧ m' ((c.tc : Thread Cert.RefMlpIdeal.nD Cert.RefMlpIdeal.τ).loc Cert.RefMlpIdeal.main_arg3) = m ((c.tc : Thread Cert.MlpIdeal.nD Cert.MlpIdeal.τ).loc Cert.MlpIdeal.main_arg3)
      ∧ m' ((c.tc : Thread Cert.RefMlpIdeal.nD Cert.RefMlpIdeal.τ).loc Cert.RefMlpIdeal.main_arg4) = m ((c.tc : Thread Cert.MlpIdeal.nD Cert.MlpIdeal.τ).loc Cert.MlpIdeal.main_arg4)
      ∧ m' ((c.tc : Thread Cert.RefMlpIdeal.nD Cert.RefMlpIdeal.τ).loc Cert.RefMlpIdeal.main_arg5) = m ((c.tc : Thread Cert.MlpIdeal.nD Cert.MlpIdeal.τ).loc Cert.MlpIdeal.main_arg5)
      ∧ m' ((c.tc : Thread Cert.RefMlpIdeal.nD Cert.RefMlpIdeal.τ).loc Cert.RefMlpIdeal.main_arg6) = m ((c.tc : Thread Cert.MlpIdeal.nD Cert.MlpIdeal.τ).loc Cert.MlpIdeal.main_arg6)
      ∧ m' ((c.tc : Thread Cert.RefMlpIdeal.nD Cert.RefMlpIdeal.τ).loc Cert.RefMlpIdeal.main_arg7) = m ((c.tc : Thread Cert.MlpIdeal.nD Cert.MlpIdeal.τ).loc Cert.MlpIdeal.main_arg7)) →
    ∃ (v0 : (c : Dev Cert.MlpIdeal.nD) → Buf (Elt Ideal) ((c.tc : Thread Cert.MlpIdeal.nD Cert.MlpIdeal.τ).loc Cert.MlpIdeal.main_v5)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v5) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ θ_run (Cert.RefMlpIdeal.defs (F := Ideal)) (onTc (τ := Cert.RefMlpIdeal.τ) (Cert.RefMlpIdeal.main (F := Ideal))) ⟨m', fun _ => 0, g'⟩ (fun r => ∀ c : Dev Cert.RefMlpIdeal.nD,
          r.2.mem ((c.tc : Thread Cert.RefMlpIdeal.nD Cert.RefMlpIdeal.τ).loc Cert.RefMlpIdeal.main_v39) = v0 c
          ∧ r.2.mem ((c.tc : Thread Cert.RefMlpIdeal.nD Cert.RefMlpIdeal.τ).loc Cert.RefMlpIdeal.main_arg0) = m' ((c.tc : Thread Cert.RefMlpIdeal.nD Cert.RefMlpIdeal.τ).loc Cert.RefMlpIdeal.main_arg0)
          ∧ r.2.mem ((c.tc : Thread Cert.RefMlpIdeal.nD Cert.RefMlpIdeal.τ).loc Cert.RefMlpIdeal.main_arg1) = m' ((c.tc : Thread Cert.RefMlpIdeal.nD Cert.RefMlpIdeal.τ).loc Cert.RefMlpIdeal.main_arg1)
          ∧ r.2.mem ((c.tc : Thread Cert.RefMlpIdeal.nD Cert.RefMlpIdeal.τ).loc Cert.RefMlpIdeal.main_arg2) = m' ((c.tc : Thread Cert.RefMlpIdeal.nD Cert.RefMlpIdeal.τ).loc Cert.RefMlpIdeal.main_arg2)
          ∧ r.2.mem ((c.tc : Thread Cert.RefMlpIdeal.nD Cert.RefMlpIdeal.τ).loc Cert.RefMlpIdeal.main_arg3) = m' ((c.tc : Thread Cert.RefMlpIdeal.nD Cert.RefMlpIdeal.τ).loc Cert.RefMlpIdeal.main_arg3)
          ∧ r.2.mem ((c.tc : Thread Cert.RefMlpIdeal.nD Cert.RefMlpIdeal.τ).loc Cert.RefMlpIdeal.main_arg4) = m' ((c.tc : Thread Cert.RefMlpIdeal.nD Cert.RefMlpIdeal.τ).loc Cert.RefMlpIdeal.main_arg4)
          ∧ r.2.mem ((c.tc : Thread Cert.RefMlpIdeal.nD Cert.RefMlpIdeal.τ).loc Cert.RefMlpIdeal.main_arg5) = m' ((c.tc : Thread Cert.RefMlpIdeal.nD Cert.RefMlpIdeal.τ).loc Cert.RefMlpIdeal.main_arg5)
          ∧ r.2.mem ((c.tc : Thread Cert.RefMlpIdeal.nD Cert.RefMlpIdeal.τ).loc Cert.RefMlpIdeal.main_arg6) = m' ((c.tc : Thread Cert.RefMlpIdeal.nD Cert.RefMlpIdeal.τ).loc Cert.RefMlpIdeal.main_arg6)
          ∧ r.2.mem ((c.tc : Thread Cert.RefMlpIdeal.nD Cert.RefMlpIdeal.τ).loc Cert.RefMlpIdeal.main_arg7) = m' ((c.tc : Thread Cert.RefMlpIdeal.nD Cert.RefMlpIdeal.τ).loc Cert.RefMlpIdeal.main_arg7))

def preserves_ProjNa_ProjNaIdeal : Prop :=
  True

def algebraic_ProjNaIdeal_RefNaIdeal [hProjNaIdeal : Cert.ProjNaIdeal.Facts] [hRefNaIdeal : Cert.RefNaIdeal.Facts] : Prop :=
  ∀ (m : (ℓ : Loc Cert.ProjNaIdeal.nD Cert.ProjNaIdeal.τ Cert.ProjNaIdeal.sig) → Buf (Elt Ideal) ℓ) (g : Dev Cert.ProjNaIdeal.nD → PrngReg)
    (m' : (ℓ : Loc Cert.RefNaIdeal.nD Cert.RefNaIdeal.τ Cert.RefNaIdeal.sig) → Buf (Elt Ideal) ℓ) (g' : Dev Cert.RefNaIdeal.nD → PrngReg), Pre_ProjNaIdeal m →
    (∀ c : Dev Cert.ProjNaIdeal.nD,
      m' ((c.tc : Thread Cert.RefNaIdeal.nD Cert.RefNaIdeal.τ).loc Cert.RefNaIdeal.main_arg0) = m ((c.tc : Thread Cert.ProjNaIdeal.nD Cert.ProjNaIdeal.τ).loc Cert.ProjNaIdeal.main_arg0)
      ∧ m' ((c.tc : Thread Cert.RefNaIdeal.nD Cert.RefNaIdeal.τ).loc Cert.RefNaIdeal.main_arg1) = m ((c.tc : Thread Cert.ProjNaIdeal.nD Cert.ProjNaIdeal.τ).loc Cert.ProjNaIdeal.main_arg1)
      ∧ m' ((c.tc : Thread Cert.RefNaIdeal.nD Cert.RefNaIdeal.τ).loc Cert.RefNaIdeal.main_arg2) = m ((c.tc : Thread Cert.ProjNaIdeal.nD Cert.ProjNaIdeal.τ).loc Cert.ProjNaIdeal.main_arg2)
      ∧ m' ((c.tc : Thread Cert.RefNaIdeal.nD Cert.RefNaIdeal.τ).loc Cert.RefNaIdeal.main_arg3) = m ((c.tc : Thread Cert.ProjNaIdeal.nD Cert.ProjNaIdeal.τ).loc Cert.ProjNaIdeal.main_arg3)
      ∧ m' ((c.tc : Thread Cert.RefNaIdeal.nD Cert.RefNaIdeal.τ).loc Cert.RefNaIdeal.main_arg4) = m ((c.tc : Thread Cert.ProjNaIdeal.nD Cert.ProjNaIdeal.τ).loc Cert.ProjNaIdeal.main_arg4)) →
    ∃ (v0 : (c : Dev Cert.ProjNaIdeal.nD) → Buf (Elt Ideal) ((c.tc : Thread Cert.ProjNaIdeal.nD Cert.ProjNaIdeal.τ).loc Cert.ProjNaIdeal.main_v5)),
      θ_run (Cert.ProjNaIdeal.defs (F := Ideal)) (onTc (τ := Cert.ProjNaIdeal.τ) (Cert.ProjNaIdeal.main (F := Ideal))) ⟨m, fun _ => 0, g⟩ (fun r => ∀ c : Dev Cert.ProjNaIdeal.nD,
          r.2.mem ((c.tc : Thread Cert.ProjNaIdeal.nD Cert.ProjNaIdeal.τ).loc Cert.ProjNaIdeal.main_v5) = v0 c
          ∧ r.2.mem ((c.tc : Thread Cert.ProjNaIdeal.nD Cert.ProjNaIdeal.τ).loc Cert.ProjNaIdeal.main_arg0) = m ((c.tc : Thread Cert.ProjNaIdeal.nD Cert.ProjNaIdeal.τ).loc Cert.ProjNaIdeal.main_arg0)
          ∧ r.2.mem ((c.tc : Thread Cert.ProjNaIdeal.nD Cert.ProjNaIdeal.τ).loc Cert.ProjNaIdeal.main_arg1) = m ((c.tc : Thread Cert.ProjNaIdeal.nD Cert.ProjNaIdeal.τ).loc Cert.ProjNaIdeal.main_arg1)
          ∧ r.2.mem ((c.tc : Thread Cert.ProjNaIdeal.nD Cert.ProjNaIdeal.τ).loc Cert.ProjNaIdeal.main_arg2) = m ((c.tc : Thread Cert.ProjNaIdeal.nD Cert.ProjNaIdeal.τ).loc Cert.ProjNaIdeal.main_arg2)
          ∧ r.2.mem ((c.tc : Thread Cert.ProjNaIdeal.nD Cert.ProjNaIdeal.τ).loc Cert.ProjNaIdeal.main_arg3) = m ((c.tc : Thread Cert.ProjNaIdeal.nD Cert.ProjNaIdeal.τ).loc Cert.ProjNaIdeal.main_arg3)
          ∧ r.2.mem ((c.tc : Thread Cert.ProjNaIdeal.nD Cert.ProjNaIdeal.τ).loc Cert.ProjNaIdeal.main_arg4) = m ((c.tc : Thread Cert.ProjNaIdeal.nD Cert.ProjNaIdeal.τ).loc Cert.ProjNaIdeal.main_arg4))
      ∧ θ_run (Cert.RefNaIdeal.defs (F := Ideal)) (onTc (τ := Cert.RefNaIdeal.τ) (Cert.RefNaIdeal.main (F := Ideal))) ⟨m', fun _ => 0, g'⟩ (fun r => ∀ c : Dev Cert.RefNaIdeal.nD,
          r.2.mem ((c.tc : Thread Cert.RefNaIdeal.nD Cert.RefNaIdeal.τ).loc Cert.RefNaIdeal.main_v21) = v0 c
          ∧ r.2.mem ((c.tc : Thread Cert.RefNaIdeal.nD Cert.RefNaIdeal.τ).loc Cert.RefNaIdeal.main_arg0) = m' ((c.tc : Thread Cert.RefNaIdeal.nD Cert.RefNaIdeal.τ).loc Cert.RefNaIdeal.main_arg0)
          ∧ r.2.mem ((c.tc : Thread Cert.RefNaIdeal.nD Cert.RefNaIdeal.τ).loc Cert.RefNaIdeal.main_arg1) = m' ((c.tc : Thread Cert.RefNaIdeal.nD Cert.RefNaIdeal.τ).loc Cert.RefNaIdeal.main_arg1)
          ∧ r.2.mem ((c.tc : Thread Cert.RefNaIdeal.nD Cert.RefNaIdeal.τ).loc Cert.RefNaIdeal.main_arg2) = m' ((c.tc : Thread Cert.RefNaIdeal.nD Cert.RefNaIdeal.τ).loc Cert.RefNaIdeal.main_arg2)
          ∧ r.2.mem ((c.tc : Thread Cert.RefNaIdeal.nD Cert.RefNaIdeal.τ).loc Cert.RefNaIdeal.main_arg3) = m' ((c.tc : Thread Cert.RefNaIdeal.nD Cert.RefNaIdeal.τ).loc Cert.RefNaIdeal.main_arg3)
          ∧ r.2.mem ((c.tc : Thread Cert.RefNaIdeal.nD Cert.RefNaIdeal.τ).loc Cert.RefNaIdeal.main_arg4) = m' ((c.tc : Thread Cert.RefNaIdeal.nD Cert.RefNaIdeal.τ).loc Cert.RefNaIdeal.main_arg4))

def preserves_ProjDn_ProjDnIdeal : Prop :=
  True

def algebraic_ProjDnIdeal_RefDnIdeal [hProjDnIdeal : Cert.ProjDnIdeal.Facts] [hRefDnIdeal : Cert.RefDnIdeal.Facts] : Prop :=
  ∀ (m : (ℓ : Loc Cert.ProjDnIdeal.nD Cert.ProjDnIdeal.τ Cert.ProjDnIdeal.sig) → Buf (Elt Ideal) ℓ) (g : Dev Cert.ProjDnIdeal.nD → PrngReg)
    (m' : (ℓ : Loc Cert.RefDnIdeal.nD Cert.RefDnIdeal.τ Cert.RefDnIdeal.sig) → Buf (Elt Ideal) ℓ) (g' : Dev Cert.RefDnIdeal.nD → PrngReg), Pre_ProjDnIdeal m →
    (∀ c : Dev Cert.ProjDnIdeal.nD,
      m' ((c.tc : Thread Cert.RefDnIdeal.nD Cert.RefDnIdeal.τ).loc Cert.RefDnIdeal.main_arg0) = m ((c.tc : Thread Cert.ProjDnIdeal.nD Cert.ProjDnIdeal.τ).loc Cert.ProjDnIdeal.main_arg0)
      ∧ m' ((c.tc : Thread Cert.RefDnIdeal.nD Cert.RefDnIdeal.τ).loc Cert.RefDnIdeal.main_arg1) = m ((c.tc : Thread Cert.ProjDnIdeal.nD Cert.ProjDnIdeal.τ).loc Cert.ProjDnIdeal.main_arg1)
      ∧ m' ((c.tc : Thread Cert.RefDnIdeal.nD Cert.RefDnIdeal.τ).loc Cert.RefDnIdeal.main_arg2) = m ((c.tc : Thread Cert.ProjDnIdeal.nD Cert.ProjDnIdeal.τ).loc Cert.ProjDnIdeal.main_arg2)
      ∧ m' ((c.tc : Thread Cert.RefDnIdeal.nD Cert.RefDnIdeal.τ).loc Cert.RefDnIdeal.main_arg3) = m ((c.tc : Thread Cert.ProjDnIdeal.nD Cert.ProjDnIdeal.τ).loc Cert.ProjDnIdeal.main_arg3)
      ∧ m' ((c.tc : Thread Cert.RefDnIdeal.nD Cert.RefDnIdeal.τ).loc Cert.RefDnIdeal.main_arg4) = m ((c.tc : Thread Cert.ProjDnIdeal.nD Cert.ProjDnIdeal.τ).loc Cert.ProjDnIdeal.main_arg4)) →
    ∃ (v0 : (c : Dev Cert.ProjDnIdeal.nD) → Buf (Elt Ideal) ((c.tc : Thread Cert.ProjDnIdeal.nD Cert.ProjDnIdeal.τ).loc Cert.ProjDnIdeal.main_v5)),
      θ_run (Cert.ProjDnIdeal.defs (F := Ideal)) (onTc (τ := Cert.ProjDnIdeal.τ) (Cert.ProjDnIdeal.main (F := Ideal))) ⟨m, fun _ => 0, g⟩ (fun r => ∀ c : Dev Cert.ProjDnIdeal.nD,
          r.2.mem ((c.tc : Thread Cert.ProjDnIdeal.nD Cert.ProjDnIdeal.τ).loc Cert.ProjDnIdeal.main_v5) = v0 c
          ∧ r.2.mem ((c.tc : Thread Cert.ProjDnIdeal.nD Cert.ProjDnIdeal.τ).loc Cert.ProjDnIdeal.main_arg0) = m ((c.tc : Thread Cert.ProjDnIdeal.nD Cert.ProjDnIdeal.τ).loc Cert.ProjDnIdeal.main_arg0)
          ∧ r.2.mem ((c.tc : Thread Cert.ProjDnIdeal.nD Cert.ProjDnIdeal.τ).loc Cert.ProjDnIdeal.main_arg1) = m ((c.tc : Thread Cert.ProjDnIdeal.nD Cert.ProjDnIdeal.τ).loc Cert.ProjDnIdeal.main_arg1)
          ∧ r.2.mem ((c.tc : Thread Cert.ProjDnIdeal.nD Cert.ProjDnIdeal.τ).loc Cert.ProjDnIdeal.main_arg2) = m ((c.tc : Thread Cert.ProjDnIdeal.nD Cert.ProjDnIdeal.τ).loc Cert.ProjDnIdeal.main_arg2)
          ∧ r.2.mem ((c.tc : Thread Cert.ProjDnIdeal.nD Cert.ProjDnIdeal.τ).loc Cert.ProjDnIdeal.main_arg3) = m ((c.tc : Thread Cert.ProjDnIdeal.nD Cert.ProjDnIdeal.τ).loc Cert.ProjDnIdeal.main_arg3)
          ∧ r.2.mem ((c.tc : Thread Cert.ProjDnIdeal.nD Cert.ProjDnIdeal.τ).loc Cert.ProjDnIdeal.main_arg4) = m ((c.tc : Thread Cert.ProjDnIdeal.nD Cert.ProjDnIdeal.τ).loc Cert.ProjDnIdeal.main_arg4))
      ∧ θ_run (Cert.RefDnIdeal.defs (F := Ideal)) (onTc (τ := Cert.RefDnIdeal.τ) (Cert.RefDnIdeal.main (F := Ideal))) ⟨m', fun _ => 0, g'⟩ (fun r => ∀ c : Dev Cert.RefDnIdeal.nD,
          r.2.mem ((c.tc : Thread Cert.RefDnIdeal.nD Cert.RefDnIdeal.τ).loc Cert.RefDnIdeal.main_v21) = v0 c
          ∧ r.2.mem ((c.tc : Thread Cert.RefDnIdeal.nD Cert.RefDnIdeal.τ).loc Cert.RefDnIdeal.main_arg0) = m' ((c.tc : Thread Cert.RefDnIdeal.nD Cert.RefDnIdeal.τ).loc Cert.RefDnIdeal.main_arg0)
          ∧ r.2.mem ((c.tc : Thread Cert.RefDnIdeal.nD Cert.RefDnIdeal.τ).loc Cert.RefDnIdeal.main_arg1) = m' ((c.tc : Thread Cert.RefDnIdeal.nD Cert.RefDnIdeal.τ).loc Cert.RefDnIdeal.main_arg1)
          ∧ r.2.mem ((c.tc : Thread Cert.RefDnIdeal.nD Cert.RefDnIdeal.τ).loc Cert.RefDnIdeal.main_arg2) = m' ((c.tc : Thread Cert.RefDnIdeal.nD Cert.RefDnIdeal.τ).loc Cert.RefDnIdeal.main_arg2)
          ∧ r.2.mem ((c.tc : Thread Cert.RefDnIdeal.nD Cert.RefDnIdeal.τ).loc Cert.RefDnIdeal.main_arg3) = m' ((c.tc : Thread Cert.RefDnIdeal.nD Cert.RefDnIdeal.τ).loc Cert.RefDnIdeal.main_arg3)
          ∧ r.2.mem ((c.tc : Thread Cert.RefDnIdeal.nD Cert.RefDnIdeal.τ).loc Cert.RefDnIdeal.main_arg4) = m' ((c.tc : Thread Cert.RefDnIdeal.nD Cert.RefDnIdeal.τ).loc Cert.RefDnIdeal.main_arg4))

def preserves_ProjZg_ProjZgIdeal : Prop :=
  True

def algebraic_ProjZgIdeal_RefZgIdeal [hProjZgIdeal : Cert.ProjZgIdeal.Facts] [hRefZgIdeal : Cert.RefZgIdeal.Facts] : Prop :=
  ∀ (m : (ℓ : Loc Cert.ProjZgIdeal.nD Cert.ProjZgIdeal.τ Cert.ProjZgIdeal.sig) → Buf (Elt Ideal) ℓ) (g : Dev Cert.ProjZgIdeal.nD → PrngReg)
    (m' : (ℓ : Loc Cert.RefZgIdeal.nD Cert.RefZgIdeal.τ Cert.RefZgIdeal.sig) → Buf (Elt Ideal) ℓ) (g' : Dev Cert.RefZgIdeal.nD → PrngReg), Pre_ProjZgIdeal m →
    (∀ c : Dev Cert.ProjZgIdeal.nD,
      m' ((c.tc : Thread Cert.RefZgIdeal.nD Cert.RefZgIdeal.τ).loc Cert.RefZgIdeal.main_arg0) = m ((c.tc : Thread Cert.ProjZgIdeal.nD Cert.ProjZgIdeal.τ).loc Cert.ProjZgIdeal.main_arg0)
      ∧ m' ((c.tc : Thread Cert.RefZgIdeal.nD Cert.RefZgIdeal.τ).loc Cert.RefZgIdeal.main_arg1) = m ((c.tc : Thread Cert.ProjZgIdeal.nD Cert.ProjZgIdeal.τ).loc Cert.ProjZgIdeal.main_arg1)
      ∧ m' ((c.tc : Thread Cert.RefZgIdeal.nD Cert.RefZgIdeal.τ).loc Cert.RefZgIdeal.main_arg2) = m ((c.tc : Thread Cert.ProjZgIdeal.nD Cert.ProjZgIdeal.τ).loc Cert.ProjZgIdeal.main_arg2)
      ∧ m' ((c.tc : Thread Cert.RefZgIdeal.nD Cert.RefZgIdeal.τ).loc Cert.RefZgIdeal.main_arg3) = m ((c.tc : Thread Cert.ProjZgIdeal.nD Cert.ProjZgIdeal.τ).loc Cert.ProjZgIdeal.main_arg3)
      ∧ m' ((c.tc : Thread Cert.RefZgIdeal.nD Cert.RefZgIdeal.τ).loc Cert.RefZgIdeal.main_arg4) = m ((c.tc : Thread Cert.ProjZgIdeal.nD Cert.ProjZgIdeal.τ).loc Cert.ProjZgIdeal.main_arg4)) →
    ∃ (v0 : (c : Dev Cert.ProjZgIdeal.nD) → Buf (Elt Ideal) ((c.tc : Thread Cert.ProjZgIdeal.nD Cert.ProjZgIdeal.τ).loc Cert.ProjZgIdeal.main_v7)),
      θ_run (Cert.ProjZgIdeal.defs (F := Ideal)) (onTc (τ := Cert.ProjZgIdeal.τ) (Cert.ProjZgIdeal.main (F := Ideal))) ⟨m, fun _ => 0, g⟩ (fun r => ∀ c : Dev Cert.ProjZgIdeal.nD,
          r.2.mem ((c.tc : Thread Cert.ProjZgIdeal.nD Cert.ProjZgIdeal.τ).loc Cert.ProjZgIdeal.main_v7) = v0 c
          ∧ r.2.mem ((c.tc : Thread Cert.ProjZgIdeal.nD Cert.ProjZgIdeal.τ).loc Cert.ProjZgIdeal.main_arg0) = m ((c.tc : Thread Cert.ProjZgIdeal.nD Cert.ProjZgIdeal.τ).loc Cert.ProjZgIdeal.main_arg0)
          ∧ r.2.mem ((c.tc : Thread Cert.ProjZgIdeal.nD Cert.ProjZgIdeal.τ).loc Cert.ProjZgIdeal.main_arg1) = m ((c.tc : Thread Cert.ProjZgIdeal.nD Cert.ProjZgIdeal.τ).loc Cert.ProjZgIdeal.main_arg1)
          ∧ r.2.mem ((c.tc : Thread Cert.ProjZgIdeal.nD Cert.ProjZgIdeal.τ).loc Cert.ProjZgIdeal.main_arg2) = m ((c.tc : Thread Cert.ProjZgIdeal.nD Cert.ProjZgIdeal.τ).loc Cert.ProjZgIdeal.main_arg2)
          ∧ r.2.mem ((c.tc : Thread Cert.ProjZgIdeal.nD Cert.ProjZgIdeal.τ).loc Cert.ProjZgIdeal.main_arg3) = m ((c.tc : Thread Cert.ProjZgIdeal.nD Cert.ProjZgIdeal.τ).loc Cert.ProjZgIdeal.main_arg3)
          ∧ r.2.mem ((c.tc : Thread Cert.ProjZgIdeal.nD Cert.ProjZgIdeal.τ).loc Cert.ProjZgIdeal.main_arg4) = m ((c.tc : Thread Cert.ProjZgIdeal.nD Cert.ProjZgIdeal.τ).loc Cert.ProjZgIdeal.main_arg4))
      ∧ θ_run (Cert.RefZgIdeal.defs (F := Ideal)) (onTc (τ := Cert.RefZgIdeal.τ) (Cert.RefZgIdeal.main (F := Ideal))) ⟨m', fun _ => 0, g'⟩ (fun r => ∀ c : Dev Cert.RefZgIdeal.nD,
          r.2.mem ((c.tc : Thread Cert.RefZgIdeal.nD Cert.RefZgIdeal.τ).loc Cert.RefZgIdeal.main_v24) = v0 c
          ∧ r.2.mem ((c.tc : Thread Cert.RefZgIdeal.nD Cert.RefZgIdeal.τ).loc Cert.RefZgIdeal.main_arg0) = m' ((c.tc : Thread Cert.RefZgIdeal.nD Cert.RefZgIdeal.τ).loc Cert.RefZgIdeal.main_arg0)
          ∧ r.2.mem ((c.tc : Thread Cert.RefZgIdeal.nD Cert.RefZgIdeal.τ).loc Cert.RefZgIdeal.main_arg1) = m' ((c.tc : Thread Cert.RefZgIdeal.nD Cert.RefZgIdeal.τ).loc Cert.RefZgIdeal.main_arg1)
          ∧ r.2.mem ((c.tc : Thread Cert.RefZgIdeal.nD Cert.RefZgIdeal.τ).loc Cert.RefZgIdeal.main_arg2) = m' ((c.tc : Thread Cert.RefZgIdeal.nD Cert.RefZgIdeal.τ).loc Cert.RefZgIdeal.main_arg2)
          ∧ r.2.mem ((c.tc : Thread Cert.RefZgIdeal.nD Cert.RefZgIdeal.τ).loc Cert.RefZgIdeal.main_arg3) = m' ((c.tc : Thread Cert.RefZgIdeal.nD Cert.RefZgIdeal.τ).loc Cert.RefZgIdeal.main_arg3)
          ∧ r.2.mem ((c.tc : Thread Cert.RefZgIdeal.nD Cert.RefZgIdeal.τ).loc Cert.RefZgIdeal.main_arg4) = m' ((c.tc : Thread Cert.RefZgIdeal.nD Cert.RefZgIdeal.τ).loc Cert.RefZgIdeal.main_arg4))

def preserves_ProjSmall_ProjSmallIdeal : Prop :=
  True

def algebraic_ProjSmallIdeal_RefSmallIdeal [hProjSmallIdeal : Cert.ProjSmallIdeal.Facts] [hRefSmallIdeal : Cert.RefSmallIdeal.Facts] : Prop :=
  ∀ (m : (ℓ : Loc Cert.ProjSmallIdeal.nD Cert.ProjSmallIdeal.τ Cert.ProjSmallIdeal.sig) → Buf (Elt Ideal) ℓ) (g : Dev Cert.ProjSmallIdeal.nD → PrngReg)
    (m' : (ℓ : Loc Cert.RefSmallIdeal.nD Cert.RefSmallIdeal.τ Cert.RefSmallIdeal.sig) → Buf (Elt Ideal) ℓ) (g' : Dev Cert.RefSmallIdeal.nD → PrngReg), Pre_ProjSmallIdeal m →
    (∀ c : Dev Cert.ProjSmallIdeal.nD,
      m' ((c.tc : Thread Cert.RefSmallIdeal.nD Cert.RefSmallIdeal.τ).loc Cert.RefSmallIdeal.main_arg0) = m ((c.tc : Thread Cert.ProjSmallIdeal.nD Cert.ProjSmallIdeal.τ).loc Cert.ProjSmallIdeal.main_arg0)
      ∧ m' ((c.tc : Thread Cert.RefSmallIdeal.nD Cert.RefSmallIdeal.τ).loc Cert.RefSmallIdeal.main_arg1) = m ((c.tc : Thread Cert.ProjSmallIdeal.nD Cert.ProjSmallIdeal.τ).loc Cert.ProjSmallIdeal.main_arg1)
      ∧ m' ((c.tc : Thread Cert.RefSmallIdeal.nD Cert.RefSmallIdeal.τ).loc Cert.RefSmallIdeal.main_arg2) = m ((c.tc : Thread Cert.ProjSmallIdeal.nD Cert.ProjSmallIdeal.τ).loc Cert.ProjSmallIdeal.main_arg2)
      ∧ m' ((c.tc : Thread Cert.RefSmallIdeal.nD Cert.RefSmallIdeal.τ).loc Cert.RefSmallIdeal.main_arg3) = m ((c.tc : Thread Cert.ProjSmallIdeal.nD Cert.ProjSmallIdeal.τ).loc Cert.ProjSmallIdeal.main_arg3)
      ∧ m' ((c.tc : Thread Cert.RefSmallIdeal.nD Cert.RefSmallIdeal.τ).loc Cert.RefSmallIdeal.main_arg4) = m ((c.tc : Thread Cert.ProjSmallIdeal.nD Cert.ProjSmallIdeal.τ).loc Cert.ProjSmallIdeal.main_arg4)) →
    ∃ (v0 : (c : Dev Cert.ProjSmallIdeal.nD) → Buf (Elt Ideal) ((c.tc : Thread Cert.ProjSmallIdeal.nD Cert.ProjSmallIdeal.τ).loc Cert.ProjSmallIdeal.main_v9)),
      θ_run (Cert.ProjSmallIdeal.defs (F := Ideal)) (onTc (τ := Cert.ProjSmallIdeal.τ) (Cert.ProjSmallIdeal.main (F := Ideal))) ⟨m, fun _ => 0, g⟩ (fun r => ∀ c : Dev Cert.ProjSmallIdeal.nD,
          r.2.mem ((c.tc : Thread Cert.ProjSmallIdeal.nD Cert.ProjSmallIdeal.τ).loc Cert.ProjSmallIdeal.main_v9) = v0 c
          ∧ r.2.mem ((c.tc : Thread Cert.ProjSmallIdeal.nD Cert.ProjSmallIdeal.τ).loc Cert.ProjSmallIdeal.main_arg0) = m ((c.tc : Thread Cert.ProjSmallIdeal.nD Cert.ProjSmallIdeal.τ).loc Cert.ProjSmallIdeal.main_arg0)
          ∧ r.2.mem ((c.tc : Thread Cert.ProjSmallIdeal.nD Cert.ProjSmallIdeal.τ).loc Cert.ProjSmallIdeal.main_arg1) = m ((c.tc : Thread Cert.ProjSmallIdeal.nD Cert.ProjSmallIdeal.τ).loc Cert.ProjSmallIdeal.main_arg1)
          ∧ r.2.mem ((c.tc : Thread Cert.ProjSmallIdeal.nD Cert.ProjSmallIdeal.τ).loc Cert.ProjSmallIdeal.main_arg2) = m ((c.tc : Thread Cert.ProjSmallIdeal.nD Cert.ProjSmallIdeal.τ).loc Cert.ProjSmallIdeal.main_arg2)
          ∧ r.2.mem ((c.tc : Thread Cert.ProjSmallIdeal.nD Cert.ProjSmallIdeal.τ).loc Cert.ProjSmallIdeal.main_arg3) = m ((c.tc : Thread Cert.ProjSmallIdeal.nD Cert.ProjSmallIdeal.τ).loc Cert.ProjSmallIdeal.main_arg3)
          ∧ r.2.mem ((c.tc : Thread Cert.ProjSmallIdeal.nD Cert.ProjSmallIdeal.τ).loc Cert.ProjSmallIdeal.main_arg4) = m ((c.tc : Thread Cert.ProjSmallIdeal.nD Cert.ProjSmallIdeal.τ).loc Cert.ProjSmallIdeal.main_arg4))
      ∧ θ_run (Cert.RefSmallIdeal.defs (F := Ideal)) (onTc (τ := Cert.RefSmallIdeal.τ) (Cert.RefSmallIdeal.main (F := Ideal))) ⟨m', fun _ => 0, g'⟩ (fun r => ∀ c : Dev Cert.RefSmallIdeal.nD,
          r.2.mem ((c.tc : Thread Cert.RefSmallIdeal.nD Cert.RefSmallIdeal.τ).loc Cert.RefSmallIdeal.main_v25) = v0 c
          ∧ r.2.mem ((c.tc : Thread Cert.RefSmallIdeal.nD Cert.RefSmallIdeal.τ).loc Cert.RefSmallIdeal.main_arg0) = m' ((c.tc : Thread Cert.RefSmallIdeal.nD Cert.RefSmallIdeal.τ).loc Cert.RefSmallIdeal.main_arg0)
          ∧ r.2.mem ((c.tc : Thread Cert.RefSmallIdeal.nD Cert.RefSmallIdeal.τ).loc Cert.RefSmallIdeal.main_arg1) = m' ((c.tc : Thread Cert.RefSmallIdeal.nD Cert.RefSmallIdeal.τ).loc Cert.RefSmallIdeal.main_arg1)
          ∧ r.2.mem ((c.tc : Thread Cert.RefSmallIdeal.nD Cert.RefSmallIdeal.τ).loc Cert.RefSmallIdeal.main_arg2) = m' ((c.tc : Thread Cert.RefSmallIdeal.nD Cert.RefSmallIdeal.τ).loc Cert.RefSmallIdeal.main_arg2)
          ∧ r.2.mem ((c.tc : Thread Cert.RefSmallIdeal.nD Cert.RefSmallIdeal.τ).loc Cert.RefSmallIdeal.main_arg3) = m' ((c.tc : Thread Cert.RefSmallIdeal.nD Cert.RefSmallIdeal.τ).loc Cert.RefSmallIdeal.main_arg3)
          ∧ r.2.mem ((c.tc : Thread Cert.RefSmallIdeal.nD Cert.RefSmallIdeal.τ).loc Cert.RefSmallIdeal.main_arg4) = m' ((c.tc : Thread Cert.RefSmallIdeal.nD Cert.RefSmallIdeal.τ).loc Cert.RefSmallIdeal.main_arg4))

def preserves_Merge_MergeIdeal : Prop :=
  True

def algebraic_MergeIdeal_RefMergeIdeal [hMergeIdeal : Cert.MergeIdeal.Facts] [hRefMergeIdeal : Cert.RefMergeIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.RefMergeIdeal.nD Cert.RefMergeIdeal.τ Cert.RefMergeIdeal.sig) → Buf (Elt Ideal) ℓ) (g' : Dev Cert.RefMergeIdeal.nD → PrngReg), Pre_MergeIdeal m →
    (∀ c : Dev Cert.MergeIdeal.nD,
      m' ((c.tc : Thread Cert.RefMergeIdeal.nD Cert.RefMergeIdeal.τ).loc Cert.RefMergeIdeal.main_arg0) = m ((c.tc : Thread Cert.MergeIdeal.nD Cert.MergeIdeal.τ).loc Cert.MergeIdeal.main_arg0)
      ∧ m' ((c.tc : Thread Cert.RefMergeIdeal.nD Cert.RefMergeIdeal.τ).loc Cert.RefMergeIdeal.main_arg1) = m ((c.tc : Thread Cert.MergeIdeal.nD Cert.MergeIdeal.τ).loc Cert.MergeIdeal.main_arg1)
      ∧ m' ((c.tc : Thread Cert.RefMergeIdeal.nD Cert.RefMergeIdeal.τ).loc Cert.RefMergeIdeal.main_arg2) = m ((c.tc : Thread Cert.MergeIdeal.nD Cert.MergeIdeal.τ).loc Cert.MergeIdeal.main_arg2)
      ∧ m' ((c.tc : Thread Cert.RefMergeIdeal.nD Cert.RefMergeIdeal.τ).loc Cert.RefMergeIdeal.main_arg3) = m ((c.tc : Thread Cert.MergeIdeal.nD Cert.MergeIdeal.τ).loc Cert.MergeIdeal.main_arg3)
      ∧ m' ((c.tc : Thread Cert.RefMergeIdeal.nD Cert.RefMergeIdeal.τ).loc Cert.RefMergeIdeal.main_arg4) = m ((c.tc : Thread Cert.MergeIdeal.nD Cert.MergeIdeal.τ).loc Cert.MergeIdeal.main_arg4)
      ∧ m' ((c.tc : Thread Cert.RefMergeIdeal.nD Cert.RefMergeIdeal.τ).loc Cert.RefMergeIdeal.main_arg5) = m ((c.tc : Thread Cert.MergeIdeal.nD Cert.MergeIdeal.τ).loc Cert.MergeIdeal.main_arg5)
      ∧ m' ((c.tc : Thread Cert.RefMergeIdeal.nD Cert.RefMergeIdeal.τ).loc Cert.RefMergeIdeal.main_arg6) = m ((c.tc : Thread Cert.MergeIdeal.nD Cert.MergeIdeal.τ).loc Cert.MergeIdeal.main_arg6)
      ∧ m' ((c.tc : Thread Cert.RefMergeIdeal.nD Cert.RefMergeIdeal.τ).loc Cert.RefMergeIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.RefMergeIdeal.defs (F := Ideal)) (onTc (τ := Cert.RefMergeIdeal.τ) (Cert.RefMergeIdeal.main (F := Ideal))) ⟨m', fun _ => 0, g'⟩ (fun r => ∀ c : Dev Cert.RefMergeIdeal.nD,
          r.2.mem ((c.tc : Thread Cert.RefMergeIdeal.nD Cert.RefMergeIdeal.τ).loc Cert.RefMergeIdeal.main_v37) = v0 c
          ∧ r.2.mem ((c.tc : Thread Cert.RefMergeIdeal.nD Cert.RefMergeIdeal.τ).loc Cert.RefMergeIdeal.main_arg0) = m' ((c.tc : Thread Cert.RefMergeIdeal.nD Cert.RefMergeIdeal.τ).loc Cert.RefMergeIdeal.main_arg0)
          ∧ r.2.mem ((c.tc : Thread Cert.RefMergeIdeal.nD Cert.RefMergeIdeal.τ).loc Cert.RefMergeIdeal.main_arg1) = m' ((c.tc : Thread Cert.RefMergeIdeal.nD Cert.RefMergeIdeal.τ).loc Cert.RefMergeIdeal.main_arg1)
          ∧ r.2.mem ((c.tc : Thread Cert.RefMergeIdeal.nD Cert.RefMergeIdeal.τ).loc Cert.RefMergeIdeal.main_arg2) = m' ((c.tc : Thread Cert.RefMergeIdeal.nD Cert.RefMergeIdeal.τ).loc Cert.RefMergeIdeal.main_arg2)
          ∧ r.2.mem ((c.tc : Thread Cert.RefMergeIdeal.nD Cert.RefMergeIdeal.τ).loc Cert.RefMergeIdeal.main_arg3) = m' ((c.tc : Thread Cert.RefMergeIdeal.nD Cert.RefMergeIdeal.τ).loc Cert.RefMergeIdeal.main_arg3)
          ∧ r.2.mem ((c.tc : Thread Cert.RefMergeIdeal.nD Cert.RefMergeIdeal.τ).loc Cert.RefMergeIdeal.main_arg4) = m' ((c.tc : Thread Cert.RefMergeIdeal.nD Cert.RefMergeIdeal.τ).loc Cert.RefMergeIdeal.main_arg4)
          ∧ r.2.mem ((c.tc : Thread Cert.RefMergeIdeal.nD Cert.RefMergeIdeal.τ).loc Cert.RefMergeIdeal.main_arg5) = m' ((c.tc : Thread Cert.RefMergeIdeal.nD Cert.RefMergeIdeal.τ).loc Cert.RefMergeIdeal.main_arg5)
          ∧ r.2.mem ((c.tc : Thread Cert.RefMergeIdeal.nD Cert.RefMergeIdeal.τ).loc Cert.RefMergeIdeal.main_arg6) = m' ((c.tc : Thread Cert.RefMergeIdeal.nD Cert.RefMergeIdeal.τ).loc Cert.RefMergeIdeal.main_arg6)
          ∧ r.2.mem ((c.tc : Thread Cert.RefMergeIdeal.nD Cert.RefMergeIdeal.τ).loc Cert.RefMergeIdeal.main_arg7) = m' ((c.tc : Thread Cert.RefMergeIdeal.nD Cert.RefMergeIdeal.τ).loc Cert.RefMergeIdeal.main_arg7))

def preserves_MlaKv_MlaKvIdeal : Prop :=
  True

def algebraic_MlaKvIdeal_RefKvIdeal [hMlaKvIdeal : Cert.MlaKvIdeal.Facts] [hRefKvIdeal : Cert.RefKvIdeal.Facts] : Prop :=
  ∀ (m : (ℓ : Loc Cert.MlaKvIdeal.nD Cert.MlaKvIdeal.τ Cert.MlaKvIdeal.sig) → Buf (Elt Ideal) ℓ) (g : Dev Cert.MlaKvIdeal.nD → PrngReg)
    (m' : (ℓ : Loc Cert.RefKvIdeal.nD Cert.RefKvIdeal.τ Cert.RefKvIdeal.sig) → Buf (Elt Ideal) ℓ) (g' : Dev Cert.RefKvIdeal.nD → PrngReg), Pre_MlaKvIdeal m →
    (∀ c : Dev Cert.MlaKvIdeal.nD,
      m' ((c.tc : Thread Cert.RefKvIdeal.nD Cert.RefKvIdeal.τ).loc Cert.RefKvIdeal.main_arg0) = m ((c.tc : Thread Cert.MlaKvIdeal.nD Cert.MlaKvIdeal.τ).loc Cert.MlaKvIdeal.main_arg0)
      ∧ m' ((c.tc : Thread Cert.RefKvIdeal.nD Cert.RefKvIdeal.τ).loc Cert.RefKvIdeal.main_arg1) = m ((c.tc : Thread Cert.MlaKvIdeal.nD Cert.MlaKvIdeal.τ).loc Cert.MlaKvIdeal.main_arg1)
      ∧ m' ((c.tc : Thread Cert.RefKvIdeal.nD Cert.RefKvIdeal.τ).loc Cert.RefKvIdeal.main_arg2) = m ((c.tc : Thread Cert.MlaKvIdeal.nD Cert.MlaKvIdeal.τ).loc Cert.MlaKvIdeal.main_arg2)) →
    ∃ (v0 : (c : Dev Cert.MlaKvIdeal.nD) → Buf (Elt Ideal) ((c.tc : Thread Cert.MlaKvIdeal.nD Cert.MlaKvIdeal.τ).loc Cert.MlaKvIdeal.main_v47_0)) (v1 : (c : Dev Cert.MlaKvIdeal.nD) → Buf (Elt Ideal) ((c.tc : Thread Cert.MlaKvIdeal.nD Cert.MlaKvIdeal.τ).loc Cert.MlaKvIdeal.main_v47_1)) (v2 : (c : Dev Cert.MlaKvIdeal.nD) → Buf (Elt Ideal) ((c.tc : Thread Cert.MlaKvIdeal.nD Cert.MlaKvIdeal.τ).loc Cert.MlaKvIdeal.main_v47_2)),
      θ_run (Cert.MlaKvIdeal.defs (F := Ideal)) (onTc (τ := Cert.MlaKvIdeal.τ) (Cert.MlaKvIdeal.main (F := Ideal))) ⟨m, fun _ => 0, g⟩ (fun r => ∀ c : Dev Cert.MlaKvIdeal.nD,
          r.2.mem ((c.tc : Thread Cert.MlaKvIdeal.nD Cert.MlaKvIdeal.τ).loc Cert.MlaKvIdeal.main_v47_0) = v0 c
          ∧ r.2.mem ((c.tc : Thread Cert.MlaKvIdeal.nD Cert.MlaKvIdeal.τ).loc Cert.MlaKvIdeal.main_v47_1) = v1 c
          ∧ r.2.mem ((c.tc : Thread Cert.MlaKvIdeal.nD Cert.MlaKvIdeal.τ).loc Cert.MlaKvIdeal.main_v47_2) = v2 c
          ∧ r.2.mem ((c.tc : Thread Cert.MlaKvIdeal.nD Cert.MlaKvIdeal.τ).loc Cert.MlaKvIdeal.main_arg0) = m ((c.tc : Thread Cert.MlaKvIdeal.nD Cert.MlaKvIdeal.τ).loc Cert.MlaKvIdeal.main_arg0)
          ∧ r.2.mem ((c.tc : Thread Cert.MlaKvIdeal.nD Cert.MlaKvIdeal.τ).loc Cert.MlaKvIdeal.main_arg1) = m ((c.tc : Thread Cert.MlaKvIdeal.nD Cert.MlaKvIdeal.τ).loc Cert.MlaKvIdeal.main_arg1)
          ∧ r.2.mem ((c.tc : Thread Cert.MlaKvIdeal.nD Cert.MlaKvIdeal.τ).loc Cert.MlaKvIdeal.main_arg2) = m ((c.tc : Thread Cert.MlaKvIdeal.nD Cert.MlaKvIdeal.τ).loc Cert.MlaKvIdeal.main_arg2))
      ∧ θ_run (Cert.RefKvIdeal.defs (F := Ideal)) (onTc (τ := Cert.RefKvIdeal.τ) (Cert.RefKvIdeal.main (F := Ideal))) ⟨m', fun _ => 0, g'⟩ (fun r => ∀ c : Dev Cert.RefKvIdeal.nD,
          r.2.mem ((c.tc : Thread Cert.RefKvIdeal.nD Cert.RefKvIdeal.τ).loc Cert.RefKvIdeal.main_v23) = v0 c
          ∧ r.2.mem ((c.tc : Thread Cert.RefKvIdeal.nD Cert.RefKvIdeal.τ).loc Cert.RefKvIdeal.main_v26) = v1 c
          ∧ r.2.mem ((c.tc : Thread Cert.RefKvIdeal.nD Cert.RefKvIdeal.τ).loc Cert.RefKvIdeal.main_v13) = v2 c
          ∧ r.2.mem ((c.tc : Thread Cert.RefKvIdeal.nD Cert.RefKvIdeal.τ).loc Cert.RefKvIdeal.main_arg0) = m' ((c.tc : Thread Cert.RefKvIdeal.nD Cert.RefKvIdeal.τ).loc Cert.RefKvIdeal.main_arg0)
          ∧ r.2.mem ((c.tc : Thread Cert.RefKvIdeal.nD Cert.RefKvIdeal.τ).loc Cert.RefKvIdeal.main_arg1) = m' ((c.tc : Thread Cert.RefKvIdeal.nD Cert.RefKvIdeal.τ).loc Cert.RefKvIdeal.main_arg1)
          ∧ r.2.mem ((c.tc : Thread Cert.RefKvIdeal.nD Cert.RefKvIdeal.τ).loc Cert.RefKvIdeal.main_arg2) = m' ((c.tc : Thread Cert.RefKvIdeal.nD Cert.RefKvIdeal.τ).loc Cert.RefKvIdeal.main_arg2))

def preserves_MlaQ_MlaQIdeal : Prop :=
  IdealRules.named_const.Statement Cert.MlaQIdeal.κ "s" .f32 0x3D93CD3A#32 (((Real.sqrt 192)⁻¹ : ℝ) : EReal)

def algebraic_MlaQIdeal_RefQIdeal [hMlaQIdeal : Cert.MlaQIdeal.Facts] [hRefQIdeal : Cert.RefQIdeal.Facts] : Prop :=
  ∀ (m : (ℓ : Loc Cert.MlaQIdeal.nD Cert.MlaQIdeal.τ Cert.MlaQIdeal.sig) → Buf (Elt Ideal) ℓ) (g : Dev Cert.MlaQIdeal.nD → PrngReg)
    (m' : (ℓ : Loc Cert.RefQIdeal.nD Cert.RefQIdeal.τ Cert.RefQIdeal.sig) → Buf (Elt Ideal) ℓ) (g' : Dev Cert.RefQIdeal.nD → PrngReg), Pre_MlaQIdeal m →
    (∀ c : Dev Cert.MlaQIdeal.nD,
      m' ((c.tc : Thread Cert.RefQIdeal.nD Cert.RefQIdeal.τ).loc Cert.RefQIdeal.main_arg0) = m ((c.tc : Thread Cert.MlaQIdeal.nD Cert.MlaQIdeal.τ).loc Cert.MlaQIdeal.main_arg0)
      ∧ m' ((c.tc : Thread Cert.RefQIdeal.nD Cert.RefQIdeal.τ).loc Cert.RefQIdeal.main_arg1) = m ((c.tc : Thread Cert.MlaQIdeal.nD Cert.MlaQIdeal.τ).loc Cert.MlaQIdeal.main_arg1)
      ∧ m' ((c.tc : Thread Cert.RefQIdeal.nD Cert.RefQIdeal.τ).loc Cert.RefQIdeal.main_arg2) = m ((c.tc : Thread Cert.MlaQIdeal.nD Cert.MlaQIdeal.τ).loc Cert.MlaQIdeal.main_arg2)) →
    ∃ (v0 : (c : Dev Cert.MlaQIdeal.nD) → Buf (Elt Ideal) ((c.tc : Thread Cert.MlaQIdeal.nD Cert.MlaQIdeal.τ).loc Cert.MlaQIdeal.main_v16)),
      θ_run (Cert.MlaQIdeal.defs (F := Ideal)) (onTc (τ := Cert.MlaQIdeal.τ) (Cert.MlaQIdeal.main (F := Ideal))) ⟨m, fun _ => 0, g⟩ (fun r => ∀ c : Dev Cert.MlaQIdeal.nD,
          r.2.mem ((c.tc : Thread Cert.MlaQIdeal.nD Cert.MlaQIdeal.τ).loc Cert.MlaQIdeal.main_v16) = v0 c
          ∧ r.2.mem ((c.tc : Thread Cert.MlaQIdeal.nD Cert.MlaQIdeal.τ).loc Cert.MlaQIdeal.main_arg0) = m ((c.tc : Thread Cert.MlaQIdeal.nD Cert.MlaQIdeal.τ).loc Cert.MlaQIdeal.main_arg0)
          ∧ r.2.mem ((c.tc : Thread Cert.MlaQIdeal.nD Cert.MlaQIdeal.τ).loc Cert.MlaQIdeal.main_arg1) = m ((c.tc : Thread Cert.MlaQIdeal.nD Cert.MlaQIdeal.τ).loc Cert.MlaQIdeal.main_arg1)
          ∧ r.2.mem ((c.tc : Thread Cert.MlaQIdeal.nD Cert.MlaQIdeal.τ).loc Cert.MlaQIdeal.main_arg2) = m ((c.tc : Thread Cert.MlaQIdeal.nD Cert.MlaQIdeal.τ).loc Cert.MlaQIdeal.main_arg2))
      ∧ θ_run (Cert.RefQIdeal.defs (F := Ideal)) (onTc (τ := Cert.RefQIdeal.τ) (Cert.RefQIdeal.main (F := Ideal))) ⟨m', fun _ => 0, g'⟩ (fun r => ∀ c : Dev Cert.RefQIdeal.nD,
          r.2.mem ((c.tc : Thread Cert.RefQIdeal.nD Cert.RefQIdeal.τ).loc Cert.RefQIdeal.main_v22) = v0 c
          ∧ r.2.mem ((c.tc : Thread Cert.RefQIdeal.nD Cert.RefQIdeal.τ).loc Cert.RefQIdeal.main_arg0) = m' ((c.tc : Thread Cert.RefQIdeal.nD Cert.RefQIdeal.τ).loc Cert.RefQIdeal.main_arg0)
          ∧ r.2.mem ((c.tc : Thread Cert.RefQIdeal.nD Cert.RefQIdeal.τ).loc Cert.RefQIdeal.main_arg1) = m' ((c.tc : Thread Cert.RefQIdeal.nD Cert.RefQIdeal.τ).loc Cert.RefQIdeal.main_arg1)
          ∧ r.2.mem ((c.tc : Thread Cert.RefQIdeal.nD Cert.RefQIdeal.τ).loc Cert.RefQIdeal.main_arg2) = m' ((c.tc : Thread Cert.RefQIdeal.nD Cert.RefQIdeal.τ).loc Cert.RefQIdeal.main_arg2))

def preserves_MlpCtx_MlpCtxIdeal : Prop :=
  True

def algebraic_MlpCtxIdeal_RefMlpCtxIdeal [hMlpCtxIdeal : Cert.MlpCtxIdeal.Facts] [hRefMlpCtxIdeal : Cert.RefMlpCtxIdeal.Facts] : Prop :=
  ∀ (m : (ℓ : Loc Cert.MlpCtxIdeal.nD Cert.MlpCtxIdeal.τ Cert.MlpCtxIdeal.sig) → Buf (Elt Ideal) ℓ) (g : Dev Cert.MlpCtxIdeal.nD → PrngReg)
    (m' : (ℓ : Loc Cert.RefMlpCtxIdeal.nD Cert.RefMlpCtxIdeal.τ Cert.RefMlpCtxIdeal.sig) → Buf (Elt Ideal) ℓ) (g' : Dev Cert.RefMlpCtxIdeal.nD → PrngReg), Pre_MlpCtxIdeal m →
    (∀ c : Dev Cert.MlpCtxIdeal.nD,
      m' ((c.tc : Thread Cert.RefMlpCtxIdeal.nD Cert.RefMlpCtxIdeal.τ).loc Cert.RefMlpCtxIdeal.main_arg0) = m ((c.tc : Thread Cert.MlpCtxIdeal.nD Cert.MlpCtxIdeal.τ).loc Cert.MlpCtxIdeal.main_arg0)
      ∧ m' ((c.tc : Thread Cert.RefMlpCtxIdeal.nD Cert.RefMlpCtxIdeal.τ).loc Cert.RefMlpCtxIdeal.main_arg1) = m ((c.tc : Thread Cert.MlpCtxIdeal.nD Cert.MlpCtxIdeal.τ).loc Cert.MlpCtxIdeal.main_arg1)
      ∧ m' ((c.tc : Thread Cert.RefMlpCtxIdeal.nD Cert.RefMlpCtxIdeal.τ).loc Cert.RefMlpCtxIdeal.main_arg2) = m ((c.tc : Thread Cert.MlpCtxIdeal.nD Cert.MlpCtxIdeal.τ).loc Cert.MlpCtxIdeal.main_arg2)
      ∧ m' ((c.tc : Thread Cert.RefMlpCtxIdeal.nD Cert.RefMlpCtxIdeal.τ).loc Cert.RefMlpCtxIdeal.main_arg3) = m ((c.tc : Thread Cert.MlpCtxIdeal.nD Cert.MlpCtxIdeal.τ).loc Cert.MlpCtxIdeal.main_arg3)
      ∧ m' ((c.tc : Thread Cert.RefMlpCtxIdeal.nD Cert.RefMlpCtxIdeal.τ).loc Cert.RefMlpCtxIdeal.main_arg4) = m ((c.tc : Thread Cert.MlpCtxIdeal.nD Cert.MlpCtxIdeal.τ).loc Cert.MlpCtxIdeal.main_arg4)
      ∧ m' ((c.tc : Thread Cert.RefMlpCtxIdeal.nD Cert.RefMlpCtxIdeal.τ).loc Cert.RefMlpCtxIdeal.main_arg5) = m ((c.tc : Thread Cert.MlpCtxIdeal.nD Cert.MlpCtxIdeal.τ).loc Cert.MlpCtxIdeal.main_arg5)
      ∧ m' ((c.tc : Thread Cert.RefMlpCtxIdeal.nD Cert.RefMlpCtxIdeal.τ).loc Cert.RefMlpCtxIdeal.main_arg6) = m ((c.tc : Thread Cert.MlpCtxIdeal.nD Cert.MlpCtxIdeal.τ).loc Cert.MlpCtxIdeal.main_arg6)
      ∧ m' ((c.tc : Thread Cert.RefMlpCtxIdeal.nD Cert.RefMlpCtxIdeal.τ).loc Cert.RefMlpCtxIdeal.main_arg7) = m ((c.tc : Thread Cert.MlpCtxIdeal.nD Cert.MlpCtxIdeal.τ).loc Cert.MlpCtxIdeal.main_arg7)) →
    ∃ (v0 : (c : Dev Cert.MlpCtxIdeal.nD) → Buf (Elt Ideal) ((c.tc : Thread Cert.MlpCtxIdeal.nD Cert.MlpCtxIdeal.τ).loc Cert.MlpCtxIdeal.main_v5)),
      θ_run (Cert.MlpCtxIdeal.defs (F := Ideal)) (onTc (τ := Cert.MlpCtxIdeal.τ) (Cert.MlpCtxIdeal.main (F := Ideal))) ⟨m, fun _ => 0, g⟩ (fun r => ∀ c : Dev Cert.MlpCtxIdeal.nD,
          r.2.mem ((c.tc : Thread Cert.MlpCtxIdeal.nD Cert.MlpCtxIdeal.τ).loc Cert.MlpCtxIdeal.main_v5) = v0 c
          ∧ r.2.mem ((c.tc : Thread Cert.MlpCtxIdeal.nD Cert.MlpCtxIdeal.τ).loc Cert.MlpCtxIdeal.main_arg0) = m ((c.tc : Thread Cert.MlpCtxIdeal.nD Cert.MlpCtxIdeal.τ).loc Cert.MlpCtxIdeal.main_arg0)
          ∧ r.2.mem ((c.tc : Thread Cert.MlpCtxIdeal.nD Cert.MlpCtxIdeal.τ).loc Cert.MlpCtxIdeal.main_arg1) = m ((c.tc : Thread Cert.MlpCtxIdeal.nD Cert.MlpCtxIdeal.τ).loc Cert.MlpCtxIdeal.main_arg1)
          ∧ r.2.mem ((c.tc : Thread Cert.MlpCtxIdeal.nD Cert.MlpCtxIdeal.τ).loc Cert.MlpCtxIdeal.main_arg2) = m ((c.tc : Thread Cert.MlpCtxIdeal.nD Cert.MlpCtxIdeal.τ).loc Cert.MlpCtxIdeal.main_arg2)
          ∧ r.2.mem ((c.tc : Thread Cert.MlpCtxIdeal.nD Cert.MlpCtxIdeal.τ).loc Cert.MlpCtxIdeal.main_arg3) = m ((c.tc : Thread Cert.MlpCtxIdeal.nD Cert.MlpCtxIdeal.τ).loc Cert.MlpCtxIdeal.main_arg3)
          ∧ r.2.mem ((c.tc : Thread Cert.MlpCtxIdeal.nD Cert.MlpCtxIdeal.τ).loc Cert.MlpCtxIdeal.main_arg4) = m ((c.tc : Thread Cert.MlpCtxIdeal.nD Cert.MlpCtxIdeal.τ).loc Cert.MlpCtxIdeal.main_arg4)
          ∧ r.2.mem ((c.tc : Thread Cert.MlpCtxIdeal.nD Cert.MlpCtxIdeal.τ).loc Cert.MlpCtxIdeal.main_arg5) = m ((c.tc : Thread Cert.MlpCtxIdeal.nD Cert.MlpCtxIdeal.τ).loc Cert.MlpCtxIdeal.main_arg5)
          ∧ r.2.mem ((c.tc : Thread Cert.MlpCtxIdeal.nD Cert.MlpCtxIdeal.τ).loc Cert.MlpCtxIdeal.main_arg6) = m ((c.tc : Thread Cert.MlpCtxIdeal.nD Cert.MlpCtxIdeal.τ).loc Cert.MlpCtxIdeal.main_arg6)
          ∧ r.2.mem ((c.tc : Thread Cert.MlpCtxIdeal.nD Cert.MlpCtxIdeal.τ).loc Cert.MlpCtxIdeal.main_arg7) = m ((c.tc : Thread Cert.MlpCtxIdeal.nD Cert.MlpCtxIdeal.τ).loc Cert.MlpCtxIdeal.main_arg7))
      ∧ θ_run (Cert.RefMlpCtxIdeal.defs (F := Ideal)) (onTc (τ := Cert.RefMlpCtxIdeal.τ) (Cert.RefMlpCtxIdeal.main (F := Ideal))) ⟨m', fun _ => 0, g'⟩ (fun r => ∀ c : Dev Cert.RefMlpCtxIdeal.nD,
          r.2.mem ((c.tc : Thread Cert.RefMlpCtxIdeal.nD Cert.RefMlpCtxIdeal.τ).loc Cert.RefMlpCtxIdeal.main_v39) = v0 c
          ∧ r.2.mem ((c.tc : Thread Cert.RefMlpCtxIdeal.nD Cert.RefMlpCtxIdeal.τ).loc Cert.RefMlpCtxIdeal.main_arg0) = m' ((c.tc : Thread Cert.RefMlpCtxIdeal.nD Cert.RefMlpCtxIdeal.τ).loc Cert.RefMlpCtxIdeal.main_arg0)
          ∧ r.2.mem ((c.tc : Thread Cert.RefMlpCtxIdeal.nD Cert.RefMlpCtxIdeal.τ).loc Cert.RefMlpCtxIdeal.main_arg1) = m' ((c.tc : Thread Cert.RefMlpCtxIdeal.nD Cert.RefMlpCtxIdeal.τ).loc Cert.RefMlpCtxIdeal.main_arg1)
          ∧ r.2.mem ((c.tc : Thread Cert.RefMlpCtxIdeal.nD Cert.RefMlpCtxIdeal.τ).loc Cert.RefMlpCtxIdeal.main_arg2) = m' ((c.tc : Thread Cert.RefMlpCtxIdeal.nD Cert.RefMlpCtxIdeal.τ).loc Cert.RefMlpCtxIdeal.main_arg2)
          ∧ r.2.mem ((c.tc : Thread Cert.RefMlpCtxIdeal.nD Cert.RefMlpCtxIdeal.τ).loc Cert.RefMlpCtxIdeal.main_arg3) = m' ((c.tc : Thread Cert.RefMlpCtxIdeal.nD Cert.RefMlpCtxIdeal.τ).loc Cert.RefMlpCtxIdeal.main_arg3)
          ∧ r.2.mem ((c.tc : Thread Cert.RefMlpCtxIdeal.nD Cert.RefMlpCtxIdeal.τ).loc Cert.RefMlpCtxIdeal.main_arg4) = m' ((c.tc : Thread Cert.RefMlpCtxIdeal.nD Cert.RefMlpCtxIdeal.τ).loc Cert.RefMlpCtxIdeal.main_arg4)
          ∧ r.2.mem ((c.tc : Thread Cert.RefMlpCtxIdeal.nD Cert.RefMlpCtxIdeal.τ).loc Cert.RefMlpCtxIdeal.main_arg5) = m' ((c.tc : Thread Cert.RefMlpCtxIdeal.nD Cert.RefMlpCtxIdeal.τ).loc Cert.RefMlpCtxIdeal.main_arg5)
          ∧ r.2.mem ((c.tc : Thread Cert.RefMlpCtxIdeal.nD Cert.RefMlpCtxIdeal.τ).loc Cert.RefMlpCtxIdeal.main_arg6) = m' ((c.tc : Thread Cert.RefMlpCtxIdeal.nD Cert.RefMlpCtxIdeal.τ).loc Cert.RefMlpCtxIdeal.main_arg6)
          ∧ r.2.mem ((c.tc : Thread Cert.RefMlpCtxIdeal.nD Cert.RefMlpCtxIdeal.τ).loc Cert.RefMlpCtxIdeal.main_arg7) = m' ((c.tc : Thread Cert.RefMlpCtxIdeal.nD Cert.RefMlpCtxIdeal.τ).loc Cert.RefMlpCtxIdeal.main_arg7))

def preserves_Scan_ScanIdeal : Prop :=
  True

def algebraic_ScanIdeal_RefScanIdeal_pre_finite_scan [hScanIdeal : Cert.ScanIdeal.Facts] [hRefScanIdeal : Cert.RefScanIdeal.Facts] [hPre_finite_scan : Cert.Pre_finite_scan.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.RefScanIdeal.nD Cert.RefScanIdeal.τ Cert.RefScanIdeal.sig) → Buf (Elt Ideal) ℓ) (g' : Dev Cert.RefScanIdeal.nD → PrngReg), Pre_ScanIdeal_finite_scan m →
    (∀ c : Dev Cert.ScanIdeal.nD,
      m' ((c.tc : Thread Cert.RefScanIdeal.nD Cert.RefScanIdeal.τ).loc Cert.RefScanIdeal.main_arg0) = m ((c.tc : Thread Cert.ScanIdeal.nD Cert.ScanIdeal.τ).loc Cert.ScanIdeal.main_arg0)
      ∧ m' ((c.tc : Thread Cert.RefScanIdeal.nD Cert.RefScanIdeal.τ).loc Cert.RefScanIdeal.main_arg1) = m ((c.tc : Thread Cert.ScanIdeal.nD Cert.ScanIdeal.τ).loc Cert.ScanIdeal.main_arg1)) →
    ∃ (v0 : (c : Dev Cert.ScanIdeal.nD) → Buf (Elt Ideal) ((c.tc : Thread Cert.ScanIdeal.nD Cert.ScanIdeal.τ).loc Cert.ScanIdeal.main_v1_1)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v1_1) = v0 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1))
      ∧ θ_run (Cert.RefScanIdeal.defs (F := Ideal)) (onTc (τ := Cert.RefScanIdeal.τ) (Cert.RefScanIdeal.main (F := Ideal))) ⟨m', fun _ => 0, g'⟩ (fun r => ∀ c : Dev Cert.RefScanIdeal.nD,
          r.2.mem ((c.tc : Thread Cert.RefScanIdeal.nD Cert.RefScanIdeal.τ).loc Cert.RefScanIdeal.main_v120) = v0 c
          ∧ r.2.mem ((c.tc : Thread Cert.RefScanIdeal.nD Cert.RefScanIdeal.τ).loc Cert.RefScanIdeal.main_arg0) = m' ((c.tc : Thread Cert.RefScanIdeal.nD Cert.RefScanIdeal.τ).loc Cert.RefScanIdeal.main_arg0)
          ∧ r.2.mem ((c.tc : Thread Cert.RefScanIdeal.nD Cert.RefScanIdeal.τ).loc Cert.RefScanIdeal.main_arg1) = m' ((c.tc : Thread Cert.RefScanIdeal.nD Cert.RefScanIdeal.τ).loc Cert.RefScanIdeal.main_arg1))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hRefMlpIdeal : Cert.RefMlpIdeal.Facts) (hProjNa : Cert.ProjNa.Facts) (hProjNaIdeal : Cert.ProjNaIdeal.Facts) (hRefNaIdeal : Cert.RefNaIdeal.Facts) (hProjDn : Cert.ProjDn.Facts) (hProjDnIdeal : Cert.ProjDnIdeal.Facts) (hRefDnIdeal : Cert.RefDnIdeal.Facts) (hProjZg : Cert.ProjZg.Facts) (hProjZgIdeal : Cert.ProjZgIdeal.Facts) (hRefZgIdeal : Cert.RefZgIdeal.Facts) (hProjSmall : Cert.ProjSmall.Facts) (hProjSmallIdeal : Cert.ProjSmallIdeal.Facts) (hRefSmallIdeal : Cert.RefSmallIdeal.Facts) (hMerge : Cert.Merge.Facts) (hMergeIdeal : Cert.MergeIdeal.Facts) (hRefMergeIdeal : Cert.RefMergeIdeal.Facts) (hMlaKv : Cert.MlaKv.Facts) (hMlaKvIdeal : Cert.MlaKvIdeal.Facts) (hRefKvIdeal : Cert.RefKvIdeal.Facts) (hMlaQ : Cert.MlaQ.Facts) (hMlaQIdeal : Cert.MlaQIdeal.Facts) (hRefQIdeal : Cert.RefQIdeal.Facts) (hMlpCtx : Cert.MlpCtx.Facts) (hMlpCtxIdeal : Cert.MlpCtxIdeal.Facts) (hRefMlpCtxIdeal : Cert.RefMlpCtxIdeal.Facts) (hScan : Cert.Scan.Facts) (hScanIdeal : Cert.ScanIdeal.Facts) (hRefScanIdeal : Cert.RefScanIdeal.Facts) (hPre_finite : Cert.Pre_finite.Facts) (hPre_finite_scan : Cert.Pre_finite_scan.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Mlp (hMlp := hMlp)
    ∧ quiescent_MlpIdeal (hMlpIdeal := hMlpIdeal)
    ∧ quiescent_RefMlpIdeal (hRefMlpIdeal := hRefMlpIdeal)
    ∧ quiescent_ProjNa (hProjNa := hProjNa)
    ∧ quiescent_ProjNaIdeal (hProjNaIdeal := hProjNaIdeal)
    ∧ quiescent_RefNaIdeal (hRefNaIdeal := hRefNaIdeal)
    ∧ quiescent_ProjDn (hProjDn := hProjDn)
    ∧ quiescent_ProjDnIdeal (hProjDnIdeal := hProjDnIdeal)
    ∧ quiescent_RefDnIdeal (hRefDnIdeal := hRefDnIdeal)
    ∧ quiescent_ProjZg (hProjZg := hProjZg)
    ∧ quiescent_ProjZgIdeal (hProjZgIdeal := hProjZgIdeal)
    ∧ quiescent_RefZgIdeal (hRefZgIdeal := hRefZgIdeal)
    ∧ quiescent_ProjSmall (hProjSmall := hProjSmall)
    ∧ quiescent_ProjSmallIdeal (hProjSmallIdeal := hProjSmallIdeal)
    ∧ quiescent_RefSmallIdeal (hRefSmallIdeal := hRefSmallIdeal)
    ∧ quiescent_Merge (hMerge := hMerge)
    ∧ quiescent_MergeIdeal (hMergeIdeal := hMergeIdeal)
    ∧ quiescent_RefMergeIdeal (hRefMergeIdeal := hRefMergeIdeal)
    ∧ quiescent_MlaKv (hMlaKv := hMlaKv)
    ∧ quiescent_MlaKvIdeal (hMlaKvIdeal := hMlaKvIdeal)
    ∧ quiescent_RefKvIdeal (hRefKvIdeal := hRefKvIdeal)
    ∧ quiescent_MlaQ (hMlaQ := hMlaQ)
    ∧ quiescent_MlaQIdeal (hMlaQIdeal := hMlaQIdeal)
    ∧ quiescent_RefQIdeal (hRefQIdeal := hRefQIdeal)
    ∧ quiescent_MlpCtx (hMlpCtx := hMlpCtx)
    ∧ quiescent_MlpCtxIdeal (hMlpCtxIdeal := hMlpCtxIdeal)
    ∧ quiescent_RefMlpCtxIdeal (hRefMlpCtxIdeal := hRefMlpCtxIdeal)
    ∧ quiescent_Scan (hScan := hScan)
    ∧ quiescent_ScanIdeal (hScanIdeal := hScanIdeal)
    ∧ quiescent_ScanIdeal_pre_finite_scan (hScanIdeal := hScanIdeal) (hPre_finite_scan := hPre_finite_scan)
    ∧ quiescent_RefScanIdeal (hRefScanIdeal := hRefScanIdeal)
    ∧ quiescent_RefScanIdeal_pre_finite_scan (hRefScanIdeal := hRefScanIdeal) (hPre_finite_scan := hPre_finite_scan)
    ∧ preserves_Kernel_KernelIdeal
    ∧ algebraic_KernelIdeal_ReferenceIdeal_pre_finite (hKernelIdeal := hKernelIdeal) (hReferenceIdeal := hReferenceIdeal) (hPre_finite := hPre_finite)
    ∧ preserves_Mlp_MlpIdeal
    ∧ algebraic_MlpIdeal_RefMlpIdeal (hMlpIdeal := hMlpIdeal) (hRefMlpIdeal := hRefMlpIdeal)
    ∧ preserves_ProjNa_ProjNaIdeal
    ∧ algebraic_ProjNaIdeal_RefNaIdeal (hProjNaIdeal := hProjNaIdeal) (hRefNaIdeal := hRefNaIdeal)
    ∧ preserves_ProjDn_ProjDnIdeal
    ∧ algebraic_ProjDnIdeal_RefDnIdeal (hProjDnIdeal := hProjDnIdeal) (hRefDnIdeal := hRefDnIdeal)
    ∧ preserves_ProjZg_ProjZgIdeal
    ∧ algebraic_ProjZgIdeal_RefZgIdeal (hProjZgIdeal := hProjZgIdeal) (hRefZgIdeal := hRefZgIdeal)
    ∧ preserves_ProjSmall_ProjSmallIdeal
    ∧ algebraic_ProjSmallIdeal_RefSmallIdeal (hProjSmallIdeal := hProjSmallIdeal) (hRefSmallIdeal := hRefSmallIdeal)
    ∧ preserves_Merge_MergeIdeal
    ∧ algebraic_MergeIdeal_RefMergeIdeal (hMergeIdeal := hMergeIdeal) (hRefMergeIdeal := hRefMergeIdeal)
    ∧ preserves_MlaKv_MlaKvIdeal
    ∧ algebraic_MlaKvIdeal_RefKvIdeal (hMlaKvIdeal := hMlaKvIdeal) (hRefKvIdeal := hRefKvIdeal)
    ∧ preserves_MlaQ_MlaQIdeal
    ∧ algebraic_MlaQIdeal_RefQIdeal (hMlaQIdeal := hMlaQIdeal) (hRefQIdeal := hRefQIdeal)
    ∧ preserves_MlpCtx_MlpCtxIdeal
    ∧ algebraic_MlpCtxIdeal_RefMlpCtxIdeal (hMlpCtxIdeal := hMlpCtxIdeal) (hRefMlpCtxIdeal := hRefMlpCtxIdeal)
    ∧ preserves_Scan_ScanIdeal
    ∧ algebraic_ScanIdeal_RefScanIdeal_pre_finite_scan (hScanIdeal := hScanIdeal) (hRefScanIdeal := hRefScanIdeal) (hPre_finite_scan := hPre_finite_scan)
-- ==== Pre_finite.lean ====
abbrev S4x4096x4096 : Shape := ⟨3, ![4, 4096, 4096]⟩
abbrev S4x4352x4096 : Shape := ⟨3, ![4, 4352, 4096]⟩
abbrev S4x4352x2048 : Shape := ⟨3, ![4, 4352, 2048]⟩
abbrev S_ : Shape := ⟨0, ![]⟩

class Facts : Prop where
  bitsLt_bf16_f32 : FTy.bits .bf16 < FTy.bits .f32
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4x4352x4096 : S_.BroadcastsInDim S4x4352x4096 (![] : Fin 0 → Fin S4x4352x4096.rank)
  reducesTo_S4x4352x4096_S_d0_1_2 : S4x4352x4096.ReducesTo [0, 1, 2] S_

variable [Facts]

def fn {F : FTy → Type} [FloatOps F] (main_arg0 : FVec F S4x4096x4096 .bf16) (main_arg1 : FVec F S4x4352x4096 .bf16) (main_arg2 : FVec F S4x4352x2048 .bf16) : IVec S_ 1 :=
  let main_v0 : FVec F S4x4096x4096 .f32 := (extf .f32 · bitsLt_bf16_f32) main_arg0
  let main_v1 : FVec F S4x4096x4096 .f32 := Host.absf main_v0
  let main_cst : FVec F S_ .f32 := constant S_ .f32 0x7F800000#32
  let main_v2 : FVec F S4x4096x4096 .f32 := broadcastInDim S4x4096x4096 ![] bcast_S_S4x4096x4096 main_cst
  let main_v3 : IVec S4x4096x4096 1 := cmpf .olt main_v1 main_v2
  let main_c : IVec S_ 1 := constantI S_ 1 1#1
  let main_v4 : IVec S_ 1 := (fun x v => Host.reduce IntOp.andi x v reducesTo_S4x4096x4096_S_d0_1_2 h_S_) main_v3 main_c
  let main_v5 : FVec F S4x4352x4096 .f32 := (extf .f32 · bitsLt_bf16_f32) main_arg1
  let main_v6 : FVec F S4x4352x4096 .f32 := Host.absf main_v5
  let main_cst_0 : FVec F S_ .f32 := constant S_ .f32 0x7F800000#32
  let main_v7 : FVec F S4x4352x4096 .f32 := broadcastInDim S4x4352x4096 ![] bcast_S_S4x4352x4096 main_cst_0
  let main_v8 : IVec S4x4352x4096 1 := cmpf .olt main_v6 main_v7
  let main_c_1 : IVec S_ 1 := constantI S_ 1 1#1
  let main_v9 : IVec S_ 1 := (fun x v => Host.reduce IntOp.andi x v reducesTo_S4x4352x4096_S_d0_1_2 h_S_) main_v8 main_c_1
  let main_v10 : IVec S_ 1 := andi main_v4 main_v9
  main_v10
-- ==== Pre_finite_scan.lean ====
abbrev S32x256x6144 : Shape := ⟨3, ![32, 256, 6144]⟩
abbrev S32x1x4x16x256 : Shape := ⟨5, ![32, 1, 4, 16, 256]⟩
abbrev S32x256x2048 : Shape := ⟨3, ![32, 256, 2048]⟩
abbrev S_ : Shape := ⟨0, ![]⟩
abbrev S32x1x1x16x256 : Shape := ⟨5, ![32, 1, 1, 16, 256]⟩

class Facts : Prop where
  slices_S32x256x6144_S32x256x2048_0_0_2048 : S32x256x6144.Slices ![0, 0, 2048] S32x256x2048
  bcast_S_S32x256x2048 : S_.BroadcastsInDim S32x256x2048 (![] : Fin 0 → Fin S32x256x2048.rank)
  reducesTo_S32x256x2048_S_d0_1_2 : S32x256x2048.ReducesTo [0, 1, 2] S_
  h_S_ : 0 < S_.numel
  slices_S32x1x4x16x256_S32x1x1x16x256_0_0_0_0_0 : S32x1x4x16x256.Slices ![0, 0, 0, 0, 0] S32x1x1x16x256
  bcast_S_S32x1x1x16x256 : S_.BroadcastsInDim S32x1x1x16x256 (![] : Fin 0 → Fin S32x1x1x16x256.rank)
  reducesTo_S32x1x1x16x256_S_d0_1_2_3_4 : S32x1x1x16x256.ReducesTo [0, 1, 2, 3, 4] S_
  slices_S32x1x4x16x256_S32x1x1x16x256_0_0_2_0_0 : S32x1x4x16x256.Slices ![0, 0, 2, 0, 0] S32x1x1x16x256

variable [Facts]

def fn {F : FTy → Type} [FloatOps F] (main_arg0 : FVec F S32x256x6144 .f32) (main_arg1 : FVec F S32x1x4x16x256 .f32) : IVec S_ 1 :=
  let main_v0 : FVec F S32x256x2048 .f32 := (extractStridedSlice S32x256x2048 ![0, 0, 2048] · slices_S32x256x6144_S32x256x2048_0_0_2048) main_arg0
  let main_v1 : FVec F S32x256x2048 .f32 := Host.absf main_v0
  let main_cst : FVec F S_ .f32 := constant S_ .f32 0x7F800000#32
  let main_v2 : FVec F S32x256x2048 .f32 := broadcastInDim S32x256x2048 ![] bcast_S_S32x256x2048 main_cst
  let main_v3 : IVec S32x256x2048 1 := cmpf .olt main_v1 main_v2
  let main_c : IVec S_ 1 := constantI S_ 1 1#1
  let main_v4 : IVec S_ 1 := (fun x v => Host.reduce IntOp.andi x v reducesTo_S32x256x2048_S_d0_1_2 h_S_) main_v3 main_c
  let main_v5 : FVec F S32x1x1x16x256 .f32 := (extractStridedSlice S32x1x1x16x256 ![0, 0, 0, 0, 0] · slices_S32x1x4x16x256_S32x1x1x16x256_0_0_0_0_0) main_arg1
  let main_v6 : FVec F S32x1x1x16x256 .f32 := Host.absf main_v5
  let main_cst_0 : FVec F S_ .f32 := constant S_ .f32 0x7F800000#32
  let main_v7 : FVec F S32x1x1x16x256 .f32 := broadcastInDim S32x1x1x16x256 ![] bcast_S_S32x1x1x16x256 main_cst_0
  let main_v8 : IVec S32x1x1x16x256 1 := cmpf .olt main_v6 main_v7
  let main_c_1 : IVec S_ 1 := constantI S_ 1 1#1
  let main_v9 : IVec S_ 1 := (fun x v => Host.reduce IntOp.andi x v reducesTo_S32x1x1x16x256_S_d0_1_2_3_4 h_S_) main_v8 main_c_1
  let main_v10 : IVec S_ 1 := andi main_v4 main_v9
  let main_v11 : FVec F S32x1x1x16x256 .f32 := (extractStridedSlice S32x1x1x16x256 ![0, 0, 2, 0, 0] · slices_S32x1x4x16x256_S32x1x1x16x256_0_0_2_0_0) main_arg1
  let main_v12 : FVec F S32x1x1x16x256 .f32 := Host.absf main_v11
  let main_cst_2 : FVec F S_ .f32 := constant S_ .f32 0x7F800000#32
  let main_v13 : FVec F S32x1x1x16x256 .f32 := broadcastInDim S32x1x1x16x256 ![] bcast_S_S32x1x1x16x256 main_cst_2
  let main_v14 : IVec S32x1x1x16x256 1 := cmpf .olt main_v12 main_v13
  let main_c_3 : IVec S_ 1 := constantI S_ 1 1#1
  let main_v15 : IVec S_ 1 := (fun x v => Host.reduce IntOp.andi x v reducesTo_S32x1x1x16x256_S_d0_1_2_3_4 h_S_) main_v14 main_c_3
  let main_v16 : IVec S_ 1 := andi main_v10 main_v15
  main_v16
-- ==== Kernel.lean ====
abbrev S4x4096x4096 : Shape := ⟨3, ![4, 4096, 4096]⟩
abbrev S4x4352x4096 : Shape := ⟨3, ![4, 4352, 4096]⟩
abbrev S4x4352x2048 : Shape := ⟨3, ![4, 4352, 2048]⟩
abbrev S4x4096x2048 : Shape := ⟨3, ![4, 4096, 2048]⟩
abbrev S4x256x4096 : Shape := ⟨3, ![4, 256, 4096]⟩
abbrev S4x256x2048 : Shape := ⟨3, ![4, 256, 2048]⟩
abbrev S1x256x512 : Shape := ⟨3, ![1, 256, 512]⟩
abbrev S1x4096x512 : Shape := ⟨3, ![1, 4096, 512]⟩
abbrev S1x4096x256 : Shape := ⟨3, ![1, 4096, 256]⟩
abbrev S1x256x256 : Shape := ⟨3, ![1, 256, 256]⟩
abbrev S256x256 : Shape := ⟨2, ![256, 256]⟩
abbrev S4096x256 : Shape := ⟨2, ![4096, 256]⟩
abbrev S256x4096 : Shape := ⟨2, ![256, 4096]⟩
abbrev S1x4096x128 : Shape := ⟨3, ![1, 4096, 128]⟩
abbrev S4096x128 : Shape := ⟨2, ![4096, 128]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S4x4096x4096, .bf16⟩
  | .hbm, ⟨1, _⟩ => ⟨S4x4352x4096, .bf16⟩
  | .hbm, ⟨2, _⟩ => ⟨S4x4352x2048, .bf16⟩
  | .hbm, ⟨3, _⟩ => ⟨S4x4096x4096, .bf16⟩
  | .hbm, ⟨4, _⟩ => ⟨S4x4096x2048, .bf16⟩
  | .hbm, ⟨5, _⟩ => ⟨S4x256x4096, .bf16⟩
  | .hbm, ⟨6, _⟩ => ⟨S4x256x2048, .bf16⟩
  | .hbm, ⟨7, _⟩ => ⟨S4x4096x2048, .bf16⟩
  | .local _ .vmem, ⟨0, _⟩ => ⟨S1x256x512, .bf16⟩
  | .local _ .vmem, ⟨1, _⟩ => ⟨S1x256x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x256, .bf16⟩
  | .local _ .vmem, ⟨9, _⟩ => ⟨S1x256x256, .bf16⟩
  | .local _ .vmem, ⟨10, _⟩ => ⟨S1x256x256, .bf16⟩
  | .local _ .vmem, ⟨11, _⟩ => ⟨S1x256x256, .bf16⟩
  | _, _ => ⟨S4x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S4x4096x4096 : Shape := ⟨3, ![4, 4096, 4096]⟩
abbrev S4x4352x4096 : Shape := ⟨3, ![4, 4352, 4096]⟩
abbrev S4x4352x2048 : Shape := ⟨3, ![4, 4352, 2048]⟩
abbrev S4x4096x16x256 : Shape := ⟨4, ![4, 4096, 16, 256]⟩
abbrev S4x4352x16x256 : Shape := ⟨4, ![4, 4352, 16, 256]⟩
abbrev S4x4352x16x128 : Shape := ⟨4, ![4, 4352, 16, 128]⟩
abbrev S4x16x4096x4352 : Shape := ⟨4, ![4, 16, 4096, 4352]⟩
abbrev S_ : Shape := ⟨0, ![]⟩
abbrev S4x16x4096 : Shape := ⟨3, ![4, 16, 4096]⟩
abbrev S4x16x4096x1 : Shape := ⟨4, ![4, 16, 4096, 1]⟩
abbrev S4x16x128x4096 : Shape := ⟨4, ![4, 16, 128, 4096]⟩
abbrev S4x4096x16x128 : Shape := ⟨4, ![4, 4096, 16, 128]⟩
abbrev S4x4096x2048 : Shape := ⟨3, ![4, 4096, 2048]⟩

abbrev nBuf : Space → Nat
  | .hbm => 28
  | .vmem => 0
  | .smem => 0
  | _ => 0

abbrev bufTy : (tb : Table) → Fin (tcTables nBuf tb) → BufTy
  | .hbm, ⟨0, _⟩ => ⟨S4x4096x4096, .bf16⟩
  | .hbm, ⟨1, _⟩ => ⟨S4x4352x4096, .bf16⟩
  | .hbm, ⟨2, _⟩ => ⟨S4x4352x2048, .bf16⟩
  | .hbm, ⟨3, _⟩ => ⟨S4x4096x4096, .f32⟩
  | .hbm, ⟨4, _⟩ => ⟨S4x4096x16x256, .f32⟩
  | .hbm, ⟨5, _⟩ => ⟨S4x4352x4096, .f32⟩
  | .hbm, ⟨6, _⟩ => ⟨S4x4352x16x256, .f32⟩
  | .hbm, ⟨7, _⟩ => ⟨S4x4352x2048, .f32⟩
  | .hbm, ⟨8, _⟩ => ⟨S4x4352x16x128, .f32⟩
  | .hbm, ⟨9, _⟩ => ⟨S4x16x4096x4352, .f32⟩
  | .hbm, ⟨10, _⟩ => ⟨S_, .f32⟩
  | .hbm, ⟨11, _⟩ => ⟨S4x16x4096, .f32⟩
  | .hbm, ⟨12, _⟩ => ⟨S_, .f32⟩
  | .hbm, ⟨13, _⟩ => ⟨S4x16x4096, .f32⟩
  | .hbm, ⟨14, _⟩ => ⟨S4x16x4096, .f32⟩
  | .hbm, ⟨15, _⟩ => ⟨S4x16x4096x1, .f32⟩
  | .hbm, ⟨16, _⟩ => ⟨S4x16x4096x4352, .f32⟩
  | .hbm, ⟨17, _⟩ => ⟨S4x16x4096x4352, .f32⟩
  | .hbm, ⟨18, _⟩ => ⟨S4x16x4096x4352, .f32⟩
  | .hbm, ⟨19, _⟩ => ⟨S_, .f32⟩
  | .hbm, ⟨20, _⟩ => ⟨S4x16x4096, .f32⟩
  | .hbm, ⟨21, _⟩ => ⟨S4x16x4096x1, .f32⟩
  | .hbm, ⟨22, _⟩ => ⟨S4x16x4096x4352, .f32⟩
  | .hbm, ⟨23, _⟩ => ⟨S4x16x4096x4352, .f32⟩
  | .hbm, ⟨24, _⟩ => ⟨S4x16x128x4096, .f32⟩
  | .hbm, ⟨25, _⟩ => ⟨S4x4096x16x128, .f32⟩
  | .hbm, ⟨26, _⟩ => ⟨S4x4096x2048, .f32⟩
  | .hbm, ⟨27, _⟩ => ⟨S4x4096x2048, .bf16⟩
  | _, _ => ⟨S4x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Mlp.lean ====
abbrev S4x4096x2048 : Shape := ⟨3, ![4, 4096, 2048]⟩
abbrev S2048 : Shape := ⟨1, ![2048]⟩
abbrev S4x1x2048 : Shape := ⟨3, ![4, 1, 2048]⟩
abbrev S2048x8192 : Shape := ⟨2, ![2048, 8192]⟩
abbrev S8192x2048 : Shape := ⟨2, ![8192, 2048]⟩
abbrev S16384x2048 : Shape := ⟨2, ![16384, 2048]⟩
abbrev S1x2048 : Shape := ⟨2, ![1, 2048]⟩
abbrev S512x2048 : Shape := ⟨2, ![512, 2048]⟩
abbrev S1x1x2048 : Shape := ⟨3, ![1, 1, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 14
  | .vmem => 18
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x1x2048, .f32⟩
  | .hbm, ⟨3, _⟩ => ⟨S4x1x2048, .f32⟩
  | .hbm, ⟨4, _⟩ => ⟨S2048x8192, .f32⟩
  | .hbm, ⟨5, _⟩ => ⟨S8192x2048, .f32⟩
  | .hbm, ⟨6, _⟩ => ⟨S2048, .f32⟩
  | .hbm, ⟨7, _⟩ => ⟨S4x1x2048, .f32⟩
  | .hbm, ⟨8, _⟩ => ⟨S16384x2048, .f32⟩
  | .hbm, ⟨9, _⟩ => ⟨S2048x8192, .bf16⟩
  | .hbm, ⟨10, _⟩ => ⟨S8192x2048, .bf16⟩
  | .hbm, ⟨11, _⟩ => ⟨S1x2048, .f32⟩
  | .hbm, ⟨12, _⟩ => ⟨S1x2048, .f32⟩
  | .hbm, ⟨13, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x512, .bf16⟩
  | .local _ .vmem, ⟨8, _⟩ => ⟨S2048x512, .bf16⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | .local _ .vmem, ⟨12, _⟩ => ⟨S1x1x2048, .f32⟩
  | .local _ .vmem, ⟨13, _⟩ => ⟨S1x1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | .local _ .vmem, ⟨17, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![32, 16], ![false, false]⟩

def k0_cond2 (i : grid0.Coords) : BitVec 1 :=
  let arg1 : BitVec 32 := BitVec.ofNat 32 (i 1).val
  let c15_i32 : BitVec 32 := 15#32
  let v19 : BitVec 1 := Scalar.cmpi .eq arg1 c15_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== RefMlpIdeal.lean ====
abbrev S4x4096x2048 : Shape := ⟨3, ![4, 4096, 2048]⟩
abbrev S2048 : Shape := ⟨1, ![2048]⟩
abbrev S4x1x2048 : Shape := ⟨3, ![4, 1, 2048]⟩
abbrev S2048x8192 : Shape := ⟨2, ![2048, 8192]⟩
abbrev S8192x2048 : Shape := ⟨2, ![8192, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x8192 : Shape := ⟨3, ![4, 4096, 8192]⟩
abbrev S16384x2048 : Shape := ⟨2, ![16384, 2048]⟩

abbrev nBuf : Space → Nat
  | .hbm => 57
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x1x2048, .f32⟩
  | .hbm, ⟨3, _⟩ => ⟨S4x1x2048, .f32⟩
  | .hbm, ⟨4, _⟩ => ⟨S2048x8192, .f32⟩
  | .hbm, ⟨5, _⟩ => ⟨S8192x2048, .f32⟩
  | .hbm, ⟨6, _⟩ => ⟨S2048, .f32⟩
  | .hbm, ⟨7, _⟩ => ⟨S4x1x2048, .f32⟩
  | .hbm, ⟨8, _⟩ => ⟨S4x4096x2048, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x2048, .f32⟩
  | .hbm, ⟨20, _⟩ => ⟨S4x4096x2048, .f32⟩
  | .hbm, ⟨21, _⟩ => ⟨S1x1x2048, .f32⟩
  | .hbm, ⟨22, _⟩ => ⟨S4x4096x2048, .f32⟩
  | .hbm, ⟨23, _⟩ => ⟨S4x4096x2048, .f32⟩
  | .hbm, ⟨24, _⟩ => ⟨S_, .f32⟩
  | .hbm, ⟨25, _⟩ => ⟨S4x1x2048, .f32⟩
  | .hbm, ⟨26, _⟩ => ⟨S4x1x2048, .f32⟩
  | .hbm, ⟨27, _⟩ => ⟨S4x4096x2048, .f32⟩
  | .hbm, ⟨28, _⟩ => ⟨S4x4096x2048, .f32⟩
  | .hbm, ⟨29, _⟩ => ⟨S4x4096x2048, .f32⟩
  | .hbm, ⟨30, _⟩ => ⟨S4x4096x2048, .f32⟩
  | .hbm, ⟨31, _⟩ => ⟨S4x4096x8192, .f32⟩
  | .hbm, ⟨32, _⟩ => ⟨S_, .f32⟩
  | .hbm, ⟨33, _⟩ => ⟨S4x4096x8192, .f32⟩
  | .hbm, ⟨34, _⟩ => ⟨S4x4096x8192, .f32⟩
  | .hbm, ⟨35, _⟩ => ⟨S4x4096x8192, .f32⟩
  | .hbm, ⟨36, _⟩ => ⟨S4x4096x2048, .f32⟩
  | .hbm, ⟨37, _⟩ => ⟨S4x4096x2048, .f32⟩
  | .hbm, ⟨38, _⟩ => ⟨S_, .f32⟩
  | .hbm, ⟨39, _⟩ => ⟨S4x4096, .f32⟩
  | .hbm, ⟨40, _⟩ => ⟨S4x4096x1, .f32⟩
  | .hbm, ⟨41, _⟩ => ⟨S_, .f32⟩
  | .hbm, ⟨42, _⟩ => ⟨S4x4096x1, .f32⟩
  | .hbm, ⟨43, _⟩ => ⟨S4x4096x1, .f32⟩
  | .hbm, ⟨44, _⟩ => ⟨S_, .f32⟩
  | .hbm, ⟨45, _⟩ => ⟨S4x4096x1, .f32⟩
  | .hbm, ⟨46, _⟩ => ⟨S4x4096x1, .f32⟩
  | .hbm, ⟨47, _⟩ => ⟨S4x4096x1, .f32⟩
  | .hbm, ⟨48, _⟩ => ⟨S4x4096x2048, .f32⟩
  | .hbm, ⟨49, _⟩ => ⟨S4x4096x2048, .f32⟩
  | .hbm, ⟨50, _⟩ => ⟨S1x1x2048, .f32⟩
  | .hbm, ⟨51, _⟩ => ⟨S4x4096x2048, .f32⟩
  | .hbm, ⟨52, _⟩ => ⟨S4x4096x2048, .f32⟩
  | .hbm, ⟨53, _⟩ => ⟨S4x4096x2048, .f32⟩
  | .hbm, ⟨54, _⟩ => ⟨S4x4096x2048, .f32⟩
  | .hbm, ⟨55, _⟩ => ⟨S4x4096x2048, .f32⟩
  | .hbm, ⟨56, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_cst : Ref sig .tc := ⟨.hbm, 32, rfl⟩
abbrev main_call0_v0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩

abbrev nD : Nat := 1
abbrev τ : Topo := Topo.v7x

variable {F : FTy → Type} [FloatOps F]
-- ==== ProjNa.lean ====
abbrev S32x256x2048 : Shape := ⟨3, ![32, 256, 2048]⟩
abbrev S2048 : Shape := ⟨1, ![2048]⟩
abbrev S1x1x2048 : Shape := ⟨3, ![1, 1, 2048]⟩
abbrev S2048x21376 : Shape := ⟨2, ![2048, 21376]⟩
abbrev S2048x6144 : Shape := ⟨2, ![2048, 6144]⟩
abbrev S8192x2048 : Shape := ⟨2, ![8192, 2048]⟩
abbrev S_ : Shape := ⟨0, ![]⟩
abbrev S1x6144 : Shape := ⟨2, ![1, 6144]⟩
abbrev S1x2048 : Shape := ⟨2, ![1, 2048]⟩
abbrev S8192x6144 : Shape := ⟨2, ![8192, 6144]⟩
abbrev S512x2048 : Shape := ⟨2, ![512, 2048]⟩
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 14
  | .smem => 0
  | _ => 0

abbrev bufTy : (tb : Table) → Fin (tcTables nBuf tb) → BufTy
  | .hbm, ⟨0, _⟩ => ⟨S32x256x2048, .f32⟩
  | .hbm, ⟨1, _⟩ => ⟨S2048, .f32⟩
  | .hbm, ⟨2, _⟩ => ⟨S1x1x2048, .f32⟩
  | .hbm, ⟨3, _⟩ => ⟨S1x1x2048, .f32⟩
  | .hbm, ⟨4, _⟩ => ⟨S2048x21376, .f32⟩
  | .hbm, ⟨5, _⟩ => ⟨S2048x6144, .f32⟩
  | .hbm, ⟨6, _⟩ => ⟨S2048x6144, .bf16⟩
  | .hbm, ⟨7, _⟩ => ⟨S8192x2048, .f32⟩
  | .hbm, ⟨8, _⟩ => ⟨S_, .f32⟩
  | .hbm, ⟨9, _⟩ => ⟨S1x6144, .f32⟩
  | .hbm, ⟨10, _⟩ => ⟨S1x2048, .f32⟩
  | .hbm, ⟨11, _⟩ => ⟨S8192x6144, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1024, .bf16⟩
  | .local _ .vmem, ⟨8, _⟩ => ⟨S2048x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x2048, .bf16⟩
  | _, _ => ⟨S32x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RefNaIdeal.lean ====
abbrev S32x256x2048 : Shape := ⟨3, ![32, 256, 2048]⟩
abbrev S2048 : Shape := ⟨1, ![2048]⟩
abbrev S1x1x2048 : Shape := ⟨3, ![1, 1, 2048]⟩
abbrev S2048x21376 : Shape := ⟨2, ![2048, 21376]⟩
abbrev S_ : Shape := ⟨0, ![]⟩
abbrev S32x256 : Shape := ⟨2, ![32, 256]⟩
abbrev S32x256x1 : Shape := ⟨3, ![32, 256, 1]⟩
abbrev S2048x6144 : Shape := ⟨2, ![2048, 6144]⟩
abbrev S32x256x6144 : Shape := ⟨3, ![32, 256, 6144]⟩
abbrev S8192x6144 : Shape := ⟨2, ![8192, 6144]⟩

abbrev nBuf : Space → Nat
  | .hbm => 31
  | .vmem => 0
  | .smem => 0
  | _ => 0

abbrev bufTy : (tb : Table) → Fin (tcTables nBuf tb) → BufTy
  | .hbm, ⟨0, _⟩ => ⟨S32x256x2048, .f32⟩
  | .hbm, ⟨1, _⟩ => ⟨S2048, .f32⟩
  | .hbm, ⟨2, _⟩ => ⟨S1x1x2048, .f32⟩
  | .hbm, ⟨3, _⟩ => ⟨S1x1x2048, .f32⟩
  | .hbm, ⟨4, _⟩ => ⟨S2048x21376, .f32⟩
  | .hbm, ⟨5, _⟩ => ⟨S32x256x2048, .f32⟩
  | .hbm, ⟨6, _⟩ => ⟨S_, .f32⟩
  | .hbm, ⟨7, _⟩ => ⟨S32x256, .f32⟩
  | .hbm, ⟨8, _⟩ => ⟨S32x256x1, .f32⟩
  | .hbm, ⟨9, _⟩ => ⟨S_, .f32⟩
  | .hbm, ⟨10, _⟩ => ⟨S32x256x1, .f32⟩
  | .hbm, ⟨11, _⟩ => ⟨S32x256x1, .f32⟩
  | .hbm, ⟨12, _⟩ => ⟨S_, .f32⟩
  | .hbm, ⟨13, _⟩ => ⟨S32x256x1, .f32⟩
  | .hbm, ⟨14, _⟩ => ⟨S32x256x1, .f32⟩
  | .hbm, ⟨15, _⟩ => ⟨S32x256x1, .f32⟩
  | .hbm, ⟨16, _⟩ => ⟨S32x256x2048, .f32⟩
  | .hbm, ⟨17, _⟩ => ⟨S32x256x2048, .f32⟩
  | .hbm, ⟨18, _⟩ => ⟨S1x1x2048, .f32⟩
  | .hbm, ⟨19, _⟩ => ⟨S32x256x2048, .f32⟩
  | .hbm, ⟨20, _⟩ => ⟨S32x256x2048, .f32⟩
  | .hbm, ⟨21, _⟩ => ⟨S_, .f32⟩
  | .hbm, ⟨22, _⟩ => ⟨S1x1x2048, .f32⟩
  | .hbm, ⟨23, _⟩ => ⟨S1x1x2048, .f32⟩
  | .hbm, ⟨24, _⟩ => ⟨S32x256x2048, .f32⟩
  | .hbm, ⟨25, _⟩ => ⟨S32x256x2048, .f32⟩
  | .hbm, ⟨26, _⟩ => ⟨S32x256x2048, .f32⟩
  | .hbm, ⟨27, _⟩ => ⟨S32x256x2048, .f32⟩
  | .hbm, ⟨28, _⟩ => ⟨S2048x6144, .f32⟩
  | .hbm, ⟨29, _⟩ => ⟨S32x256x6144, .f32⟩
  | .hbm, ⟨30, _⟩ => ⟨S8192x6144, .f32⟩
  | _, _ => ⟨S32x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== ProjDn.lean ====
abbrev S32x256x2048 : Shape := ⟨3, ![32, 256, 2048]⟩
abbrev S2048 : Shape := ⟨1, ![2048]⟩
abbrev S1x1x2048 : Shape := ⟨3, ![1, 1, 2048]⟩
abbrev S2048x21376 : Shape := ⟨2, ![2048, 21376]⟩
abbrev S2048x6144 : Shape := ⟨2, ![2048, 6144]⟩
abbrev S8192x2048 : Shape := ⟨2, ![8192, 2048]⟩
abbrev S_ : Shape := ⟨0, ![]⟩
abbrev S1x6144 : Shape := ⟨2, ![1, 6144]⟩
abbrev S1x2048 : Shape := ⟨2, ![1, 2048]⟩
abbrev S8192x6144 : Shape := ⟨2, ![8192, 6144]⟩
abbrev S512x2048 : Shape := ⟨2, ![512, 2048]⟩
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 14
  | .smem => 0
  | _ => 0

abbrev bufTy : (tb : Table) → Fin (tcTables nBuf tb) → BufTy
  | .hbm, ⟨0, _⟩ => ⟨S32x256x2048, .f32⟩
  | .hbm, ⟨1, _⟩ => ⟨S2048, .f32⟩
  | .hbm, ⟨2, _⟩ => ⟨S1x1x2048, .f32⟩
  | .hbm, ⟨3, _⟩ => ⟨S1x1x2048, .f32⟩
  | .hbm, ⟨4, _⟩ => ⟨S2048x21376, .f32⟩
  | .hbm, ⟨5, _⟩ => ⟨S2048x6144, .f32⟩
  | .hbm, ⟨6, _⟩ => ⟨S2048x6144, .bf16⟩
  | .hbm, ⟨7, _⟩ => ⟨S8192x2048, .f32⟩
  | .hbm, ⟨8, _⟩ => ⟨S_, .f32⟩
  | .hbm, ⟨9, _⟩ => ⟨S1x6144, .f32⟩
  | .hbm, ⟨10, _⟩ => ⟨S1x2048, .f32⟩
  | .hbm, ⟨11, _⟩ => ⟨S8192x6144, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1024, .bf16⟩
  | .local _ .vmem, ⟨8, _⟩ => ⟨S2048x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x2048, .bf16⟩
  | _, _ => ⟨S32x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RefDnIdeal.lean ====
abbrev S32x256x2048 : Shape := ⟨3, ![32, 256, 2048]⟩
abbrev S2048 : Shape := ⟨1, ![2048]⟩
abbrev S1x1x2048 : Shape := ⟨3, ![1, 1, 2048]⟩
abbrev S2048x21376 : Shape := ⟨2, ![2048, 21376]⟩
abbrev S_ : Shape := ⟨0, ![]⟩
abbrev S32x256 : Shape := ⟨2, ![32, 256]⟩
abbrev S32x256x1 : Shape := ⟨3, ![32, 256, 1]⟩
abbrev S2048x6144 : Shape := ⟨2, ![2048, 6144]⟩
abbrev S32x256x6144 : Shape := ⟨3, ![32, 256, 6144]⟩
abbrev S8192x6144 : Shape := ⟨2, ![8192, 6144]⟩

abbrev nBuf : Space → Nat
  | .hbm => 31
  | .vmem => 0
  | .smem => 0
  | _ => 0

abbrev bufTy : (tb : Table) → Fin (tcTables nBuf tb) → BufTy
  | .hbm, ⟨0, _⟩ => ⟨S32x256x2048, .f32⟩
  | .hbm, ⟨1, _⟩ => ⟨S2048, .f32⟩
  | .hbm, ⟨2, _⟩ => ⟨S1x1x2048, .f32⟩
  | .hbm, ⟨3, _⟩ => ⟨S1x1x2048, .f32⟩
  | .hbm, ⟨4, _⟩ => ⟨S2048x21376, .f32⟩
  | .hbm, ⟨5, _⟩ => ⟨S32x256x2048, .f32⟩
  | .hbm, ⟨6, _⟩ => ⟨S_, .f32⟩
  | .hbm, ⟨7, _⟩ => ⟨S32x256, .f32⟩
  | .hbm, ⟨8, _⟩ => ⟨S32x256x1, .f32⟩
  | .hbm, ⟨9, _⟩ => ⟨S_, .f32⟩
  | .hbm, ⟨10, _⟩ => ⟨S32x256x1, .f32⟩
  | .hbm, ⟨11, _⟩ => ⟨S32x256x1, .f32⟩
  | .hbm, ⟨12, _⟩ => ⟨S_, .f32⟩
  | .hbm, ⟨13, _⟩ => ⟨S32x256x1, .f32⟩
  | .hbm, ⟨14, _⟩ => ⟨S32x256x1, .f32⟩
  | .hbm, ⟨15, _⟩ => ⟨S32x256x1, .f32⟩
  | .hbm, ⟨16, _⟩ => ⟨S32x256x2048, .f32⟩
  | .hbm, ⟨17, _⟩ => ⟨S32x256x2048, .f32⟩
  | .hbm, ⟨18, _⟩ => ⟨S1x1x2048, .f32⟩
  | .hbm, ⟨19, _⟩ => ⟨S32x256x2048, .f32⟩
  | .hbm, ⟨20, _⟩ => ⟨S32x256x2048, .f32⟩
  | .hbm, ⟨21, _⟩ => ⟨S_, .f32⟩
  | .hbm, ⟨22, _⟩ => ⟨S1x1x2048, .f32⟩
  | .hbm, ⟨23, _⟩ => ⟨S1x1x2048, .f32⟩
  | .hbm, ⟨24, _⟩ => ⟨S32x256x2048, .f32⟩
  | .hbm, ⟨25, _⟩ => ⟨S32x256x2048, .f32⟩
  | .hbm, ⟨26, _⟩ => ⟨S32x256x2048, .f32⟩
  | .hbm, ⟨27, _⟩ => ⟨S32x256x2048, .f32⟩
  | .hbm, ⟨28, _⟩ => ⟨S2048x6144, .f32⟩
  | .hbm, ⟨29, _⟩ => ⟨S32x256x6144, .f32⟩
  | .hbm, ⟨30, _⟩ => ⟨S8192x6144, .f32⟩
  | _, _ => ⟨S32x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== ProjZg.lean ====
abbrev S32x256x2048 : Shape := ⟨3, ![32, 256, 2048]⟩
abbrev S2048 : Shape := ⟨1, ![2048]⟩
abbrev S1x1x2048 : Shape := ⟨3, ![1, 1, 2048]⟩
abbrev S2048x21376 : Shape := ⟨2, ![2048, 21376]⟩
abbrev S2048x2048 : Shape := ⟨2, ![2048, 2048]⟩
abbrev S2048x6144 : Shape := ⟨2, ![2048, 6144]⟩
abbrev S2048x8192 : Shape := ⟨2, ![2048, 8192]⟩
abbrev S8192x2048 : Shape := ⟨2, ![8192, 2048]⟩
abbrev S_ : Shape := ⟨0, ![]⟩
abbrev S1x8192 : Shape := ⟨2, ![1, 8192]⟩
abbrev S1x2048 : Shape := ⟨2, ![1, 2048]⟩
abbrev S8192x8192 : Shape := ⟨2, ![8192, 8192]⟩
abbrev S512x2048 : Shape := ⟨2, ![512, 2048]⟩
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 14
  | .vmem => 14
  | .smem => 0
  | _ => 0

abbrev bufTy : (tb : Table) → Fin (tcTables nBuf tb) → BufTy
  | .hbm, ⟨0, _⟩ => ⟨S32x256x2048, .f32⟩
  | .hbm, ⟨1, _⟩ => ⟨S2048, .f32⟩
  | .hbm, ⟨2, _⟩ => ⟨S1x1x2048, .f32⟩
  | .hbm, ⟨3, _⟩ => ⟨S1x1x2048, .f32⟩
  | .hbm, ⟨4, _⟩ => ⟨S2048x21376, .f32⟩
  | .hbm, ⟨5, _⟩ => ⟨S2048x2048, .f32⟩
  | .hbm, ⟨6, _⟩ => ⟨S2048x6144, .f32⟩
  | .hbm, ⟨7, _⟩ => ⟨S2048x8192, .f32⟩
  | .hbm, ⟨8, _⟩ => ⟨S2048x8192, .bf16⟩
  | .hbm, ⟨9, _⟩ => ⟨S8192x2048, .f32⟩
  | .hbm, ⟨10, _⟩ => ⟨S_, .f32⟩
  | .hbm, ⟨11, _⟩ => ⟨S1x8192, .f32⟩
  | .hbm, ⟨12, _⟩ => ⟨S1x2048, .f32⟩
  | .hbm, ⟨13, _⟩ => ⟨S8192x8192, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1024, .bf16⟩
  | .local _ .vmem, ⟨8, _⟩ => ⟨S2048x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | .local _ .vmem, ⟨13, _⟩ => ⟨S512x2048, .bf16⟩
  | _, _ => ⟨S32x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RefZgIdeal.lean ====
abbrev S32x256x2048 : Shape := ⟨3, ![32, 256, 2048]⟩
abbrev S2048 : Shape := ⟨1, ![2048]⟩
abbrev S1x1x2048 : Shape := ⟨3, ![1, 1, 2048]⟩
abbrev S2048x21376 : Shape := ⟨2, ![2048, 21376]⟩
abbrev S_ : Shape := ⟨0, ![]⟩
abbrev S32x256 : Shape := ⟨2, ![32, 256]⟩
abbrev S32x256x1 : Shape := ⟨3, ![32, 256, 1]⟩
abbrev S32x256x21376 : Shape := ⟨3, ![32, 256, 21376]⟩
abbrev S32x256x6144 : Shape := ⟨3, ![32, 256, 6144]⟩
abbrev S32x256x8192 : Shape := ⟨3, ![32, 256, 8192]⟩
abbrev S8192x8192 : Shape := ⟨2, ![8192, 8192]⟩

abbrev nBuf : Space → Nat
  | .hbm => 34
  | .vmem => 0
  | .smem => 0
  | _ => 0

abbrev bufTy : (tb : Table) → Fin (tcTables nBuf tb) → BufTy
  | .hbm, ⟨0, _⟩ => ⟨S32x256x2048, .f32⟩
  | .hbm, ⟨1, _⟩ => ⟨S2048, .f32⟩
  | .hbm, ⟨2, _⟩ => ⟨S1x1x2048, .f32⟩
  | .hbm, ⟨3, _⟩ => ⟨S1x1x2048, .f32⟩
  | .hbm, ⟨4, _⟩ => ⟨S2048x21376, .f32⟩
  | .hbm, ⟨5, _⟩ => ⟨S32x256x2048, .f32⟩
  | .hbm, ⟨6, _⟩ => ⟨S_, .f32⟩
  | .hbm, ⟨7, _⟩ => ⟨S32x256, .f32⟩
  | .hbm, ⟨8, _⟩ => ⟨S32x256x1, .f32⟩
  | .hbm, ⟨9, _⟩ => ⟨S_, .f32⟩
  | .hbm, ⟨10, _⟩ => ⟨S32x256x1, .f32⟩
  | .hbm, ⟨11, _⟩ => ⟨S32x256x1, .f32⟩
  | .hbm, ⟨12, _⟩ => ⟨S_, .f32⟩
  | .hbm, ⟨13, _⟩ => ⟨S32x256x1, .f32⟩
  | .hbm, ⟨14, _⟩ => ⟨S32x256x1, .f32⟩
  | .hbm, ⟨15, _⟩ => ⟨S32x256x1, .f32⟩
  | .hbm, ⟨16, _⟩ => ⟨S32x256x2048, .f32⟩
  | .hbm, ⟨17, _⟩ => ⟨S32x256x2048, .f32⟩
  | .hbm, ⟨18, _⟩ => ⟨S1x1x2048, .f32⟩
  | .hbm, ⟨19, _⟩ => ⟨S32x256x2048, .f32⟩
  | .hbm, ⟨20, _⟩ => ⟨S32x256x2048, .f32⟩
  | .hbm, ⟨21, _⟩ => ⟨S_, .f32⟩
  | .hbm, ⟨22, _⟩ => ⟨S1x1x2048, .f32⟩
  | .hbm, ⟨23, _⟩ => ⟨S1x1x2048, .f32⟩
  | .hbm, ⟨24, _⟩ => ⟨S32x256x2048, .f32⟩
  | .hbm, ⟨25, _⟩ => ⟨S32x256x2048, .f32⟩
  | .hbm, ⟨26, _⟩ => ⟨S32x256x2048, .f32⟩
  | .hbm, ⟨27, _⟩ => ⟨S32x256x2048, .f32⟩
  | .hbm, ⟨28, _⟩ => ⟨S32x256x21376, .f32⟩
  | .hbm, ⟨29, _⟩ => ⟨S32x256x2048, .f32⟩
  | .hbm, ⟨30, _⟩ => ⟨S32x256x6144, .f32⟩
  | .hbm, ⟨31, _⟩ => ⟨S32x256x8192, .f32⟩
  | .hbm, ⟨32, _⟩ => ⟨S8192x8192, .f32⟩
  | .hbm, ⟨33, _⟩ => ⟨S8192x8192, .bf16⟩
  | _, _ => ⟨S32x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== ProjSmall.lean ====
abbrev S32x256x2048 : Shape := ⟨3, ![32, 256, 2048]⟩
abbrev S2048 : Shape := ⟨1, ![2048]⟩
abbrev S1x1x2048 : Shape := ⟨3, ![1, 1, 2048]⟩
abbrev S2048x21376 : Shape := ⟨2, ![2048, 21376]⟩
abbrev S2048x512 : Shape := ⟨2, ![2048, 512]⟩
abbrev S2048x320 : Shape := ⟨2, ![2048, 320]⟩
abbrev S2048x64 : Shape := ⟨2, ![2048, 64]⟩
abbrev S_ : Shape := ⟨0, ![]⟩
abbrev S2048x128 : Shape := ⟨2, ![2048, 128]⟩
abbrev S2048x1024 : Shape := ⟨2, ![2048, 1024]⟩
abbrev S8192x2048 : Shape := ⟨2, ![8192, 2048]⟩
abbrev S1x1024 : Shape := ⟨2, ![1, 1024]⟩
abbrev S1x2048 : Shape := ⟨2, ![1, 2048]⟩
abbrev S8192x1024 : Shape := ⟨2, ![8192, 1024]⟩
abbrev S512x2048 : Shape := ⟨2, ![512, 2048]⟩
abbrev S1x512 : Shape := ⟨2, ![1, 512]⟩
abbrev S512x512 : Shape := ⟨2, ![512, 512]⟩
abbrev S512 : Shape := ⟨1, ![512]⟩
abbrev S512x1 : Shape := ⟨2, ![512, 1]⟩

abbrev nBuf : Space → Nat
  | .hbm => 17
  | .vmem => 14
  | .smem => 0
  | _ => 0

abbrev bufTy : (tb : Table) → Fin (tcTables nBuf tb) → BufTy
  | .hbm, ⟨0, _⟩ => ⟨S32x256x2048, .f32⟩
  | .hbm, ⟨1, _⟩ => ⟨S2048, .f32⟩
  | .hbm, ⟨2, _⟩ => ⟨S1x1x2048, .f32⟩
  | .hbm, ⟨3, _⟩ => ⟨S1x1x2048, .f32⟩
  | .hbm, ⟨4, _⟩ => ⟨S2048x21376, .f32⟩
  | .hbm, ⟨5, _⟩ => ⟨S2048x512, .f32⟩
  | .hbm, ⟨6, _⟩ => ⟨S2048x320, .f32⟩
  | .hbm, ⟨7, _⟩ => ⟨S2048x64, .f32⟩
  | .hbm, ⟨8, _⟩ => ⟨S_, .f32⟩
  | .hbm, ⟨9, _⟩ => ⟨S2048x128, .f32⟩
  | .hbm, ⟨10, _⟩ => ⟨S2048x1024, .f32⟩
  | .hbm, ⟨11, _⟩ => ⟨S2048x1024, .bf16⟩
  | .hbm, ⟨12, _⟩ => ⟨S8192x2048, .f32⟩
  | .hbm, ⟨13, _⟩ => ⟨S_, .f32⟩
  | .hbm, ⟨14, _⟩ => ⟨S1x1024, .f32⟩
  | .hbm, ⟨15, _⟩ => ⟨S1x2048, .f32⟩
  | .hbm, ⟨16, _⟩ => ⟨S8192x1024, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x512, .bf16⟩
  | .local _ .vmem, ⟨8, _⟩ => ⟨S2048x512, .bf16⟩
  | .local _ .vmem, ⟨9, _⟩ => ⟨S1x512, .f32⟩
  | .local _ .vmem, ⟨10, _⟩ => ⟨S1x512, .f32⟩
  | .local _ .vmem, ⟨11, _⟩ => ⟨S512x512, .f32⟩
  | .local _ .vmem, ⟨12, _⟩ => ⟨S512x512, .f32⟩
  | .local _ .vmem, ⟨13, _⟩ => ⟨S512x2048, .bf16⟩
  | _, _ => ⟨S32x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RefSmallIdeal.lean ====
abbrev S32x256x2048 : Shape := ⟨3, ![32, 256, 2048]⟩
abbrev S2048 : Shape := ⟨1, ![2048]⟩
abbrev S1x1x2048 : Shape := ⟨3, ![1, 1, 2048]⟩
abbrev S2048x21376 : Shape := ⟨2, ![2048, 21376]⟩
abbrev S_ : Shape := ⟨0, ![]⟩
abbrev S32x256 : Shape := ⟨2, ![32, 256]⟩
abbrev S32x256x1 : Shape := ⟨3, ![32, 256, 1]⟩
abbrev S32x256x21376 : Shape := ⟨3, ![32, 256, 21376]⟩
abbrev S32x256x512 : Shape := ⟨3, ![32, 256, 512]⟩
abbrev S32x256x320 : Shape := ⟨3, ![32, 256, 320]⟩
abbrev S32x256x64 : Shape := ⟨3, ![32, 256, 64]⟩
abbrev S32x256x128 : Shape := ⟨3, ![32, 256, 128]⟩
abbrev S32x256x1024 : Shape := ⟨3, ![32, 256, 1024]⟩
abbrev S8192x1024 : Shape := ⟨2, ![8192, 1024]⟩

abbrev nBuf : Space → Nat
  | .hbm => 36
  | .vmem => 0
  | .smem => 0
  | _ => 0

abbrev bufTy : (tb : Table) → Fin (tcTables nBuf tb) → BufTy
  | .hbm, ⟨0, _⟩ => ⟨S32x256x2048, .f32⟩
  | .hbm, ⟨1, _⟩ => ⟨S2048, .f32⟩
  | .hbm, ⟨2, _⟩ => ⟨S1x1x2048, .f32⟩
  | .hbm, ⟨3, _⟩ => ⟨S1x1x2048, .f32⟩
  | .hbm, ⟨4, _⟩ => ⟨S2048x21376, .f32⟩
  | .hbm, ⟨5, _⟩ => ⟨S32x256x2048, .f32⟩
  | .hbm, ⟨6, _⟩ => ⟨S_, .f32⟩
  | .hbm, ⟨7, _⟩ => ⟨S32x256, .f32⟩
  | .hbm, ⟨8, _⟩ => ⟨S32x256x1, .f32⟩
  | .hbm, ⟨9, _⟩ => ⟨S_, .f32⟩
  | .hbm, ⟨10, _⟩ => ⟨S32x256x1, .f32⟩
  | .hbm, ⟨11, _⟩ => ⟨S32x256x1, .f32⟩
  | .hbm, ⟨12, _⟩ => ⟨S_, .f32⟩
  | .hbm, ⟨13, _⟩ => ⟨S32x256x1, .f32⟩
  | .hbm, ⟨14, _⟩ => ⟨S32x256x1, .f32⟩
  | .hbm, ⟨15, _⟩ => ⟨S32x256x1, .f32⟩
  | .hbm, ⟨16, _⟩ => ⟨S32x256x2048, .f32⟩
  | .hbm, ⟨17, _⟩ => ⟨S32x256x2048, .f32⟩
  | .hbm, ⟨18, _⟩ => ⟨S1x1x2048, .f32⟩
  | .hbm, ⟨19, _⟩ => ⟨S32x256x2048, .f32⟩
  | .hbm, ⟨20, _⟩ => ⟨S32x256x2048, .f32⟩
  | .hbm, ⟨21, _⟩ => ⟨S_, .f32⟩
  | .hbm, ⟨22, _⟩ => ⟨S1x1x2048, .f32⟩
  | .hbm, ⟨23, _⟩ => ⟨S1x1x2048, .f32⟩
  | .hbm, ⟨24, _⟩ => ⟨S32x256x2048, .f32⟩
  | .hbm, ⟨25, _⟩ => ⟨S32x256x2048, .f32⟩
  | .hbm, ⟨26, _⟩ => ⟨S32x256x2048, .f32⟩
  | .hbm, ⟨27, _⟩ => ⟨S32x256x2048, .f32⟩
  | .hbm, ⟨28, _⟩ => ⟨S32x256x21376, .f32⟩
  | .hbm, ⟨29, _⟩ => ⟨S32x256x512, .f32⟩
  | .hbm, ⟨30, _⟩ => ⟨S32x256x320, .f32⟩
  | .hbm, ⟨31, _⟩ => ⟨S32x256x64, .f32⟩
  | .hbm, ⟨32, _⟩ => ⟨S_, .f32⟩
  | .hbm, ⟨33, _⟩ => ⟨S32x256x128, .f32⟩
  | .hbm, ⟨34, _⟩ => ⟨S32x256x1024, .f32⟩
  | .hbm, ⟨35, _⟩ => ⟨S8192x1024, .f32⟩
  | _, _ => ⟨S32x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Merge.lean ====
abbrev S32x256x2048 : Shape := ⟨3, ![32, 256, 2048]⟩
abbrev S8192x8192 : Shape := ⟨2, ![8192, 8192]⟩
abbrev S2048x2048 : Shape := ⟨2, ![2048, 2048]⟩
abbrev S2048 : Shape := ⟨1, ![2048]⟩
abbrev S1x1x2048 : Shape := ⟨3, ![1, 1, 2048]⟩
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 15
  | .vmem => 20
  | .smem => 0
  | _ => 0

abbrev bufTy : (tb : Table) → Fin (tcTables nBuf tb) → BufTy
  | .hbm, ⟨0, _⟩ => ⟨S32x256x2048, .f32⟩
  | .hbm, ⟨1, _⟩ => ⟨S8192x8192, .bf16⟩
  | .hbm, ⟨2, _⟩ => ⟨S32x256x2048, .bf16⟩
  | .hbm, ⟨3, _⟩ => ⟨S32x256x2048, .bf16⟩
  | .hbm, ⟨4, _⟩ => ⟨S32x256x2048, .bf16⟩
  | .hbm, ⟨5, _⟩ => ⟨S2048x2048, .f32⟩
  | .hbm, ⟨6, _⟩ => ⟨S2048, .f32⟩
  | .hbm, ⟨7, _⟩ => ⟨S1x1x2048, .f32⟩
  | .hbm, ⟨8, _⟩ => ⟨S8192x2048, .f32⟩
  | .hbm, ⟨9, _⟩ => ⟨S8192x2048, .bf16⟩
  | .hbm, ⟨10, _⟩ => ⟨S8192x2048, .bf16⟩
  | .hbm, ⟨11, _⟩ => ⟨S8192x2048, .bf16⟩
  | .hbm, ⟨12, _⟩ => ⟨S2048x2048, .bf16⟩
  | .hbm, ⟨13, _⟩ => ⟨S1x2048, .f32⟩
  | .hbm, ⟨14, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S2048x2048, .bf16⟩
  | .local _ .vmem, ⟨15, _⟩ => ⟨S1x2048, .f32⟩
  | .local _ .vmem, ⟨16, _⟩ => ⟨S1x1x2048, .f32⟩
  | .local _ .vmem, ⟨17, _⟩ => ⟨S1x1x2048, .f32⟩
  | .local _ .vmem, ⟨18, _⟩ => ⟨S256x2048, .f32⟩
  | .local _ .vmem, ⟨19, _⟩ => ⟨S256x2048, .f32⟩
  | _, _ => ⟨S32x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== RefMergeIdeal.lean ====
abbrev S32x256x2048 : Shape := ⟨3, ![32, 256, 2048]⟩
abbrev S8192x8192 : Shape := ⟨2, ![8192, 8192]⟩
abbrev S2048x2048 : Shape := ⟨2, ![2048, 2048]⟩
abbrev S2048 : Shape := ⟨1, ![2048]⟩
abbrev S1x1x2048 : Shape := ⟨3, ![1, 1, 2048]⟩
abbrev S8192x6144 : Shape := ⟨2, ![8192, 6144]⟩
abbrev S32x256x6144 : Shape := ⟨3, ![32, 256, 6144]⟩
abbrev S_ : Shape := ⟨0, ![]⟩
abbrev S32x256 : Shape := ⟨2, ![32, 256]⟩
abbrev S32x256x1 : Shape := ⟨3, ![32, 256, 1]⟩
abbrev S8192x2048 : Shape := ⟨2, ![8192, 2048]⟩

abbrev nBuf : Space → Nat
  | .hbm => 51
  | .vmem => 0
  | .smem => 0
  | _ => 0

abbrev bufTy : (tb : Table) → Fin (tcTables nBuf tb) → BufTy
  | .hbm, ⟨0, _⟩ => ⟨S32x256x2048, .f32⟩
  | .hbm, ⟨1, _⟩ => ⟨S8192x8192, .bf16⟩
  | .hbm, ⟨2, _⟩ => ⟨S32x256x2048, .bf16⟩
  | .hbm, ⟨3, _⟩ => ⟨S32x256x2048, .bf16⟩
  | .hbm, ⟨4, _⟩ => ⟨S32x256x2048, .bf16⟩
  | .hbm, ⟨5, _⟩ => ⟨S2048x2048, .f32⟩
  | .hbm, ⟨6, _⟩ => ⟨S2048, .f32⟩
  | .hbm, ⟨7, _⟩ => ⟨S1x1x2048, .f32⟩
  | .hbm, ⟨8, _⟩ => ⟨S8192x6144, .bf16⟩
  | .hbm, ⟨9, _⟩ => ⟨S8192x6144, .f32⟩
  | .hbm, ⟨10, _⟩ => ⟨S32x256x6144, .f32⟩
  | .hbm, ⟨11, _⟩ => ⟨S32x256x6144, .f32⟩
  | .hbm, ⟨12, _⟩ => ⟨S32x256x6144, .f32⟩
  | .hbm, ⟨13, _⟩ => ⟨S_, .f32⟩
  | .hbm, ⟨14, _⟩ => ⟨S32x256x6144, .f32⟩
  | .hbm, ⟨15, _⟩ => ⟨S32x256x6144, .f32⟩
  | .hbm, ⟨16, _⟩ => ⟨S_, .f32⟩
  | .hbm, ⟨17, _⟩ => ⟨S32x256x6144, .f32⟩
  | .hbm, ⟨18, _⟩ => ⟨S32x256x6144, .f32⟩
  | .hbm, ⟨19, _⟩ => ⟨S32x256x2048, .f32⟩
  | .hbm, ⟨20, _⟩ => ⟨S32x256x2048, .f32⟩
  | .hbm, ⟨21, _⟩ => ⟨S32x256x2048, .f32⟩
  | .hbm, ⟨22, _⟩ => ⟨S32x256x2048, .f32⟩
  | .hbm, ⟨23, _⟩ => ⟨S32x256x2048, .f32⟩
  | .hbm, ⟨24, _⟩ => ⟨S32x256x2048, .f32⟩
  | .hbm, ⟨25, _⟩ => ⟨S32x256x2048, .f32⟩
  | .hbm, ⟨26, _⟩ => ⟨S32x256x2048, .f32⟩
  | .hbm, ⟨27, _⟩ => ⟨S32x256x2048, .f32⟩
  | .hbm, ⟨28, _⟩ => ⟨S32x256x2048, .f32⟩
  | .hbm, ⟨29, _⟩ => ⟨S32x256x2048, .f32⟩
  | .hbm, ⟨30, _⟩ => ⟨S32x256x2048, .f32⟩
  | .hbm, ⟨31, _⟩ => ⟨S32x256x2048, .f32⟩
  | .hbm, ⟨32, _⟩ => ⟨S_, .f32⟩
  | .hbm, ⟨33, _⟩ => ⟨S32x256, .f32⟩
  | .hbm, ⟨34, _⟩ => ⟨S32x256x1, .f32⟩
  | .hbm, ⟨35, _⟩ => ⟨S_, .f32⟩
  | .hbm, ⟨36, _⟩ => ⟨S32x256x1, .f32⟩
  | .hbm, ⟨37, _⟩ => ⟨S32x256x1, .f32⟩
  | .hbm, ⟨38, _⟩ => ⟨S_, .f32⟩
  | .hbm, ⟨39, _⟩ => ⟨S32x256x1, .f32⟩
  | .hbm, ⟨40, _⟩ => ⟨S32x256x1, .f32⟩
  | .hbm, ⟨41, _⟩ => ⟨S32x256x1, .f32⟩
  | .hbm, ⟨42, _⟩ => ⟨S32x256x2048, .f32⟩
  | .hbm, ⟨43, _⟩ => ⟨S32x256x2048, .f32⟩
  | .hbm, ⟨44, _⟩ => ⟨S1x1x2048, .f32⟩
  | .hbm, ⟨45, _⟩ => ⟨S32x256x2048, .f32⟩
  | .hbm, ⟨46, _⟩ => ⟨S32x256x2048, .f32⟩
  | .hbm, ⟨47, _⟩ => ⟨S32x256x2048, .f32⟩
  | .hbm, ⟨48, _⟩ => ⟨S32x256x2048, .f32⟩
  | .hbm, ⟨49, _⟩ => ⟨S32x256x2048, .f32⟩
  | .hbm, ⟨50, _⟩ => ⟨S8192x2048, .f32⟩
  | _, _ => ⟨S32x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== MlaKv.lean ====
abbrev S8192x1024 : Shape := ⟨2, ![8192, 1024]⟩
abbrev S256 : Shape := ⟨1, ![256]⟩
abbrev S256x4096 : Shape := ⟨2, ![256, 4096]⟩
abbrev S256x16x256 : Shape := ⟨3, ![256, 16, 256]⟩
abbrev S256x16x128 : Shape := ⟨3, ![256, 16, 128]⟩
abbrev S_ : Shape := ⟨0, ![]⟩
abbrev S256x2048 : Shape := ⟨2, ![256, 2048]⟩
abbrev S256x64 : Shape := ⟨2, ![256, 64]⟩
abbrev S256x192 : Shape := ⟨2, ![256, 192]⟩
abbrev S256x256 : Shape := ⟨2, ![256, 256]⟩
abbrev S64x16x256 : Shape := ⟨3, ![64, 16, 256]⟩
abbrev S64x4096 : Shape := ⟨2, ![64, 4096]⟩
abbrev S1x256 : Shape := ⟨2, ![1, 256]⟩
abbrev S8192x4096 : Shape := ⟨2, ![8192, 4096]⟩
abbrev S8192x2048 : Shape := ⟨2, ![8192, 2048]⟩
abbrev S8192x256 : Shape := ⟨2, ![8192, 256]⟩
abbrev S256x384 : Shape := ⟨2, ![256, 384]⟩
abbrev S256x1 : Shape := ⟨2, ![256, 1]⟩

abbrev nBuf : Space → Nat
  | .hbm => 68
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S256, .f32⟩
  | .hbm, ⟨2, _⟩ => ⟨S256x4096, .f32⟩
  | .hbm, ⟨3, _⟩ => ⟨S256x16x256, .f32⟩
  | .hbm, ⟨4, _⟩ => ⟨S256x16x128, .f32⟩
  | .hbm, ⟨5, _⟩ => ⟨S_, .f32⟩
  | .hbm, ⟨6, _⟩ => ⟨S256x16x128, .f32⟩
  | .hbm, ⟨7, _⟩ => ⟨S256x16x256, .f32⟩
  | .hbm, ⟨8, _⟩ => ⟨S256x4096, .f32⟩
  | .hbm, ⟨9, _⟩ => ⟨S256x4096, .bf16⟩
  | .hbm, ⟨10, _⟩ => ⟨S256x16x128, .f32⟩
  | .hbm, ⟨11, _⟩ => ⟨S256x2048, .f32⟩
  | .hbm, ⟨12, _⟩ => ⟨S256x2048, .bf16⟩
  | .hbm, ⟨13, _⟩ => ⟨S_, .f32⟩
  | .hbm, ⟨14, _⟩ => ⟨S256x64, .f32⟩
  | .hbm, ⟨15, _⟩ => ⟨S_, .f32⟩
  | .hbm, ⟨16, _⟩ => ⟨S256x64, .f32⟩
  | .hbm, ⟨17, _⟩ => ⟨S_, .f32⟩
  | .hbm, ⟨18, _⟩ => ⟨S256x192, .f32⟩
  | .hbm, ⟨19, _⟩ => ⟨S_, .f32⟩
  | .hbm, ⟨20, _⟩ => ⟨S256x64, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S64x16x256, .i32⟩
  | .hbm, ⟨25, _⟩ => ⟨S64x16x256, .i32⟩
  | .hbm, ⟨26, _⟩ => ⟨S_, .f32⟩
  | .hbm, ⟨27, _⟩ => ⟨S64x16x256, .f32⟩
  | .hbm, ⟨28, _⟩ => ⟨S_, .f32⟩
  | .hbm, ⟨29, _⟩ => ⟨S64x16x256, .f32⟩
  | .hbm, ⟨30, _⟩ => ⟨S_, .i32⟩
  | .hbm, ⟨31, _⟩ => ⟨S64x16x256, .i32⟩
  | .hbm, ⟨32, _⟩ => ⟨S64x16x256, .i32⟩
  | .hbm, ⟨33, _⟩ => ⟨S64x16x256, .i1⟩
  | .hbm, ⟨34, _⟩ => ⟨S64x16x256, .f32⟩
  | .hbm, ⟨35, _⟩ => ⟨S_, .i32⟩
  | .hbm, ⟨36, _⟩ => ⟨S64x16x256, .i32⟩
  | .hbm, ⟨37, _⟩ => ⟨S64x16x256, .i1⟩
  | .hbm, ⟨38, _⟩ => ⟨S_, .i32⟩
  | .hbm, ⟨39, _⟩ => ⟨S64x16x256, .i32⟩
  | .hbm, ⟨40, _⟩ => ⟨S64x16x256, .i32⟩
  | .hbm, ⟨41, _⟩ => ⟨S_, .i32⟩
  | .hbm, ⟨42, _⟩ => ⟨S64x16x256, .i32⟩
  | .hbm, ⟨43, _⟩ => ⟨S64x16x256, .i32⟩
  | .hbm, ⟨44, _⟩ => ⟨S64x16x256, .i1⟩
  | .hbm, ⟨45, _⟩ => ⟨S64x16x256, .i1⟩
  | .hbm, ⟨46, _⟩ => ⟨S64x16x256, .f32⟩
  | .hbm, ⟨47, _⟩ => ⟨S_, .i32⟩
  | .hbm, ⟨48, _⟩ => ⟨S64x16x256, .i32⟩
  | .hbm, ⟨49, _⟩ => ⟨S64x16x256, .i1⟩
  | .hbm, ⟨50, _⟩ => ⟨S_, .i32⟩
  | .hbm, ⟨51, _⟩ => ⟨S64x16x256, .i32⟩
  | .hbm, ⟨52, _⟩ => ⟨S64x16x256, .i32⟩
  | .hbm, ⟨53, _⟩ => ⟨S_, .i32⟩
  | .hbm, ⟨54, _⟩ => ⟨S64x16x256, .i32⟩
  | .hbm, ⟨55, _⟩ => ⟨S64x16x256, .i32⟩
  | .hbm, ⟨56, _⟩ => ⟨S64x16x256, .i1⟩
  | .hbm, ⟨57, _⟩ => ⟨S64x16x256, .i1⟩
  | .hbm, ⟨58, _⟩ => ⟨S64x16x256, .f32⟩
  | .hbm, ⟨59, _⟩ => ⟨S64x16x256, .f32⟩
  | .hbm, ⟨60, _⟩ => ⟨S64x4096, .f32⟩
  | .hbm, ⟨61, _⟩ => ⟨S64x4096, .bf16⟩
  | .hbm, ⟨62, _⟩ => ⟨S64x4096, .f32⟩
  | .hbm, ⟨63, _⟩ => ⟨S64x4096, .bf16⟩
  | .hbm, ⟨64, _⟩ => ⟨S1x256, .f32⟩
  | .hbm, ⟨65, _⟩ => ⟨S8192x4096, .bf16⟩
  | .hbm, ⟨66, _⟩ => ⟨S8192x2048, .bf16⟩
  | .hbm, ⟨67, _⟩ => ⟨S8192x256, .f32⟩
  | .local _ .vmem, ⟨0, _⟩ => ⟨S256x384, .f32⟩
  | .local _ .vmem, ⟨1, _⟩ => ⟨S256x384, .f32⟩
  | .local _ .vmem, ⟨2, _⟩ => ⟨S1x256, .f32⟩
  | .local _ .vmem, ⟨3, _⟩ => ⟨S256x4096, .bf16⟩
  | .local _ .vmem, ⟨4, _⟩ => ⟨S256x2048, .bf16⟩
  | .local _ .vmem, ⟨5, _⟩ => ⟨S64x4096, .bf16⟩
  | .local _ .vmem, ⟨6, _⟩ => ⟨S64x4096, .bf16⟩
  | .local _ .vmem, ⟨7, _⟩ => ⟨S256x64, .f32⟩
  | .local _ .vmem, ⟨8, _⟩ => ⟨S256x64, .f32⟩
  | .local _ .vmem, ⟨9, _⟩ => ⟨S256x4096, .bf16⟩
  | .local _ .vmem, ⟨10, _⟩ => ⟨S256x4096, .bf16⟩
  | .local _ .vmem, ⟨11, _⟩ => ⟨S256x2048, .bf16⟩
  | .local _ .vmem, ⟨12, _⟩ => ⟨S256x2048, .bf16⟩
  | .local _ .vmem, ⟨13, _⟩ => ⟨S256x256, .f32⟩
  | .local _ .vmem, ⟨14, _⟩ => ⟨S256x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_7 : Ref sig .tc := ⟨.hbm, 35, rfl⟩
abbrev main_v23 : Ref sig .tc := ⟨.hbm, 36, rfl⟩
abbrev main_v24 : Ref sig .tc := ⟨.hbm, 37, rfl⟩
abbrev main_c_8 : Ref sig .tc := ⟨.hbm, 38, rfl⟩
abbrev main_v25 : Ref sig .tc := ⟨.hbm, 39, rfl⟩
abbrev main_v26 : Ref sig .tc := ⟨.hbm, 40, rfl⟩
abbrev main_c_9 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_10 : Ref sig .tc := ⟨.hbm, 47, rfl⟩
abbrev main_v32 : Ref sig .tc := ⟨.hbm, 48, rfl⟩
abbrev main_v33 : Ref sig .tc := ⟨.hbm, 49, rfl⟩
abbrev main_c_11 : Ref sig .tc := ⟨.hbm, 50, rfl⟩
abbrev main_v34 : Ref sig .tc := ⟨.hbm, 51, rfl⟩
abbrev main_v35 : Ref sig .tc := ⟨.hbm, 52, rfl⟩
abbrev main_c_12 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47_0 : Ref sig .tc := ⟨.hbm, 65, rfl⟩
abbrev main_v47_1 : Ref sig .tc := ⟨.hbm, 66, rfl⟩
abbrev main_v47_2 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== RefKvIdeal.lean ====
abbrev S8192x1024 : Shape := ⟨2, ![8192, 1024]⟩
abbrev S256 : Shape := ⟨1, ![256]⟩
abbrev S256x4096 : Shape := ⟨2, ![256, 4096]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x256 : Shape := ⟨2, ![1, 256]⟩
abbrev S8192x64 : Shape := ⟨2, ![8192, 64]⟩
abbrev S8192x4096 : Shape := ⟨2, ![8192, 4096]⟩
abbrev S8192x16x256 : Shape := ⟨3, ![8192, 16, 256]⟩
abbrev S8192x16x128 : Shape := ⟨3, ![8192, 16, 128]⟩
abbrev S8192x1x64 : Shape := ⟨3, ![8192, 1, 64]⟩
abbrev S8192x16x64 : Shape := ⟨3, ![8192, 16, 64]⟩
abbrev S8192x2048 : Shape := ⟨2, ![8192, 2048]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S256, .f32⟩
  | .hbm, ⟨2, _⟩ => ⟨S256x4096, .f32⟩
  | .hbm, ⟨3, _⟩ => ⟨S8192x256, .f32⟩
  | .hbm, ⟨4, _⟩ => ⟨S8192x256, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x256, .f32⟩
  | .hbm, ⟨16, _⟩ => ⟨S8192x256, .f32⟩
  | .hbm, ⟨17, _⟩ => ⟨S1x256, .f32⟩
  | .hbm, ⟨18, _⟩ => ⟨S8192x256, .f32⟩
  | .hbm, ⟨19, _⟩ => ⟨S8192x256, .f32⟩
  | .hbm, ⟨20, _⟩ => ⟨S8192x64, .f32⟩
  | .hbm, ⟨21, _⟩ => ⟨S8192x4096, .f32⟩
  | .hbm, ⟨22, _⟩ => ⟨S8192x16x256, .f32⟩
  | .hbm, ⟨23, _⟩ => ⟨S8192x16x128, .f32⟩
  | .hbm, ⟨24, _⟩ => ⟨S8192x1x64, .f32⟩
  | .hbm, ⟨25, _⟩ => ⟨S8192x16x64, .f32⟩
  | .hbm, ⟨26, _⟩ => ⟨S_, .f32⟩
  | .hbm, ⟨27, _⟩ => ⟨S8192x16x64, .f32⟩
  | .hbm, ⟨28, _⟩ => ⟨S8192x16x256, .f32⟩
  | .hbm, ⟨29, _⟩ => ⟨S8192x4096, .f32⟩
  | .hbm, ⟨30, _⟩ => ⟨S8192x4096, .bf16⟩
  | .hbm, ⟨31, _⟩ => ⟨S8192x16x128, .f32⟩
  | .hbm, ⟨32, _⟩ => ⟨S8192x2048, .f32⟩
  | .hbm, ⟨33, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== MlaQ.lean ====
abbrev S8192x1024 : Shape := ⟨2, ![8192, 1024]⟩
abbrev S512 : Shape := ⟨1, ![512]⟩
abbrev S512x3072 : Shape := ⟨2, ![512, 3072]⟩
abbrev S512x16x192 : Shape := ⟨3, ![512, 16, 192]⟩
abbrev S512x16x64 : Shape := ⟨3, ![512, 16, 64]⟩
abbrev S512x16x32 : Shape := ⟨3, ![512, 16, 32]⟩
abbrev S512x16x256 : Shape := ⟨3, ![512, 16, 256]⟩
abbrev S512x4096 : Shape := ⟨2, ![512, 4096]⟩
abbrev S_ : Shape := ⟨0, ![]⟩
abbrev S256x64 : Shape := ⟨2, ![256, 64]⟩
abbrev S256x192 : Shape := ⟨2, ![256, 192]⟩
abbrev S256x256 : Shape := ⟨2, ![256, 256]⟩
abbrev S1x512 : Shape := ⟨2, ![1, 512]⟩
abbrev S8192x4096 : Shape := ⟨2, ![8192, 4096]⟩
abbrev S256x512 : Shape := ⟨2, ![256, 512]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩

abbrev nBuf : Space → Nat
  | .hbm => 25
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S512, .f32⟩
  | .hbm, ⟨2, _⟩ => ⟨S512x3072, .f32⟩
  | .hbm, ⟨3, _⟩ => ⟨S512x16x192, .f32⟩
  | .hbm, ⟨4, _⟩ => ⟨S512x16x64, .f32⟩
  | .hbm, ⟨5, _⟩ => ⟨S512x16x32, .f32⟩
  | .hbm, ⟨6, _⟩ => ⟨S512x16x32, .f32⟩
  | .hbm, ⟨7, _⟩ => ⟨S512x16x32, .f32⟩
  | .hbm, ⟨8, _⟩ => ⟨S512x16x64, .f32⟩
  | .hbm, ⟨9, _⟩ => ⟨S512x16x256, .f32⟩
  | .hbm, ⟨10, _⟩ => ⟨S512x4096, .f32⟩
  | .hbm, ⟨11, _⟩ => ⟨S512x4096, .bf16⟩
  | .hbm, ⟨12, _⟩ => ⟨S_, .f32⟩
  | .hbm, ⟨13, _⟩ => ⟨S256x64, .f32⟩
  | .hbm, ⟨14, _⟩ => ⟨S_, .f32⟩
  | .hbm, ⟨15, _⟩ => ⟨S256x64, .f32⟩
  | .hbm, ⟨16, _⟩ => ⟨S_, .f32⟩
  | .hbm, ⟨17, _⟩ => ⟨S256x192, .f32⟩
  | .hbm, ⟨18, _⟩ => ⟨S_, .f32⟩
  | .hbm, ⟨19, _⟩ => ⟨S256x64, .f32⟩
  | .hbm, ⟨20, _⟩ => ⟨S256x256, .f32⟩
  | .hbm, ⟨21, _⟩ => ⟨S_, .f32⟩
  | .hbm, ⟨22, _⟩ => ⟨S256x256, .f32⟩
  | .hbm, ⟨23, _⟩ => ⟨S1x512, .f32⟩
  | .hbm, ⟨24, _⟩ => ⟨S8192x4096, .bf16⟩
  | .local _ .vmem, ⟨0, _⟩ => ⟨S256x512, .f32⟩
  | .local _ .vmem, ⟨1, _⟩ => ⟨S256x512, .f32⟩
  | .local _ .vmem, ⟨2, _⟩ => ⟨S1x512, .f32⟩
  | .local _ .vmem, ⟨3, _⟩ => ⟨S512x1024, .bf16⟩
  | .local _ .vmem, ⟨4, _⟩ => ⟨S512x1024, .bf16⟩
  | .local _ .vmem, ⟨5, _⟩ => ⟨S256x256, .f32⟩
  | .local _ .vmem, ⟨6, _⟩ => ⟨S256x256, .f32⟩
  | .local _ .vmem, ⟨7, _⟩ => ⟨S256x1024, .bf16⟩
  | .local _ .vmem, ⟨8, _⟩ => ⟨S256x1024, .bf16⟩
  | .local _ .vmem, ⟨9, _⟩ => ⟨S256x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MlaQIdeal.lean ====
variable {F : FTy → Type} [FloatOps F] [Named F]
def κ : String → Option EReal := fun
  | "s" => some (((Real.sqrt 192)⁻¹ : ℝ) : EReal)
  | _ => none
-- ==== RefQIdeal.lean ====
abbrev S8192x1024 : Shape := ⟨2, ![8192, 1024]⟩
abbrev S512 : Shape := ⟨1, ![512]⟩
abbrev S512x3072 : Shape := ⟨2, ![512, 3072]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x512 : Shape := ⟨2, ![1, 512]⟩
abbrev S8192x3072 : Shape := ⟨2, ![8192, 3072]⟩
abbrev S8192x16x192 : Shape := ⟨3, ![8192, 16, 192]⟩
abbrev S8192x16x64 : Shape := ⟨3, ![8192, 16, 64]⟩
abbrev S8192x16x256 : Shape := ⟨3, ![8192, 16, 256]⟩
abbrev S8192x4096 : Shape := ⟨2, ![8192, 4096]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S512, .f32⟩
  | .hbm, ⟨2, _⟩ => ⟨S512x3072, .f32⟩
  | .hbm, ⟨3, _⟩ => ⟨S8192x512, .f32⟩
  | .hbm, ⟨4, _⟩ => ⟨S8192x512, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x512, .f32⟩
  | .hbm, ⟨16, _⟩ => ⟨S8192x512, .f32⟩
  | .hbm, ⟨17, _⟩ => ⟨S1x512, .f32⟩
  | .hbm, ⟨18, _⟩ => ⟨S8192x512, .f32⟩
  | .hbm, ⟨19, _⟩ => ⟨S8192x512, .f32⟩
  | .hbm, ⟨20, _⟩ => ⟨S8192x3072, .f32⟩
  | .hbm, ⟨21, _⟩ => ⟨S8192x16x192, .f32⟩
  | .hbm, ⟨22, _⟩ => ⟨S_, .f32⟩
  | .hbm, ⟨23, _⟩ => ⟨S_, .f32⟩
  | .hbm, ⟨24, _⟩ => ⟨S8192x16x192, .f32⟩
  | .hbm, ⟨25, _⟩ => ⟨S8192x16x192, .f32⟩
  | .hbm, ⟨26, _⟩ => ⟨S_, .f32⟩
  | .hbm, ⟨27, _⟩ => ⟨S8192x16x64, .f32⟩
  | .hbm, ⟨28, _⟩ => ⟨S8192x16x256, .f32⟩
  | .hbm, ⟨29, _⟩ => ⟨S8192x4096, .f32⟩
  | .hbm, ⟨30, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== MlpCtx.lean ====
abbrev S32x256x2048 : Shape := ⟨3, ![32, 256, 2048]⟩
abbrev S2048 : Shape := ⟨1, ![2048]⟩
abbrev S1x1x2048 : Shape := ⟨3, ![1, 1, 2048]⟩
abbrev S2048x8192 : Shape := ⟨2, ![2048, 8192]⟩
abbrev S8192x2048 : Shape := ⟨2, ![8192, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 14
  | .vmem => 18
  | .smem => 0
  | _ => 0

abbrev bufTy : (tb : Table) → Fin (tcTables nBuf tb) → BufTy
  | .hbm, ⟨0, _⟩ => ⟨S32x256x2048, .f32⟩
  | .hbm, ⟨1, _⟩ => ⟨S2048, .f32⟩
  | .hbm, ⟨2, _⟩ => ⟨S1x1x2048, .f32⟩
  | .hbm, ⟨3, _⟩ => ⟨S1x1x2048, .f32⟩
  | .hbm, ⟨4, _⟩ => ⟨S2048x8192, .f32⟩
  | .hbm, ⟨5, _⟩ => ⟨S8192x2048, .f32⟩
  | .hbm, ⟨6, _⟩ => ⟨S2048, .f32⟩
  | .hbm, ⟨7, _⟩ => ⟨S1x1x2048, .f32⟩
  | .hbm, ⟨8, _⟩ => ⟨S8192x2048, .f32⟩
  | .hbm, ⟨9, _⟩ => ⟨S2048x8192, .bf16⟩
  | .hbm, ⟨10, _⟩ => ⟨S8192x2048, .bf16⟩
  | .hbm, ⟨11, _⟩ => ⟨S1x2048, .f32⟩
  | .hbm, ⟨12, _⟩ => ⟨S1x2048, .f32⟩
  | .hbm, ⟨13, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x512, .bf16⟩
  | .local _ .vmem, ⟨8, _⟩ => ⟨S2048x512, .bf16⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | .local _ .vmem, ⟨12, _⟩ => ⟨S1x1x2048, .f32⟩
  | .local _ .vmem, ⟨13, _⟩ => ⟨S1x1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | .local _ .vmem, ⟨17, _⟩ => ⟨S512x2048, .f32⟩
  | _, _ => ⟨S32x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v19 : BitVec 1 := Scalar.cmpi .eq arg1 c15_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== RefMlpCtxIdeal.lean ====
abbrev S32x256x2048 : Shape := ⟨3, ![32, 256, 2048]⟩
abbrev S2048 : Shape := ⟨1, ![2048]⟩
abbrev S1x1x2048 : Shape := ⟨3, ![1, 1, 2048]⟩
abbrev S2048x8192 : Shape := ⟨2, ![2048, 8192]⟩
abbrev S8192x2048 : Shape := ⟨2, ![8192, 2048]⟩
abbrev S_ : Shape := ⟨0, ![]⟩
abbrev S32x256 : Shape := ⟨2, ![32, 256]⟩
abbrev S32x256x1 : Shape := ⟨3, ![32, 256, 1]⟩
abbrev S32x256x8192 : Shape := ⟨3, ![32, 256, 8192]⟩

abbrev nBuf : Space → Nat
  | .hbm => 57
  | .vmem => 0
  | .smem => 0
  | _ => 0

abbrev bufTy : (tb : Table) → Fin (tcTables nBuf tb) → BufTy
  | .hbm, ⟨0, _⟩ => ⟨S32x256x2048, .f32⟩
  | .hbm, ⟨1, _⟩ => ⟨S2048, .f32⟩
  | .hbm, ⟨2, _⟩ => ⟨S1x1x2048, .f32⟩
  | .hbm, ⟨3, _⟩ => ⟨S1x1x2048, .f32⟩
  | .hbm, ⟨4, _⟩ => ⟨S2048x8192, .f32⟩
  | .hbm, ⟨5, _⟩ => ⟨S8192x2048, .f32⟩
  | .hbm, ⟨6, _⟩ => ⟨S2048, .f32⟩
  | .hbm, ⟨7, _⟩ => ⟨S1x1x2048, .f32⟩
  | .hbm, ⟨8, _⟩ => ⟨S32x256x2048, .f32⟩
  | .hbm, ⟨9, _⟩ => ⟨S_, .f32⟩
  | .hbm, ⟨10, _⟩ => ⟨S32x256, .f32⟩
  | .hbm, ⟨11, _⟩ => ⟨S32x256x1, .f32⟩
  | .hbm, ⟨12, _⟩ => ⟨S_, .f32⟩
  | .hbm, ⟨13, _⟩ => ⟨S32x256x1, .f32⟩
  | .hbm, ⟨14, _⟩ => ⟨S32x256x1, .f32⟩
  | .hbm, ⟨15, _⟩ => ⟨S_, .f32⟩
  | .hbm, ⟨16, _⟩ => ⟨S32x256x1, .f32⟩
  | .hbm, ⟨17, _⟩ => ⟨S32x256x1, .f32⟩
  | .hbm, ⟨18, _⟩ => ⟨S32x256x1, .f32⟩
  | .hbm, ⟨19, _⟩ => ⟨S32x256x2048, .f32⟩
  | .hbm, ⟨20, _⟩ => ⟨S32x256x2048, .f32⟩
  | .hbm, ⟨21, _⟩ => ⟨S1x1x2048, .f32⟩
  | .hbm, ⟨22, _⟩ => ⟨S32x256x2048, .f32⟩
  | .hbm, ⟨23, _⟩ => ⟨S32x256x2048, .f32⟩
  | .hbm, ⟨24, _⟩ => ⟨S_, .f32⟩
  | .hbm, ⟨25, _⟩ => ⟨S1x1x2048, .f32⟩
  | .hbm, ⟨26, _⟩ => ⟨S1x1x2048, .f32⟩
  | .hbm, ⟨27, _⟩ => ⟨S32x256x2048, .f32⟩
  | .hbm, ⟨28, _⟩ => ⟨S32x256x2048, .f32⟩
  | .hbm, ⟨29, _⟩ => ⟨S32x256x2048, .f32⟩
  | .hbm, ⟨30, _⟩ => ⟨S32x256x2048, .f32⟩
  | .hbm, ⟨31, _⟩ => ⟨S32x256x8192, .f32⟩
  | .hbm, ⟨32, _⟩ => ⟨S_, .f32⟩
  | .hbm, ⟨33, _⟩ => ⟨S32x256x8192, .f32⟩
  | .hbm, ⟨34, _⟩ => ⟨S32x256x8192, .f32⟩
  | .hbm, ⟨35, _⟩ => ⟨S32x256x8192, .f32⟩
  | .hbm, ⟨36, _⟩ => ⟨S32x256x2048, .f32⟩
  | .hbm, ⟨37, _⟩ => ⟨S32x256x2048, .f32⟩
  | .hbm, ⟨38, _⟩ => ⟨S_, .f32⟩
  | .hbm, ⟨39, _⟩ => ⟨S32x256, .f32⟩
  | .hbm, ⟨40, _⟩ => ⟨S32x256x1, .f32⟩
  | .hbm, ⟨41, _⟩ => ⟨S_, .f32⟩
  | .hbm, ⟨42, _⟩ => ⟨S32x256x1, .f32⟩
  | .hbm, ⟨43, _⟩ => ⟨S32x256x1, .f32⟩
  | .hbm, ⟨44, _⟩ => ⟨S_, .f32⟩
  | .hbm, ⟨45, _⟩ => ⟨S32x256x1, .f32⟩
  | .hbm, ⟨46, _⟩ => ⟨S32x256x1, .f32⟩
  | .hbm, ⟨47, _⟩ => ⟨S32x256x1, .f32⟩
  | .hbm, ⟨48, _⟩ => ⟨S32x256x2048, .f32⟩
  | .hbm, ⟨49, _⟩ => ⟨S32x256x2048, .f32⟩
  | .hbm, ⟨50, _⟩ => ⟨S1x1x2048, .f32⟩
  | .hbm, ⟨51, _⟩ => ⟨S32x256x2048, .f32⟩
  | .hbm, ⟨52, _⟩ => ⟨S32x256x2048, .f32⟩
  | .hbm, ⟨53, _⟩ => ⟨S32x256x2048, .f32⟩
  | .hbm, ⟨54, _⟩ => ⟨S32x256x2048, .f32⟩
  | .hbm, ⟨55, _⟩ => ⟨S32x256x2048, .f32⟩
  | .hbm, ⟨56, _⟩ => ⟨S8192x2048, .f32⟩
  | _, _ => ⟨S32x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_cst : Ref sig .tc := ⟨.hbm, 32, rfl⟩
abbrev main_call0_v0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩

abbrev nD : Nat := 1
abbrev τ : Topo := Topo.v7x

variable {F : FTy → Type} [FloatOps F]
-- ==== Scan.lean ====
abbrev S32x256x6144 : Shape := ⟨3, ![32, 256, 6144]⟩
abbrev S32x1x4x16x256 : Shape := ⟨5, ![32, 1, 4, 16, 256]⟩
abbrev S_ : Shape := ⟨0, ![]⟩
abbrev S1x1x4x128x128 : Shape := ⟨5, ![1, 1, 4, 128, 128]⟩
abbrev S32x256x2048 : Shape := ⟨3, ![32, 256, 2048]⟩
abbrev S32x16x128x128 : Shape := ⟨4, ![32, 16, 128, 128]⟩
abbrev S1x256x512 : Shape := ⟨3, ![1, 256, 512]⟩
abbrev S1x1x4x16x256 : Shape := ⟨5, ![1, 1, 4, 16, 256]⟩
abbrev S1x4x128x128 : Shape := ⟨4, ![1, 4, 128, 128]⟩
abbrev S4x128x128 : Shape := ⟨3, ![4, 128, 128]⟩
abbrev S256x256 : Shape := ⟨2, ![256, 256]⟩
abbrev S1x256x128 : Shape := ⟨3, ![1, 256, 128]⟩
abbrev S256x128 : Shape := ⟨2, ![256, 128]⟩
abbrev S1x1x1x1x256 : Shape := ⟨5, ![1, 1, 1, 1, 256]⟩
abbrev S1x256 : Shape := ⟨2, ![1, 256]⟩
abbrev S1x128x128 : Shape := ⟨3, ![1, 128, 128]⟩
abbrev S128x128 : Shape := ⟨2, ![128, 128]⟩
abbrev S256 : Shape := ⟨1, ![256]⟩
abbrev S256x1 : Shape := ⟨2, ![256, 1]⟩
abbrev S64x128 : Shape := ⟨2, ![64, 128]⟩
abbrev S1x1 : Shape := ⟨2, ![1, 1]⟩

abbrev nBuf : Space → Nat
  | .hbm => 6
  | .vmem => 14
  | .smem => 0
  | _ => 0

abbrev bufTy : (tb : Table) → Fin (tcTables nBuf tb) → BufTy
  | .hbm, ⟨0, _⟩ => ⟨S32x256x6144, .f32⟩
  | .hbm, ⟨1, _⟩ => ⟨S32x1x4x16x256, .f32⟩
  | .hbm, ⟨2, _⟩ => ⟨S_, .f32⟩
  | .hbm, ⟨3, _⟩ => ⟨S1x1x4x128x128, .f32⟩
  | .hbm, ⟨4, _⟩ => ⟨S32x256x2048, .f32⟩
  | .hbm, ⟨5, _⟩ => ⟨S32x16x128x128, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x1x4x16x256, .f32⟩
  | .local _ .vmem, ⟨7, _⟩ => ⟨S1x1x4x16x256, .f32⟩
  | .local _ .vmem, ⟨8, _⟩ => ⟨S1x1x4x128x128, .f32⟩
  | .local _ .vmem, ⟨9, _⟩ => ⟨S1x256x512, .f32⟩
  | .local _ .vmem, ⟨10, _⟩ => ⟨S1x256x512, .f32⟩
  | .local _ .vmem, ⟨11, _⟩ => ⟨S1x4x128x128, .f32⟩
  | .local _ .vmem, ⟨12, _⟩ => ⟨S1x4x128x128, .f32⟩
  | .local _ .vmem, ⟨13, _⟩ => ⟨S4x128x128, .f32⟩
  | _, _ => ⟨S32x256x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![32, 4, 1], ![false, false, false]⟩

def k0_off1 (i : grid0.Coords) (c0_i32_21 : BitVec 32) : Fin 5 → Nat :=
  let c0_30 : Index := 0#32
  let c0_31 : Index := 0#32
  let c2 : Index := 2#32
  let arg1 : BitVec 32 := BitVec.ofNat 32 (i 1).val
  let c4_i32 : BitVec 32 := 4#32
  let v89 : BitVec 32 := Scalar.muli arg1 c4_i32
  let v90 : BitVec 32 := Scalar.addi v89 c0_i32_21
  let v97 : Index := Scalar.indexCast v90
  let c0_32 : Index := 0#32
  ![0, 0, 2, v97.toNat, 0]
def k0_off2 (i : grid0.Coords) (c0_i32_21 : BitVec 32) : Fin 5 → Nat :=
  let c0_33 : Index := 0#32
  let c0_34 : Index := 0#32
  let c0_35 : Index := 0#32
  let arg1 : BitVec 32 := BitVec.ofNat 32 (i 1).val
  let c4_i32 : BitVec 32 := 4#32
  let v89 : BitVec 32 := Scalar.muli arg1 c4_i32
  let v90 : BitVec 32 := Scalar.addi v89 c0_i32_21
  let v100 : Index := Scalar.indexCast v90
  let c0_36 : Index := 0#32
  ![0, 0, 0, v100.toNat, 0]
def k0_cond2 (i : grid0.Coords) : BitVec 1 :=
  let arg2 : BitVec 32 := BitVec.ofNat 32 (i 2).val
  let c0_i32_335 : BitVec 32 := 0#32
  let v949 : BitVec 1 := Scalar.cmpi .eq arg2 c0_i32_335
  let v950 : BitVec 32 := Scalar.extui v949
  let c0_i32_336 : BitVec 32 := 0#32
  let v951 : BitVec 1 := Scalar.cmpi .ne v950 c0_i32_336
  v951

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg2.toNat, c0_i32.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x4x16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 1 → Memref sig .tc .vmem S1x1x4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== RefScanIdeal.lean ====
abbrev S32x256x6144 : Shape := ⟨3, ![32, 256, 6144]⟩
abbrev S32x1x4x16x256 : Shape := ⟨5, ![32, 1, 4, 16, 256]⟩
abbrev S32x256x2048 : Shape := ⟨3, ![32, 256, 2048]⟩
abbrev S32x4x64x16x128 : Shape := ⟨5, ![32, 4, 64, 16, 128]⟩
abbrev S32x16x4x64x128 : Shape := ⟨5, ![32, 16, 4, 64, 128]⟩
abbrev S32x1x1x16x256 : Shape := ⟨5, ![32, 1, 1, 16, 256]⟩
abbrev S32x16x256 : Shape := ⟨3, ![32, 16, 256]⟩
abbrev S32x16x4x64 : Shape := ⟨4, ![32, 16, 4, 64]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S32x16x4x64x1 : Shape := ⟨5, ![32, 16, 4, 64, 1]⟩
abbrev S32x16x4x1x64 : Shape := ⟨5, ![32, 16, 4, 1, 64]⟩
abbrev S32x16x4x64x64 : Shape := ⟨5, ![32, 16, 4, 64, 64]⟩
abbrev S_ : Shape := ⟨0, ![]⟩
abbrev S1x1x1x64x64 : Shape := ⟨5, ![1, 1, 1, 64, 64]⟩
abbrev S32x16x4x1 : Shape := ⟨4, ![32, 16, 4, 1]⟩
abbrev S32x16x4 : Shape := ⟨3, ![32, 16, 4]⟩
abbrev S32x16x128x128 : Shape := ⟨4, ![32, 16, 128, 128]⟩
abbrev S32x16x1x64x128 : Shape := ⟨5, ![32, 16, 1, 64, 128]⟩
abbrev S32x16x64x128 : Shape := ⟨4, ![32, 16, 64, 128]⟩
abbrev S32x16x1 : Shape := ⟨3, ![32, 16, 1]⟩
abbrev S32x16 : Shape := ⟨2, ![32, 16]⟩
abbrev S32x16x1x1 : Shape := ⟨4, ![32, 16, 1, 1]⟩

abbrev nBuf : Space → Nat
  | .hbm => 146
  | .vmem => 0
  | .smem => 0
  | _ => 0

abbrev hbmTy0_0 (i : Nat) : BufTy := match i % 128 with
  | 0 => ⟨S32x256x6144, .f32⟩
  | 1 => ⟨S32x1x4x16x256, .f32⟩
  | 2 => ⟨S32x256x2048, .f32⟩
  | 3 => ⟨S32x4x64x16x128, .f32⟩
  | 4 => ⟨S32x16x4x64x128, .f32⟩
  | 5 => ⟨S32x256x2048, .f32⟩
  | 6 => ⟨S32x4x64x16x128, .f32⟩
  | 7 => ⟨S32x16x4x64x128, .f32⟩
  | 8 => ⟨S32x1x1x16x256, .f32⟩
  | 9 => ⟨S32x16x256, .f32⟩
  | 10 => ⟨S32x16x4x64, .f32⟩
  | 11 => ⟨S32x1x1x16x256, .f32⟩
  | 12 => ⟨S32x16x256, .f32⟩
  | 13 => ⟨S32x16x4x64, .f32⟩
  | 14 => ⟨S64, .i32⟩
  | 15 => ⟨S64x1, .i32⟩
  | 16 => ⟨S1x64, .i32⟩
  | 17 => ⟨S64x64, .i32⟩
  | 18 => ⟨S64x64, .i32⟩
  | 19 => ⟨S64x64, .i1⟩
  | 20 => ⟨S32x16x4x64x1, .f32⟩
  | 21 => ⟨S32x16x4x64x128, .f32⟩
  | 22 => ⟨S32x16x4x64x128, .f32⟩
  | 23 => ⟨S32x16x4x64x1, .f32⟩
  | 24 => ⟨S32x16x4x64x128, .f32⟩
  | 25 => ⟨S32x16x4x64x128, .f32⟩
  | 26 => ⟨S32x16x4x64x1, .f32⟩
  | 27 => ⟨S32x16x4x1x64, .f32⟩
  | 28 => ⟨S32x16x4x64x64, .f32⟩
  | 29 => ⟨S32x16x4x64x64, .f32⟩
  | 30 => ⟨S32x16x4x64x64, .f32⟩
  | 31 => ⟨S32x16x4x64x64, .f32⟩
  | 32 => ⟨S32x16x4x64x64, .f32⟩
  | 33 => ⟨S32x16x4x64x64, .f32⟩
  | 34 => ⟨S_, .f32⟩
  | 35 => ⟨S_, .f32⟩
  | 36 => ⟨S32x16x4x64x64, .i1⟩
  | 37 => ⟨S32x16x4x64x64, .f32⟩
  | 38 => ⟨S32x16x4x64x64, .f32⟩
  | 39 => ⟨S64x64, .i32⟩
  | 40 => ⟨S64x64, .i32⟩
  | 41 => ⟨S_, .i32⟩
  | 42 => ⟨S64x64, .i32⟩
  | 43 => ⟨S64x64, .i32⟩
  | 44 => ⟨S64x64, .i1⟩
  | 45 => ⟨S64x64, .f32⟩
  | 46 => ⟨S_, .f32⟩
  | 47 => ⟨S32x16x4x64x64, .f32⟩
  | 48 => ⟨S_, .i32⟩
  | 49 => ⟨S_, .i32⟩
  | 50 => ⟨S32x16x4x64x64, .f32⟩
  | 51 => ⟨S64x64, .f32⟩
  | 52 => ⟨S_, .i32⟩
  | 53 => ⟨S_, .i32⟩
  | 54 => ⟨S32x16x4x64x64, .f32⟩
  | 55 => ⟨S_, .i32⟩
  | 56 => ⟨S_, .i1⟩
  | 57 => ⟨S_, .i32⟩
  | 58 => ⟨S_, .i32⟩
  | 59 => ⟨S32x16x4x64x64, .f32⟩
  | 60 => ⟨S1x1x1x64x64, .f32⟩
  | 61 => ⟨S32x16x4x64x64, .f32⟩
  | 62 => ⟨S32x16x4x64x64, .f32⟩
  | 63 => ⟨S_, .i32⟩
  | 64 => ⟨S_, .i32⟩
  | 65 => ⟨S32x16x4x64x128, .f32⟩
  | 66 => ⟨S32x16x4x64, .f32⟩
  | 67 => ⟨S32x16x4x64x1, .f32⟩
  | 68 => ⟨S32x16x4x64x128, .f32⟩
  | 69 => ⟨S32x16x4x64x128, .f32⟩
  | 70 => ⟨S32x16x4x64x128, .f32⟩
  | 71 => ⟨S32x16x4x1, .f32⟩
  | 72 => ⟨S32x16x4, .f32⟩
  | 73 => ⟨S32x16x4x1, .f32⟩
  | 74 => ⟨S32x16x4x64, .f32⟩
  | 75 => ⟨S32x16x4x64, .f32⟩
  | 76 => ⟨S32x16x4x64, .f32⟩
  | 77 => ⟨S32x16x4x64x1, .f32⟩
  | 78 => ⟨S32x16x4x64x128, .f32⟩
  | 79 => ⟨S32x16x4x64x128, .f32⟩
  | 80 => ⟨S_, .f32⟩
  | 81 => ⟨S32x16x128x128, .f32⟩
  | 82 => ⟨S32x16x1x64x128, .f32⟩
  | 83 => ⟨S32x16x64x128, .f32⟩
  | 84 => ⟨S32x16x1x64x128, .f32⟩
  | 85 => ⟨S32x16x64x128, .f32⟩
  | 86 => ⟨S32x16x64x128, .f32⟩
  | 87 => ⟨S32x16x64x128, .f32⟩
  | 88 => ⟨S32x16x1, .f32⟩
  | 89 => ⟨S32x16, .f32⟩
  | 90 => ⟨S32x16, .f32⟩
  | 91 => ⟨S32x16x1x1, .f32⟩
  | 92 => ⟨S32x16x128x128, .f32⟩
  | 93 => ⟨S32x16x128x128, .f32⟩
  | 94 => ⟨S32x16x1x64x128, .f32⟩
  | 95 => ⟨S32x16x64x128, .f32⟩
  | 96 => ⟨S32x16x128x128, .f32⟩
  | 97 => ⟨S32x16x128x128, .f32⟩
  | 98 => ⟨S32x16x1x64x128, .f32⟩
  | 99 => ⟨S32x16x64x128, .f32⟩
  | 100 => ⟨S32x16x1x64x128, .f32⟩
  | 101 => ⟨S32x16x64x128, .f32⟩
  | 102 => ⟨S32x16x64x128, .f32⟩
  | 103 => ⟨S32x16x64x128, .f32⟩
  | 104 => ⟨S32x16x1, .f32⟩
  | 105 => ⟨S32x16, .f32⟩
  | 106 => ⟨S32x16, .f32⟩
  | 107 => ⟨S32x16x1x1, .f32⟩
  | 108 => ⟨S32x16x128x128, .f32⟩
  | 109 => ⟨S32x16x128x128, .f32⟩
  | 110 => ⟨S32x16x1x64x128, .f32⟩
  | 111 => ⟨S32x16x64x128, .f32⟩
  | 112 => ⟨S32x16x128x128, .f32⟩
  | 113 => ⟨S32x16x128x128, .f32⟩
  | 114 => ⟨S32x16x1x64x128, .f32⟩
  | 115 => ⟨S32x16x64x128, .f32⟩
  | 116 => ⟨S32x16x1x64x128, .f32⟩
  | 117 => ⟨S32x16x64x128, .f32⟩
  | 118 => ⟨S32x16x64x128, .f32⟩
  | 119 => ⟨S32x16x64x128, .f32⟩
  | 120 => ⟨S32x16x1, .f32⟩
  | 121 => ⟨S32x16, .f32⟩
  | 122 => ⟨S32x16, .f32⟩
  | 123 => ⟨S32x16x1x1, .f32⟩
  | 124 => ⟨S32x16x128x128, .f32⟩
  | 125 => ⟨S32x16x128x128, .f32⟩
  | 126 => ⟨S32x16x1x64x128, .f32⟩
  | 127 => ⟨S32x16x64x128, .f32⟩
  | _ => ⟨S32x256x6144, .f32⟩

abbrev hbmTy0_1 (i : Nat) : BufTy := match i % 128 with
  | 0 => ⟨S32x16x128x128, .f32⟩
  | 1 => ⟨S32x16x128x128, .f32⟩
  | 2 => ⟨S32x16x1x64x128, .f32⟩
  | 3 => ⟨S32x16x64x128, .f32⟩
  | 4 => ⟨S32x16x1x64x128, .f32⟩
  | 5 => ⟨S32x16x64x128, .f32⟩
  | 6 => ⟨S32x16x64x128, .f32⟩
  | 7 => ⟨S32x16x64x128, .f32⟩
  | 8 => ⟨S32x16x1, .f32⟩
  | 9 => ⟨S32x16, .f32⟩
  | 10 => ⟨S32x16, .f32⟩
  | 11 => ⟨S32x16x1x1, .f32⟩
  | 12 => ⟨S32x16x128x128, .f32⟩
  | 13 => ⟨S32x16x128x128, .f32⟩
  | 14 => ⟨S32x16x1x64x128, .f32⟩
  | 15 => ⟨S32x16x64x128, .f32⟩
  | 16 => ⟨S32x16x128x128, .f32⟩
  | 17 => ⟨S32x16x128x128, .f32⟩
  | _ => ⟨S32x256x6144, .f32⟩

abbrev hbmTy (i : Nat) : BufTy := match i / 128 with
  | 0 => hbmTy0_0 i
  | 1 => hbmTy0_1 i
  | _ => ⟨S32x256x6144, .f32⟩

abbrev bufTy : (tb : Table) → Fin (tcTables nBuf tb) → BufTy
  | .hbm, ⟨i, _⟩ => hbmTy i
  | _, _ => ⟨S32x256x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_c : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_0 : Ref sig .tc := ⟨.hbm, 46, rfl⟩
abbrev main_v39 : Ref sig .tc := ⟨.hbm, 47, rfl⟩
abbrev main_c_1 : Ref sig .tc := ⟨.hbm, 48, rfl⟩
abbrev main_c_2 : Ref sig .tc := ⟨.hbm, 49, rfl⟩
abbrev main_v40_0 : Ref sig .tc := ⟨.hbm, 50, rfl⟩
abbrev main_v40_1 : Ref sig .tc := ⟨.hbm, 51, rfl⟩
abbrev main_v40_2 : Ref sig .tc := ⟨.hbm, 52, rfl⟩
abbrev main_v40_3 : Ref sig .tc := ⟨.hbm, 53, rfl⟩
abbrev main_v40_4 : Ref sig .tc := ⟨.hbm, 54, rfl⟩
abbrev main_while0c_c_8 : Ref sig .tc := ⟨.hbm, 55, rfl⟩
abbrev main_while0c_v121 : Ref sig .tc := ⟨.hbm, 56, rfl⟩
abbrev main_while0b_c_8 : Ref sig .tc := ⟨.hbm, 57, rfl⟩
abbrev main_while0b_v121 : Ref sig .tc := ⟨.hbm, 58, rfl⟩
abbrev main_while0b_v122 : Ref sig .tc := ⟨.hbm, 59, rfl⟩
abbrev main_while0b_v123 : Ref sig .tc := ⟨.hbm, 60, rfl⟩
abbrev main_while0b_v124 : Ref sig .tc := ⟨.hbm, 61, rfl⟩
abbrev main_while0b_v125 : Ref sig .tc := ⟨.hbm, 62, rfl⟩
abbrev main_while0b_c_9 : Ref sig .tc := ⟨.hbm, 63, rfl⟩
abbrev main_while0b_v126 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_3 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩

abbrev nD : Nat := 1
abbrev τ : Topo := Topo.v7x

variable {F : FTy → Type} [FloatOps F]

abbrev main_while0_count : Scf.Loop 32 := ⟨0#32, 64#32, 1#32⟩
-- ==== Proof.Softmax.lean ====
/- Softmax on extended reals: a row of finite scores cut in two, and the division taken out of the weighted sum. -/
module

public import Idealize.ShloMosaic.Lib.Pointwise

@[expose] public noncomputable section

namespace Softmax

open Idealize.ShloMosaic

/-- The bit pattern of minus infinity denotes minus infinity. -/
theorem ofBits_neg_inf : (Ideal.ofBits .f32 0xFF800000#32 : EReal) = ⊥ := by simp [Ideal.ofBits, Ideal.ieee]

/-- The bit pattern of plus infinity denotes plus infinity. -/
theorem ofBits_inf : (Ideal.ofBits .f32 0x7F800000#32 : EReal) = ⊤ := by simp [Ideal.ofBits, Ideal.ieee]

/-- A fold of `max` from minus infinity is the supremum. -/
theorem fold_eq_sup {ι : Type} [Fintype ι] (f : ι → EReal) :
    Finset.univ.fold max (Ideal.ofBits .f32 0xFF800000#32 : EReal) f = Finset.univ.sup f := by
  rw [ofBits_neg_inf]; rfl

/-- Minus infinity is neutral for `max`. -/
theorem max_neg_inf (x : EReal) : max (Ideal.ofBits .f32 0xFF800000#32 : EReal) x = x := by
  rw [ofBits_neg_inf]; exact max_eq_right bot_le

/-- The elementwise maximum of two arrays, at an index. -/
theorem maximumf_at {s : Shape} (x y : FVec Ideal s .f32) (i : s.Idx) :
    maximumf x y i = max (x i : EReal) (y i : EReal) := rfl

/-- A finite sum of real numbers, read as an extended real. -/
theorem coe_sum {ι : Type} (t : Finset ι) (a : ι → ℝ) : ((∑ i ∈ t, a i : ℝ) : EReal) = ∑ i ∈ t, (a i : EReal) := by
  classical
  induction t using Finset.induction_on with
  | empty => simp
  | insert i t hi ih => rw [Finset.sum_insert hi, Finset.sum_insert hi, EReal.coe_add, ih]

/-- A sum of products of finite numbers is finite. -/
theorem dot_real {ι : Type} [Fintype ι] (f g : ι → EReal) (hf : ∀ i, ∃ x : ℝ, f i = x) (hg : ∀ i, ∃ x : ℝ, g i = x) :
    ∃ x : ℝ, ∑ i, f i * g i = (x : EReal) := by
  choose a ha using hf
  choose b hb using hg
  refine ⟨∑ i, a i * b i, ?_⟩
  rw [coe_sum]
  exact Finset.sum_congr rfl fun i _ => by rw [ha, hb, EReal.coe_mul]

/-- The supremum of finitely many finite numbers (at least one) is finite. -/
theorem sup_real {ι : Type} [Fintype ι] [Nonempty ι] (f : ι → EReal) (hf : ∀ i, ∃ x : ℝ, f i = x) :
    ∃ x : ℝ, Finset.univ.sup f = (x : EReal) := by
  obtain ⟨i, _, hi⟩ := Finset.exists_mem_eq_sup Finset.univ Finset.univ_nonempty f
  obtain ⟨x, hx⟩ := hf i
  exact ⟨x, hi.trans hx⟩

/-- The sum of the exponentials of finite numbers (at least one) is a positive finite number. -/
theorem sum_exp_real {ι : Type} [Fintype ι] [Nonempty ι] (f : ι → EReal) (hf : ∀ i, ∃ x : ℝ, f i = x) :
    ∃ y : ℝ, 0 < y ∧ ∑ i, Ideal.exp (f i) = (y : EReal) := by
  choose a ha using hf
  refine ⟨∑ i, Real.exp (a i), Finset.sum_pos (fun i _ => Real.exp_pos _) Finset.univ_nonempty, ?_⟩
  rw [coe_sum]
  exact Finset.sum_congr rfl fun i _ => by rw [ha, Ideal.exp_coe]

/-- A positive finite factor goes into a finite sum of extended reals. -/
theorem sum_mul_real {ι : Type} (s : Finset ι) (f : ι → EReal) (y : ℝ) (hy : 0 ≤ y) :
    (∑ i ∈ s, f i) * (y : EReal) = ∑ i ∈ s, f i * (y : EReal) := by
  classical
  induction s using Finset.induction_on with
  | empty => simp
  | insert a s ha ih =>
    rw [Finset.sum_insert ha, Finset.sum_insert ha, ← ih, EReal.right_distrib_of_nonneg_of_ne_top (by exact_mod_cast hy) (EReal.coe_ne_top y)]

/-- Dividing a weighted sum by a positive finite number divides every weight. -/
theorem div_sum {ι : Type} [Fintype ι] (p v : ι → EReal) (y : ℝ) (hy : 0 < y) :
    Ideal.div (∑ i, p i * v i) (y : EReal) = ∑ i, v i * Ideal.div (p i) (y : EReal) := by
  rw [Ideal.div_coe hy.ne', sum_mul_real _ _ _ (by positivity)]
  refine Finset.sum_congr rfl fun i _ => ?_
  rw [Ideal.div_coe hy.ne', mul_comm (p i), mul_assoc]

/-- The difference of two finite numbers is finite. -/
theorem sub_real (x y : EReal) (hx : ∃ a : ℝ, x = a) (hy : ∃ a : ℝ, y = a) : ∃ a : ℝ, x - y = a := by
  obtain ⟨a, rfl⟩ := hx
  obtain ⟨b, rfl⟩ := hy
  exact ⟨a - b, (EReal.coe_sub a b).symm⟩

/-- The supremum over two pieces laid end to end is the greater of the two suprema. -/
theorem sup_append (a b : ℕ) (s : Fin (a + b) → EReal) :
    max (Finset.univ.sup fun i : Fin a => s ⟨i, by omega⟩) (Finset.univ.sup fun j : Fin b => s ⟨a + j, by omega⟩)
      = Finset.univ.sup s := by
  apply le_antisymm
  · exact max_le (Finset.sup_le fun i _ => Finset.le_sup (f := s) (Finset.mem_univ _))
      (Finset.sup_le fun i _ => Finset.le_sup (f := s) (Finset.mem_univ _))
  · refine Finset.sup_le fun x _ => ?_
    by_cases h : (x : ℕ) < a
    · exact le_trans (Finset.le_sup (f := fun i : Fin a => s ⟨i, by omega⟩) (Finset.mem_univ ⟨x, h⟩)) (le_max_left _ _)
    · refine le_trans ?_ (le_max_right _ _)
      have hx : x = ⟨a + (⟨x - a, by omega⟩ : Fin b), by simp; omega⟩ := by ext; simp; omega
      rw [hx]
      exact Finset.le_sup (f := fun j : Fin b => s ⟨a + j, by omega⟩) (Finset.mem_univ _)

/-- A sum over two pieces laid end to end. -/
theorem sum_append (a b : ℕ) (f : Fin (a + b) → EReal) :
    (∑ i : Fin a, f ⟨i, by omega⟩) + ∑ j : Fin b, f ⟨a + j, by omega⟩ = ∑ x, f x := (Fin.sum_univ_add f).symm

/-- ATTENTION OVER TWO PIECES OF KEYS. With finite scores, the two weighted sums of exponentials (the maximum over both pieces
    subtracted), added and divided by the two sums of exponentials, are the softmax over all keys applied to the values. -/
theorem two_pieces (a b : ℕ) [Nonempty (Fin (a + b))] (s v : Fin (a + b) → EReal) (hs : ∀ x, ∃ r : ℝ, s x = r) (m : EReal)
    (hm : m = Finset.univ.sup s) :
    Ideal.div
      ((∑ i : Fin a, Ideal.exp (s ⟨i, by omega⟩ - m) * v ⟨i, by omega⟩)
        + ∑ j : Fin b, Ideal.exp (s ⟨a + j, by omega⟩ - m) * v ⟨a + j, by omega⟩)
      ((∑ i : Fin a, Ideal.exp (s ⟨i, by omega⟩ - m)) + ∑ j : Fin b, Ideal.exp (s ⟨a + j, by omega⟩ - m))
    = ∑ x, v x * Ideal.div (Ideal.exp (s x - m)) (∑ x, Ideal.exp (s x - m)) := by
  obtain ⟨y, hy, hsum⟩ := sum_exp_real (fun x => s x - m) fun x => sub_real _ _ (hs x) (hm ▸ sup_real s hs)
  rw [sum_append a b fun x => Ideal.exp (s x - m) * v x, sum_append a b fun x => Ideal.exp (s x - m), hsum]
  exact div_sum _ _ y hy

end Softmax
-- ==== Proof.AttnPre.lean ====
/- The precondition of the attention claim, read back: the queries and the keys are real numbers. -/
module

public import proofs.«01_k».proof.Proof.Gen.Pre_finite
public import proofs.«01_k».proof.Proof.Softmax
public import Idealize.ShloMosaic.Lib.ReduceAll
public import Idealize.ShloMosaic.Lib.Pointwise

set_option maxRecDepth 16384

@[expose] public noncomputable section

namespace Cert.Pre_finite.Read

open Idealize.ShloMosaic Idealize.ShloMosaic.TcCoe Idealize.SL.Sem
open Cert.Pre_finite Cert.Pre_finite.Gen

/-- An extended real whose absolute value is below plus infinity is a real number. -/
theorem real_of_abs_lt (x : EReal) (h : max x (-x) < ⊤) : ∃ a : ℝ, x = a := by
  induction x with
  | bot => simp at h
  | top => simp at h
  | coe a => exact ⟨a, rfl⟩

/-- A comparison of an array's absolute values with plus infinity that is 1 everywhere says the array is real. -/
theorem real_of_cmp {s : Shape} (h0 : S_.BroadcastsInDim s (![] : Fin 0 → Fin s.rank)) (x : FVec Ideal s .bf16) (i : s.Idx)
    (h : cmpf .olt (Host.absf (extf .f32 x bitsLt_bf16_f32)) (broadcastInDim s ![] h0 (constant S_ .f32 0x7F800000#32)) i = 1#1) :
    ∃ a : ℝ, (x i : EReal) = a := by
  refine real_of_abs_lt _ ?_
  have h1 : BitVec.ofBool (decide ((max (x i : EReal) (-(x i : EReal))) < Ideal.ofBits .f32 0x7F800000#32)) = 1#1 := h
  rw [Softmax.ofBits_inf] at h1
  by_contra hc
  rw [decide_eq_false hc] at h1
  exact absurd h1 (by decide)

instance : Subsingleton S_.Idx := ⟨fun a b => funext fun i => i.elim0⟩

/-- Under the precondition every query and every key is a real number. -/
theorem real (q : FVec Ideal S4x4096x4096 .bf16) (k : FVec Ideal S4x4352x4096 .bf16) (v : FVec Ideal S4x4352x2048 .bf16)
    (h : Cert.Pre_finite.fn (F := Ideal) q k v = fun _ => 1#1) :
    (∀ i, ∃ a : ℝ, (q i : EReal) = a) ∧ ∀ i, ∃ a : ℝ, (k i : EReal) = a := by
  obtain ⟨h1, h2⟩ := IntOp.andi_eq_one.1 (congrFun h (fun i => i.elim0))
  exact ⟨fun i => real_of_cmp _ q i (Host.reduce_andi_all _ _ _ _ _ h1 i), fun i => real_of_cmp _ k i (Host.reduce_andi_all _ _ _ _ _ h2 i)⟩

end Cert.Pre_finite.Read
-- ==== Proof.AttnHead.lean ====
/- One head of the attention kernel: what its payloads hold at one entry of the block it stores. -/
module

public import proofs.«01_k».proof.Proof.Gen.KernelIdeal
public import proofs.«01_k».proof.Proof.Gen.KernelIdeal.Skeleton
public import proofs.«01_k».proof.Proof.Softmax
public import Idealize.ShloMosaic.Lib.Pointwise

set_option maxRecDepth 16384

@[expose] public noncomputable section

namespace Cert.KernelIdeal.Attn

open Idealize.ShloMosaic Idealize.ShloMosaic.TcCoe Idealize.SL.Sem
open Cert.KernelIdeal Cert.KernelIdeal.Gen

/-- What the kernel stores for a head, from the head's query, key and value tiles (two pieces of keys and values). -/
def head (q : Vec Ideal S1x256x256 .bf16) (k1 : Vec Ideal S1x4096x256 .bf16) (v1 : Vec Ideal S1x4096x128 .bf16)
    (k2 : Vec Ideal S1x256x256 .bf16) (v2 : Vec Ideal S1x256x128 .bf16) : FVec Ideal S1x256x128 .bf16 :=
  k0_pay10 (k0_pay8 q k1 v1 k2 v2) (k0_pay9 q k1 k2)

/-- The second head of a pair goes through the same operations. -/
theorem head_second (q : Vec Ideal S1x256x256 .bf16) (k1 : Vec Ideal S1x4096x256 .bf16) (v1 : Vec Ideal S1x4096x128 .bf16)
    (k2 : Vec Ideal S1x256x256 .bf16) (v2 : Vec Ideal S1x256x128 .bf16) :
    k0_pay1 (k0_pay14 v2) (k0_pay17 q k1 k2) (k0_pay18 q k1 v1 k2) (k0_pay19 q k1 k2) (k0_pay20 q k1 k2)
      = head q k1 v1 k2 v2 := rfl

variable (q : Vec Ideal S1x256x256 .bf16) (k1 : Vec Ideal S1x4096x256 .bf16) (v1 : Vec Ideal S1x4096x128 .bf16)
  (k2 : Vec Ideal S1x256x256 .bf16) (v2 : Vec Ideal S1x256x128 .bf16)

/-- A score against the first piece of keys. -/
theorem score1_at (r : Fin 256) (i : Fin 4096) :
    k0_pay3 q k1 (ix2 r i) = ∑ d : Fin 256, q (ix3 0 r d) * k1 (ix3 0 i d) := by
  pointwise [k0_pay3, k0_pay2]

/-- A score against the second piece of keys. -/
theorem score2_at (r : Fin 256) (i : Fin 256) :
    k0_pay4 q k2 (ix2 r i) = ∑ d : Fin 256, q (ix3 0 r d) * k2 (ix3 0 i d) := by
  pointwise [k0_pay4, k0_pay2]

/-- The maximum that is subtracted: the greater of the two pieces' greatest scores. -/
theorem max_at (r : Fin 256) :
    k0_pay5 q k1 k2 (ix2 r 0) = max (Finset.univ.sup fun i : Fin 4096 => (k0_pay3 q k1 (ix2 r i) : EReal))
      (Finset.univ.sup fun j : Fin 256 => (k0_pay4 q k2 (ix2 r j) : EReal)) := by
  rw [← Softmax.fold_eq_sup, ← Softmax.fold_eq_sup]
  unfold k0_pay5
  generalize k0_pay3 q k1 = a
  generalize k0_pay4 q k2 = b
  refine (Softmax.maximumf_at _ _ _).trans (congrArg₂ _ ?_ ?_) <;> pointwise

theorem exp1_at (r : Fin 256) (i : Fin 4096) :
    k0_pay6 q k1 k2 (ix2 r i) = Ideal.exp (k0_pay3 q k1 (ix2 r i) - k0_pay5 q k1 k2 (ix2 r 0)) := by
  pointwise [k0_pay6]

theorem exp2_at (r : Fin 256) (i : Fin 256) :
    k0_pay7 q k1 k2 (ix2 r i) = Ideal.exp (k0_pay4 q k2 (ix2 r i) - k0_pay5 q k1 k2 (ix2 r 0)) := by
  pointwise [k0_pay7]

/-- The weighted sum of the values, before the division. -/
theorem num_at (r : Fin 256) (l : Fin 128) :
    k0_pay8 q k1 v1 k2 v2 (ix2 r l) = (∑ i : Fin 4096, k0_pay6 q k1 k2 (ix2 r i) * v1 (ix3 0 i l))
      + ∑ j : Fin 256, k0_pay7 q k1 k2 (ix2 r j) * v2 (ix3 0 j l) := by
  pointwise [k0_pay8]

/-- The sum of the exponentials. -/
theorem den_at (r : Fin 256) (l : Fin 128) :
    k0_pay9 q k1 k2 (ix2 r l) = (∑ i : Fin 4096, k0_pay6 q k1 k2 (ix2 r i)) + ∑ j : Fin 256, k0_pay7 q k1 k2 (ix2 r j) := by
  pointwise [k0_pay9]

/-- ONE HEAD, ONE ENTRY: where the two pieces' scores are the row `s` of finite scores and the two pieces' values the column `v`,
    the stored entry is the softmax of `s` applied to `v`. -/
theorem head_at (r : Fin 256) (l : Fin 128) (s v : Fin (4096 + 256) → EReal) (hs : ∀ x, ∃ a : ℝ, s x = a)
    (hs1 : ∀ i : Fin 4096, ∑ d : Fin 256, q (ix3 0 r d) * k1 (ix3 0 i d) = s ⟨i, by omega⟩)
    (hs2 : ∀ j : Fin 256, ∑ d : Fin 256, q (ix3 0 r d) * k2 (ix3 0 j d) = s ⟨4096 + j, by omega⟩)
    (hv1 : ∀ i : Fin 4096, v1 (ix3 0 i l) = v ⟨i, by omega⟩) (hv2 : ∀ j : Fin 256, v2 (ix3 0 j l) = v ⟨4096 + j, by omega⟩) :
    head q k1 v1 k2 v2 (ix3 0 r l)
      = ∑ x, v x * Ideal.div (Ideal.exp (s x - Finset.univ.sup s)) (∑ x, Ideal.exp (s x - Finset.univ.sup s)) := by
  have hm : k0_pay5 q k1 k2 (ix2 r 0) = Finset.univ.sup s := by
    rw [max_at, ← Softmax.sup_append 4096 256 s]
    simp only [score1_at, score2_at, hs1, hs2]
  have hread : head q k1 v1 k2 v2 (ix3 0 r l) = Ideal.div (k0_pay8 q k1 v1 k2 v2 (ix2 r l)) (k0_pay9 q k1 k2 (ix2 r l)) := by
    pointwise [head, k0_pay10]
  rw [hread, num_at, den_at]
  simp only [exp1_at, exp2_at, score1_at, score2_at, hs1, hs2, hv1, hv2, hm]
  exact Softmax.two_pieces 4096 256 s v hs _ rfl

end Cert.KernelIdeal.Attn
-- ==== Proof.AttnRef.lean ====
/- The attention reference, read at one entry of its result. -/
module

public import proofs.«01_k».proof.Proof.Gen.ReferenceIdeal
public import Idealize.ShloMosaic.Lib.Pointwise
public import proofs.«01_k».proof.Proof.Softmax

set_option maxRecDepth 16384

@[expose] public noncomputable section

namespace Cert.ReferenceIdeal.Attn

open Idealize.ShloMosaic Idealize.ShloMosaic.TcCoe Idealize.SL.Sem
open Cert.ReferenceIdeal Cert.ReferenceIdeal.Gen

/-- The scores of every query row against every key row, head by head. -/
def scores (q : FVec Ideal S4x4096x4096 .bf16) (k : FVec Ideal S4x4352x4096 .bf16) : FVec Ideal S4x16x4096x4352 .f32 :=
  Host.dotGeneral (φ₁ := .f32) (φ₂ := .f32) dot_S4x4096x16x256_S4x4352x16x256_S4x16x4096x4352_3_3_1_1_02_02 none
    (shapeCast _ (extf .f32 q bitsLt_bf16_f32) shapeCasts_S4x4096x4096_S4x4096x16x256)
    (shapeCast _ (extf .f32 k bitsLt_bf16_f32) shapeCasts_S4x4352x4096_S4x4352x16x256)

/-- A number per head and query row, repeated along the keys. -/
def alongKeys (x : FVec Ideal S4x16x4096 .f32) : FVec Ideal S4x16x4096x4352 .f32 :=
  broadcastInDim S4x16x4096x4352 ![0, 1, 2, 3] bcast_S4x16x4096x1_S4x16x4096x4352_0_1_2_3
    (broadcastInDim S4x16x4096x1 ![0, 1, 2] bcast_S4x16x4096_S4x16x4096x1_0_1_2 x)

/-- The greatest score of each row. -/
def rowMax (s : FVec Ideal S4x16x4096x4352 .f32) : FVec Ideal S4x16x4096 .f32 :=
  maximumf (broadcastInDim S4x16x4096 ![] bcast_S_S4x16x4096 (constant S_ .f32 0xFF800000#32))
    (Host.reduce FloatOps.maximumf s (constant S_ .f32 0xFF800000#32) reducesTo_S4x16x4096x4352_S4x16x4096_d3 h_S_)

/-- The exponentials of the scores, each row's maximum subtracted. -/
def expos (s : FVec Ideal S4x16x4096x4352 .f32) : FVec Ideal S4x16x4096x4352 .f32 :=
  Host.exp (subf s (alongKeys (rowMax s)))

/-- The softmax of every row of scores. -/
def weights (e : FVec Ideal S4x16x4096x4352 .f32) : FVec Ideal S4x16x4096x4352 .f32 :=
  Host.divf e (alongKeys (Host.reduceAdd e (constant S_ .f32 0x00000000#32) reducesTo_S4x16x4096x4352_S4x16x4096_d3 h_S_))

/-- The reference's result as one term of its three arguments. -/
def result (q : FVec Ideal S4x4096x4096 .bf16) (k : FVec Ideal S4x4352x4096 .bf16) (v : FVec Ideal S4x4352x2048 .bf16) :
    FVec Ideal S4x4096x2048 .bf16 :=
  truncf .bf16 (shapeCast _ (transpose S4x4096x16x128 [0, 3, 1, 2]
    (Host.dotGeneral (φ₁ := .f32) (φ₂ := .f32) dot_S4x4352x16x128_S4x16x4096x4352_S4x16x128x4096_1_3_3_2_02_01 none
      (shapeCast _ (extf .f32 v bitsLt_bf16_f32) shapeCasts_S4x4352x2048_S4x4352x16x128)
      (weights (expos (scores q k))))
    transposes_S4x16x128x4096_S4x4096x16x128_0_3_1_2) shapeCasts_S4x4096x16x128_S4x4096x2048) bitsLt_bf16_f32

/-- A score is the product of a query row and a key row over the 256 lanes of the head. -/
theorem scores_at (q : FVec Ideal S4x4096x4096 .bf16) (k : FVec Ideal S4x4352x4096 .bf16) (b : Fin 4) (h : Fin 16) (r : Fin 4096)
    (x : Fin 4352) : scores q k (ix4 b h r x)
      = ∑ d : Fin 256, q (ix3 b r ⟨h * 256 + d, by omega⟩) * k (ix3 b x ⟨h * 256 + d, by omega⟩) := by
  pointwise [scores]

/-- The greatest score of a row, as a supremum. -/
theorem rowMax_at (s : FVec Ideal S4x16x4096x4352 .f32) (b : Fin 4) (h : Fin 16) (r : Fin 4096) :
    rowMax s (ix3 b h r) = Finset.univ.sup fun x : Fin 4352 => (s (ix4 b h r x) : EReal) := by
  have hfold : Host.reduce FloatOps.maximumf s (constant S_ .f32 0xFF800000#32) reducesTo_S4x16x4096x4352_S4x16x4096_d3 h_S_ (ix3 b h r)
      = Finset.univ.fold max (Ideal.ofBits FTy.f32 0xFF800000#32) fun x : Fin 4352 => s (ix4 b h r x) := by
    pointwise
  rw [rowMax, Softmax.maximumf_at, hfold, Softmax.fold_eq_sup]
  exact Softmax.max_neg_inf _

/-- The exponential of a score, its row's maximum subtracted. -/
theorem expos_at (s : FVec Ideal S4x16x4096x4352 .f32) (b : Fin 4) (h : Fin 16) (r : Fin 4096) (x : Fin 4352) :
    expos s (ix4 b h r x) = Ideal.exp (s (ix4 b h r x) - rowMax s (ix3 b h r)) := by
  pointwise [expos, alongKeys]

/-- A weight is an exponential over the sum of its row's. -/
theorem weights_at (e : FVec Ideal S4x16x4096x4352 .f32) (b : Fin 4) (h : Fin 16) (r : Fin 4096) (x : Fin 4352) :
    weights e (ix4 b h r x) = Ideal.div (e (ix4 b h r x)) (∑ x : Fin 4352, e (ix4 b h r x)) := by
  pointwise [weights, alongKeys]

/-- An entry of the result: the weighted sum of the values of its head. -/
theorem result_at (q : FVec Ideal S4x4096x4096 .bf16) (k : FVec Ideal S4x4352x4096 .bf16) (v : FVec Ideal S4x4352x2048 .bf16)
    (b : Fin 4) (r : Fin 4096) (l : Fin 2048) : result q k v (ix3 b r l)
      = ∑ x : Fin 4352, v (ix3 b x l) * weights (expos (scores q k)) (ix4 b ⟨l / 128, by omega⟩ r x) := by
  pointwise [result]

end Cert.ReferenceIdeal.Attn
-- ==== Proof.AttnValue.lean ====
/- The attention kernel computes its reference on real queries and keys. -/
module

public import proofs.«01_k».proof.Proof.Gen.KernelIdeal.Frame
public import proofs.«01_k».proof.Proof.AttnHead
public import proofs.«01_k».proof.Proof.AttnRef
public import Idealize.ShloMosaic.Lib.Pipeline.ValueKit
public import Idealize.ShloMosaic.Lib.Claim

set_option maxRecDepth 16384

@[expose] public noncomputable section

namespace Cert.KernelIdeal.Attn

open Idealize.ShloMosaic Idealize.ShloMosaic.TcCoe Idealize.SL.Sem
open Idealize.ShloMosaic.Pipeline (Dat)
open Cert.KernelIdeal Cert.KernelIdeal.Gen

open Cert.ReferenceIdeal.Attn (result)

/-- The reference's entry as a softmax of the row of scores applied to the column of values. -/
theorem ref_at (q : FVec Ideal S4x4096x4096 .bf16) (k : FVec Ideal S4x4352x4096 .bf16) (v : FVec Ideal S4x4352x2048 .bf16)
    (b : Fin 4) (r : Fin 4096) (l : Fin 2048) (s w : Fin (4096 + 256) → EReal)
    (hs : ∀ x : Fin 4352, s x = ∑ d : Fin 256, (q (ix3 b r ⟨l / 128 * 256 + d, by omega⟩) : EReal) * k (ix3 b x ⟨l / 128 * 256 + d, by omega⟩))
    (hw : ∀ x : Fin 4352, w x = v (ix3 b x l)) :
    result q k v (ix3 b r l)
      = ∑ x, w x * Ideal.div (Ideal.exp (s x - Finset.univ.sup s)) (∑ x, Ideal.exp (s x - Finset.univ.sup s)) := by
  have hs' : s = fun x : Fin 4352 => (Cert.ReferenceIdeal.Attn.scores q k (ix4 b ⟨l / 128, by omega⟩ r x) : EReal) := by
    funext x
    rw [hs x, Cert.ReferenceIdeal.Attn.scores_at]
  have hw' : w = fun x : Fin 4352 => v (ix3 b x l) := funext hw
  rw [Cert.ReferenceIdeal.Attn.result_at]
  simp only [Cert.ReferenceIdeal.Attn.weights_at, Cert.ReferenceIdeal.Attn.expos_at, Cert.ReferenceIdeal.Attn.rowMax_at]
  rw [hs', hw']

/-- ONE ENTRY OF THE KERNEL: a head's tiles that hold the right rows and lanes of the arguments give the reference's entry. -/
theorem entry (Q : FVec Ideal S4x4096x4096 .bf16) (K : FVec Ideal S4x4352x4096 .bf16) (W : FVec Ideal S4x4352x2048 .bf16)
    (hQ : ∀ i, ∃ a : ℝ, (Q i : EReal) = a) (hK : ∀ i, ∃ a : ℝ, (K i : EReal) = a)
    (q : Vec Ideal S1x256x256 .bf16) (k1 : Vec Ideal S1x4096x256 .bf16) (v1 : Vec Ideal S1x4096x128 .bf16)
    (k2 : Vec Ideal S1x256x256 .bf16) (v2 : Vec Ideal S1x256x128 .bf16)
    (b : Fin 4) (R : Fin 4096) (L : Fin 2048) (r : Fin 256) (l : Fin 128)
    (hq : ∀ d : Fin 256, q (ix3 0 r d) = Q (ix3 b R ⟨L / 128 * 256 + d, by omega⟩))
    (hk1 : ∀ (i : Fin 4096) (d : Fin 256), k1 (ix3 0 i d) = K (ix3 b ⟨i, by omega⟩ ⟨L / 128 * 256 + d, by omega⟩))
    (hk2 : ∀ (j : Fin 256) (d : Fin 256), k2 (ix3 0 j d) = K (ix3 b ⟨4096 + j, by omega⟩ ⟨L / 128 * 256 + d, by omega⟩))
    (hv1 : ∀ i : Fin 4096, v1 (ix3 0 i l) = W (ix3 b ⟨i, by omega⟩ L))
    (hv2 : ∀ j : Fin 256, v2 (ix3 0 j l) = W (ix3 b ⟨4096 + j, by omega⟩ L)) :
    head q k1 v1 k2 v2 (ix3 0 r l) = result Q K W (ix3 b R L) := by
  refine (head_at q k1 v1 k2 v2 r l
    (fun x : Fin 4352 => ∑ d : Fin 256, (Q (ix3 b R ⟨L / 128 * 256 + d, by omega⟩) : EReal) * K (ix3 b x ⟨L / 128 * 256 + d, by omega⟩))
    (fun x : Fin 4352 => W (ix3 b x L)) (fun x => Softmax.dot_real _ _ (fun d => hQ _) fun d => hK _) (fun i => ?_) (fun j => ?_)
    hv1 hv2).trans (ref_at Q K W b R L _ _ (fun _ => rfl) fun _ => rfl).symm
  · exact Finset.sum_congr rfl fun d _ => congrArg₂ (fun x y : EReal => x * y) (hq d) (hk1 i d)
  · exact Finset.sum_congr rfl fun d _ => congrArg₂ (fun x y : EReal => x * y) (hq d) (hk2 j d)

variable (m : (ℓ : Loc nD τ sig) → Buf (Elt Ideal) ℓ)

/-- The block every window reads or writes at a grid point. -/
theorem index_at : ∀ t : Fin cfg0.N, win0_0.index t = ![t.val / 128, t.val % 16, t.val / 16 % 8]
    ∧ win0_1.index t = ![t.val / 128, 0, t.val / 16 % 8] ∧ win0_2.index t = ![t.val / 128, 0, t.val / 16 % 8]
    ∧ win0_3.index t = ![t.val / 128, 0, t.val / 16 % 8] ∧ win0_4.index t = ![t.val / 128, 0, t.val / 16 % 8]
    ∧ win0_5.index t = ![t.val / 128, t.val % 16, t.val / 16 % 8] :=
  (by decide +kernel : ∀ t : Fin grid0.N, _)

/-- A stored tile has one leading row. -/
theorem tile_index (x : S1x256x128.Idx) : x = ix3 (0 : Fin 1) (x 1) (x 2) :=
  (eq_ix3 x).trans (congrArg (fun a : Fin 1 => ix3 a (x 1) (x 2)) (Subsingleton.elim (α := Fin 1) _ _))

/-- One grid point stores the reference's entries of its block. -/
theorem point (c : Dev nD) (t : Fin cfg0.N) (y)
    (hq : ∀ i, ∃ a : ℝ, @Eq EReal (m ((c : Thread nD τ).loc main_arg0) i) a)
    (hk : ∀ i, ∃ a : ℝ, @Eq EReal (m ((c : Thread nD τ).loc main_arg1) i) a) :
    out0_5 (iblk m c 0 t) (iblk m c 1 t) (iblk m c 2 t) (iblk m c 3 t) (iblk m c 4 t) y
      = result (m ((c : Thread nD τ).loc main_arg0)) (m ((c : Thread nD τ).loc main_arg1)) (m ((c : Thread nD τ).loc main_arg2))
        (((cfg0.win 5).blk t).view.emb y) := by
  rw [eq_ix3 (((cfg0.win 5).blk t).view.emb y)]
  canon_tiles x h
  · rw [head_second, tile_index x]
    refine entry _ _ _ hq hk _ _ _ _ _ _ _ _ (x 1) (x 2) ?_ ?_ ?_ ?_ ?_ <;> (intros; pointwise; blk_point [iblk, V, index_at t])
  · rw [← head, tile_index x]
    refine entry _ _ _ hq hk _ _ _ _ _ _ _ _ (x 1) (x 2) ?_ ?_ ?_ ?_ ?_ <;> (intros; pointwise; blk_point [iblk, V, index_at t])

/-- The kernel's whole result is the reference's, where the queries and the keys are real. -/
theorem final (c : Dev nD)
    (hq : ∀ i, ∃ a : ℝ, @Eq EReal (m ((c : Thread nD τ).loc main_arg0) i) a)
    (hk : ∀ i, ∃ a : ℝ, @Eq EReal (m ((c : Thread nD τ).loc main_arg1) i) a) : (dats m 0 c).arrAt 5 (cfgs 0).N
    = result (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  exact point m c t y hq hk

end Cert.KernelIdeal.Attn
-- ==== Proof.Rows.lean ====
/- A row of 2048 numbers: its norm, scaled and shifted; what the projection and the MLP block both begin with. -/
module

public import Idealize.ShloMosaic.Lib.Pointwise

@[expose] public noncomputable section

namespace Rows

open Idealize.ShloMosaic

/-- A row divided by the root of its mean square (and a small constant), scaled by `g`. -/
def rms (x g : Fin 2048 → EReal) (l : Fin 2048) : EReal :=
  x l * Ideal.rsqrt (Ideal.div (∑ i, x i * x i) (Ideal.ofBits FTy.f32 1157627904#32) + Ideal.ofBits FTy.f32 897988541#32) * g l

/-- The norm of a row, scaled by `1 + sc` and shifted by `sh`. -/
def modulated (x g sh sc : Fin 2048 → EReal) (l : Fin 2048) : EReal := rms x g l * (1 + sc l) + sh l

/-- The square of a positive number, zero of a negative one. -/
def relu2 (u : EReal) : EReal := max u 0 * max u 0

/-- The hidden layer of the MLP block: a modulated row times a column of its first weights, rectified and squared. -/
def inner (h w : Fin 2048 → EReal) : EReal := relu2 (∑ i, h i * w i)

/-- Equal rows have equal norms, entry by entry. -/
theorem modulated_congr {x x' g g' sh sh' sc sc' : Fin 2048 → EReal} (hx : ∀ i, x i = x' i) (hg : ∀ i, g i = g' i)
    (hsh : ∀ i, sh i = sh' i) (hsc : ∀ i, sc i = sc' i) (l : Fin 2048) : modulated x g sh sc l = modulated x' g' sh' sc' l := by
  rw [funext hx, funext hg, funext hsh, funext hsc]

end Rows

end
-- ==== Proof.MlpRef.lean ====
/- The reference of the MLP block, read at one entry of its result. -/
module

public import proofs.«01_k».proof.Proof.Gen.RefMlpIdeal.Run
public import proofs.«01_k».proof.Proof.Rows

set_option maxRecDepth 16384

@[expose] public noncomputable section

namespace Cert.RefMlpIdeal.Mlp

open Idealize.ShloMosaic Idealize.ShloMosaic.TcCoe Idealize.SL.Sem
open Cert.RefMlpIdeal Cert.RefMlpIdeal.Gen

/-- A vector of 2048 numbers for each batch, along the rows of the batch. -/
def alongRows (v : FVec Ideal S4x1x2048 .f32) : FVec Ideal S4x4096x2048 .f32 :=
  broadcastInDim S4x4096x2048 ![0, 1, 2] bcast_S4x1x2048_S4x4096x2048_0_1_2 v

/-- The same number for every row. -/
def everyRow (c : FVec Ideal S_ .f32) : FVec Ideal S4x4096x1 .f32 := broadcastInDim S4x4096x1 ![] bcast_S_S4x4096x1 c

/-- The norm of every row. -/
def normed (x : FVec Ideal S4x4096x2048 .f32) (g : FVec Ideal S2048 .f32) : FVec Ideal S4x4096x2048 .f32 :=
  mulf (mulf x (broadcastInDim S4x4096x2048 ![0, 1, 2] bcast_S4x4096x1_S4x4096x2048_0_1_2
      (Host.rsqrt (addf
        (Host.divf (broadcastInDim S4x4096x1 ![0, 1] bcast_S4x4096_S4x4096x1_0_1
            (Host.reduceAdd (mulf x x) (constant S_ .f32 0x00000000#32) reducesTo_S4x4096x2048_S4x4096_d2 h_S_))
          (everyRow (constant S_ .f32 0x45000000#32)))
        (everyRow (constant S_ .f32 0x358637BD#32))))))
    (broadcastInDim S4x4096x2048 ![0, 1, 2] bcast_S1x1x2048_S4x4096x2048_0_1_2 (broadcastInDim S1x1x2048 ![2] bcast_S2048_S1x1x2048_2 g))

/-- The norm of every row, scaled and shifted. -/
def hidden (x : FVec Ideal S4x4096x2048 .f32) (g : FVec Ideal S2048 .f32) (sh sc : FVec Ideal S4x1x2048 .f32) :
    FVec Ideal S4x4096x2048 .f32 :=
  addf (mulf (normed x g)
    (alongRows (addf (broadcastInDim S4x1x2048 ![] bcast_S_S4x1x2048 (constant S_ .f32 0x3F800000#32)) sc))) (alongRows sh)

/-- The rectified first product. -/
def rectified (h : FVec Ideal S4x4096x2048 .f32) (w1 : FVec Ideal S2048x8192 .f32) : FVec Ideal S4x4096x8192 .f32 :=
  maximumf (Host.dotGeneral (φ₁ := .f32) (φ₂ := .f32) dot_S4x4096x2048_S2048x8192_S4x4096x8192_2_0_01_1_n_n none h w1)
    (broadcastInDim S4x4096x8192 ![] bcast_S_S4x4096x8192 (constant S_ .f32 0x00000000#32))

/-- The second product, of the squares. -/
def outer (u : FVec Ideal S4x4096x8192 .f32) (w2 : FVec Ideal S8192x2048 .f32) : FVec Ideal S4x4096x2048 .f32 :=
  Host.dotGeneral (φ₁ := .f32) (φ₂ := .f32) dot_S4x4096x8192_S8192x2048_S4x4096x2048_2_0_01_1_n_n none (mulf u u) w2

/-- The reference's result as one term of its eight arguments. -/
def result (y : FVec Ideal S4x4096x2048 .f32) (g : FVec Ideal S2048 .f32) (sh sc : FVec Ideal S4x1x2048 .f32)
    (w1 : FVec Ideal S2048x8192 .f32) (w2 : FVec Ideal S8192x2048 .f32) (gp : FVec Ideal S2048 .f32)
    (gt : FVec Ideal S4x1x2048 .f32) : FVec Ideal S16384x2048 .f32 :=
  shapeCast _ (addf y (mulf (alongRows gt) (normed (outer (rectified (hidden y g sh sc) w1) w2) gp)))
    shapeCasts_S4x4096x2048_S16384x2048

/-- The reference's run ends with `result` of its arguments. -/
theorem result_eq (m : (ℓ : Loc nD τ sig) → Buf (Elt Ideal) ℓ) (c : Dev nD) : Value.res_main_v39 m c
    = result (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7)) := by
  unfold Value.res_main_v39
  rfl

/-- An entry of the normed rows. -/
theorem normed_at (x : FVec Ideal S4x4096x2048 .f32) (g : FVec Ideal S2048 .f32) (b : Fin 4) (r : Fin 4096) (l : Fin 2048) :
    normed x g (ix3 b r l) = Rows.rms (fun i => x (ix3 b r i)) (fun i => g (ix1 i)) l := by
  unfold Rows.rms
  pointwise [normed, everyRow]

/-- An entry of the modulated rows. -/
theorem hidden_at (x : FVec Ideal S4x4096x2048 .f32) (g : FVec Ideal S2048 .f32) (sh sc : FVec Ideal S4x1x2048 .f32)
    (b : Fin 4) (r : Fin 4096) (l : Fin 2048) : hidden x g sh sc (ix3 b r l)
      = Rows.modulated (fun i => x (ix3 b r i)) (fun i => g (ix1 i)) (fun i => sh (ix3 b 0 i)) (fun i => sc (ix3 b 0 i)) l := by
  unfold Rows.modulated
  rw [← normed_at]
  pointwise [hidden, alongRows]

/-- An entry of the rectified product. -/
theorem rectified_at (h : FVec Ideal S4x4096x2048 .f32) (w1 : FVec Ideal S2048x8192 .f32) (b : Fin 4) (r : Fin 4096) (k : Fin 8192) :
    rectified h w1 (ix3 b r k) = max (∑ i, (h (ix3 b r i) : EReal) * w1 (ix2 i k)) 0 := by
  pointwise [rectified]

/-- An entry of the second product. -/
theorem outer_at (u : FVec Ideal S4x4096x8192 .f32) (w2 : FVec Ideal S8192x2048 .f32) (b : Fin 4) (r : Fin 4096) (l : Fin 2048) :
    outer u w2 (ix3 b r l) = ∑ k, (u (ix3 b r k) * u (ix3 b r k) : EReal) * w2 (ix2 k l) := by
  pointwise [outer]

/-- An entry of the result: the row plus the gated norm of the block's row. -/
theorem result_at (y : FVec Ideal S4x4096x2048 .f32) (g : FVec Ideal S2048 .f32) (sh sc : FVec Ideal S4x1x2048 .f32)
    (w1 : FVec Ideal S2048x8192 .f32) (w2 : FVec Ideal S8192x2048 .f32) (gp : FVec Ideal S2048 .f32)
    (gt : FVec Ideal S4x1x2048 .f32) (R : Fin 16384) (l : Fin 2048) :
    result y g sh sc w1 w2 gp gt (ix2 R l)
      = y (ix3 ⟨R / 4096, by omega⟩ ⟨R % 4096, by omega⟩ l) + gt (ix3 ⟨R / 4096, by omega⟩ 0 l) * Rows.rms (fun j => ∑ k : Fin 8192,
          Rows.inner (Rows.modulated (fun i => y (ix3 ⟨R / 4096, by omega⟩ ⟨R % 4096, by omega⟩ i)) (fun i => g (ix1 i)) (fun i => sh (ix3 ⟨R / 4096, by omega⟩ 0 i)) (fun i => sc (ix3 ⟨R / 4096, by omega⟩ 0 i)))
            (fun i => w1 (ix2 i k)) * w2 (ix2 k j)) (fun i => gp (ix1 i)) l := by
  simp only [Rows.inner, Rows.relu2, ← hidden_at, ← rectified_at, ← outer_at, ← normed_at]
  pointwise [result, alongRows]

end Cert.RefMlpIdeal.Mlp

end
-- ==== Proof.MlpValue.lean ====
/- The MLP kernel computes its reference: the accumulated pieces of the second product are the whole product. -/
module

public import proofs.«01_k».proof.Proof.Gen.MlpIdeal.Frame
public import proofs.«01_k».proof.Proof.MlpRef
public import Idealize.ShloMosaic.Lib.Pipeline.ValueKit
public import Idealize.ShloMosaic.Lib.Claim

set_option maxRecDepth 16384

@[expose] public noncomputable section

namespace Cert.MlpIdeal.Mlp

open Idealize.ShloMosaic Idealize.ShloMosaic.TcCoe Idealize.SL.Sem
open Idealize.ShloMosaic.Pipeline (Dat)
open Cert.MlpIdeal Cert.MlpIdeal.Gen

/-! ## What the body stores, entry by entry -/

/-- What the first step of a row tile keeps: the tile's modulated rows. -/
theorem hidden_at (x : Vec Ideal S512x2048 .f32) (g : Vec Ideal S1x2048 .f32) (sc sh : Vec Ideal S1x1x2048 .f32)
    (r : Fin 512) (l : Fin 2048) : k0_pay1 x g sc sh (ix2 r l)
      = Rows.modulated (fun i => x (ix2 r i)) (fun i => g (ix2 0 i)) (fun i => sh (ix3 0 0 i)) (fun i => sc (ix3 0 0 i)) l := by
  unfold Rows.modulated Rows.rms
  pointwise [k0_pay1]

/-- The accumulator starts at zero. -/
theorem zero_at (r : Fin 512) (l : Fin 2048) : k0_pay2 (F := Ideal) (ix2 r l) = (0 : EReal) := by
  pointwise [k0_pay2]

/-- A step adds its 512 columns of the hidden layer times their rows of the second weights. -/
theorem step_at (h : Vec Ideal S512x2048 .bf16) (w1 : Vec Ideal S2048x512 .bf16) (acc : Vec Ideal S512x2048 .f32)
    (w2 : Vec Ideal S512x2048 .bf16) (r : Fin 512) (l : Fin 2048) : k0_pay3 h w1 acc w2 (ix2 r l)
      = acc (ix2 r l) + ∑ k : Fin 512, Rows.inner (fun i => h (ix2 r i)) (fun i => w1 (ix2 i k)) * w2 (ix2 k l) := by
  unfold Rows.inner Rows.relu2
  pointwise [k0_pay3]

/-- The last step of a row tile stores the row plus the gated norm of the accumulated row. -/
theorem stored_at (y : Vec Ideal S512x2048 .f32) (gt : Vec Ideal S1x1x2048 .f32) (acc : Vec Ideal S512x2048 .f32)
    (gp : Vec Ideal S1x2048 .f32) (r : Fin 512) (l : Fin 2048) : k0_pay4 y gt acc gp (ix2 r l)
      = y (ix2 r l) + gt (ix3 0 0 l) * Rows.rms (fun i => acc (ix2 r i)) (fun i => gp (ix2 0 i)) l := by
  unfold Rows.rms
  pointwise [k0_pay4]

variable (m : (ℓ : Loc nD τ sig) → Buf (Elt Ideal) ℓ)

/-- The block every window reads or writes at a grid point. -/
theorem index_at : ∀ t : Fin cfg0.N, win0_0.index t = ![t.val / 16, 0]
    ∧ win0_1.index t = ![0, 0] ∧ win0_2.index t = ![t.val / 128, 0, 0] ∧ win0_3.index t = ![t.val / 128, 0, 0]
    ∧ win0_4.index t = ![0, t.val % 16] ∧ win0_5.index t = ![t.val % 16, 0] ∧ win0_6.index t = ![0, 0]
    ∧ win0_7.index t = ![t.val / 128, 0, 0] ∧ win0_8.index t = ![t.val / 16, 0] :=
  (by decide +kernel : ∀ t : Fin grid0.N, _)

/-! ## What the steps of a row tile keep -/

/-- The modulated row `R` of the arguments. -/
def row (c : Dev nD) (R : Fin 16384) : Fin 2048 → EReal :=
  Rows.modulated (fun i => m ((c : Thread nD τ).loc main_arg0) (ix3 ⟨R / 4096, by omega⟩ ⟨R % 4096, by omega⟩ i))
    (fun i => m ((c : Thread nD τ).loc main_arg1) (ix1 i))
    (fun i => m ((c : Thread nD τ).loc main_arg2) (ix3 ⟨R / 4096, by omega⟩ 0 i))
    (fun i => m ((c : Thread nD τ).loc main_arg3) (ix3 ⟨R / 4096, by omega⟩ 0 i))

/-- What column `k` of the hidden layer brings to entry `l` of row `R`. -/
def term (c : Dev nD) (R : Fin 16384) (l : Fin 2048) (k : Fin 8192) : EReal :=
  Rows.inner (row m c R) (fun i => m ((c : Thread nD τ).loc main_arg4) (ix2 i k)) * m ((c : Thread nD τ).loc main_arg5) (ix2 k l)

/-- What the columns of step `f` bring. -/
def part (c : Dev nD) (R : Fin 16384) (l : Fin 2048) (f : ℕ) : EReal :=
  ∑ k : Fin 512, term m c R l ⟨f % 16 * 512 + k, by omega⟩

/-- `h` holds the modulated rows of row tile `T`. -/
def Rowed (c : Dev nD) (T : ℕ) (h : FVec Ideal S512x2048 .bf16) : Prop :=
  ∀ (r : Fin 512) (l : Fin 2048) (R : Fin 16384), R.val = T * 512 + r → h (ix2 r l) = row m c R l

/-- `acc` holds what the first `n` steps of row tile `T` bring. -/
def Summed (c : Dev nD) (T n : ℕ) (acc : FVec Ideal S512x2048 .f32) : Prop :=
  ∀ (r : Fin 512) (l : Fin 2048) (R : Fin 16384), R.val = T * 512 + r → acc (ix2 r l) = ∑ f ∈ Finset.range n, part m c R l f

/-- The first step of a row tile keeps its modulated rows. -/
theorem rowed_first (c : Dev nD) (t : Fin cfg0.N) :
    Rowed m c (t / 16) (k0_pay1 (iblk m c 0 t) (iblk m c 1 t) (iblk m c 3 t) (iblk m c 2 t)) := by
  intro r l R hR
  rw [hidden_at]
  unfold row
  refine Rows.modulated_congr (fun i => ?_) (fun i => ?_) (fun i => ?_) (fun i => ?_) l
  · blk_point [iblk, V, index_at t]
  · blk_point [iblk, V, index_at t]
  · blk_point [iblk, V, index_at t]
  · blk_point [iblk, V, index_at t]

/-- The accumulator of a first step holds nothing. -/
theorem summed_zero (c : Dev nD) (T : ℕ) : Summed m c T 0 (k0_pay2 (F := Ideal)) := fun r l R _ => by
  rw [zero_at]
  rfl

/-- A step adds its part. -/
theorem summed_step (c : Dev nD) (t : Fin cfg0.N) (h : FVec Ideal S512x2048 .bf16) (acc : FVec Ideal S512x2048 .f32)
    (hh : Rowed m c (t / 16) h) (ha : Summed m c (t / 16) (t % 16) acc) :
    Summed m c (t / 16) (t % 16 + 1) (k0_pay3 h (iblk m c 4 t) acc (iblk m c 5 t)) := by
  intro r l R hR
  rw [step_at, ha r l R hR, Finset.sum_range_succ]
  refine congrArg (fun x : EReal => _ + x) (Finset.sum_congr rfl fun k _ => ?_)
  unfold term
  refine congrArg₂ (fun x y : EReal => x * y) (congrArg₂ Rows.inner (funext fun i => hh r i R hR) (funext fun i => ?_)) ?_
  · blk_point [iblk, V, index_at t]
  · blk_point [iblk, V, index_at t]

/-- What a step leaves in the two scratch arrays, given what it found there. -/
theorem kept_step (c : Dev nD) (t : Fin cfg0.N)
    (hp : ¬t.val % 16 = 0 → Rowed m c (t / 16) (outsAt0 m c (t.val - 1) (Nat.lt_of_le_of_lt (Nat.sub_le _ _) t.isLt)).2.1
      ∧ Summed m c (t / 16) (t % 16) (outsAt0 m c (t.val - 1) (Nat.lt_of_le_of_lt (Nat.sub_le _ _) t.isLt)).2.2) :
    Rowed m c (t / 16) (outsAt0 m c t.val t.isLt).2.1 ∧ Summed m c (t / 16) (t % 16 + 1) (outsAt0 m c t.val t.isLt).2.2 := by
  by_cases h0 : t.val % 16 = 0
  · have h1 : ¬t.val % 16 = 15 := by omega
    have hr := rowed_first m c t
    have hs := summed_step m c t _ _ hr (h0 ▸ summed_zero m c (t / 16))
    rw [outsAt0_A m c t h0 h1]
    dsimp only
    constructor
    · intro r l R hR
      rw [← hr r l R hR]
      frame_out
    · intro r l R hR
      rw [← hs r l R hR]
      frame_out
  · obtain ⟨hr, ha⟩ := hp h0
    have hs := summed_step m c t _ _ hr ha
    by_cases h1 : t.val % 16 = 15
    · rw [outsAt0_C m c t h0 h1]
      dsimp only
      refine ⟨hr, ?_⟩
      intro r l R hR
      rw [← hs r l R hR]
      frame_out
      rw [(Memref.isWhole_whole _).read_unread, (Memref.isWhole_whole _).read_unread]
    · rw [outsAt0_B m c t h0 h1]
      dsimp only
      refine ⟨hr, ?_⟩
      intro r l R hR
      rw [← hs r l R hR]
      frame_out
      rw [(Memref.isWhole_whole _).read_unread, (Memref.isWhole_whole _).read_unread]

/-- After every step the scratch arrays hold the modulated rows of its row tile and the sum of the steps so far. -/
theorem kept (c : Dev nD) (n : ℕ) (hn : n < cfg0.N) :
    Rowed m c (n / 16) (outsAt0 m c n hn).2.1 ∧ Summed m c (n / 16) (n % 16 + 1) (outsAt0 m c n hn).2.2 := by
  induction n with
  | zero => exact kept_step m c ⟨0, hn⟩ fun h => absurd rfl h
  | succ n ih =>
    refine kept_step m c ⟨n + 1, hn⟩ fun h => ?_
    have h' : ¬(n + 1) % 16 = 0 := h
    have hp := ih (Nat.lt_of_succ_lt hn)
    rw [(by omega : n / 16 = (n + 1) / 16), (by omega : n % 16 + 1 = (n + 1) % 16)] at hp
    exact hp

/-- Sixteen parts are the whole second product. -/
theorem whole (c : Dev nD) (R : Fin 16384) (l : Fin 2048) :
    ∑ f ∈ Finset.range 16, part m c R l f = ∑ k : Fin 8192, term m c R l k := by
  rw [Finset.sum_range]
  refine Fin.sum_mul_add_congr fun s k hl => ?_
  exact congrArg (term m c R l) (Fin.ext (by simp only [Nat.mod_eq_of_lt s.isLt]))

/-- The last step of a row tile makes the reference's entries of its rows. -/
theorem last_at (c : Dev nD) (t : Fin cfg0.N) (ht : t.val % 16 = 15) (acc : FVec Ideal S512x2048 .f32)
    (ha : Summed m c (t / 16) (t % 16 + 1) acc) (r : Fin 512) (l : Fin 2048) (R : Fin 16384) (hR : R.val = t / 16 * 512 + r) :
    k0_pay4 (iblk m c 0 t) (iblk m c 7 t) acc (iblk m c 6 t) (ix2 r l)
      = Cert.RefMlpIdeal.Mlp.result (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (ix2 R l) := by
  rw [stored_at, Cert.RefMlpIdeal.Mlp.result_at]
  refine congrArg₂ (fun x y : EReal => x + y) ?_ (congrArg₂ (fun x y : EReal => x * y) ?_
    (congrArg₂ (fun x g => Rows.rms x g l) (funext fun j => ?_) (funext fun j => ?_)))
  · blk_point [iblk, V, index_at t]
  · blk_point [iblk, V, index_at t]
  · refine ((ha r j R hR).trans ?_).trans (whole m c R j)
    rw [ht]
  · blk_point [iblk, V, index_at t]

/-- The last step of a row tile stores the reference's entries of its block. -/
theorem point (c : Dev nD) (t : Fin cfg0.N) (ht : t.val % 16 = 15) (acc : FVec Ideal S512x2048 .f32)
    (ha : Summed m c (t / 16) (t % 16 + 1) acc) (y) :
    k0_pay4 (iblk m c 0 t) (iblk m c 7 t) acc (iblk m c 6 t) y
      = Cert.RefMlpIdeal.Mlp.result (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (((cfg0.win 8).blk t).view.emb y) := by
  obtain ⟨r, l, rfl⟩ : ∃ (r : Fin 512) (l : Fin 2048), y = ix2 r l := ⟨y 0, y 1, eq_ix2 y⟩
  have ht' : t.val < 512 := lt_of_lt_of_eq t.isLt N_0
  have hR : t.val / 16 * 512 + r.val < 16384 := by omega
  refine (last_at m c t ht acc ha r l ⟨_, hR⟩ rfl).trans (congrArg _ (funext fun a => Fin.ext ?_))
  match a with
  | 0 => blk_simp [index_at t]
  | 1 => blk_simp [index_at t]

/-- The MLP block's whole result is the reference's. -/
theorem final (c : Dev nD) : (dats m 0 c).arrAt 8 (cfgs 0).N
    = Cert.RefMlpIdeal.Mlp.result (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine (dats m 0 c).arrAt_eq_of_covers 8 _ (by decide +kernel) fun t hf y => ?_
  have h1 : t.val % 16 = 15 := (flush0_8 t).mp hf
  have h0 : ¬t.val % 16 = 0 := by omega
  have hs := (kept m c t.val t.isLt).2
  blk_simp
  rw [after0_8]
  rw [outsAt0_C m c t h0 h1] at hs ⊢
  refine Eq.trans ?_ (point m c t h1 _ hs y)
  dsimp only
  frame_out

end Cert.MlpIdeal.Mlp

end
-- ==== Proof.MlpcRef.lean ====
/- The reference of the MLP block of the context tokens, read at one entry of its result. -/
module

public import proofs.«01_k».proof.Proof.Gen.RefMlpCtxIdeal.Run
public import proofs.«01_k».proof.Proof.Rows

set_option maxRecDepth 16384

@[expose] public noncomputable section

namespace Cert.RefMlpCtxIdeal.Mlp

open Idealize.ShloMosaic Idealize.ShloMosaic.TcCoe Idealize.SL.Sem
open Cert.RefMlpCtxIdeal Cert.RefMlpCtxIdeal.Gen

/-- A vector of 2048 numbers along all rows. -/
def alongRows (v : FVec Ideal S1x1x2048 .f32) : FVec Ideal S32x256x2048 .f32 :=
  broadcastInDim S32x256x2048 ![0, 1, 2] bcast_S1x1x2048_S32x256x2048_0_1_2 v

/-- The same number for every row. -/
def everyRow (c : FVec Ideal S_ .f32) : FVec Ideal S32x256x1 .f32 := broadcastInDim S32x256x1 ![] bcast_S_S32x256x1 c

/-- The norm of every row. -/
def normed (x : FVec Ideal S32x256x2048 .f32) (g : FVec Ideal S2048 .f32) : FVec Ideal S32x256x2048 .f32 :=
  mulf (mulf x (broadcastInDim S32x256x2048 ![0, 1, 2] bcast_S32x256x1_S32x256x2048_0_1_2
      (Host.rsqrt (addf
        (Host.divf (broadcastInDim S32x256x1 ![0, 1] bcast_S32x256_S32x256x1_0_1
            (Host.reduceAdd (mulf x x) (constant S_ .f32 0x00000000#32) reducesTo_S32x256x2048_S32x256_d2 h_S_))
          (everyRow (constant S_ .f32 0x45000000#32)))
        (everyRow (constant S_ .f32 0x358637BD#32))))))
    (broadcastInDim S32x256x2048 ![0, 1, 2] bcast_S1x1x2048_S32x256x2048_0_1_2 (broadcastInDim S1x1x2048 ![2] bcast_S2048_S1x1x2048_2 g))

/-- The norm of every row, scaled and shifted. -/
def hidden (x : FVec Ideal S32x256x2048 .f32) (g : FVec Ideal S2048 .f32) (sh sc : FVec Ideal S1x1x2048 .f32) :
    FVec Ideal S32x256x2048 .f32 :=
  addf (mulf (normed x g)
    (alongRows (addf (broadcastInDim S1x1x2048 ![] bcast_S_S1x1x2048 (constant S_ .f32 0x3F800000#32)) sc))) (alongRows sh)

/-- The rectified first product. -/
def rectified (h : FVec Ideal S32x256x2048 .f32) (w1 : FVec Ideal S2048x8192 .f32) : FVec Ideal S32x256x8192 .f32 :=
  maximumf (Host.dotGeneral (φ₁ := .f32) (φ₂ := .f32) dot_S32x256x2048_S2048x8192_S32x256x8192_2_0_01_1_n_n none h w1)
    (broadcastInDim S32x256x8192 ![] bcast_S_S32x256x8192 (constant S_ .f32 0x00000000#32))

/-- The second product, of the squares. -/
def outer (u : FVec Ideal S32x256x8192 .f32) (w2 : FVec Ideal S8192x2048 .f32) : FVec Ideal S32x256x2048 .f32 :=
  Host.dotGeneral (φ₁ := .f32) (φ₂ := .f32) dot_S32x256x8192_S8192x2048_S32x256x2048_2_0_01_1_n_n none (mulf u u) w2

/-- The reference's result as one term of its eight arguments. -/
def result (y : FVec Ideal S32x256x2048 .f32) (g : FVec Ideal S2048 .f32) (sh sc : FVec Ideal S1x1x2048 .f32)
    (w1 : FVec Ideal S2048x8192 .f32) (w2 : FVec Ideal S8192x2048 .f32) (gp : FVec Ideal S2048 .f32)
    (gt : FVec Ideal S1x1x2048 .f32) : FVec Ideal S8192x2048 .f32 :=
  shapeCast _ (addf y (mulf (alongRows gt) (normed (outer (rectified (hidden y g sh sc) w1) w2) gp)))
    shapeCasts_S32x256x2048_S8192x2048

/-- The reference's run ends with `result` of its arguments. -/
theorem result_eq (m : (ℓ : Loc nD τ sig) → Buf (Elt Ideal) ℓ) (c : Dev nD) : Value.res_main_v39 m c
    = result (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7)) := by
  unfold Value.res_main_v39
  rfl

/-- An entry of the normed rows. -/
theorem normed_at (x : FVec Ideal S32x256x2048 .f32) (g : FVec Ideal S2048 .f32) (b : Fin 32) (r : Fin 256) (l : Fin 2048) :
    normed x g (ix3 b r l) = Rows.rms (fun i => x (ix3 b r i)) (fun i => g (ix1 i)) l := by
  unfold Rows.rms
  pointwise [normed, everyRow]

/-- An entry of the modulated rows. -/
theorem hidden_at (x : FVec Ideal S32x256x2048 .f32) (g : FVec Ideal S2048 .f32) (sh sc : FVec Ideal S1x1x2048 .f32)
    (b : Fin 32) (r : Fin 256) (l : Fin 2048) : hidden x g sh sc (ix3 b r l)
      = Rows.modulated (fun i => x (ix3 b r i)) (fun i => g (ix1 i)) (fun i => sh (ix3 0 0 i)) (fun i => sc (ix3 0 0 i)) l := by
  unfold Rows.modulated
  rw [← normed_at]
  pointwise [hidden, alongRows]

/-- An entry of the rectified product. -/
theorem rectified_at (h : FVec Ideal S32x256x2048 .f32) (w1 : FVec Ideal S2048x8192 .f32) (b : Fin 32) (r : Fin 256) (k : Fin 8192) :
    rectified h w1 (ix3 b r k) = max (∑ i, (h (ix3 b r i) : EReal) * w1 (ix2 i k)) 0 := by
  pointwise [rectified]

/-- An entry of the second product. -/
theorem outer_at (u : FVec Ideal S32x256x8192 .f32) (w2 : FVec Ideal S8192x2048 .f32) (b : Fin 32) (r : Fin 256) (l : Fin 2048) :
    outer u w2 (ix3 b r l) = ∑ k, (u (ix3 b r k) * u (ix3 b r k) : EReal) * w2 (ix2 k l) := by
  pointwise [outer]

/-- An entry of the result: the row plus the gated norm of the block's row. -/
theorem result_at (y : FVec Ideal S32x256x2048 .f32) (g : FVec Ideal S2048 .f32) (sh sc : FVec Ideal S1x1x2048 .f32)
    (w1 : FVec Ideal S2048x8192 .f32) (w2 : FVec Ideal S8192x2048 .f32) (gp : FVec Ideal S2048 .f32)
    (gt : FVec Ideal S1x1x2048 .f32) (R : Fin 8192) (l : Fin 2048) :
    result y g sh sc w1 w2 gp gt (ix2 R l)
      = y (ix3 ⟨R / 256, by omega⟩ ⟨R % 256, by omega⟩ l) + gt (ix3 0 0 l) * Rows.rms (fun j => ∑ k : Fin 8192,
          Rows.inner (Rows.modulated (fun i => y (ix3 ⟨R / 256, by omega⟩ ⟨R % 256, by omega⟩ i)) (fun i => g (ix1 i)) (fun i => sh (ix3 0 0 i)) (fun i => sc (ix3 0 0 i)))
            (fun i => w1 (ix2 i k)) * w2 (ix2 k j)) (fun i => gp (ix1 i)) l := by
  simp only [Rows.inner, Rows.relu2, ← hidden_at, ← rectified_at, ← outer_at, ← normed_at]
  pointwise [result, alongRows]

end Cert.RefMlpCtxIdeal.Mlp

end
-- ==== Proof.MlpcValue.lean ====
/- The MLP kernel on the context tokens computes its reference: the accumulated pieces of the second product are the whole product. -/
module

public import proofs.«01_k».proof.Proof.Gen.MlpCtxIdeal.Frame
public import proofs.«01_k».proof.Proof.MlpcRef
public import Idealize.ShloMosaic.Lib.Pipeline.ValueKit
public import Idealize.ShloMosaic.Lib.Claim

set_option maxRecDepth 16384

@[expose] public noncomputable section

namespace Cert.MlpCtxIdeal.Mlp

open Idealize.ShloMosaic Idealize.ShloMosaic.TcCoe Idealize.SL.Sem
open Idealize.ShloMosaic.Pipeline (Dat)
open Cert.MlpCtxIdeal Cert.MlpCtxIdeal.Gen

/-! ## What the body stores, entry by entry -/

/-- What the first step of a row tile keeps: the tile's modulated rows. -/
theorem hidden_at (x : Vec Ideal S512x2048 .f32) (g : Vec Ideal S1x2048 .f32) (sc sh : Vec Ideal S1x1x2048 .f32)
    (r : Fin 512) (l : Fin 2048) : k0_pay1 x g sc sh (ix2 r l)
      = Rows.modulated (fun i => x (ix2 r i)) (fun i => g (ix2 0 i)) (fun i => sh (ix3 0 0 i)) (fun i => sc (ix3 0 0 i)) l := by
  unfold Rows.modulated Rows.rms
  pointwise [k0_pay1]

/-- The accumulator starts at zero. -/
theorem zero_at (r : Fin 512) (l : Fin 2048) : k0_pay2 (F := Ideal) (ix2 r l) = (0 : EReal) := by
  pointwise [k0_pay2]

/-- A step adds its 512 columns of the hidden layer times their rows of the second weights. -/
theorem step_at (h : Vec Ideal S512x2048 .bf16) (w1 : Vec Ideal S2048x512 .bf16) (acc : Vec Ideal S512x2048 .f32)
    (w2 : Vec Ideal S512x2048 .bf16) (r : Fin 512) (l : Fin 2048) : k0_pay3 h w1 acc w2 (ix2 r l)
      = acc (ix2 r l) + ∑ k : Fin 512, Rows.inner (fun i => h (ix2 r i)) (fun i => w1 (ix2 i k)) * w2 (ix2 k l) := by
  unfold Rows.inner Rows.relu2
  pointwise [k0_pay3]

/-- The last step of a row tile stores the row plus the gated norm of the accumulated row. -/
theorem stored_at (y : Vec Ideal S512x2048 .f32) (gt : Vec Ideal S1x1x2048 .f32) (acc : Vec Ideal S512x2048 .f32)
    (gp : Vec Ideal S1x2048 .f32) (r : Fin 512) (l : Fin 2048) : k0_pay4 y gt acc gp (ix2 r l)
      = y (ix2 r l) + gt (ix3 0 0 l) * Rows.rms (fun i => acc (ix2 r i)) (fun i => gp (ix2 0 i)) l := by
  unfold Rows.rms
  pointwise [k0_pay4]

variable (m : (ℓ : Loc nD τ sig) → Buf (Elt Ideal) ℓ)

/-- The block every window reads or writes at a grid point. -/
theorem index_at : ∀ t : Fin cfg0.N, win0_0.index t = ![t.val / 16, 0]
    ∧ win0_1.index t = ![0, 0] ∧ win0_2.index t = ![0, 0, 0] ∧ win0_3.index t = ![0, 0, 0]
    ∧ win0_4.index t = ![0, t.val % 16] ∧ win0_5.index t = ![t.val % 16, 0] ∧ win0_6.index t = ![0, 0]
    ∧ win0_7.index t = ![0, 0, 0] ∧ win0_8.index t = ![t.val / 16, 0] :=
  (by decide +kernel : ∀ t : Fin grid0.N, _)

/-! ## What the steps of a row tile keep -/

/-- The modulated row `R` of the arguments. -/
def row (c : Dev nD) (R : Fin 8192) : Fin 2048 → EReal :=
  Rows.modulated (fun i => m ((c : Thread nD τ).loc main_arg0) (ix3 ⟨R / 256, by omega⟩ ⟨R % 256, by omega⟩ i))
    (fun i => m ((c : Thread nD τ).loc main_arg1) (ix1 i))
    (fun i => m ((c : Thread nD τ).loc main_arg2) (ix3 0 0 i))
    (fun i => m ((c : Thread nD τ).loc main_arg3) (ix3 0 0 i))

/-- What column `k` of the hidden layer brings to entry `l` of row `R`. -/
def term (c : Dev nD) (R : Fin 8192) (l : Fin 2048) (k : Fin 8192) : EReal :=
  Rows.inner (row m c R) (fun i => m ((c : Thread nD τ).loc main_arg4) (ix2 i k)) * m ((c : Thread nD τ).loc main_arg5) (ix2 k l)

/-- What the columns of step `f` bring. -/
def part (c : Dev nD) (R : Fin 8192) (l : Fin 2048) (f : ℕ) : EReal :=
  ∑ k : Fin 512, term m c R l ⟨f % 16 * 512 + k, by omega⟩

/-- `h` holds the modulated rows of row tile `T`. -/
def Rowed (c : Dev nD) (T : ℕ) (h : FVec Ideal S512x2048 .bf16) : Prop :=
  ∀ (r : Fin 512) (l : Fin 2048) (R : Fin 8192), R.val = T * 512 + r → h (ix2 r l) = row m c R l

/-- `acc` holds what the first `n` steps of row tile `T` bring. -/
def Summed (c : Dev nD) (T n : ℕ) (acc : FVec Ideal S512x2048 .f32) : Prop :=
  ∀ (r : Fin 512) (l : Fin 2048) (R : Fin 8192), R.val = T * 512 + r → acc (ix2 r l) = ∑ f ∈ Finset.range n, part m c R l f

/-- The first step of a row tile keeps its modulated rows. -/
theorem rowed_first (c : Dev nD) (t : Fin cfg0.N) :
    Rowed m c (t / 16) (k0_pay1 (iblk m c 0 t) (iblk m c 1 t) (iblk m c 3 t) (iblk m c 2 t)) := by
  intro r l R hR
  rw [hidden_at]
  unfold row
  refine Rows.modulated_congr (fun i => ?_) (fun i => ?_) (fun i => ?_) (fun i => ?_) l
  · blk_point [iblk, V, index_at t]
  · blk_point [iblk, V, index_at t]
  · blk_point [iblk, V, index_at t]
  · blk_point [iblk, V, index_at t]

/-- The accumulator of a first step holds nothing. -/
theorem summed_zero (c : Dev nD) (T : ℕ) : Summed m c T 0 (k0_pay2 (F := Ideal)) := fun r l R _ => by
  rw [zero_at]
  rfl

/-- A step adds its part. -/
theorem summed_step (c : Dev nD) (t : Fin cfg0.N) (h : FVec Ideal S512x2048 .bf16) (acc : FVec Ideal S512x2048 .f32)
    (hh : Rowed m c (t / 16) h) (ha : Summed m c (t / 16) (t % 16) acc) :
    Summed m c (t / 16) (t % 16 + 1) (k0_pay3 h (iblk m c 4 t) acc (iblk m c 5 t)) := by
  intro r l R hR
  rw [step_at, ha r l R hR, Finset.sum_range_succ]
  refine congrArg (fun x : EReal => _ + x) (Finset.sum_congr rfl fun k _ => ?_)
  unfold term
  refine congrArg₂ (fun x y : EReal => x * y) (congrArg₂ Rows.inner (funext fun i => hh r i R hR) (funext fun i => ?_)) ?_
  · blk_point [iblk, V, index_at t]
  · blk_point [iblk, V, index_at t]

/-- What a step leaves in the two scratch arrays, given what it found there. -/
theorem kept_step (c : Dev nD) (t : Fin cfg0.N)
    (hp : ¬t.val % 16 = 0 → Rowed m c (t / 16) (outsAt0 m c (t.val - 1) (Nat.lt_of_le_of_lt (Nat.sub_le _ _) t.isLt)).2.1
      ∧ Summed m c (t / 16) (t % 16) (outsAt0 m c (t.val - 1) (Nat.lt_of_le_of_lt (Nat.sub_le _ _) t.isLt)).2.2) :
    Rowed m c (t / 16) (outsAt0 m c t.val t.isLt).2.1 ∧ Summed m c (t / 16) (t % 16 + 1) (outsAt0 m c t.val t.isLt).2.2 := by
  by_cases h0 : t.val % 16 = 0
  · have h1 : ¬t.val % 16 = 15 := by omega
    have hr := rowed_first m c t
    have hs := summed_step m c t _ _ hr (h0 ▸ summed_zero m c (t / 16))
    rw [outsAt0_A m c t h0 h1]
    dsimp only
    constructor
    · intro r l R hR
      rw [← hr r l R hR]
      frame_out
    · intro r l R hR
      rw [← hs r l R hR]
      frame_out
  · obtain ⟨hr, ha⟩ := hp h0
    have hs := summed_step m c t _ _ hr ha
    by_cases h1 : t.val % 16 = 15
    · rw [outsAt0_C m c t h0 h1]
      dsimp only
      refine ⟨hr, ?_⟩
      intro r l R hR
      rw [← hs r l R hR]
      frame_out
      rw [(Memref.isWhole_whole _).read_unread, (Memref.isWhole_whole _).read_unread]
    · rw [outsAt0_B m c t h0 h1]
      dsimp only
      refine ⟨hr, ?_⟩
      intro r l R hR
      rw [← hs r l R hR]
      frame_out
      rw [(Memref.isWhole_whole _).read_unread, (Memref.isWhole_whole _).read_unread]

/-- After every step the scratch arrays hold the modulated rows of its row tile and the sum of the steps so far. -/
theorem kept (c : Dev nD) (n : ℕ) (hn : n < cfg0.N) :
    Rowed m c (n / 16) (outsAt0 m c n hn).2.1 ∧ Summed m c (n / 16) (n % 16 + 1) (outsAt0 m c n hn).2.2 := by
  induction n with
  | zero => exact kept_step m c ⟨0, hn⟩ fun h => absurd rfl h
  | succ n ih =>
    refine kept_step m c ⟨n + 1, hn⟩ fun h => ?_
    have h' : ¬(n + 1) % 16 = 0 := h
    have hp := ih (Nat.lt_of_succ_lt hn)
    rw [(by omega : n / 16 = (n + 1) / 16), (by omega : n % 16 + 1 = (n + 1) % 16)] at hp
    exact hp

/-- Sixteen parts are the whole second product. -/
theorem whole (c : Dev nD) (R : Fin 8192) (l : Fin 2048) :
    ∑ f ∈ Finset.range 16, part m c R l f = ∑ k : Fin 8192, term m c R l k := by
  rw [Finset.sum_range]
  refine Fin.sum_mul_add_congr fun s k hl => ?_
  exact congrArg (term m c R l) (Fin.ext (by simp only [Nat.mod_eq_of_lt s.isLt]))

/-- The last step of a row tile makes the reference's entries of its rows. -/
theorem last_at (c : Dev nD) (t : Fin cfg0.N) (ht : t.val % 16 = 15) (acc : FVec Ideal S512x2048 .f32)
    (ha : Summed m c (t / 16) (t % 16 + 1) acc) (r : Fin 512) (l : Fin 2048) (R : Fin 8192) (hR : R.val = t / 16 * 512 + r) :
    k0_pay4 (iblk m c 0 t) (iblk m c 7 t) acc (iblk m c 6 t) (ix2 r l)
      = Cert.RefMlpCtxIdeal.Mlp.result (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (ix2 R l) := by
  rw [stored_at, Cert.RefMlpCtxIdeal.Mlp.result_at]
  refine congrArg₂ (fun x y : EReal => x + y) ?_ (congrArg₂ (fun x y : EReal => x * y) ?_
    (congrArg₂ (fun x g => Rows.rms x g l) (funext fun j => ?_) (funext fun j => ?_)))
  · blk_point [iblk, V, index_at t]
  · blk_point [iblk, V, index_at t]
  · refine ((ha r j R hR).trans ?_).trans (whole m c R j)
    rw [ht]
  · blk_point [iblk, V, index_at t]

/-- The last step of a row tile stores the reference's entries of its block. -/
theorem point (c : Dev nD) (t : Fin cfg0.N) (ht : t.val % 16 = 15) (acc : FVec Ideal S512x2048 .f32)
    (ha : Summed m c (t / 16) (t % 16 + 1) acc) (y) :
    k0_pay4 (iblk m c 0 t) (iblk m c 7 t) acc (iblk m c 6 t) y
      = Cert.RefMlpCtxIdeal.Mlp.result (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (((cfg0.win 8).blk t).view.emb y) := by
  obtain ⟨r, l, rfl⟩ : ∃ (r : Fin 512) (l : Fin 2048), y = ix2 r l := ⟨y 0, y 1, eq_ix2 y⟩
  have ht' : t.val < 256 := lt_of_lt_of_eq t.isLt N_0
  have hR : t.val / 16 * 512 + r.val < 8192 := by omega
  refine (last_at m c t ht acc ha r l ⟨_, hR⟩ rfl).trans (congrArg _ (funext fun a => Fin.ext ?_))
  match a with
  | 0 => blk_simp [index_at t]
  | 1 => blk_simp [index_at t]

/-- The MLP block's whole result is the reference's. -/
theorem final (c : Dev nD) : (dats m 0 c).arrAt 8 (cfgs 0).N
    = Cert.RefMlpCtxIdeal.Mlp.result (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine (dats m 0 c).arrAt_eq_of_covers 8 _ (by decide +kernel) fun t hf y => ?_
  have h1 : t.val % 16 = 15 := (flush0_8 t).mp hf
  have h0 : ¬t.val % 16 = 0 := by omega
  have hs := (kept m c t.val t.isLt).2
  blk_simp
  rw [after0_8]
  rw [outsAt0_C m c t h0 h1] at hs ⊢
  refine Eq.trans ?_ (point m c t h1 _ hs y)
  dsimp only
  frame_out

end Cert.MlpCtxIdeal.Mlp

end
-- ==== Proof.ProjRef.lean ====
/- The reference of the projection to the queries, keys and values of the second attention, read at one entry of its result. -/
module

public import proofs.«01_k».proof.Proof.Gen.RefNaIdeal
public import proofs.«01_k».proof.Proof.Rows

set_option maxRecDepth 16384

@[expose] public noncomputable section

namespace Cert.RefNaIdeal.Proj

open Idealize.ShloMosaic Idealize.ShloMosaic.TcCoe Idealize.SL.Sem
open Cert.RefNaIdeal Cert.RefNaIdeal.Gen

/-- A vector of 2048 numbers, for every row. -/
def alongRows (v : FVec Ideal S1x1x2048 .f32) : FVec Ideal S32x256x2048 .f32 :=
  broadcastInDim S32x256x2048 ![0, 1, 2] bcast_S1x1x2048_S32x256x2048_0_1_2 v

/-- The same number for every row. -/
def everyRow (c : FVec Ideal S_ .f32) : FVec Ideal S32x256x1 .f32 := broadcastInDim S32x256x1 ![] bcast_S_S32x256x1 c

/-- The inverse root of the mean square of every row. -/
def inverseRoot (x : FVec Ideal S32x256x2048 .f32) : FVec Ideal S32x256x1 .f32 :=
  Host.rsqrt (addf
    (Host.divf (broadcastInDim S32x256x1 ![0, 1] bcast_S32x256_S32x256x1_0_1
        (Host.reduceAdd (mulf x x) (constant S_ .f32 0x00000000#32) reducesTo_S32x256x2048_S32x256_d2 h_S_))
      (everyRow (constant S_ .f32 0x45000000#32)))
    (everyRow (constant S_ .f32 0x358637BD#32)))

/-- The norm of every row, scaled and shifted. -/
def hidden (x : FVec Ideal S32x256x2048 .f32) (g : FVec Ideal S2048 .f32) (sh sc : FVec Ideal S1x1x2048 .f32) :
    FVec Ideal S32x256x2048 .f32 :=
  addf (mulf (mulf (mulf x (broadcastInDim S32x256x2048 ![0, 1, 2] bcast_S32x256x1_S32x256x2048_0_1_2 (inverseRoot x)))
      (alongRows (broadcastInDim S1x1x2048 ![2] bcast_S2048_S1x1x2048_2 g)))
    (alongRows (addf (broadcastInDim S1x1x2048 ![] bcast_S_S1x1x2048 (constant S_ .f32 0x3F800000#32)) sc))) (alongRows sh)

/-- The reference's result as one term of its five arguments. -/
def result (x : FVec Ideal S32x256x2048 .f32) (g : FVec Ideal S2048 .f32) (sh sc : FVec Ideal S1x1x2048 .f32)
    (w : FVec Ideal S2048x21376 .f32) : FVec Ideal S8192x6144 .f32 :=
  shapeCast _ (Host.dotGeneral (φ₁ := .f32) (φ₂ := .f32) dot_S32x256x2048_S2048x6144_S32x256x6144_2_0_01_1_n_n none
    (hidden x g sh sc) (extractStridedSlice S2048x6144 ![0, 832] w slices_S2048x21376_S2048x6144_0_832))
    shapeCasts_S32x256x6144_S8192x6144

/-- An entry of the normed rows. -/
theorem hidden_at (x : FVec Ideal S32x256x2048 .f32) (g : FVec Ideal S2048 .f32) (sh sc : FVec Ideal S1x1x2048 .f32)
    (b : Fin 32) (r : Fin 256) (l : Fin 2048) : hidden x g sh sc (ix3 b r l)
      = Rows.modulated (fun i => x (ix3 b r i)) (fun i => g (ix1 i)) (fun i => sh (ix3 0 0 i)) (fun i => sc (ix3 0 0 i)) l := by
  unfold Rows.modulated Rows.rms
  pointwise [hidden, alongRows, everyRow, inverseRoot]

/-- An entry of the result: a normed row times a column of the weights. -/
theorem result_at (x : FVec Ideal S32x256x2048 .f32) (g : FVec Ideal S2048 .f32) (sh sc : FVec Ideal S1x1x2048 .f32)
    (w : FVec Ideal S2048x21376 .f32) (R : Fin 8192) (C : Fin 6144) : result x g sh sc w (ix2 R C)
      = ∑ l : Fin 2048, Rows.modulated (fun i => x (ix3 ⟨R / 256, by omega⟩ ⟨R % 256, by omega⟩ i)) (fun i => g (ix1 i))
          (fun i => sh (ix3 0 0 i)) (fun i => sc (ix3 0 0 i)) l * w (ix2 l ⟨832 + C, by omega⟩) := by
  simp only [← hidden_at]
  pointwise [result]

end Cert.RefNaIdeal.Proj

end
-- ==== Proof.ProjValue.lean ====
/- The projection kernel computes its reference. -/
module

public import proofs.«01_k».proof.Proof.Gen.ProjNaIdeal.Frame
public import proofs.«01_k».proof.Proof.ProjRef
public import Idealize.ShloMosaic.Lib.Pipeline.ValueKit
public import Idealize.ShloMosaic.Lib.Claim

set_option maxRecDepth 16384

@[expose] public noncomputable section

namespace Cert.ProjNaIdeal.Proj

open Idealize.ShloMosaic Idealize.ShloMosaic.TcCoe Idealize.SL.Sem
open Idealize.ShloMosaic.Pipeline (Dat)
open Cert.ProjNaIdeal Cert.ProjNaIdeal.Gen

/-- What the first step of a row tile keeps: the tile's normed rows. -/
theorem hidden_at (x : Vec Ideal S512x2048 .f32) (g : Vec Ideal S1x2048 .f32) (sc sh : Vec Ideal S1x1x2048 .f32)
    (r : Fin 512) (l : Fin 2048) : k0_pay1 x g sc sh (ix2 r l)
      = Rows.modulated (fun i => x (ix2 r i)) (fun i => g (ix2 0 i)) (fun i => sh (ix3 0 0 i)) (fun i => sc (ix3 0 0 i)) l := by
  unfold Rows.modulated Rows.rms
  pointwise [k0_pay1]

/-- What every step stores: the kept rows times the columns of its tile. -/
theorem stored_at (h : Vec Ideal S512x2048 .bf16) (w : Vec Ideal S2048x1024 .bf16) (s : Vec Ideal S1x1024 .f32)
    (r : Fin 512) (l : Fin 1024) : k0_pay2 h w s (ix2 r l) = (∑ i, h (ix2 r i) * w (ix2 i l)) * s (ix2 0 l) := by
  pointwise [k0_pay2]

variable (m : (ℓ : Loc nD τ sig) → Buf (Elt Ideal) ℓ)

/-- The block every window reads or writes at a grid point. -/
theorem index_at : ∀ t : Fin cfg0.N, win0_0.index t = ![t.val / 6, 0]
    ∧ win0_1.index t = ![0, 0] ∧ win0_2.index t = ![0, 0, 0] ∧ win0_3.index t = ![0, 0, 0]
    ∧ win0_4.index t = ![0, t.val % 6] ∧ win0_5.index t = ![0, t.val % 6]
    ∧ win0_6.index t = ![t.val / 6, t.val % 6] :=
  (by decide +kernel : ∀ t : Fin grid0.N, _)

/-- The normed rows of a row tile, entry by entry, as the reference states them. -/
def Kept (c : Dev nD) (T : ℕ) (h : FVec Ideal S512x2048 .bf16) : Prop :=
  ∀ (r : Fin 512) (l : Fin 2048) (R : Fin 8192), R.val = T * 512 + r →
    h (ix2 r l) = Rows.modulated (fun i => m ((c : Thread nD τ).loc main_arg0) (ix3 ⟨R / 256, by omega⟩ ⟨R % 256, by omega⟩ i))
      (fun i => m ((c : Thread nD τ).loc main_arg1) (ix1 i)) (fun i => m ((c : Thread nD τ).loc main_arg2) (ix3 0 0 i))
      (fun i => m ((c : Thread nD τ).loc main_arg3) (ix3 0 0 i)) l

/-- The first step of a row tile keeps its normed rows. -/
theorem kept_first (c : Dev nD) (t : Fin cfg0.N) :
    Kept m c (t / 6) (k0_pay1 (iblk m c 0 t) (iblk m c 1 t) (iblk m c 3 t) (iblk m c 2 t)) := by
  intro r l R hR
  rw [hidden_at]
  refine Rows.modulated_congr (fun i => ?_) (fun i => ?_) (fun i => ?_) (fun i => ?_) l
  · blk_point [iblk, V, index_at t]
  · blk_point [iblk, V, index_at t]
  · blk_point [iblk, V, index_at t]
  · blk_point [iblk, V, index_at t]

/-- The first step of a row tile leaves its normed rows in the scratch. -/
theorem kept_reset (c : Dev nD) (t : Fin cfg0.N) (h : t.val % 6 = 0) : Kept m c (t / 6) (outsAt0 m c t.val t.isLt).2 := by
  intro r l R hR
  rw [← kept_first m c t r l R hR, outsAt0_A m c t h]
  dsimp only
  frame_out

/-- After every step the scratch holds the normed rows of the step's row tile. -/
theorem kept (c : Dev nD) (n : ℕ) (hn : n < cfg0.N) : Kept m c (n / 6) (outsAt0 m c n hn).2 := by
  induction n with
  | zero => exact kept_reset m c ⟨0, hn⟩ rfl
  | succ n ih =>
    by_cases h : (n + 1) % 6 = 0
    · exact kept_reset m c ⟨n + 1, hn⟩ h
    · rw [outsAt0_B m c ⟨n + 1, hn⟩ h, ← (by omega : n / 6 = (n + 1) / 6)]
      exact ih (Nat.lt_of_succ_lt hn)

/-- Every step stores the reference's entries of its block. -/
theorem point (c : Dev nD) (t : Fin cfg0.N) (h : FVec Ideal S512x2048 .bf16) (hh : Kept m c (t / 6) h) (y) :
    k0_pay2 h (iblk m c 4 t) (iblk m c 5 t) y
      = Cert.RefNaIdeal.Proj.result (m ((c : Thread nD τ).loc main_arg0)) (m ((c : Thread nD τ).loc main_arg1))
        (m ((c : Thread nD τ).loc main_arg2)) (m ((c : Thread nD τ).loc main_arg3)) (m ((c : Thread nD τ).loc main_arg4))
        (((cfg0.win 6).blk t).view.emb y) := by
  obtain ⟨r, l, rfl⟩ : ∃ (r : Fin 512) (l : Fin 1024), y = ix2 r l := ⟨y 0, y 1, eq_ix2 y⟩
  rw [eq_ix2 (((cfg0.win 6).blk t).view.emb (ix2 r l)), stored_at]
  refine Eq.trans ?_ (Cert.RefNaIdeal.Proj.result_at _ _ _ _ _ (((cfg0.win 6).blk t).view.emb (ix2 r l) 0) (((cfg0.win 6).blk t).view.emb (ix2 r l) 1)).symm
  have hs : iblk m c 5 t (ix2 0 l) = (1 : EReal) := by
    blk_point [iblk, V, index_at t]
  rw [hs, mul_one]
  refine Finset.sum_congr rfl fun i _ => congrArg₂ (fun a b : EReal => a * b) (hh _ _ _ ?_) ?_
  · blk_simp [index_at t]
  · blk_point [iblk, V, index_at t]

/-- The projection's whole result is the reference's. -/
theorem final (c : Dev nD) : (dats m 0 c).arrAt 6 (cfgs 0).N
    = Cert.RefNaIdeal.Proj.result (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  by_cases h : t.val % 6 = 0
  · rw [outsAt0_A m c t h]
    dsimp only
    frame_out
    exact point m c t _ (kept_first m c t) _
  · have hk := kept m c t.val t.isLt
    rw [outsAt0_B m c t h] at hk ⊢
    dsimp only
    frame_out
    exact point m c t _ (((Memref.isWhole_whole _).read_unread _).symm ▸ hk) _

end Cert.ProjNaIdeal.Proj

end
-- ==== Proof.ProjRows.lean ====
/- What the projection calls share: the rows that they project, and the scratch that keeps them while the column tiles go by. -/
module

public import proofs.«01_k».proof.Proof.ProjRef

set_option maxRecDepth 16384

@[expose] public noncomputable section

namespace Rows

open Idealize.ShloMosaic Idealize.ShloMosaic.TcCoe
open Cert.RefNaIdeal

/-- Row `R` of the context tokens, normed, scaled and shifted. -/
def ofTokens (x : FVec Ideal S32x256x2048 .f32) (g : FVec Ideal S2048 .f32) (sh sc : FVec Ideal S1x1x2048 .f32)
    (R : Fin 8192) : Fin 2048 → EReal :=
  modulated (fun i => x (ix3 ⟨R / 256, by omega⟩ ⟨R % 256, by omega⟩ i)) (fun i => g (ix1 i)) (fun i => sh (ix3 0 0 i))
    (fun i => sc (ix3 0 0 i))

/-- `h` holds the rows of row tile `T`. -/
def Kept (row : Fin 8192 → Fin 2048 → EReal) (T : ℕ) (h : Fin 512 → Fin 2048 → EReal) : Prop :=
  ∀ (r : Fin 512) (l : Fin 2048) (R : Fin 8192), R.val = T * 512 + r → h r l = row R l

/-- If the first of the `J` steps of every row tile puts its rows into the scratch and the other steps leave it alone, then after every
    step the scratch holds the rows of the step's tile. -/
theorem kept_always {row : Fin 8192 → Fin 2048 → EReal} {N J : ℕ} (h : ∀ n, n < N → Fin 512 → Fin 2048 → EReal)
    (first : ∀ n (hn : n < N), n % J = 0 → Kept row (n / J) (h n hn))
    (later : ∀ n (hn : n + 1 < N), ¬(n + 1) % J = 0 → h (n + 1) hn = h n (Nat.lt_of_succ_lt hn)) (n : ℕ) (hn : n < N) :
    Kept row (n / J) (h n hn) := by
  induction n with
  | zero => exact first 0 hn (Nat.zero_mod J)
  | succ n ih =>
    by_cases hJ : (n + 1) % J = 0
    · exact first _ hn hJ
    · rw [later n hn hJ, Nat.succ_div_of_not_dvd fun hd => hJ (Nat.mod_eq_zero_of_dvd hd)]
      exact ih _

end Rows

end
-- ==== Proof.DnRef.lean ====
/- The reference of the projection to DeltaNet's columns, read at one entry of its result. -/
module

public import proofs.«01_k».proof.Proof.Gen.RefDnIdeal
public import proofs.«01_k».proof.Proof.ProjRows

set_option maxRecDepth 16384

@[expose] public noncomputable section

namespace Cert.RefDnIdeal.Proj

open Idealize.ShloMosaic Idealize.ShloMosaic.TcCoe Idealize.SL.Sem
open Cert.RefDnIdeal Cert.RefDnIdeal.Gen
open Cert.RefNaIdeal.Proj (hidden hidden_at)

/-- The reference's result as one term of its five arguments. -/
def result (x : FVec Ideal S32x256x2048 .f32) (g : FVec Ideal S2048 .f32) (sh sc : FVec Ideal S1x1x2048 .f32)
    (w : FVec Ideal S2048x21376 .f32) : FVec Ideal S8192x6144 .f32 :=
  shapeCast _ (Host.dotGeneral (φ₁ := .f32) (φ₂ := .f32) dot_S32x256x2048_S2048x6144_S32x256x6144_2_0_01_1_n_n none
    (hidden x g sh sc) (extractStridedSlice S2048x6144 ![0, 6976] w slices_S2048x21376_S2048x6144_0_6976))
    shapeCasts_S32x256x6144_S8192x6144

/-- An entry of the result: a normed row times a column of the weights. -/
theorem result_at (x : FVec Ideal S32x256x2048 .f32) (g : FVec Ideal S2048 .f32) (sh sc : FVec Ideal S1x1x2048 .f32)
    (w : FVec Ideal S2048x21376 .f32) (R : Fin 8192) (C : Fin 6144) : result x g sh sc w (ix2 R C)
      = ∑ l : Fin 2048, Rows.ofTokens x g sh sc R l * w (ix2 l ⟨6976 + C, by omega⟩) := by
  simp only [Rows.ofTokens, ← hidden_at]
  pointwise [result]

end Cert.RefDnIdeal.Proj

end
-- ==== Proof.DnValue.lean ====
/- The projection to DeltaNet's columns computes its reference. -/
module

public import proofs.«01_k».proof.Proof.Gen.ProjDnIdeal.Frame
public import proofs.«01_k».proof.Proof.DnRef
public import proofs.«01_k».proof.Proof.ProjValue

set_option maxRecDepth 16384

@[expose] public noncomputable section

namespace Cert.ProjDnIdeal.Proj

open Idealize.ShloMosaic Idealize.ShloMosaic.TcCoe Idealize.SL.Sem
open Cert.ProjDnIdeal Cert.ProjDnIdeal.Gen

variable (m : (ℓ : Loc nD τ sig) → Buf (Elt Ideal) ℓ)

/-- The block every window reads or writes at a grid point. -/
theorem index_at : ∀ t : Fin cfg0.N, win0_0.index t = ![t.val / 6, 0]
    ∧ win0_1.index t = ![0, 0] ∧ win0_2.index t = ![0, 0, 0] ∧ win0_3.index t = ![0, 0, 0]
    ∧ win0_4.index t = ![0, t.val % 6] ∧ win0_5.index t = ![0, t.val % 6]
    ∧ win0_6.index t = ![t.val / 6, t.val % 6] :=
  (by decide +kernel : ∀ t : Fin grid0.N, _)

/-- The rows that the call projects. -/
def row (c : Dev nD) : Fin 8192 → Fin 2048 → EReal :=
  Rows.ofTokens (m ((c : Thread nD τ).loc main_arg0)) (m ((c : Thread nD τ).loc main_arg1))
    (m ((c : Thread nD τ).loc main_arg2)) (m ((c : Thread nD τ).loc main_arg3))

/-- What the first step of a row tile keeps: the tile's rows. -/
theorem kept_first (c : Dev nD) (t : Fin cfg0.N) : Rows.Kept (row m c) (t / 6)
    fun r l => k0_pay1 (iblk m c 0 t) (iblk m c 1 t) (iblk m c 3 t) (iblk m c 2 t) (ix2 r l) := by
  intro r l R hR
  refine (Cert.ProjNaIdeal.Proj.hidden_at _ _ _ _ r l).trans ?_
  unfold row Rows.ofTokens
  refine Rows.modulated_congr (fun i => ?_) (fun i => ?_) (fun i => ?_) (fun i => ?_) l
  · blk_point [iblk, V, index_at t]
  · blk_point [iblk, V, index_at t]
  · blk_point [iblk, V, index_at t]
  · blk_point [iblk, V, index_at t]

/-- After every step the scratch holds the rows of the step's row tile. -/
theorem kept (c : Dev nD) (n : ℕ) (hn : n < cfg0.N) : Rows.Kept (row m c) (n / 6) fun r l => (outsAt0 m c n hn).2 (ix2 r l) := by
  refine Rows.kept_always (fun n hn r l => (outsAt0 m c n hn).2 (ix2 r l)) (fun n hn h r l R hR => ?_) (fun n hn h => ?_) n hn
  · rw [← kept_first m c ⟨n, hn⟩ r l R hR, outsAt0_A m c ⟨n, hn⟩ h]
    dsimp only
    frame_out
  · rw [outsAt0_B m c ⟨n + 1, hn⟩ h]
    rfl

/-- Every step stores the reference's entries of its block. -/
theorem point (c : Dev nD) (t : Fin cfg0.N) (h : FVec Ideal S512x2048 .bf16)
    (hh : Rows.Kept (row m c) (t / 6) fun r l => h (ix2 r l)) (y) :
    k0_pay2 h (iblk m c 4 t) (iblk m c 5 t) y
      = Cert.RefDnIdeal.Proj.result (m ((c : Thread nD τ).loc main_arg0)) (m ((c : Thread nD τ).loc main_arg1))
        (m ((c : Thread nD τ).loc main_arg2)) (m ((c : Thread nD τ).loc main_arg3)) (m ((c : Thread nD τ).loc main_arg4))
        (((cfg0.win 6).blk t).view.emb y) := by
  obtain ⟨r, l, rfl⟩ : ∃ (r : Fin 512) (l : Fin 1024), y = ix2 r l := ⟨y 0, y 1, eq_ix2 y⟩
  rw [eq_ix2 (((cfg0.win 6).blk t).view.emb (ix2 r l))]
  refine (Cert.ProjNaIdeal.Proj.stored_at _ _ _ r l).trans (Eq.trans ?_ (Cert.RefDnIdeal.Proj.result_at _ _ _ _ _
    (((cfg0.win 6).blk t).view.emb (ix2 r l) 0) (((cfg0.win 6).blk t).view.emb (ix2 r l) 1)).symm)
  have hs : iblk m c 5 t (ix2 0 l) = (1 : EReal) := by
    blk_point [iblk, V, index_at t]
  refine (congrArg (fun s : EReal => _ * s) hs).trans ((mul_one _).trans ?_)
  refine Finset.sum_congr rfl fun i _ => congrArg₂ (fun a b : EReal => a * b) (hh _ _ _ ?_) ?_
  · blk_simp [index_at t]
  · blk_point [iblk, V, index_at t]

/-- The projection's whole result is the reference's. -/
theorem final (c : Dev nD) : (dats m 0 c).arrAt 6 (cfgs 0).N
    = Cert.RefDnIdeal.Proj.result (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  by_cases h : t.val % 6 = 0
  · rw [outsAt0_A m c t h]
    dsimp only
    frame_out
    exact point m c t _ (kept_first m c t) _
  · have hk := kept m c t.val t.isLt
    rw [outsAt0_B m c t h] at hk ⊢
    dsimp only
    frame_out
    exact point m c t _ (((Memref.isWhole_whole _).read_unread _).symm ▸ hk) _

end Cert.ProjDnIdeal.Proj

end
-- ==== Proof.ZgRef.lean ====
/- The reference of the projection to the columns of all gates, read at one entry of its result. -/
module

public import proofs.«01_k».proof.Proof.Gen.RefZgIdeal
public import proofs.«01_k».proof.Proof.ProjRows

set_option maxRecDepth 16384

@[expose] public noncomputable section

namespace Cert.RefZgIdeal.Proj

open Idealize.ShloMosaic Idealize.ShloMosaic.TcCoe Idealize.SL.Sem
open Cert.RefZgIdeal Cert.RefZgIdeal.Gen
open Cert.RefNaIdeal.Proj (hidden hidden_at)

/-- The product of the normed rows with all columns of the weights. -/
def product (x : FVec Ideal S32x256x2048 .f32) (g : FVec Ideal S2048 .f32) (sh sc : FVec Ideal S1x1x2048 .f32)
    (w : FVec Ideal S2048x21376 .f32) : FVec Ideal S32x256x21376 .f32 :=
  Host.dotGeneral (φ₁ := .f32) (φ₂ := .f32) dot_S32x256x2048_S2048x21376_S32x256x21376_2_0_01_1_n_n none (hidden x g sh sc) w

/-- The reference's result as one term of its five arguments: two ranges of columns of the product, side by side. -/
def result (x : FVec Ideal S32x256x2048 .f32) (g : FVec Ideal S2048 .f32) (sh sc : FVec Ideal S1x1x2048 .f32)
    (w : FVec Ideal S2048x21376 .f32) : FVec Ideal S8192x8192 .bf16 :=
  truncf .bf16 (shapeCast _ (concatenate S32x256x8192 2
    [⟨S32x256x2048, extractStridedSlice S32x256x2048 ![0, 0, 13120] (product x g sh sc w) slices_S32x256x21376_S32x256x2048_0_0_13120⟩,
      ⟨S32x256x6144, extractStridedSlice S32x256x6144 ![0, 0, 15232] (product x g sh sc w) slices_S32x256x21376_S32x256x6144_0_0_15232⟩]
    concatenates_S32x256x2048_S32x256x6144_S32x256x8192_d2) shapeCasts_S32x256x8192_S8192x8192) bitsLt_bf16_f32

/-- The weights of column `C` of the result: first DeltaNet's output gate, then the three branches' gates. -/
def weight (w : FVec Ideal S2048x21376 .f32) (C : Fin 8192) (i : Fin 2048) : EReal :=
  if h : C.val < 2048 then w (ix2 i ⟨13120 + C, by omega⟩) else w (ix2 i ⟨15232 + (C - 2048), by omega⟩)

/-- An entry of the product. -/
theorem product_at (x : FVec Ideal S32x256x2048 .f32) (g : FVec Ideal S2048 .f32) (sh sc : FVec Ideal S1x1x2048 .f32)
    (w : FVec Ideal S2048x21376 .f32) (b : Fin 32) (r : Fin 256) (C : Fin 21376) : product x g sh sc w (ix3 b r C)
      = ∑ i : Fin 2048, hidden x g sh sc (ix3 b r i) * w (ix2 i C) := by
  pointwise [product]

/-- An entry of the result: a normed row times its column's weights. -/
theorem result_at (x : FVec Ideal S32x256x2048 .f32) (g : FVec Ideal S2048 .f32) (sh sc : FVec Ideal S1x1x2048 .f32)
    (w : FVec Ideal S2048x21376 .f32) (R : Fin 8192) (C : Fin 8192) : result x g sh sc w (ix2 R C)
      = ∑ i : Fin 2048, Rows.ofTokens x g sh sc R i * weight w C i := by
  simp only [Rows.ofTokens, ← hidden_at]
  unfold weight
  by_cases h : C.val < 2048
  · simp only [dif_pos h]
    rw [← product_at]
    pointwise [result, h]
  · simp only [dif_neg h]
    rw [← product_at]
    pointwise [result, h]

end Cert.RefZgIdeal.Proj

end
-- ==== Proof.ZgValue.lean ====
/- the projection to the columns of all gates computes its reference. -/
module

public import proofs.«01_k».proof.Proof.Gen.ProjZgIdeal.Frame
public import proofs.«01_k».proof.Proof.ZgRef
public import proofs.«01_k».proof.Proof.ProjValue

set_option maxRecDepth 16384

@[expose] public noncomputable section

namespace Cert.ProjZgIdeal.Proj

open Idealize.ShloMosaic Idealize.ShloMosaic.TcCoe Idealize.SL.Sem
open Cert.ProjZgIdeal Cert.ProjZgIdeal.Gen

variable (m : (ℓ : Loc nD τ sig) → Buf (Elt Ideal) ℓ)

/-- The block every window reads or writes at a grid point. -/
theorem index_at : ∀ t : Fin cfg0.N, win0_0.index t = ![t.val / 8, 0]
    ∧ win0_1.index t = ![0, 0] ∧ win0_2.index t = ![0, 0, 0] ∧ win0_3.index t = ![0, 0, 0]
    ∧ win0_4.index t = ![0, t.val % 8] ∧ win0_5.index t = ![0, t.val % 8]
    ∧ win0_6.index t = ![t.val / 8, t.val % 8] :=
  (by decide +kernel : ∀ t : Fin grid0.N, _)

/-- The rows that the call projects. -/
def row (c : Dev nD) : Fin 8192 → Fin 2048 → EReal :=
  Rows.ofTokens (m ((c : Thread nD τ).loc main_arg0)) (m ((c : Thread nD τ).loc main_arg1))
    (m ((c : Thread nD τ).loc main_arg2)) (m ((c : Thread nD τ).loc main_arg3))

/-- What the first step of a row tile keeps: the tile's rows. -/
theorem kept_first (c : Dev nD) (t : Fin cfg0.N) : Rows.Kept (row m c) (t / 8)
    fun r l => k0_pay1 (iblk m c 0 t) (iblk m c 1 t) (iblk m c 3 t) (iblk m c 2 t) (ix2 r l) := by
  intro r l R hR
  refine (Cert.ProjNaIdeal.Proj.hidden_at _ _ _ _ r l).trans ?_
  unfold row Rows.ofTokens
  refine Rows.modulated_congr (fun i => ?_) (fun i => ?_) (fun i => ?_) (fun i => ?_) l
  · blk_point [iblk, V, index_at t]
  · blk_point [iblk, V, index_at t]
  · blk_point [iblk, V, index_at t]
  · blk_point [iblk, V, index_at t]

/-- After every step the scratch holds the rows of the step's row tile. -/
theorem kept (c : Dev nD) (n : ℕ) (hn : n < cfg0.N) : Rows.Kept (row m c) (n / 8) fun r l => (outsAt0 m c n hn).2 (ix2 r l) := by
  refine Rows.kept_always (fun n hn r l => (outsAt0 m c n hn).2 (ix2 r l)) (fun n hn h r l R hR => ?_) (fun n hn h => ?_) n hn
  · rw [← kept_first m c ⟨n, hn⟩ r l R hR, outsAt0_A m c ⟨n, hn⟩ h]
    dsimp only
    frame_out
  · rw [outsAt0_B m c ⟨n + 1, hn⟩ h]
    rfl

/-- The weights that the call is given: two ranges of columns, side by side. -/
theorem weights_at (c : Dev nD) (i : Fin 2048) (C : Fin 8192) :
    V m c main_v3 (ix2 i C) = Cert.RefZgIdeal.Proj.weight (m ((c : Thread nD τ).loc main_arg4)) C i := by
  unfold Cert.RefZgIdeal.Proj.weight
  entry_read
  pointwise

/-- Every step stores the reference's entries of its block. -/
theorem point (c : Dev nD) (t : Fin cfg0.N) (h : FVec Ideal S512x2048 .bf16)
    (hh : Rows.Kept (row m c) (t / 8) fun r l => h (ix2 r l)) (y) :
    k0_pay2 h (iblk m c 4 t) (iblk m c 5 t) y
      = Cert.RefZgIdeal.Proj.result (m ((c : Thread nD τ).loc main_arg0)) (m ((c : Thread nD τ).loc main_arg1))
        (m ((c : Thread nD τ).loc main_arg2)) (m ((c : Thread nD τ).loc main_arg3)) (m ((c : Thread nD τ).loc main_arg4))
        (((cfg0.win 6).blk t).view.emb y) := by
  obtain ⟨r, l, rfl⟩ : ∃ (r : Fin 512) (l : Fin 1024), y = ix2 r l := ⟨y 0, y 1, eq_ix2 y⟩
  rw [eq_ix2 (((cfg0.win 6).blk t).view.emb (ix2 r l))]
  refine (Cert.ProjNaIdeal.Proj.stored_at _ _ _ r l).trans (Eq.trans ?_ (Cert.RefZgIdeal.Proj.result_at _ _ _ _ _
    (((cfg0.win 6).blk t).view.emb (ix2 r l) 0) (((cfg0.win 6).blk t).view.emb (ix2 r l) 1)).symm)
  have hs : iblk m c 5 t (ix2 0 l) = (1 : EReal) := by
    blk_point [iblk, V, index_at t]
  refine (congrArg (fun s : EReal => _ * s) hs).trans ((mul_one _).trans ?_)
  refine Finset.sum_congr rfl fun i _ => congrArg₂ (fun a b : EReal => a * b) (hh _ _ _ ?_) ?_
  · blk_simp [index_at t]
  · refine Eq.trans ?_ (weights_at m c i _)
    unfold iblk
    refine congrArg (V m c main_v3) (funext fun a => Fin.ext ?_)
    match a with
    | 0 => blk_simp [index_at t]
    | 1 => blk_simp [index_at t]

/-- The projection's whole result is the reference's. -/
theorem final (c : Dev nD) : (dats m 0 c).arrAt 6 (cfgs 0).N
    = Cert.RefZgIdeal.Proj.result (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  by_cases h : t.val % 8 = 0
  · rw [outsAt0_A m c t h]
    dsimp only
    frame_out
    exact point m c t _ (kept_first m c t) _
  · have hk := kept m c t.val t.isLt
    rw [outsAt0_B m c t h] at hk ⊢
    dsimp only
    frame_out
    exact point m c t _ (((Memref.isWhole_whole _).read_unread _).symm ▸ hk) _

end Cert.ProjZgIdeal.Proj

end
-- ==== Proof.SmallRef.lean ====
/- The reference of the projection to the narrow columns, read at one entry of its result. -/
module

public import proofs.«01_k».proof.Proof.Gen.RefSmallIdeal.Run
public import proofs.«01_k».proof.Proof.ZgRef

set_option maxRecDepth 16384

@[expose] public noncomputable section

namespace Cert.RefSmallIdeal.Proj

open Idealize.ShloMosaic Idealize.ShloMosaic.TcCoe Idealize.SL.Sem
open Cert.RefSmallIdeal Cert.RefSmallIdeal.Gen
open Cert.RefNaIdeal.Proj (hidden hidden_at)
open Cert.RefZgIdeal.Proj (product product_at)

/-- The reference's result as one term of its five arguments: three ranges of columns of the product and a range of zeros. -/
def result (x : FVec Ideal S32x256x2048 .f32) (g : FVec Ideal S2048 .f32) (sh sc : FVec Ideal S1x1x2048 .f32)
    (w : FVec Ideal S2048x21376 .f32) : FVec Ideal S8192x1024 .f32 :=
  shapeCast _ (concatenate S32x256x1024 2
    [⟨S32x256x320, extractStridedSlice S32x256x320 ![0, 0, 512] (product x g sh sc w) slices_S32x256x21376_S32x256x320_0_0_512⟩,
      ⟨S32x256x64, extractStridedSlice S32x256x64 ![0, 0, 15168] (product x g sh sc w) slices_S32x256x21376_S32x256x64_0_0_15168⟩,
      ⟨S32x256x128, broadcastInDim S32x256x128 ![] bcast_S_S32x256x128 (constant (F := Ideal) S_ .f32 0x00000000#32)⟩,
      ⟨S32x256x512, extractStridedSlice S32x256x512 ![0, 0, 0] (product x g sh sc w) slices_S32x256x21376_S32x256x512_0_0_0⟩]
    concatenates_S32x256x320_S32x256x64_S32x256x128_S32x256x512_S32x256x1024_d2) shapeCasts_S32x256x1024_S8192x1024

/-- The reference's run ends with `result` of its arguments. -/
theorem result_eq (m : (ℓ : Loc nD τ sig) → Buf (Elt Ideal) ℓ) (c : Dev nD) : Value.res_main_v25 m c
    = result (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) := by
  unfold Value.res_main_v25
  rfl

/-- The weights of column `C` of the result: the keys' and values' latents, DeltaNet's gates, nothing, the queries' latents. -/
def weight (w : FVec Ideal S2048x21376 .f32) (C : Fin 1024) (i : Fin 2048) : EReal :=
  if h : C.val < 320 then w (ix2 i ⟨512 + C, by omega⟩)
  else if h : C.val < 384 then w (ix2 i ⟨15168 + (C - 320), by omega⟩)
  else if h : C.val < 512 then 0
  else w (ix2 i ⟨C - 512, by omega⟩)

/-- An entry of the result: a normed row times its column's weights. -/
theorem result_at (x : FVec Ideal S32x256x2048 .f32) (g : FVec Ideal S2048 .f32) (sh sc : FVec Ideal S1x1x2048 .f32)
    (w : FVec Ideal S2048x21376 .f32) (R : Fin 8192) (C : Fin 1024) : result x g sh sc w (ix2 R C)
      = ∑ i : Fin 2048, Rows.ofTokens x g sh sc R i * weight w C i := by
  simp only [Rows.ofTokens, ← hidden_at]
  unfold weight
  by_cases h1 : C.val < 320
  · simp only [dif_pos h1]
    rw [← product_at]
    pointwise [result, h1]
  by_cases h2 : C.val < 384
  · simp only [dif_neg h1, dif_pos h2]
    rw [← product_at]
    have h2' : C.val - 320 < 64 := by omega
    pointwise [result, h1, h2']
  by_cases h3 : C.val < 512
  · simp only [dif_neg h1, dif_neg h2, dif_pos h3, mul_zero, Finset.sum_const_zero]
    have h2' : ¬C.val - 320 < 64 := by omega
    have h3' : C.val - 320 - 64 < 128 := by omega
    pointwise [result, h1, h2', h3']
  · simp only [dif_neg h1, dif_neg h2, dif_neg h3]
    rw [← product_at]
    have h2' : ¬C.val - 320 < 64 := by omega
    have h3' : ¬C.val - 320 - 64 < 128 := by omega
    pointwise [result, h1, h2', h3']
    simp only [Nat.sub_sub, Nat.reduceAdd]

end Cert.RefSmallIdeal.Proj

end
-- ==== Proof.SmallValue.lean ====
/- the projection to the narrow columns computes its reference. -/
module

public import proofs.«01_k».proof.Proof.Gen.ProjSmallIdeal.Frame
public import proofs.«01_k».proof.Proof.SmallRef
public import proofs.«01_k».proof.Proof.ProjValue

set_option maxRecDepth 16384

@[expose] public noncomputable section

namespace Cert.ProjSmallIdeal.Proj

open Idealize.ShloMosaic Idealize.ShloMosaic.TcCoe Idealize.SL.Sem
open Cert.ProjSmallIdeal Cert.ProjSmallIdeal.Gen

/-- What every step stores: the kept rows times the columns of its tile. -/
theorem stored_at (h : Vec Ideal S512x2048 .bf16) (w : Vec Ideal S2048x512 .bf16) (s : Vec Ideal S1x512 .f32)
    (r : Fin 512) (l : Fin 512) : k0_pay2 h w s (ix2 r l) = (∑ i, h (ix2 r i) * w (ix2 i l)) * s (ix2 0 l) := by
  pointwise [k0_pay2]

variable (m : (ℓ : Loc nD τ sig) → Buf (Elt Ideal) ℓ)

/-- The block every window reads or writes at a grid point. -/
theorem index_at : ∀ t : Fin cfg0.N, win0_0.index t = ![t.val / 2, 0]
    ∧ win0_1.index t = ![0, 0] ∧ win0_2.index t = ![0, 0, 0] ∧ win0_3.index t = ![0, 0, 0]
    ∧ win0_4.index t = ![0, t.val % 2] ∧ win0_5.index t = ![0, t.val % 2]
    ∧ win0_6.index t = ![t.val / 2, t.val % 2] :=
  (by decide +kernel : ∀ t : Fin grid0.N, _)

/-- The rows that the call projects. -/
def row (c : Dev nD) : Fin 8192 → Fin 2048 → EReal :=
  Rows.ofTokens (m ((c : Thread nD τ).loc main_arg0)) (m ((c : Thread nD τ).loc main_arg1))
    (m ((c : Thread nD τ).loc main_arg2)) (m ((c : Thread nD τ).loc main_arg3))

/-- What the first step of a row tile keeps: the tile's rows. -/
theorem kept_first (c : Dev nD) (t : Fin cfg0.N) : Rows.Kept (row m c) (t / 2)
    fun r l => k0_pay1 (iblk m c 0 t) (iblk m c 1 t) (iblk m c 3 t) (iblk m c 2 t) (ix2 r l) := by
  intro r l R hR
  refine (Cert.ProjNaIdeal.Proj.hidden_at _ _ _ _ r l).trans ?_
  unfold row Rows.ofTokens
  refine Rows.modulated_congr (fun i => ?_) (fun i => ?_) (fun i => ?_) (fun i => ?_) l
  · blk_point [iblk, V, index_at t]
  · blk_point [iblk, V, index_at t]
  · blk_point [iblk, V, index_at t]
  · blk_point [iblk, V, index_at t]

/-- After every step the scratch holds the rows of the step's row tile. -/
theorem kept (c : Dev nD) (n : ℕ) (hn : n < cfg0.N) : Rows.Kept (row m c) (n / 2) fun r l => (outsAt0 m c n hn).2 (ix2 r l) := by
  refine Rows.kept_always (fun n hn r l => (outsAt0 m c n hn).2 (ix2 r l)) (fun n hn h r l R hR => ?_) (fun n hn h => ?_) n hn
  · rw [← kept_first m c ⟨n, hn⟩ r l R hR, outsAt0_A m c ⟨n, hn⟩ h]
    dsimp only
    frame_out
  · rw [outsAt0_B m c ⟨n + 1, hn⟩ h]
    rfl

/-- The weights that the call is given: ranges of columns and of zeros, side by side. -/
def weights (w : FVec Ideal S2048x21376 .f32) : FVec Ideal S2048x1024 .bf16 :=
  truncf .bf16 (concatenate S2048x1024 1
    [⟨S2048x320, extractStridedSlice S2048x320 ![0, 512] w slices_S2048x21376_S2048x320_0_512⟩,
      ⟨S2048x64, extractStridedSlice S2048x64 ![0, 15168] w slices_S2048x21376_S2048x64_0_15168⟩,
      ⟨S2048x128, broadcastInDim S2048x128 ![] bcast_S_S2048x128 (constant (F := Ideal) S_ .f32 0x00000000#32)⟩,
      ⟨S2048x512, extractStridedSlice S2048x512 ![0, 0] w slices_S2048x21376_S2048x512_0_0⟩]
    concatenates_S2048x320_S2048x64_S2048x128_S2048x512_S2048x1024_d1) bitsLt_bf16_f32

/-- The call is given these weights. -/
theorem weights_eq (c : Dev nD) : V m c main_v5 = weights (m ((c : Thread nD τ).loc main_arg4)) := by
  unfold V
  after_results_simp <;> (try dsimp only [Matrix.cons_val]) <;> (try after_results_simp) <;> rfl

/-- An entry of the weights that the call is given. -/
theorem weights_at (c : Dev nD) (i : Fin 2048) (C : Fin 1024) :
    V m c main_v5 (ix2 i C) = Cert.RefSmallIdeal.Proj.weight (m ((c : Thread nD τ).loc main_arg4)) C i := by
  rw [weights_eq]
  unfold Cert.RefSmallIdeal.Proj.weight
  by_cases h1 : C.val < 320
  · simp only [dif_pos h1]
    pointwise [weights, h1]
  by_cases h2 : C.val < 384
  · have h2' : C.val - 320 < 64 := by omega
    simp only [dif_neg h1, dif_pos h2]
    pointwise [weights, h1, h2']
  have h2' : ¬C.val - 320 < 64 := by omega
  by_cases h3 : C.val < 512
  · have h3' : C.val - 320 - 64 < 128 := by omega
    simp only [dif_neg h1, dif_neg h2, dif_pos h3]
    pointwise [weights, h1, h2', h3']
  · have h3' : ¬C.val - 320 - 64 < 128 := by omega
    simp only [dif_neg h1, dif_neg h2, dif_neg h3]
    pointwise [weights, h1, h2', h3']
    simp only [Nat.sub_sub, Nat.reduceAdd]

/-- Every step stores the reference's entries of its block. -/
theorem point (c : Dev nD) (t : Fin cfg0.N) (h : FVec Ideal S512x2048 .bf16)
    (hh : Rows.Kept (row m c) (t / 2) fun r l => h (ix2 r l)) (y) :
    k0_pay2 h (iblk m c 4 t) (iblk m c 5 t) y
      = Cert.RefSmallIdeal.Proj.result (m ((c : Thread nD τ).loc main_arg0)) (m ((c : Thread nD τ).loc main_arg1))
        (m ((c : Thread nD τ).loc main_arg2)) (m ((c : Thread nD τ).loc main_arg3)) (m ((c : Thread nD τ).loc main_arg4))
        (((cfg0.win 6).blk t).view.emb y) := by
  obtain ⟨r, l, rfl⟩ : ∃ (r : Fin 512) (l : Fin 512), y = ix2 r l := ⟨y 0, y 1, eq_ix2 y⟩
  rw [eq_ix2 (((cfg0.win 6).blk t).view.emb (ix2 r l))]
  refine (stored_at _ _ _ r l).trans (Eq.trans ?_ (Cert.RefSmallIdeal.Proj.result_at _ _ _ _ _
    (((cfg0.win 6).blk t).view.emb (ix2 r l) 0) (((cfg0.win 6).blk t).view.emb (ix2 r l) 1)).symm)
  have hs : iblk m c 5 t (ix2 0 l) = (1 : EReal) := by
    blk_point [iblk, V, index_at t]
  refine (congrArg (fun s : EReal => _ * s) hs).trans ((mul_one _).trans ?_)
  refine Finset.sum_congr rfl fun i _ => congrArg₂ (fun a b : EReal => a * b) (hh _ _ _ ?_) ?_
  · blk_simp [index_at t]
  · refine Eq.trans ?_ (weights_at m c i _)
    unfold iblk
    refine congrArg (V m c main_v5) (funext fun a => Fin.ext ?_)
    match a with
    | 0 => blk_simp [index_at t]
    | 1 => blk_simp [index_at t]

/-- The projection's whole result is the reference's. -/
theorem final (c : Dev nD) : (dats m 0 c).arrAt 6 (cfgs 0).N
    = Cert.RefSmallIdeal.Proj.result (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  by_cases h : t.val % 2 = 0
  · rw [outsAt0_A m c t h]
    dsimp only
    frame_out
    exact point m c t _ (kept_first m c t) _
  · have hk := kept m c t.val t.isLt
    rw [outsAt0_B m c t h] at hk ⊢
    dsimp only
    frame_out
    exact point m c t _ (((Memref.isWhole_whole _).read_unread _).symm ▸ hk) _

end Cert.ProjSmallIdeal.Proj

end
-- ==== Proof.MergeRef.lean ====
/- The reference of the last projection: three gated branches added, projected, normed and added to the tokens; read at one entry
   of its result. -/
module

public import proofs.«01_k».proof.Proof.Gen.RefMergeIdeal.Run
public import proofs.«01_k».proof.Proof.Rows

set_option maxRecDepth 16384

@[expose] public noncomputable section

namespace Rows

open Idealize.ShloMosaic

/-- A branch times the logistic function of its gate. -/
def gated (z o : EReal) : EReal := Ideal.div 1 (1 + Ideal.exp (-z)) * o

/-- The three gated branches added. -/
def branches (za oa zb ob zc oc : Fin 2048 → EReal) (k : Fin 2048) : EReal :=
  gated (za k) (oa k) + gated (zb k) (ob k) + gated (zc k) (oc k)

end Rows

namespace Cert.RefMergeIdeal.Out

open Idealize.ShloMosaic Idealize.ShloMosaic.TcCoe Idealize.SL.Sem
open Cert.RefMergeIdeal Cert.RefMergeIdeal.Gen

/-- One, at every gate. -/
def ones : FVec Ideal S32x256x6144 .f32 := broadcastInDim S32x256x6144 ![] bcast_S_S32x256x6144 (constant S_ .f32 0x3F800000#32)

/-- The logistic function of the last 6144 columns. -/
def gates (zg : FVec Ideal S8192x8192 .bf16) : FVec Ideal S32x256x6144 .f32 :=
  Host.divf ones (addf ones (Host.exp (Host.negf (shapeCast _
    (extf .f32 (extractStridedSlice S8192x6144 ![0, 2048] zg slices_S8192x8192_S8192x6144_0_2048) bitsLt_bf16_f32)
    shapeCasts_S8192x6144_S32x256x6144))))

/-- The three gated branches added. -/
def merged (zg : FVec Ideal S8192x8192 .bf16) (oa ob oc : FVec Ideal S32x256x2048 .bf16) : FVec Ideal S32x256x2048 .f32 :=
  addf (addf
    (mulf (extractStridedSlice S32x256x2048 ![0, 0, 0] (gates zg) slices_S32x256x6144_S32x256x2048_0_0_0)
      (extf .f32 oa bitsLt_bf16_f32))
    (mulf (extractStridedSlice S32x256x2048 ![0, 0, 2048] (gates zg) slices_S32x256x6144_S32x256x2048_0_0_2048)
      (extf .f32 ob bitsLt_bf16_f32)))
    (mulf (extractStridedSlice S32x256x2048 ![0, 0, 4096] (gates zg) slices_S32x256x6144_S32x256x2048_0_0_4096)
      (extf .f32 oc bitsLt_bf16_f32))

/-- Their projection. -/
def projected (zg : FVec Ideal S8192x8192 .bf16) (oa ob oc : FVec Ideal S32x256x2048 .bf16) (w : FVec Ideal S2048x2048 .f32) :
    FVec Ideal S32x256x2048 .f32 :=
  Host.dotGeneral (φ₁ := .f32) (φ₂ := .f32) dot_S32x256x2048_S2048x2048_S32x256x2048_2_0_01_1_n_n none (merged zg oa ob oc) w

/-- The same number for every row. -/
def everyRow (c : FVec Ideal S_ .f32) : FVec Ideal S32x256x1 .f32 := broadcastInDim S32x256x1 ![] bcast_S_S32x256x1 c

/-- The norm of every row. -/
def normed (x : FVec Ideal S32x256x2048 .f32) (g : FVec Ideal S2048 .f32) : FVec Ideal S32x256x2048 .f32 :=
  mulf (mulf x (broadcastInDim S32x256x2048 ![0, 1, 2] bcast_S32x256x1_S32x256x2048_0_1_2
      (Host.rsqrt (addf
        (Host.divf (broadcastInDim S32x256x1 ![0, 1] bcast_S32x256_S32x256x1_0_1
            (Host.reduceAdd (mulf x x) (constant S_ .f32 0x00000000#32) reducesTo_S32x256x2048_S32x256_d2 h_S_))
          (everyRow (constant S_ .f32 0x45000000#32)))
        (everyRow (constant S_ .f32 0x358637BD#32))))))
    (broadcastInDim S32x256x2048 ![0, 1, 2] bcast_S1x1x2048_S32x256x2048_0_1_2 (broadcastInDim S1x1x2048 ![2] bcast_S2048_S1x1x2048_2 g))

/-- The reference's result as one term of its eight arguments. -/
def result (x : FVec Ideal S32x256x2048 .f32) (zg : FVec Ideal S8192x8192 .bf16) (oa ob oc : FVec Ideal S32x256x2048 .bf16)
    (w : FVec Ideal S2048x2048 .f32) (gp : FVec Ideal S2048 .f32) (gt : FVec Ideal S1x1x2048 .f32) : FVec Ideal S8192x2048 .f32 :=
  shapeCast _ (addf x (mulf (broadcastInDim S32x256x2048 ![0, 1, 2] bcast_S1x1x2048_S32x256x2048_0_1_2 gt)
    (normed (projected zg oa ob oc w) gp))) shapeCasts_S32x256x2048_S8192x2048

/-- The reference's run ends with `result` of its arguments. -/
theorem result_eq (m : (ℓ : Loc nD τ sig) → Buf (Elt Ideal) ℓ) (c : Dev nD) : Value.res_main_v37 m c
    = result (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7)) := by
  unfold Value.res_main_v37
  rfl

/-- An entry of the logistic function of the gates. -/
theorem gates_at (zg : FVec Ideal S8192x8192 .bf16) (b : Fin 32) (r : Fin 256) (k : Fin 6144) :
    gates zg (ix3 b r k) = Ideal.div 1 (1 + Ideal.exp (-(zg (ix2 ⟨b * 256 + r, by omega⟩ ⟨2048 + k, by omega⟩) : EReal))) := by
  pointwise [gates, ones]

/-- An entry of the branches added. -/
theorem merged_at (zg : FVec Ideal S8192x8192 .bf16) (oa ob oc : FVec Ideal S32x256x2048 .bf16) (b : Fin 32) (r : Fin 256)
    (k : Fin 2048) : merged zg oa ob oc (ix3 b r k)
      = Rows.branches (fun k => zg (ix2 ⟨b * 256 + r, by omega⟩ ⟨2048 + k, by omega⟩)) (fun k => oa (ix3 b r k))
        (fun k => zg (ix2 ⟨b * 256 + r, by omega⟩ ⟨4096 + k, by omega⟩)) (fun k => ob (ix3 b r k))
        (fun k => zg (ix2 ⟨b * 256 + r, by omega⟩ ⟨6144 + k, by omega⟩)) (fun k => oc (ix3 b r k)) k := by
  unfold Rows.branches Rows.gated
  have ha := gates_at zg b r ⟨k, by omega⟩
  have hb := gates_at zg b r ⟨2048 + k, by omega⟩
  have hc := gates_at zg b r ⟨4096 + k, by omega⟩
  simp only [← Nat.add_assoc, Nat.reduceAdd] at ha hb hc
  rw [← ha, ← hb, ← hc]
  pointwise [merged]

/-- An entry of their projection. -/
theorem projected_at (zg : FVec Ideal S8192x8192 .bf16) (oa ob oc : FVec Ideal S32x256x2048 .bf16) (w : FVec Ideal S2048x2048 .f32)
    (b : Fin 32) (r : Fin 256) (l : Fin 2048) :
    projected zg oa ob oc w (ix3 b r l) = ∑ k : Fin 2048, (merged zg oa ob oc (ix3 b r k) : EReal) * w (ix2 k l) := by
  pointwise [projected]

/-- An entry of the normed rows. -/
theorem normed_at (x : FVec Ideal S32x256x2048 .f32) (g : FVec Ideal S2048 .f32) (b : Fin 32) (r : Fin 256) (l : Fin 2048) :
    normed x g (ix3 b r l) = Rows.rms (fun i => x (ix3 b r i)) (fun i => g (ix1 i)) l := by
  unfold Rows.rms
  pointwise [normed, everyRow]

/-- An entry of the result: the token's row plus the gated norm of the projected row. -/
theorem result_at (x : FVec Ideal S32x256x2048 .f32) (zg : FVec Ideal S8192x8192 .bf16) (oa ob oc : FVec Ideal S32x256x2048 .bf16)
    (w : FVec Ideal S2048x2048 .f32) (gp : FVec Ideal S2048 .f32) (gt : FVec Ideal S1x1x2048 .f32) (R : Fin 8192) (l : Fin 2048) :
    result x zg oa ob oc w gp gt (ix2 R l)
      = x (ix3 ⟨R / 256, by omega⟩ ⟨R % 256, by omega⟩ l) + gt (ix3 0 0 l) * Rows.rms (fun j => ∑ k : Fin 2048,
          Rows.branches (fun k => zg (ix2 R ⟨2048 + k, by omega⟩)) (fun k => oa (ix3 ⟨R / 256, by omega⟩ ⟨R % 256, by omega⟩ k))
            (fun k => zg (ix2 R ⟨4096 + k, by omega⟩)) (fun k => ob (ix3 ⟨R / 256, by omega⟩ ⟨R % 256, by omega⟩ k))
            (fun k => zg (ix2 R ⟨6144 + k, by omega⟩)) (fun k => oc (ix3 ⟨R / 256, by omega⟩ ⟨R % 256, by omega⟩ k)) k
          * w (ix2 k j)) (fun i => gp (ix1 i)) l := by
  have hm := fun k => merged_at zg oa ob oc ⟨R / 256, by omega⟩ ⟨R % 256, by omega⟩ k
  simp only [Nat.div_add_mod', Fin.eta] at hm
  simp only [← hm, ← projected_at, ← normed_at]
  pointwise [result]

end Cert.RefMergeIdeal.Out

end
-- ==== Proof.MergeValue.lean ====
/- The kernel of the last projection computes its reference. -/
module

public import proofs.«01_k».proof.Proof.Gen.MergeIdeal.Frame
public import proofs.«01_k».proof.Proof.MergeRef
public import Idealize.ShloMosaic.Lib.Pipeline.ValueKit
public import Idealize.ShloMosaic.Lib.Claim

set_option maxRecDepth 16384

@[expose] public noncomputable section

namespace Cert.MergeIdeal.Out

open Idealize.ShloMosaic Idealize.ShloMosaic.TcCoe Idealize.SL.Sem
open Idealize.ShloMosaic.Pipeline (Dat)
open Cert.MergeIdeal Cert.MergeIdeal.Gen

/-! ## What the body stores, entry by entry -/

/-- The gated branches of a row tile, added and projected. -/
theorem projected_at (za oa zb ob zc oc : Vec Ideal S256x2048 .bf16) (w : Vec Ideal S2048x2048 .bf16) (r : Fin 256) (j : Fin 2048) :
    k0_pay2 za oa zb ob zc oc w (ix2 r j) = ∑ k : Fin 2048, Rows.branches (fun k => za (ix2 r k)) (fun k => oa (ix2 r k))
      (fun k => zb (ix2 r k)) (fun k => ob (ix2 r k)) (fun k => zc (ix2 r k)) (fun k => oc (ix2 r k)) k * w (ix2 k j) := by
  unfold Rows.branches Rows.gated
  pointwise [k0_pay2]
  rfl

/-- The sum of the squares of a projected row. -/
theorem squares_at (za oa zb ob zc oc : Vec Ideal S256x2048 .bf16) (w : Vec Ideal S2048x2048 .bf16) (r : Fin 256) :
    k0_pay6 za oa zb ob zc oc w (ix2 r 0)
      = ∑ j : Fin 2048, (k0_pay2 za oa zb ob zc oc w (ix2 r j) * k0_pay2 za oa zb ob zc oc w (ix2 r j) : EReal) := by
  pointwise [k0_pay6]

/-- The token's row plus the gated norm of the projected row. -/
theorem stored_at (p x : FVec Ideal S256x2048 .f32) (gt gp : FVec Ideal S1x2048 .f32) (s : FVec Ideal S256x1 .f32)
    (r : Fin 256) (l : Fin 2048) (hs : s (ix2 r 0) = ∑ j : Fin 2048, (p (ix2 r j) * p (ix2 r j) : EReal)) :
    k0_pay1 p x gt gp s (ix2 r l)
      = x (ix2 r l) + gt (ix2 0 l) * Rows.rms (fun j => p (ix2 r j)) (fun i => gp (ix2 0 i)) l := by
  unfold Rows.rms
  rw [← hs]
  pointwise [k0_pay1]

/-- What a grid point stores, from its blocks. -/
theorem out_at (x : Vec Ideal S256x2048 .f32) (za zb zc oa ob oc : Vec Ideal S256x2048 .bf16) (w : Vec Ideal S2048x2048 .bf16)
    (gp : Vec Ideal S1x2048 .f32) (gt : Vec Ideal S1x1x2048 .f32) (r : Fin 256) (l : Fin 2048) :
    out0_10 x za zb zc oa ob oc w gp gt (ix2 r l)
      = x (ix2 r l) + gt (ix3 0 0 l) * Rows.rms (fun j => ∑ k : Fin 2048, Rows.branches (fun k => za (ix2 r k)) (fun k => oa (ix2 r k))
          (fun k => zb (ix2 r k)) (fun k => ob (ix2 r k)) (fun k => zc (ix2 r k)) (fun k => oc (ix2 r k)) k * w (ix2 k j))
        (fun i => gp (ix2 0 i)) l := by
  have h := stored_at (k0_pay2 za oa zb ob zc oc w) (k0_pay3 x) (k0_pay4 gt) (k0_pay5 gp) _ r l (squares_at za oa zb ob zc oc w r)
  simp only [projected_at] at h
  refine Eq.trans ?_ (h.trans ?_)
  · frame_out
  · pointwise [k0_pay3, k0_pay4, k0_pay5]

variable (m : (ℓ : Loc nD τ sig) → Buf (Elt Ideal) ℓ)

/-- The block every window reads or writes at a grid point. -/
theorem index_at : ∀ t : Fin cfg0.N, win0_0.index t = ![t.val, 0] ∧ win0_1.index t = ![t.val, 1] ∧ win0_2.index t = ![t.val, 2]
    ∧ win0_3.index t = ![t.val, 3] ∧ win0_4.index t = ![t.val, 0] ∧ win0_5.index t = ![t.val, 0] ∧ win0_6.index t = ![t.val, 0]
    ∧ win0_7.index t = ![0, 0] ∧ win0_8.index t = ![0, 0] ∧ win0_9.index t = ![0, 0, 0] ∧ win0_10.index t = ![t.val, 0] :=
  (by decide +kernel : ∀ t : Fin grid0.N, _)

/-- A grid point makes the reference's entries of its rows. -/
theorem row_at (c : Dev nD) (t : Fin cfg0.N) (r : Fin 256) (l : Fin 2048) (R : Fin 8192) (hR : R.val = t * 256 + r) :
    out0_10 (iblk m c 0 t) (iblk m c 1 t) (iblk m c 2 t) (iblk m c 3 t) (iblk m c 4 t) (iblk m c 5 t) (iblk m c 6 t)
        (iblk m c 7 t) (iblk m c 8 t) (iblk m c 9 t) (ix2 r l)
      = Cert.RefMergeIdeal.Out.result (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (ix2 R l) := by
  rw [out_at, Cert.RefMergeIdeal.Out.result_at]
  unfold Rows.branches
  refine congrArg₂ (fun x y : EReal => x + y) ?_ (congrArg₂ (fun x y : EReal => x * y) ?_
    (congrArg₂ (fun x g => Rows.rms x g l) (funext fun j => Finset.sum_congr rfl fun k _ =>
      congrArg₂ (fun x y : EReal => x * y) (congrArg₂ (fun x y : EReal => x + y) (congrArg₂ (fun x y : EReal => x + y)
        (congrArg₂ Rows.gated ?_ ?_) (congrArg₂ Rows.gated ?_ ?_)) (congrArg₂ Rows.gated ?_ ?_)) ?_) (funext fun j => ?_)))
  · blk_point [iblk, V, index_at t]
  · blk_point [iblk, V, index_at t]
  · blk_point [iblk, V, index_at t]
  · blk_point [iblk, V, index_at t]
  · blk_point [iblk, V, index_at t]
  · blk_point [iblk, V, index_at t]
  · blk_point [iblk, V, index_at t]
  · blk_point [iblk, V, index_at t]
  · blk_point [iblk, V, index_at t]
  · blk_point [iblk, V, index_at t]

/-- A grid point stores the reference's entries of its block. -/
theorem point (c : Dev nD) (t : Fin cfg0.N) (y) :
    out0_10 (iblk m c 0 t) (iblk m c 1 t) (iblk m c 2 t) (iblk m c 3 t) (iblk m c 4 t) (iblk m c 5 t) (iblk m c 6 t)
        (iblk m c 7 t) (iblk m c 8 t) (iblk m c 9 t) y
      = Cert.RefMergeIdeal.Out.result (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (((cfg0.win 10).blk t).view.emb y) := by
  obtain ⟨r, l, rfl⟩ : ∃ (r : Fin 256) (l : Fin 2048), y = ix2 r l := ⟨y 0, y 1, eq_ix2 y⟩
  have ht' : t.val < 32 := lt_of_lt_of_eq t.isLt N_0
  have hR : t.val * 256 + r.val < 8192 := by omega
  refine (row_at m c t r l ⟨_, hR⟩ rfl).trans (congrArg _ (funext fun a => Fin.ext ?_))
  match a with
  | 0 => blk_simp [index_at t]
  | 1 => blk_simp [index_at t]

/-- The kernel's whole result is the reference's. -/
theorem final (c : Dev nD) : (dats m 0 c).arrAt 10 (cfgs 0).N
    = Cert.RefMergeIdeal.Out.result (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine (dats m 0 c).arrAt_eq_of_covers 10 _ (by decide +kernel) fun t hf y => ?_
  blk_simp
  rw [after0_10]
  exact point m c t y

end Cert.MergeIdeal.Out

end
-- ==== Proof.KvRef.lean ====
/- The reference of the keys and values: the latents normed and projected, the keys widened by the position columns; read at one
   entry of each of its three results. -/
module

public import proofs.«01_k».proof.Proof.Gen.RefKvIdeal.Run
public import Idealize.ShloMosaic.Lib.Pointwise

set_option maxRecDepth 16384

@[expose] public noncomputable section

namespace Latent

open Idealize.ShloMosaic

/-- A row of latents divided by the root of its mean square (and a small constant), scaled by `g`; `len` is the bits of its length. -/
def rms {n : ℕ} (len : BitVec 32) (x g : Fin n → EReal) (l : Fin n) : EReal :=
  x l * Ideal.rsqrt (Ideal.div (∑ i, x i * x i) (Ideal.ofBits FTy.f32 len) + Ideal.ofBits FTy.f32 897988541#32) * g l

/-- Equal rows have equal norms, entry by entry. -/
theorem rms_congr {n : ℕ} (len : BitVec 32) {x x' g g' : Fin n → EReal} (hx : ∀ i, x i = x' i) (hg : ∀ i, g i = g' i) (l : Fin n) :
    rms len x g l = rms len x' g' l := by
  rw [funext hx, funext hg]

end Latent

namespace Cert.RefKvIdeal.Latents

open Idealize.ShloMosaic Idealize.ShloMosaic.TcCoe Idealize.SL.Sem
open Cert.RefKvIdeal Cert.RefKvIdeal.Gen

/-- The latents: the first 256 columns. -/
def latents (x : FVec Ideal S8192x1024 .f32) : FVec Ideal S8192x256 .f32 :=
  extractStridedSlice S8192x256 ![0, 0] x slices_S8192x1024_S8192x256_0_0

/-- The norm of every row of latents. -/
def normed (x : FVec Ideal S8192x1024 .f32) (g : FVec Ideal S256 .f32) : FVec Ideal S8192x256 .f32 :=
  mulf (mulf (latents x) (broadcastInDim S8192x256 ![0, 1] bcast_S8192x1_S8192x256_0_1
      (Host.rsqrt (addf
        (Host.divf (broadcastInDim S8192x1 ![0] bcast_S8192_S8192x1_0
            (Host.reduceAdd (mulf (latents x) (latents x)) (constant S_ .f32 0x00000000#32) reducesTo_S8192x256_S8192_d1 h_S_))
          (broadcastInDim S8192x1 ![] bcast_S_S8192x1 (constant S_ .f32 0x43800000#32)))
        (broadcastInDim S8192x1 ![] bcast_S_S8192x1 (constant S_ .f32 0x358637BD#32))))))
    (broadcastInDim S8192x256 ![0, 1] bcast_S1x256_S8192x256_0_1 (broadcastInDim S1x256 ![1] bcast_S256_S1x256_1 g))

/-- Their projection, by head. -/
def heads (x : FVec Ideal S8192x1024 .f32) (g : FVec Ideal S256 .f32) (w : FVec Ideal S256x4096 .f32) : FVec Ideal S8192x16x256 .f32 :=
  shapeCast _ (Host.dotGeneral (φ₁ := .f32) (φ₂ := .f32) dot_S8192x256_S256x4096_S8192x4096_1_0_0_1_n_n none (normed x g) w)
    shapeCasts_S8192x4096_S8192x16x256

/-- The keys. -/
def keys (x : FVec Ideal S8192x1024 .f32) (g : FVec Ideal S256 .f32) (w : FVec Ideal S256x4096 .f32) : FVec Ideal S8192x4096 .bf16 :=
  truncf .bf16 (shapeCast _ (concatenate S8192x16x256 2
    [⟨S8192x16x128, extractStridedSlice S8192x16x128 ![0, 0, 0] (heads x g w) slices_S8192x16x256_S8192x16x128_0_0_0⟩,
      ⟨S8192x16x64, broadcastInDim S8192x16x64 ![0, 1, 2] bcast_S8192x1x64_S8192x16x64_0_1_2
        (broadcastInDim S8192x1x64 ![0, 2] bcast_S8192x64_S8192x1x64_0_2
          (extractStridedSlice S8192x64 ![0, 256] x slices_S8192x1024_S8192x64_0_256))⟩,
      ⟨S8192x16x64, broadcastInDim S8192x16x64 ![] bcast_S_S8192x16x64 (constant (F := Ideal) S_ .f32 0x00000000#32)⟩]
    concatenates_S8192x16x128_S8192x16x64_S8192x16x64_S8192x16x256_d2) shapeCasts_S8192x16x256_S8192x4096) bitsLt_bf16_f32

/-- The values. -/
def values (x : FVec Ideal S8192x1024 .f32) (g : FVec Ideal S256 .f32) (w : FVec Ideal S256x4096 .f32) : FVec Ideal S8192x2048 .bf16 :=
  truncf .bf16 (shapeCast _ (extractStridedSlice S8192x16x128 ![0, 0, 128] (heads x g w) slices_S8192x16x256_S8192x16x128_0_0_128)
    shapeCasts_S8192x16x128_S8192x2048) bitsLt_bf16_f32

/-- An entry of the normed latents. -/
theorem normed_at (x : FVec Ideal S8192x1024 .f32) (g : FVec Ideal S256 .f32) (R : Fin 8192) (l : Fin 256) : normed x g (ix2 R l)
    = Latent.rms 1132462080#32 (fun i : Fin 256 => x (ix2 R ⟨i, by omega⟩)) (fun i => g (ix1 i)) l := by
  unfold Latent.rms
  pointwise [normed, latents]

/-- An entry of their projection. -/
theorem heads_at (x : FVec Ideal S8192x1024 .f32) (g : FVec Ideal S256 .f32) (w : FVec Ideal S256x4096 .f32) (R : Fin 8192) (h : Fin 16)
    (l : Fin 256) : heads x g w (ix3 R h l)
      = ∑ j : Fin 256, (normed x g (ix2 R j) : EReal) * w (ix2 j ⟨h * 256 + l, by omega⟩) := by
  pointwise [heads]

/-- Column `C` of the keys: in each head 128 columns of the projection, the 64 position columns, and zeros. -/
theorem keys_at (x : FVec Ideal S8192x1024 .f32) (g : FVec Ideal S256 .f32) (w : FVec Ideal S256x4096 .f32) (R : Fin 8192)
    (C : Fin 4096) : keys x g w (ix2 R C)
      = if C.val % 256 < 128 then ∑ j : Fin 256, (normed x g (ix2 R j) : EReal) * w (ix2 j C)
        else if h : C.val % 256 < 192 then x (ix2 R ⟨256 + (C.val % 256 - 128), by omega⟩) else 0 := by
  by_cases h1 : C.val % 256 < 128
  · rw [if_pos h1]
    have hh := heads_at x g w R ⟨C / 256, by omega⟩ ⟨C % 256, by omega⟩
    simp only [Nat.div_add_mod', Fin.eta] at hh
    rw [← hh]
    pointwise [keys, h1]
  by_cases h2 : C.val % 256 < 192
  · rw [if_neg h1, dif_pos h2]
    have h2' : C.val % 256 - 128 < 64 := by omega
    pointwise [keys, h1, h2']
  · rw [if_neg h1, dif_neg h2]
    have h2' : ¬C.val % 256 - 128 < 64 := by omega
    pointwise [keys, h1, h2']

/-- Column `C` of the values: in each head the last 128 columns of the projection. -/
theorem values_at (x : FVec Ideal S8192x1024 .f32) (g : FVec Ideal S256 .f32) (w : FVec Ideal S256x4096 .f32) (R : Fin 8192)
    (C : Fin 2048) : values x g w (ix2 R C)
      = ∑ j : Fin 256, (normed x g (ix2 R j) : EReal) * w (ix2 j ⟨C / 128 * 256 + (128 + C % 128), by omega⟩) := by
  rw [← heads_at x g w R ⟨C / 128, by omega⟩ ⟨128 + C % 128, by omega⟩]
  pointwise [values]

end Cert.RefKvIdeal.Latents

end
-- ==== Proof.KvBody.lean ====
/- The call that makes the keys and values: what it is given and what one step of it computes, entry by entry. -/
module

public import proofs.«01_k».proof.Proof.Gen.MlaKvIdeal.Frame
public import proofs.«01_k».proof.Proof.KvRef

set_option maxRecDepth 16384

@[expose] public noncomputable section

namespace Cert.MlaKvIdeal.Latents

open Idealize.ShloMosaic Idealize.ShloMosaic.TcCoe Idealize.SL.Sem
open Cert.MlaKvIdeal Cert.MlaKvIdeal.Gen

/-- An entry of the normed latents of a step. -/
theorem normed_at (x : FVec Ideal S256x384 .f32) (g : FVec Ideal S1x256 .f32) (r l : Fin 256) : k0_pay3 (F := Ideal) x g (ix2 r l)
    = Latent.rms 1132462080#32 (fun i : Fin 256 => x (ix2 r ⟨i, by omega⟩)) (fun i => g (ix2 0 i)) l := by
  unfold Latent.rms
  pointwise [k0_pay3]

/-- An entry of the keys of a step: the projected latents, and the position columns times two tables. -/
theorem keys_at (x : FVec Ideal S256x384 .f32) (g : FVec Ideal S1x256 .f32) (cs sn : FVec Ideal S256x64 .f32)
    (wk : FVec Ideal S256x4096 .bf16) (e₁ e₂ : FVec Ideal S64x4096 .bf16) (r : Fin 256) (C : Fin 4096) :
    k0_pay1 (F := Ideal) (k0_pay5 x sn) (k0_pay7 x g cs wk e₁) (k0_pay8 e₂) (constant S256x4096 .f32 0x00000000#32) (ix2 r C)
      = ∑ j : Fin 256, (k0_pay3 (F := Ideal) x g (ix2 r j) : EReal) * wk (ix2 j C)
        + ∑ i : Fin 64, ((x (ix2 r ⟨256 + i, by omega⟩) : EReal) * cs (ix2 r i)) * e₁ (ix2 i C)
        + ∑ i : Fin 64, ((x (ix2 r ⟨256 + i, by omega⟩) : EReal) * sn (ix2 r i)) * e₂ (ix2 i C) := by
  pointwise [k0_pay1, k0_pay5, k0_pay7, k0_pay8, k0_pay6, k0_pay4]

/-- An entry of the values of a step: the projected latents. -/
theorem values_at (x : FVec Ideal S256x384 .f32) (g : FVec Ideal S1x256 .f32) (wv : FVec Ideal S256x2048 .bf16) (r : Fin 256)
    (C : Fin 2048) : k0_pay2 (F := Ideal) (k0_pay6 x g) wv (ix2 r C) = ∑ j : Fin 256, (k0_pay3 (F := Ideal) x g (ix2 r j) : EReal) * wv (ix2 j C) := by
  pointwise [k0_pay2, k0_pay6]

variable (m : (ℓ : Loc nD τ sig) → Buf (Elt Ideal) ℓ)

/-- The keys' weights that the call is given: 128 columns a head, and zeros beside them. -/
def keyWeights (w : FVec Ideal S256x4096 .f32) : FVec Ideal S256x4096 .bf16 :=
  truncf .bf16 (shapeCast _ (concatenate S256x16x256 2
    [⟨S256x16x128, extractStridedSlice S256x16x128 ![0, 0, 0] (shapeCast _ w shapeCasts_S256x4096_S256x16x256)
        slices_S256x16x256_S256x16x128_0_0_0⟩,
      ⟨S256x16x128, broadcastInDim S256x16x128 ![] bcast_S_S256x16x128 (constant (F := Ideal) S_ .f32 0x00000000#32)⟩]
    concatenates_S256x16x128_S256x16x128_S256x16x256_d2) shapeCasts_S256x16x256_S256x4096) bitsLt_bf16_f32

/-- The call is given these weights. -/
theorem keyWeights_eq (c : Dev nD) : V m c main_v5 = keyWeights (m ((c : Thread nD τ).loc main_arg2)) := by
  unfold V
  after_results_simp <;> (try dsimp only [Matrix.cons_val]) <;> (try after_results_simp) <;> rfl

/-- An entry of the keys' weights. -/
theorem keyWeights_at (w : FVec Ideal S256x4096 .f32) (j : Fin 256) (C : Fin 4096) :
    keyWeights w (ix2 j C) = if C.val % 256 < 128 then (w (ix2 j C) : EReal) else 0 := by
  by_cases h1 : C.val % 256 < 128
  · rw [if_pos h1]
    pointwise [keyWeights, h1]
  · rw [if_neg h1]
    have h2 : C.val % 256 - 128 < 128 := by omega
    pointwise [keyWeights, h1, h2]

/-- The values' weights that the call is given: the last 128 columns of every head. -/
def valueWeights (w : FVec Ideal S256x4096 .f32) : FVec Ideal S256x2048 .bf16 :=
  truncf .bf16 (shapeCast _ (extractStridedSlice S256x16x128 ![0, 0, 128] (shapeCast _ w shapeCasts_S256x4096_S256x16x256)
    slices_S256x16x256_S256x16x128_0_0_128) shapeCasts_S256x16x128_S256x2048) bitsLt_bf16_f32

/-- The call is given these weights. -/
theorem valueWeights_eq (c : Dev nD) : V m c main_v8 = valueWeights (m ((c : Thread nD τ).loc main_arg2)) := by
  unfold V
  after_results_simp <;> (try dsimp only [Matrix.cons_val]) <;> (try after_results_simp) <;> rfl

/-- An entry of the values' weights. -/
theorem valueWeights_at (w : FVec Ideal S256x4096 .f32) (j : Fin 256) (C : Fin 2048) :
    valueWeights w (ix2 j C) = w (ix2 j ⟨C / 128 * 256 + (128 + C % 128), by omega⟩) := by
  pointwise [valueWeights]

/-- The table that puts the position columns in every head: a one where row `i` meets a head's column `128 + i`. -/
def places : FVec Ideal S64x4096 .bf16 :=
  truncf .bf16 (shapeCast _ (select
    (cmpi .eq (iotaInDim S64x16x256 32 2)
      (addi (broadcastInDim S64x16x256 ![] bcast_S_S64x16x256 (constantI S_ 32 128#32)) (iotaInDim S64x16x256 32 0)))
    (broadcastInDim S64x16x256 ![] bcast_S_S64x16x256 (constant (F := Ideal) S_ .f32 0x3F800000#32))
    (broadcastInDim S64x16x256 ![] bcast_S_S64x16x256 (constant (F := Ideal) S_ .f32 0x00000000#32)))
    shapeCasts_S64x16x256_S64x4096) bitsLt_bf16_f32

/-- The call is given this table. -/
theorem places_eq (c : Dev nD) : V m c main_v43 = places := by
  unfold V
  after_results_simp <;> (try dsimp only [Matrix.cons_val]) <;> (try after_results_simp) <;> rfl

/-- An entry of the table. -/
theorem places_at (i : Fin 64) (C : Fin 4096) : places (ix2 i C) = if C.val % 256 = 128 + i.val then (1 : EReal) else 0 := by
  have hb : (BitVec.ofNat 32 (C.val % 256) = 128#32 + BitVec.ofNat 32 i.val) ↔ C.val % 256 = 128 + i.val := by
    have := i.isLt
    rw [← BitVec.toNat_inj]
    simp only [BitVec.toNat_ofNat, BitVec.toNat_add, Nat.reducePow, Nat.reduceMod]
    omega
  have hc : IntOp.cmpi .eq (BitVec.ofNat 32 (C.val % 256)) (IntOp.addi 128#32 (BitVec.ofNat 32 i.val))
      = BitVec.ofBool (decide (C.val % 256 = 128 + i.val)) :=
    congrArg BitVec.ofBool (Bool.eq_iff_iff.2 (beq_iff_eq.trans (hb.trans decide_eq_true_iff.symm)))
  pointwise [places]
  rw [hc]
  by_cases h : C.val % 256 = 128 + i.val
  · rw [if_pos h, decide_eq_true h]
    rfl
  · rw [if_neg h, decide_eq_false h]
    rfl

end Cert.MlaKvIdeal.Latents

end
-- ==== Proof.KvValue.lean ====
/- The call that makes the keys and values computes its reference's three results. -/
module

public import proofs.«01_k».proof.Proof.KvBody
public import Idealize.ShloMosaic.Lib.Pipeline.ValueKit

set_option maxRecDepth 16384

@[expose] public noncomputable section

namespace Cert.MlaKvIdeal.Latents

open Idealize.ShloMosaic Idealize.ShloMosaic.TcCoe Idealize.SL.Sem
open Cert.MlaKvIdeal Cert.MlaKvIdeal.Gen

variable (m : (ℓ : Loc nD τ sig) → Buf (Elt Ideal) ℓ)

/-- The block every window reads or writes at a grid point. -/
theorem index_at : ∀ t : Fin cfg0.N, win0_0.index t = ![t.val, 0]
    ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0] :=
  (by decide +kernel : ∀ t : Fin grid0.N, _)

/-- The rows of the narrow projection that a step reads. -/
theorem rows_at (c : Dev nD) (t : Fin cfg0.N) (r : Fin 256) (l : Fin 384) (R : Fin 8192) (hR : R.val = t * 256 + r) :
    X0_0 m c t (ix2 r l) = m ((c : Thread nD τ).loc main_arg0) (ix2 R ⟨l, by omega⟩) := by
  unfold X0_0 Pipeline.Window.fill
  rw [dif_pos (moved0_0 t _)]
  blk_point [iblk, V, index_at t, hR]

/-- The normed latents of a step are the reference's. -/
theorem step_normed (c : Dev nD) (t : Fin cfg0.N) (r l : Fin 256) (R : Fin 8192) (hR : R.val = t * 256 + r) :
    k0_pay3 (F := Ideal) (X0_0 m c t) (iblk m c 1 t) (ix2 r l)
      = Cert.RefKvIdeal.Latents.normed (m ((c : Thread nD τ).loc main_arg0)) (m ((c : Thread nD τ).loc main_arg1)) (ix2 R l) := by
  refine (normed_at _ _ r l).trans (Eq.trans ?_ (Cert.RefKvIdeal.Latents.normed_at _ _ R l).symm)
  refine Latent.rms_congr _ (fun i => ?_) (fun i => ?_) l
  · exact rows_at m c t r ⟨i, by omega⟩ R hR
  · blk_point [iblk, V, index_at t]

/-- The keys' weights, as a step reads them. -/
theorem step_keyWeights (c : Dev nD) (t : Fin cfg0.N) (j : Fin 256) (C : Fin 4096) :
    iblk m c 2 t (ix2 j C) = keyWeights (m ((c : Thread nD τ).loc main_arg2)) (ix2 j C) := by
  rw [← keyWeights_eq]
  unfold iblk
  refine congrArg (V m c main_v5) (funext fun a => Fin.ext ?_)
  match a with
  | 0 => blk_simp [index_at t]
  | 1 => blk_simp [index_at t]

/-- The values' weights, as a step reads them. -/
theorem step_valueWeights (c : Dev nD) (t : Fin cfg0.N) (j : Fin 256) (C : Fin 2048) :
    iblk m c 3 t (ix2 j C) = valueWeights (m ((c : Thread nD τ).loc main_arg2)) (ix2 j C) := by
  rw [← valueWeights_eq]
  unfold iblk
  refine congrArg (V m c main_v8) (funext fun a => Fin.ext ?_)
  match a with
  | 0 => blk_simp [index_at t]
  | 1 => blk_simp [index_at t]

/-- The table of places, as a step reads it. -/
theorem step_places (c : Dev nD) (t : Fin cfg0.N) (i : Fin 64) (C : Fin 4096) :
    iblk m c 4 t (ix2 i C) = if C.val % 256 = 128 + i.val then (1 : EReal) else 0 := by
  refine Eq.trans ?_ (places_at i C)
  rw [← places_eq m c]
  unfold iblk
  refine congrArg (V m c main_v43) (funext fun a => Fin.ext ?_)
  match a with
  | 0 => blk_simp [index_at t]
  | 1 => blk_simp [index_at t]

/-- The table of cosines is one everywhere. -/
theorem step_cos (c : Dev nD) (t : Fin cfg0.N) (r : Fin 256) (i : Fin 64) : iblk m c 6 t (ix2 r i) = (1 : EReal) := by
  blk_point [iblk, V, index_at t]

/-- The table of sines is zero everywhere. -/
theorem step_sin (c : Dev nD) (t : Fin cfg0.N) (r : Fin 256) (i : Fin 64) : iblk m c 7 t (ix2 r i) = (0 : EReal) := by
  blk_point [iblk, V, index_at t]

/-- One product of a step: what is read from the rows, from one table and from another. -/
def term (x s e : EReal) : EReal := x * s * e

/-- A product whose second factor is one. -/
theorem term_one {x x' s e e' : EReal} (hx : x = x') (hs : s = 1) (he : e = e') : term x s e = x' * e' := by
  rw [term, hx, hs, he, mul_one]

/-- A product whose second factor is zero. -/
theorem term_zero {x s e : EReal} (hs : s = 0) : term x s e = 0 := by
  rw [term, hs, mul_zero, zero_mul]

/-- A column of the rows that a step reads, as a number. -/
def position (c : Dev nD) (R : Fin 8192) (i : Fin 64) : EReal := m ((c : Thread nD τ).loc main_arg0) (ix2 R ⟨256 + i, by omega⟩)

/-- An entry of the keys of a step is the reference's. -/
theorem step_keys (c : Dev nD) (t : Fin cfg0.N) (r : Fin 256) (C : Fin 4096) (R : Fin 8192) (hR : R.val = t * 256 + r) :
    k0_pay1 (F := Ideal) (k0_pay5 (X0_0 m c t) (iblk m c 7 t))
        (k0_pay7 (X0_0 m c t) (iblk m c 1 t) (iblk m c 6 t) (iblk m c 2 t) (iblk m c 4 t)) (k0_pay8 (iblk m c 5 t))
        (constant S256x4096 .f32 0x00000000#32) (ix2 r C)
      = Cert.RefKvIdeal.Latents.keys (m ((c : Thread nD τ).loc main_arg0)) (m ((c : Thread nD τ).loc main_arg1))
        (m ((c : Thread nD τ).loc main_arg2)) (ix2 R C) := by
  refine (keys_at _ _ _ _ _ _ _ r C).trans (Eq.trans ?_ (Cert.RefKvIdeal.Latents.keys_at _ _ _ R C).symm)
  have h₁ : ∀ j : Fin 256, (k0_pay3 (F := Ideal) (X0_0 m c t) (iblk m c 1 t) (ix2 r j) : EReal) * iblk m c 2 t (ix2 j C)
      = Cert.RefKvIdeal.Latents.normed (m ((c : Thread nD τ).loc main_arg0)) (m ((c : Thread nD τ).loc main_arg1)) (ix2 R j)
        * if C.val % 256 < 128 then (m ((c : Thread nD τ).loc main_arg2) (ix2 j C) : EReal) else (0 : EReal) := fun j =>
    congrArg₂ (fun a b : EReal => a * b) (step_normed m c t r j R hR)
      ((step_keyWeights m c t j C).trans (keyWeights_at _ j C))
  have h₂ : ∀ i : Fin 64, term (X0_0 m c t (ix2 r ⟨256 + i, by omega⟩)) (iblk m c 6 t (ix2 r i)) (iblk m c 4 t (ix2 i C))
      = position m c R i * if C.val % 256 = 128 + i.val then (1 : EReal) else 0 := fun i =>
    term_one (rows_at m c t r ⟨256 + i, by omega⟩ R hR) (step_cos m c t r i) (step_places m c t i C)
  have h₃ : ∀ i : Fin 64, term (X0_0 m c t (ix2 r ⟨256 + i, by omega⟩)) (iblk m c 7 t (ix2 r i)) (iblk m c 5 t (ix2 i C))
      = (0 : EReal) := fun i =>
    term_zero (step_sin m c t r i)
  refine (congrArg₂ (fun a b : EReal => a + b)
    (congrArg₂ (fun a b : EReal => a + b) (Finset.sum_congr rfl fun j _ => h₁ j) (Finset.sum_congr rfl fun i _ => h₂ i))
    (Finset.sum_eq_zero fun i _ => h₃ i)).trans ((add_zero _).trans ?_)
  by_cases hk : C.val % 256 < 128
  · simp only [if_pos hk]
    refine (congrArg (fun b : EReal => _ + b) (Finset.sum_eq_zero fun i _ => ?_)).trans (add_zero _)
    rw [if_neg (by omega), mul_zero]
  · simp only [if_neg hk, mul_zero, Finset.sum_const_zero, zero_add]
    by_cases hp : C.val % 256 < 192
    · rw [dif_pos hp]
      refine (Finset.sum_eq_single ⟨C.val % 256 - 128, by omega⟩ (fun i _ hi => ?_) fun hi => absurd (Finset.mem_univ _) hi).trans ?_
      · rw [if_neg (fun e => hi (Fin.ext (by simp only; omega))), mul_zero]
      · rw [if_pos (by simp only; omega), mul_one]
        rfl
    · rw [dif_neg hp]
      refine Finset.sum_eq_zero fun i _ => ?_
      rw [if_neg (by omega), mul_zero]

/-- An entry of the values of a step is the reference's. -/
theorem step_values (c : Dev nD) (t : Fin cfg0.N) (r : Fin 256) (C : Fin 2048) (R : Fin 8192) (hR : R.val = t * 256 + r) :
    k0_pay2 (F := Ideal) (k0_pay6 (X0_0 m c t) (iblk m c 1 t)) (iblk m c 3 t) (ix2 r C)
      = Cert.RefKvIdeal.Latents.values (m ((c : Thread nD τ).loc main_arg0)) (m ((c : Thread nD τ).loc main_arg1))
        (m ((c : Thread nD τ).loc main_arg2)) (ix2 R C) := by
  refine (values_at _ _ _ r C).trans (Eq.trans ?_ (Cert.RefKvIdeal.Latents.values_at _ _ _ R C).symm)
  exact Finset.sum_congr rfl fun j _ => congrArg₂ (fun a b : EReal => a * b) (step_normed m c t r j R hR)
    ((step_valueWeights m c t j C).trans (valueWeights_at _ j C))

/-- The keys of every step lie where the reference's do. -/
theorem point_keys (c : Dev nD) (t : Fin cfg0.N) (y) :
    k0_pay1 (F := Ideal) (k0_pay5 (X0_0 m c t) (iblk m c 7 t))
        (k0_pay7 (X0_0 m c t) (iblk m c 1 t) (iblk m c 6 t) (iblk m c 2 t) (iblk m c 4 t)) (k0_pay8 (iblk m c 5 t))
        (constant S256x4096 .f32 0x00000000#32) y
      = Cert.RefKvIdeal.Latents.keys (m ((c : Thread nD τ).loc main_arg0)) (m ((c : Thread nD τ).loc main_arg1))
        (m ((c : Thread nD τ).loc main_arg2)) (((cfg0.win 8).blk t).view.emb y) := by
  obtain ⟨r, l, rfl⟩ : ∃ (r : Fin 256) (l : Fin 4096), y = ix2 r l := ⟨y 0, y 1, eq_ix2 y⟩
  have hR : t.val * 256 + r.val < 8192 := by have := lt_of_lt_of_eq t.isLt N_0; omega
  refine (step_keys m c t r l ⟨_, hR⟩ rfl).trans (congrArg _ (funext fun a => Fin.ext ?_))
  match a with
  | 0 => blk_simp [index_at t]
  | 1 => blk_simp [index_at t]

/-- The values of every step lie where the reference's do. -/
theorem point_values (c : Dev nD) (t : Fin cfg0.N) (y) :
    k0_pay2 (F := Ideal) (k0_pay6 (X0_0 m c t) (iblk m c 1 t)) (iblk m c 3 t) y
      = Cert.RefKvIdeal.Latents.values (m ((c : Thread nD τ).loc main_arg0)) (m ((c : Thread nD τ).loc main_arg1))
        (m ((c : Thread nD τ).loc main_arg2)) (((cfg0.win 9).blk t).view.emb y) := by
  obtain ⟨r, l, rfl⟩ : ∃ (r : Fin 256) (l : Fin 2048), y = ix2 r l := ⟨y 0, y 1, eq_ix2 y⟩
  have hR : t.val * 256 + r.val < 8192 := by have := lt_of_lt_of_eq t.isLt N_0; omega
  refine (step_values m c t r l ⟨_, hR⟩ rfl).trans (congrArg _ (funext fun a => Fin.ext ?_))
  match a with
  | 0 => blk_simp [index_at t]
  | 1 => blk_simp [index_at t]

/-- The normed latents of every step lie where the reference's do. -/
theorem point_normed (c : Dev nD) (t : Fin cfg0.N) (y) :
    k0_pay3 (F := Ideal) (X0_0 m c t) (iblk m c 1 t) y
      = Cert.RefKvIdeal.Latents.normed (m ((c : Thread nD τ).loc main_arg0)) (m ((c : Thread nD τ).loc main_arg1))
        (((cfg0.win 10).blk t).view.emb y) := by
  obtain ⟨r, l, rfl⟩ : ∃ (r : Fin 256) (l : Fin 256), y = ix2 r l := ⟨y 0, y 1, eq_ix2 y⟩
  have hR : t.val * 256 + r.val < 8192 := by have := lt_of_lt_of_eq t.isLt N_0; omega
  refine (step_normed m c t r l ⟨_, hR⟩ rfl).trans (congrArg _ (funext fun a => Fin.ext ?_))
  match a with
  | 0 => blk_simp [index_at t]
  | 1 => blk_simp [index_at t]

/-- The whole of the keys is the reference's. -/
theorem final_keys (c : Dev nD) : (dats m 0 c).arrAt 8 (cfgs 0).N
    = Cert.RefKvIdeal.Latents.keys (m ((c : Thread nD τ).loc main_arg0)) (m ((c : Thread nD τ).loc main_arg1))
        (m ((c : Thread nD τ).loc main_arg2)) := by
  refine (dats m 0 c).arrAt_eq_of_covers 8 _ (by decide +kernel) fun t hf y => ?_
  blk_simp
  rw [after0_8]
  dsimp only [outsAt0]
  frame_out
  exact point_keys m c t _

/-- The whole of the values is the reference's. -/
theorem final_values (c : Dev nD) : (dats m 0 c).arrAt 9 (cfgs 0).N
    = Cert.RefKvIdeal.Latents.values (m ((c : Thread nD τ).loc main_arg0)) (m ((c : Thread nD τ).loc main_arg1))
        (m ((c : Thread nD τ).loc main_arg2)) := by
  refine (dats m 0 c).arrAt_eq_of_covers 9 _ (by decide +kernel) fun t hf y => ?_
  blk_simp
  rw [after0_9]
  dsimp only [outsAt0]
  frame_out
  exact point_values m c t _

/-- The whole of the normed latents is the reference's. -/
theorem final_normed (c : Dev nD) : (dats m 0 c).arrAt 10 (cfgs 0).N
    = Cert.RefKvIdeal.Latents.normed (m ((c : Thread nD τ).loc main_arg0)) (m ((c : Thread nD τ).loc main_arg1)) := by
  refine (dats m 0 c).arrAt_eq_of_covers 10 _ (by decide +kernel) fun t hf y => ?_
  blk_simp
  rw [after0_10]
  dsimp only [outsAt0]
  frame_out
  exact point_normed m c t _

end Cert.MlaKvIdeal.Latents

end
-- ==== Proof.QRef.lean ====
/- The reference of the queries: their latents normed, projected, scaled by the root of 192 and padded with zeros; read at one entry. -/
module

public import proofs.«01_k».proof.Proof.Gen.RefQIdeal.Run
public import proofs.«01_k».proof.Proof.KvRef

set_option maxRecDepth 16384

@[expose] public noncomputable section

namespace Latent

open Idealize.ShloMosaic

/-- The scale of the queries: one over the root of 192. -/
def scale : EReal := ((Real.sqrt 192)⁻¹ : ℝ)

/-- The reference's constant is 192. -/
theorem ofBits_192 : Ideal.ofBits .f32 0x43400000#32 = ((192 : ℝ) : EReal) := by
  simp [Ideal.ofBits, Ideal.ieee, -EReal.coe_mul]; norm_num

/-- A quotient by the root of 192 is a product with the scale. -/
theorem div_root (x : EReal) : Ideal.div x (Ideal.sqrt (Ideal.ofBits .f32 0x43400000#32)) = x * scale := by
  simp only [ofBits_192, Ideal.sqrt_coe, show ¬(192 : ℝ) < 0 from by norm_num, ↓reduceIte,
    Ideal.div_coe (show Real.sqrt 192 ≠ 0 from (Real.sqrt_pos.mpr (by norm_num)).ne'), one_div, scale]

end Latent

namespace Cert.RefQIdeal.Latents

open Idealize.ShloMosaic Idealize.ShloMosaic.TcCoe Idealize.SL.Sem
open Cert.RefQIdeal Cert.RefQIdeal.Gen

/-- The latents: the last 512 columns. -/
def latents (x : FVec Ideal S8192x1024 .f32) : FVec Ideal S8192x512 .f32 :=
  extractStridedSlice S8192x512 ![0, 512] x slices_S8192x1024_S8192x512_0_512

/-- The norm of every row of latents. -/
def normed (x : FVec Ideal S8192x1024 .f32) (g : FVec Ideal S512 .f32) : FVec Ideal S8192x512 .f32 :=
  mulf (mulf (latents x) (broadcastInDim S8192x512 ![0, 1] bcast_S8192x1_S8192x512_0_1
      (Host.rsqrt (addf
        (Host.divf (broadcastInDim S8192x1 ![0] bcast_S8192_S8192x1_0
            (Host.reduceAdd (mulf (latents x) (latents x)) (constant S_ .f32 0x00000000#32) reducesTo_S8192x512_S8192_d1 h_S_))
          (broadcastInDim S8192x1 ![] bcast_S_S8192x1 (constant S_ .f32 0x44000000#32)))
        (broadcastInDim S8192x1 ![] bcast_S_S8192x1 (constant S_ .f32 0x358637BD#32))))))
    (broadcastInDim S8192x512 ![0, 1] bcast_S1x512_S8192x512_0_1 (broadcastInDim S1x512 ![1] bcast_S512_S1x512_1 g))

/-- Their projection, by head. -/
def heads (x : FVec Ideal S8192x1024 .f32) (g : FVec Ideal S512 .f32) (w : FVec Ideal S512x3072 .f32) : FVec Ideal S8192x16x192 .f32 :=
  shapeCast _ (Host.dotGeneral (φ₁ := .f32) (φ₂ := .f32) dot_S8192x512_S512x3072_S8192x3072_1_0_0_1_n_n none (normed x g) w)
    shapeCasts_S8192x3072_S8192x16x192

/-- The queries. -/
def queries (x : FVec Ideal S8192x1024 .f32) (g : FVec Ideal S512 .f32) (w : FVec Ideal S512x3072 .f32) : FVec Ideal S8192x4096 .bf16 :=
  truncf .bf16 (shapeCast _ (concatenate S8192x16x256 2
    [⟨S8192x16x192, Host.divf (heads x g w)
        (broadcastInDim S8192x16x192 ![] bcast_S_S8192x16x192 (Host.sqrt (constant (F := Ideal) S_ .f32 0x43400000#32)))⟩,
      ⟨S8192x16x64, broadcastInDim S8192x16x64 ![] bcast_S_S8192x16x64 (constant (F := Ideal) S_ .f32 0x00000000#32)⟩]
    concatenates_S8192x16x192_S8192x16x64_S8192x16x256_d2) shapeCasts_S8192x16x256_S8192x4096) bitsLt_bf16_f32

/-- An entry of the normed latents. -/
theorem normed_at (x : FVec Ideal S8192x1024 .f32) (g : FVec Ideal S512 .f32) (R : Fin 8192) (l : Fin 512) : normed x g (ix2 R l)
    = Latent.rms 1140850688#32 (fun i : Fin 512 => x (ix2 R ⟨512 + i, by omega⟩)) (fun i => g (ix1 i)) l := by
  unfold Latent.rms
  pointwise [normed, latents]

/-- An entry of their projection. -/
theorem heads_at (x : FVec Ideal S8192x1024 .f32) (g : FVec Ideal S512 .f32) (w : FVec Ideal S512x3072 .f32) (R : Fin 8192) (h : Fin 16)
    (l : Fin 192) : heads x g w (ix3 R h l)
      = ∑ j : Fin 512, (normed x g (ix2 R j) : EReal) * w (ix2 j ⟨h * 192 + l, by omega⟩) := by
  pointwise [heads]

/-- Column `C` of the queries: in each head 192 columns of the projection, scaled, and zeros. -/
theorem queries_at (x : FVec Ideal S8192x1024 .f32) (g : FVec Ideal S512 .f32) (w : FVec Ideal S512x3072 .f32) (R : Fin 8192)
    (C : Fin 4096) : queries x g w (ix2 R C)
      = if h : C.val % 256 < 192 then
          (∑ j : Fin 512, (normed x g (ix2 R j) : EReal) * w (ix2 j ⟨C / 256 * 192 + C % 256, by omega⟩)) * Latent.scale
        else 0 := by
  by_cases h1 : C.val % 256 < 192
  · rw [dif_pos h1, ← heads_at x g w R ⟨C / 256, by omega⟩ ⟨C % 256, h1⟩, ← Latent.div_root]
    pointwise [queries, h1]
  · rw [dif_neg h1]
    have h2 : C.val % 256 - 192 < 64 := by omega
    pointwise [queries, h1, h2]

end Cert.RefQIdeal.Latents

end
-- ==== Proof.QBody.lean ====
/- The call that makes the queries: what it is given and what one step of it computes, entry by entry. -/
module

public import proofs.«01_k».proof.Proof.Gen.MlaQIdeal.Frame
public import proofs.«01_k».proof.Proof.QRef

set_option maxRecDepth 16384

@[expose] public noncomputable section

namespace Cert.MlaQIdeal.Latents

open Idealize.ShloMosaic Idealize.ShloMosaic.TcCoe Idealize.SL.Sem
open Cert.MlaQIdeal Cert.MlaQIdeal.Gen

/-- The kernel's constant is the scale. -/
theorem scale_eq : Named.named (F := Ideal) Cert.MlaQIdeal.κ "s" (φ := .f32) 0x3D93CD3A#32 = Latent.scale :=
  IdealRules.named_const.ideal_named_scalar _ _ _ _ rfl

/-- An entry of the normed latents of a step. -/
theorem normed_at (x : FVec Ideal S256x512 .f32) (g : FVec Ideal S1x512 .f32) (r : Fin 256) (l : Fin 512) :
    k0_pay3 (F := Ideal) x g (ix2 r l) = Latent.rms 1140850688#32 (fun i : Fin 512 => x (ix2 r i)) (fun i => g (ix2 0 i)) l := by
  unfold Latent.rms
  pointwise [k0_pay3]

/-- A column of the latents' projection, kept or dropped, and scaled. -/
def entry (h : FVec Ideal S256x512 .bf16) (w : FVec Ideal S512x1024 .bf16) (ca : FVec Ideal S256x256 .f32) (r l : Fin 256)
    (C : Fin 1024) : EReal :=
  (∑ j : Fin 512, (h (ix2 r j) : EReal) * w (ix2 j C)) * ca (ix2 r l) * Latent.scale

/-- A term times zero is dropped. -/
theorem dropped (a b s : EReal) : (a + b * 0) * s = a * s := by
  rw [mul_zero, add_zero]

variable (h : FVec Ideal S256x512 .bf16) (w : FVec Ideal S512x1024 .bf16) (ca cb : FVec Ideal S256x256 .f32)
  (hcb : ∀ r l : Fin 256, cb (ix2 r l) = (0 : EReal)) (r l : Fin 256)

include hcb

/-- The first head of a step. -/
theorem head₀_at : k0_pay7 (F := Ideal) h w ca cb (ix2 r l) = entry h w ca r l ⟨l, by omega⟩ := by
  unfold entry
  rw [← scale_eq]
  pointwise [k0_pay7, k0_pay4, k0_pay5, k0_pay6, hcb]
  exact dropped _ _ _

/-- The second head of a step. -/
theorem head₁_at : k0_pay8 (F := Ideal) h w ca cb (ix2 r l) = entry h w ca r l ⟨256 + l, by omega⟩ := by
  unfold entry
  rw [← scale_eq]
  pointwise [k0_pay8, k0_pay4, k0_pay5, k0_pay6, hcb]
  exact dropped _ _ _

/-- The third head of a step. -/
theorem head₂_at : k0_pay1 (F := Ideal) (k0_pay9 h w ca cb) (Named.named κ "s" 0x3D93CD3A#32) (ix2 r l)
    = entry h w ca r l ⟨512 + l, by omega⟩ := by
  unfold entry
  rw [← scale_eq]
  pointwise [k0_pay1, k0_pay9, k0_pay4, k0_pay5, k0_pay6, hcb]
  exact dropped _ _ _

/-- The fourth head of a step. -/
theorem head₃_at : k0_pay2 (F := Ideal) (k0_pay4 h w) (k0_pay5 ca) (k0_pay6 cb) (ix2 r l)
    = entry h w ca r l ⟨768 + l, by omega⟩ := by
  unfold entry
  rw [← scale_eq]
  pointwise [k0_pay2, k0_pay4, k0_pay5, k0_pay6, hcb]
  exact dropped _ _ _

end Cert.MlaQIdeal.Latents

end
-- ==== Proof.QValue.lean ====
/- The call that makes the queries computes its reference. -/
module

public import proofs.«01_k».proof.Proof.QBody
public import Idealize.ShloMosaic.Lib.Pipeline.ValueKit

set_option maxRecDepth 16384

@[expose] public noncomputable section

namespace Cert.MlaQIdeal.Latents

open Idealize.ShloMosaic Idealize.ShloMosaic.TcCoe Idealize.SL.Sem
open Idealize.ShloMosaic.Pipeline (Dat)
open Cert.MlaQIdeal Cert.MlaQIdeal.Gen

variable (m : (ℓ : Loc nD τ sig) → Buf (Elt Ideal) ℓ)

/-- The block every window reads or writes at a grid point. -/
theorem index_at : ∀ t : Fin cfg0.N, win0_0.index t = ![t.val / 4, 1]
    ∧ win0_1.index t = ![0, 0] ∧ win0_2.index t = ![0, t.val % 4] ∧ win0_3.index t = ![0, 0] ∧ win0_4.index t = ![0, 0]
    ∧ win0_5.index t = ![t.val / 4, t.val % 4] :=
  (by decide +kernel : ∀ t : Fin grid0.N, _)

/-- The part of a head that turns with the position, turned: the columns beside the queries' own. -/
def turned (w : FVec Ideal S512x3072 .f32) : FVec Ideal S512x16x64 .f32 :=
  concatenate S512x16x64 2
    [⟨S512x16x32, Host.negf (extractStridedSlice S512x16x32 ![0, 0, 32]
        (extractStridedSlice S512x16x64 ![0, 0, 128] (shapeCast _ w shapeCasts_S512x3072_S512x16x192) slices_S512x16x192_S512x16x64_0_0_128)
        slices_S512x16x64_S512x16x32_0_0_32)⟩,
      ⟨S512x16x32, extractStridedSlice S512x16x32 ![0, 0, 0]
        (extractStridedSlice S512x16x64 ![0, 0, 128] (shapeCast _ w shapeCasts_S512x3072_S512x16x192) slices_S512x16x192_S512x16x64_0_0_128)
        slices_S512x16x64_S512x16x32_0_0_0⟩] concatenates_S512x16x32_S512x16x32_S512x16x64_d2

/-- The weights that the call is given: 192 columns a head, and 64 turned ones beside them. -/
def weights (w : FVec Ideal S512x3072 .f32) : FVec Ideal S512x4096 .bf16 :=
  truncf .bf16 (shapeCast _ (concatenate S512x16x256 2
    [⟨S512x16x192, shapeCast _ w shapeCasts_S512x3072_S512x16x192⟩, ⟨S512x16x64, turned w⟩]
    concatenates_S512x16x192_S512x16x64_S512x16x256_d2) shapeCasts_S512x16x256_S512x4096) bitsLt_bf16_f32

/-- The call is given these weights. -/
theorem weights_eq (c : Dev nD) : V m c main_v8 = weights (m ((c : Thread nD τ).loc main_arg2)) := by
  unfold V
  after_results_simp <;> (try dsimp only [Matrix.cons_val]) <;> (try after_results_simp) <;> rfl

/-- A column of the weights that is a query's own. -/
theorem weights_at (w : FVec Ideal S512x3072 .f32) (j : Fin 512) (C : Fin 4096) (h : C.val % 256 < 192) :
    weights w (ix2 j C) = w (ix2 j ⟨C / 256 * 192 + C % 256, by omega⟩) := by
  pointwise [weights, h]

/-- The table that keeps or drops a column: 192 ones and 64 zeros. -/
def keep : FVec Ideal S256x256 .f32 :=
  concatenate S256x256 1
    [⟨S256x192, broadcastInDim S256x192 ![] bcast_S_S256x192 (constant (F := Ideal) S_ .f32 0x3F800000#32)⟩,
      ⟨S256x64, broadcastInDim S256x64 ![] bcast_S_S256x64 (constant (F := Ideal) S_ .f32 0x00000000#32)⟩]
    concatenates_S256x192_S256x64_S256x256_d1

/-- The call is given this table. -/
theorem keep_eq (c : Dev nD) : V m c main_v13 = keep := by
  unfold V
  after_results_simp <;> (try dsimp only [Matrix.cons_val]) <;> (try after_results_simp) <;> rfl

/-- An entry of the table. -/
theorem keep_at (r l : Fin 256) : keep (ix2 r l) = if l.val < 192 then (1 : EReal) else 0 := by
  by_cases h1 : l.val < 192
  · rw [if_pos h1]
    pointwise [keep, h1]
  · rw [if_neg h1]
    have h2 : l.val - 192 < 64 := by omega
    pointwise [keep, h1, h2]

/-- The weights, as a step reads them. -/
theorem step_weights (c : Dev nD) (t : Fin cfg0.N) (j : Fin 512) (L : Fin 1024) (C : Fin 4096) (hC : C.val = t.val % 4 * 1024 + L) :
    iblk m c 2 t (ix2 j L) = weights (m ((c : Thread nD τ).loc main_arg2)) (ix2 j C) := by
  rw [← weights_eq]
  unfold iblk
  refine congrArg (V m c main_v8) (funext fun a => Fin.ext ?_)
  match a with
  | 0 => blk_simp [index_at t]
  | 1 => blk_simp [index_at t, hC]

/-- The table that keeps or drops a column, as a step reads it. -/
theorem step_keep (c : Dev nD) (t : Fin cfg0.N) (r l : Fin 256) :
    iblk m c 3 t (ix2 r l) = if l.val < 192 then (1 : EReal) else 0 := by
  refine Eq.trans ?_ (keep_at r l)
  rw [← keep_eq m c]
  unfold iblk
  refine congrArg (V m c main_v13) (funext fun a => Fin.ext ?_)
  match a with
  | 0 => blk_simp [index_at t]
  | 1 => blk_simp [index_at t]

/-- The other table is zero everywhere. -/
theorem step_zero (c : Dev nD) (t : Fin cfg0.N) (r l : Fin 256) : iblk m c 4 t (ix2 r l) = (0 : EReal) := by
  blk_point [iblk, V, index_at t]

/-- The normed latents of a row tile are the reference's. -/
def Kept (c : Dev nD) (T : ℕ) (h : FVec Ideal S256x512 .bf16) : Prop :=
  ∀ (r : Fin 256) (l : Fin 512) (R : Fin 8192), R.val = T * 256 + r →
    h (ix2 r l) = Cert.RefQIdeal.Latents.normed (m ((c : Thread nD τ).loc main_arg0)) (m ((c : Thread nD τ).loc main_arg1)) (ix2 R l)

/-- The first step of a row tile keeps its normed latents. -/
theorem kept_first (c : Dev nD) (t : Fin cfg0.N) : Kept m c (t / 4) (k0_pay3 (F := Ideal) (iblk m c 0 t) (iblk m c 1 t)) := by
  intro r l R hR
  refine (normed_at _ _ r l).trans (Eq.trans ?_ (Cert.RefQIdeal.Latents.normed_at _ _ R l).symm)
  refine Latent.rms_congr _ (fun i => ?_) (fun i => ?_) l
  · blk_point [iblk, V, index_at t]
  · blk_point [iblk, V, index_at t]

/-- The first step of a row tile leaves its normed latents in the scratch. -/
theorem kept_reset (c : Dev nD) (t : Fin cfg0.N) (h : t.val % 4 = 0) : Kept m c (t / 4) (outsAt0 m c t.val t.isLt).2 := by
  intro r l R hR
  rw [← kept_first m c t r l R hR, outsAt0_A m c t h]
  dsimp only
  frame_out

/-- After every step the scratch holds the normed latents of the step's row tile. -/
theorem kept (c : Dev nD) (n : ℕ) (hn : n < cfg0.N) : Kept m c (n / 4) (outsAt0 m c n hn).2 := by
  induction n with
  | zero => exact kept_reset m c ⟨0, hn⟩ rfl
  | succ n ih =>
    by_cases h : (n + 1) % 4 = 0
    · exact kept_reset m c ⟨n + 1, hn⟩ h
    · rw [outsAt0_B m c ⟨n + 1, hn⟩ h, ← (by omega : n / 4 = (n + 1) / 4)]
      exact ih (Nat.lt_of_succ_lt hn)

/-- An entry of a step is the reference's. -/
theorem step_entry (c : Dev nD) (t : Fin cfg0.N) (h : FVec Ideal S256x512 .bf16) (hh : Kept m c (t / 4) h) (r l : Fin 256)
    (L : Fin 1024) (hL : L.val % 256 = l) (R : Fin 8192) (hR : R.val = t / 4 * 256 + r) (C : Fin 4096)
    (hC : C.val = t.val % 4 * 1024 + L) :
    entry h (iblk m c 2 t) (iblk m c 3 t) r l L
      = Cert.RefQIdeal.Latents.queries (m ((c : Thread nD τ).loc main_arg0)) (m ((c : Thread nD τ).loc main_arg1))
        (m ((c : Thread nD τ).loc main_arg2)) (ix2 R C) := by
  refine Eq.trans ?_ (Cert.RefQIdeal.Latents.queries_at _ _ _ R C).symm
  have hl : C.val % 256 = l := by omega
  have hk := step_keep m c t r l
  unfold entry
  by_cases h1 : C.val % 256 < 192
  · rw [dif_pos h1]
    rw [if_pos (by omega)] at hk
    rw [hk, mul_one]
    refine congrArg (fun a : EReal => a * Latent.scale) (Finset.sum_congr rfl fun j _ => congrArg₂ (fun a b : EReal => a * b) (hh r j R hR) ?_)
    exact (step_weights m c t j L C hC).trans (weights_at _ j C h1)
  · rw [dif_neg h1]
    rw [if_neg (by omega)] at hk
    rw [hk, mul_zero, zero_mul]

/-- The queries of every step lie where the reference's do: their four heads' columns. -/
def Heads (c : Dev nD) (t : Fin cfg0.N) (k : Fin 4) (v : FVec Ideal S256x256 .bf16) : Prop :=
  ∀ (r l : Fin 256) (R : Fin 8192) (C : Fin 4096), R.val = t / 4 * 256 + r → C.val = t.val % 4 * 1024 + (k * 256 + l) →
    v (ix2 r l) = Cert.RefQIdeal.Latents.queries (m ((c : Thread nD τ).loc main_arg0)) (m ((c : Thread nD τ).loc main_arg1))
        (m ((c : Thread nD τ).loc main_arg2)) (ix2 R C)

/-- The first head of a step. -/
theorem head₀ (c : Dev nD) (t : Fin cfg0.N) (h : FVec Ideal S256x512 .bf16) (hh : Kept m c (t / 4) h) :
    Heads m c t 0 (k0_pay7 (F := Ideal) h (iblk m c 2 t) (iblk m c 3 t) (iblk m c 4 t)) := fun r l R C hR hC =>
  (head₀_at h _ _ _ (step_zero m c t) r l).trans (step_entry m c t h hh r l _ (by simp only; omega) R hR C (by simp at hC ⊢; omega))

/-- The second head of a step. -/
theorem head₁ (c : Dev nD) (t : Fin cfg0.N) (h : FVec Ideal S256x512 .bf16) (hh : Kept m c (t / 4) h) :
    Heads m c t 1 (k0_pay8 (F := Ideal) h (iblk m c 2 t) (iblk m c 3 t) (iblk m c 4 t)) := fun r l R C hR hC =>
  (head₁_at h _ _ _ (step_zero m c t) r l).trans (step_entry m c t h hh r l _ (by simp only; omega) R hR C (by simp at hC ⊢; omega))

/-- The third head of a step. -/
theorem head₂ (c : Dev nD) (t : Fin cfg0.N) (h : FVec Ideal S256x512 .bf16) (hh : Kept m c (t / 4) h) :
    Heads m c t 2 (k0_pay1 (F := Ideal) (k0_pay9 h (iblk m c 2 t) (iblk m c 3 t) (iblk m c 4 t)) (Named.named κ "s" 0x3D93CD3A#32)) :=
  fun r l R C hR hC =>
  (head₂_at h _ _ _ (step_zero m c t) r l).trans (step_entry m c t h hh r l _ (by simp only; omega) R hR C (by simp at hC ⊢; omega))

/-- The fourth head of a step. -/
theorem head₃ (c : Dev nD) (t : Fin cfg0.N) (h : FVec Ideal S256x512 .bf16) (hh : Kept m c (t / 4) h) :
    Heads m c t 3 (k0_pay2 (F := Ideal) (k0_pay4 h (iblk m c 2 t)) (k0_pay5 (iblk m c 3 t)) (k0_pay6 (iblk m c 4 t))) :=
  fun r l R C hR hC =>
  (head₃_at h _ _ _ (step_zero m c t) r l).trans (step_entry m c t h hh r l _ (by simp only; omega) R hR C (by simp at hC ⊢; omega))

/-- Every step stores the reference's entries of its block. -/
theorem point (c : Dev nD) (t : Fin cfg0.N) (h : FVec Ideal S256x512 .bf16) (hh : Kept m c (t / 4) h) (y : S256x1024.Idx) :
    View.canon (Val := Elt Ideal) (s := S256x1024) (e := .bf16)
      [⟨Rect.unit ![0, 768] ![256, 256] inb_S256x1024_S256x256_0_768,
          k0_pay2 (F := Ideal) (k0_pay4 h (iblk m c 2 t)) (k0_pay5 (iblk m c 3 t)) (k0_pay6 (iblk m c 4 t))⟩,
        ⟨Rect.unit ![0, 512] ![256, 256] inb_S256x1024_S256x256_0_512,
          k0_pay1 (F := Ideal) (k0_pay9 h (iblk m c 2 t) (iblk m c 3 t) (iblk m c 4 t)) (Named.named κ "s" 0x3D93CD3A#32)⟩,
        ⟨Rect.unit ![0, 256] ![256, 256] inb_S256x1024_S256x256_0_256,
          k0_pay8 (F := Ideal) h (iblk m c 2 t) (iblk m c 3 t) (iblk m c 4 t)⟩,
        ⟨Rect.unit ![0, 0] ![256, 256] inb_S256x1024_S256x256_0_0,
          k0_pay7 (F := Ideal) h (iblk m c 2 t) (iblk m c 3 t) (iblk m c 4 t)⟩] y
      = Cert.RefQIdeal.Latents.queries (m ((c : Thread nD τ).loc main_arg0)) (m ((c : Thread nD τ).loc main_arg1))
        (m ((c : Thread nD τ).loc main_arg2)) (((cfg0.win 5).blk t).view.emb y) := by
  rw [eq_ix2 (((cfg0.win 5).blk t).view.emb y)]
  canon_tiles x h
  · rw [eq_ix2 x]
    refine head₃ m c t _ hh _ _ _ _ ?_ ?_ <;> blk_simp [index_at t] <;> simp <;> omega
  · rw [eq_ix2 x]
    refine head₂ m c t _ hh _ _ _ _ ?_ ?_ <;> blk_simp [index_at t] <;> simp <;> omega
  · rw [eq_ix2 x]
    refine head₁ m c t _ hh _ _ _ _ ?_ ?_ <;> blk_simp [index_at t] <;> simp <;> omega
  · rw [eq_ix2 x]
    refine head₀ m c t _ hh _ _ _ _ ?_ ?_ <;> blk_simp [index_at t] <;> simp <;> omega

/-- The whole of the queries is the reference's. -/
theorem final (c : Dev nD) : (dats m 0 c).arrAt 5 (cfgs 0).N
    = Cert.RefQIdeal.Latents.queries (m ((c : Thread nD τ).loc main_arg0)) (m ((c : Thread nD τ).loc main_arg1))
        (m ((c : Thread nD τ).loc main_arg2)) := by
  refine (dats m 0 c).arrAt_eq_of_covers 5 _ (by decide +kernel) fun t hf y => ?_
  blk_simp
  rw [after0_5]
  by_cases h : t.val % 4 = 0
  · rw [outsAt0_A m c t h]
    dsimp only
    frame_out
    exact point m c t _ (kept_first m c t) _
  · have hk := kept m c t.val t.isLt
    rw [outsAt0_B m c t h] at hk ⊢
    dsimp only
    frame_out
    exact point m c t _ (((Memref.isWhole_whole _).read_unread _).symm ▸ hk) _

end Cert.MlaQIdeal.Latents

end
-- ==== Proof.ScanPre.lean ====
/- The precondition of the DeltaNet claim, read back: the keys, the betas and the gates are real numbers. -/
module

public import proofs.«01_k».proof.Proof.Gen.Pre_finite_scan
public import proofs.«01_k».proof.Proof.AttnPre
public import Idealize.ShloMosaic.Lib.ReduceAll
public import Idealize.ShloMosaic.Lib.Pointwise

set_option maxRecDepth 16384

@[expose] public noncomputable section

namespace Cert.Pre_finite_scan.Read

open Idealize.ShloMosaic Idealize.ShloMosaic.TcCoe Idealize.SL.Sem
open Cert.Pre_finite_scan Cert.Pre_finite_scan.Gen

/-- A comparison of an array's absolute values with plus infinity that is 1 everywhere says the array is real. -/
theorem real_of_cmp {s : Shape} (h0 : S_.BroadcastsInDim s (![] : Fin 0 → Fin s.rank)) (x : FVec Ideal s .f32) (i : s.Idx)
    (h : cmpf .olt (Host.absf x) (broadcastInDim s ![] h0 (constant S_ .f32 0x7F800000#32)) i = 1#1) :
    ∃ a : ℝ, (x i : EReal) = a := by
  refine Cert.Pre_finite.Read.real_of_abs_lt _ ?_
  have h1 : BitVec.ofBool (decide ((max (x i : EReal) (-(x i : EReal))) < Ideal.ofBits .f32 0x7F800000#32)) = 1#1 := h
  rw [Softmax.ofBits_inf] at h1
  by_contra hc
  rw [decide_eq_false hc] at h1
  exact absurd h1 (by decide)

instance : Subsingleton S_.Idx := ⟨fun a b => funext fun i => i.elim0⟩

/-- Under the precondition every key, every beta and every gate is a real number. -/
theorem real (x : FVec Ideal S32x256x6144 .f32) (y : FVec Ideal S32x1x4x16x256 .f32)
    (h : Cert.Pre_finite_scan.fn (F := Ideal) x y = fun _ => 1#1) (p : Fin 32) (r : Fin 256) :
    (∀ d : Fin 2048, ∃ a : ℝ, (x (ix3 p r ⟨2048 + d, by omega⟩) : EReal) = a)
    ∧ (∀ k : Fin 16, ∃ a : ℝ, (y (ix5 p 0 0 k r) : EReal) = a) ∧ ∀ k : Fin 16, ∃ a : ℝ, (y (ix5 p 0 2 k r) : EReal) = a := by
  obtain ⟨h12, h3⟩ := IntOp.andi_eq_one.1 (congrFun h (fun i => i.elim0))
  obtain ⟨h1, h2⟩ := IntOp.andi_eq_one.1 h12
  refine ⟨fun d => ?_, fun k => ?_, fun k => ?_⟩
  · obtain ⟨a, ha⟩ := real_of_cmp _ _ (ix3 p r d) (Host.reduce_andi_all _ _ _ _ _ h1 (ix3 p r d))
    refine ⟨a, Eq.trans ?_ ha⟩
    pointwise
  · obtain ⟨a, ha⟩ := real_of_cmp _ _ (ix5 p 0 0 k r) (Host.reduce_andi_all _ _ _ _ _ h2 (ix5 p 0 0 k r))
    refine ⟨a, Eq.trans ?_ ha⟩
    pointwise
  · obtain ⟨a, ha⟩ := real_of_cmp _ _ (ix5 p 0 0 k r) (Host.reduce_andi_all _ _ _ _ _ h3 (ix5 p 0 0 k r))
    refine ⟨a, Eq.trans ?_ ha⟩
    pointwise

end Cert.Pre_finite_scan.Read

end
-- ==== Proof.ScanHead.lean ====
/- One head of the DeltaNet kernel: what it leaves of a head's state, from the head's keys, values, gates and state. -/
module

public import proofs.«01_k».proof.Proof.Gen.ScanIdeal
public import proofs.«01_k».proof.Proof.Gen.ScanIdeal.Skeleton
public import Idealize.ShloMosaic.Lib.Pointwise

set_option maxRecDepth 16384

@[expose] public noncomputable section

namespace Cert.ScanIdeal.Head

open Idealize.ShloMosaic Idealize.ShloMosaic.TcCoe Idealize.SL.Sem
open Cert.ScanIdeal Cert.ScanIdeal.Gen

/-- The number of an entry's row, and of its column. -/
abbrev rows : IVec S256x256 32 := iota .tc S256x256 32 [0] iota_S256x256_d0_w32
abbrev cols : IVec S256x256 32 := iota .tc S256x256 32 [1] iota_S256x256_d1_w32

/-- The masks. -/
abbrev eye : IVec S256x256 1 := k0_pay6 rows cols
abbrev incl : IVec S256x256 1 := k0_pay7 rows cols k0_pay2 64#32 k0_pay3 k0_pay4 1#32 0#32
abbrev strict : IVec S256x256 1 := k0_pay8 rows cols k0_pay2 64#32 k0_pay3 k0_pay4 1#32 0#32
abbrev last : IVec S256x256 1 := k0_pay9 rows cols
abbrev lvl : IVec S256x256 32 := k0_pay10 rows cols

variable (k v : Vec Ideal S1x256x128 .f32) (g b : Vec Ideal S1x1x1x1x256 .f32) (S : Vec Ideal S1x128x128 .f32)

/-- The matrix that is inverted. -/
def mat : FVec Ideal S256x256 .f32 := k0_pay24 incl strict (k0_pay12 k) (k0_pay18 eye b) (k0_pay19 eye g)

/-- Its inverse. -/
def inv : FVec Ideal S256x256 .f32 :=
  k0_pay28 lvl (mat k g b) (k0_pay25 eye incl strict lvl (k0_pay12 k) (k0_pay18 eye b) (k0_pay19 eye g))
    (k0_pay26 eye incl strict lvl (k0_pay12 k) (k0_pay18 eye b) (k0_pay19 eye g))
    (k0_pay27 eye incl strict lvl (k0_pay12 k) (k0_pay18 eye b) (k0_pay19 eye g))

/-- The keys and the values times their gate. -/
def keys : FVec Ideal S256x128 .f32 := k0_pay21 (k0_pay12 k) (k0_pay18 eye b)
def vals : FVec Ideal S256x128 .f32 := k0_pay22 (k0_pay13 v) (k0_pay18 eye b)

/-- The two halves of the product with the inverse, and the keys as the state takes them. -/
def wval : FVec Ideal S256x128 .f32 := k0_pay32 (keys k b) (vals v b) (inv k g b) (k0_pay30 (k0_pay16 eye g))
def kcum : FVec Ideal S256x128 .bf16 := k0_pay33 (keys k b) (vals v b) (inv k g b) (k0_pay30 (k0_pay16 eye g))
def tail : FVec Ideal S256x128 .bf16 := k0_pay35 (k0_pay12 k) (k0_pay16 eye g) (k0_pay17 last g)

/-- The state after the first chunk, and the two terms of the state after the second. -/
def kept : FVec Ideal S128x128 .f32 :=
  k0_pay44 (k0_pay12 k) (k0_pay14 S) (k0_pay16 eye g) (k0_pay17 last g) (keys k b) (vals v b) (inv k g b) (k0_pay30 (k0_pay16 eye g))
def added : FVec Ideal S128x128 .f32 :=
  k0_pay45 (k0_pay12 k) (k0_pay14 S) (k0_pay16 eye g) (k0_pay17 last g) (keys k b) (vals v b) (inv k g b) (k0_pay30 (k0_pay16 eye g))

/-- The state after the fourth chunk, as it is stored. -/
def head : FVec Ideal S1x128x128 .f32 :=
  k0_pay52 (k0_pay17 last g) (wval k v g b) (kcum k v g b) (tail k g) (kept k v g b S) (added k v g b S)

set_option maxHeartbeats 2000000 in
/-- The head of number 0 by its operations. -/
theorem head_0 :
    let v110 := k0_pay16 (F := Ideal) eye g
    let v114 := k0_pay17 (F := Ideal) last g
    let v94 := k0_pay12 (F := Ideal) k
    let v96 := k0_pay13 (F := Ideal) v
    let v104 := k0_pay14 (F := Ideal) S
    let v120 := k0_pay18 (F := Ideal) eye b
    let v122 := k0_pay19 (F := Ideal) eye g
    let v127 := k0_pay21 v94 v120
    let v129 := k0_pay22 v96 v120
    let v135 := k0_pay24 incl strict v94 v120 v122
    let v156 := k0_pay25 eye incl strict lvl v94 v120 v122
    let v165 := k0_pay26 eye incl strict lvl v94 v120 v122
    let v166 := k0_pay27 eye incl strict lvl v94 v120 v122
    let v208 := k0_pay28 lvl v135 v156 v165 v166
    let v210 := k0_pay30 v110
    let v216 := k0_pay32 v127 v129 v208 v210
    let v218 := k0_pay33 v127 v129 v208 v210
    let v229 := k0_pay35 v94 v110 v114
    let v258 := k0_pay44 v94 v104 v110 v114 v127 v129 v208 v210
    let v261 := k0_pay45 v94 v104 v110 v114 v127 v129 v208 v210
    k0_pay52 v114 v216 v218 v229 v258 v261 = head k v g b S := rfl

set_option maxHeartbeats 2000000 in
/-- The head of number 1 goes through the same operations. -/
theorem head_1 :
    let v329 := k0_pay60 last g
    let v311 := k0_pay56 v
    let v335 := k0_pay61 eye b
    let v344 := k0_pay65 v311 v335
    let v309 := k0_pay55 k
    let v337 := k0_pay62 eye g
    let cst_121 : Ideal .f32 := FloatOps.ofBits .f32 0xF149F2CA#32
    let v350 := k0_pay67 incl strict v309 v335 v337 cst_121
    let v371 := k0_pay68 eye incl strict lvl v309 v335 v337 cst_121
    let v380 := k0_pay69 eye incl strict lvl v309 v335 v337 cst_121
    let v382 := k0_pay70 eye incl strict lvl v309 v335 v337 cst_121
    let v423 := k0_pay71 lvl v350 v371 v380 v382
    let v325 := k0_pay59 eye g
    let v342 := k0_pay64 v309 v335
    let v426 := k0_pay73 v325 v342
    let v431 := k0_pay75 v344 v423 v426
    let v433 := k0_pay76 v344 v423 v426
    let v444 := k0_pay78 v309 v325 v329
    let v319 := k0_pay57 S
    let v477 := k0_pay87 v309 v319 v325 v329 v344 v423 v426
    k0_pay93 v329 v431 v433 v444 v477 = head k v g b S := rfl

set_option maxHeartbeats 2000000 in
/-- The head of number 2 goes through the same operations. -/
theorem head_2 :
    let v544 := k0_pay101 last g
    let v524 := k0_pay96 k
    let v550 := k0_pay102 eye b
    let v552 := k0_pay103 eye g
    let v553 := k0_pay104 (F := Ideal)
    let v565 := k0_pay109 incl strict v524 v550 v552 v553
    let v586 := k0_pay110 eye incl strict lvl v524 v550 v552 v553
    let v595 := k0_pay111 eye incl strict lvl v524 v550 v552 v553
    let v597 := k0_pay112 eye incl strict lvl v524 v550 v552 v553
    let cst_218 : FVec Ideal S256x256 .f32 := constant S256x256 .f32 0x00000000#32
    let v638 := k0_pay113 lvl v565 v586 v595 v597 cst_218
    let v540 := k0_pay100 eye g
    let v557 := k0_pay106 v524 v550
    let v526 := k0_pay97 v
    let v559 := k0_pay107 v526 v550
    let v642 := k0_pay115 v540 v557 v559
    let v646 := k0_pay117 v638 v642
    let v648 := k0_pay118 v638 v642
    let v659 := k0_pay120 v524 v540 v544
    let v534 := k0_pay98 S
    let v692 := k0_pay129 v524 v534 v540 v544 v638 v642
    let v693 := k0_pay130 v524 v534 v540 v544 v638 v642
    k0_pay135 v544 v646 v648 v659 v692 v693 = head k v g b S := rfl

set_option maxHeartbeats 2000000 in
/-- The head of number 3 goes through the same operations. -/
theorem head_3 :
    let v759 := k0_pay143 last g
    let v739 := k0_pay138 k
    let v765 := k0_pay144 eye b
    let v769 := k0_pay145 eye incl g
    let v780 := k0_pay150 strict v739 v765 v769
    let v801 := k0_pay151 eye strict lvl v739 v765 v769
    let v813 := k0_pay152 eye strict lvl v739 v765 v769
    let v853 := k0_pay153 lvl v780 v801 v813
    let v755 := k0_pay142 eye g
    let v772 := k0_pay147 v739 v765
    let v741 := k0_pay139 v
    let v774 := k0_pay148 v741 v765
    let v858 := k0_pay155 v755 v772 v774
    let v861 := k0_pay157 v853 v858
    let v863 := k0_pay158 v853 v858
    let v874 := k0_pay160 v739 v755 v759
    let v749 := k0_pay140 S
    let v907 := k0_pay169 v739 v749 v755 v759 v853 v858
    let v908 := k0_pay170 v739 v749 v755 v759 v853 v858
    let v909 := k0_pay171 v853 v858
    k0_pay176 v759 v861 v863 v874 v907 v908 v909 = head k v g b S := rfl

end Cert.ScanIdeal.Head

end
-- ==== Proof.ScanMath.lean ====
/- Two ways to the inverse of a unit lower triangular matrix agree: doubling of the diagonal blocks, and repeated substitution. -/
module

public import Idealize.ShloMosaic.Lib.Pointwise
public import Mathlib.Data.Matrix.Mul
public import Mathlib.Tactic.NoncommRing
public import Mathlib.Tactic.Positivity

@[expose] public noncomputable section

namespace Scan

open Matrix

/-- Two rows whose numbers first differ at bit `n`. -/
def Level (n i j : ℕ) : Prop := 2 ^ n ≤ i ^^^ j ∧ i ^^^ j < 2 ^ (n + 1)

/-- The numbers agree above bit `n`. -/
theorem xor_lt (n i j : ℕ) : i ^^^ j < 2 ^ n ↔ i / 2 ^ n = j / 2 ^ n := by
  rw [← Nat.div_eq_zero_iff_lt (by positivity), ← Nat.shiftRight_eq_div_pow, Nat.shiftRight_xor_distrib,
    Nat.shiftRight_eq_div_pow, Nat.shiftRight_eq_div_pow]
  exact ⟨fun h => by
    rw [← Nat.zero_xor (j / 2 ^ n), ← h, Nat.xor_assoc, Nat.xor_self, Nat.xor_zero], fun h => by rw [h, Nat.xor_self]⟩

/-- At a level the larger number has the bit and the smaller has not. -/
theorem Level.bits {n i j : ℕ} (h : Level n i j) (hij : j < i) :
    i / 2 ^ n % 2 = 1 ∧ j / 2 ^ n % 2 = 0 ∧ i / 2 ^ (n + 1) = j / 2 ^ (n + 1) := by
  have h1 := (xor_lt (n + 1) i j).mp h.2
  have h2 : ¬ i / 2 ^ n = j / 2 ^ n := fun e => absurd ((xor_lt n i j).mpr e) (by have := h.1; omega)
  have h3 : j / 2 ^ n ≤ i / 2 ^ n := Nat.div_le_div_right hij.le
  have h4 := h1
  rw [pow_succ, ← Nat.div_div_eq_div_mul, ← Nat.div_div_eq_div_mul] at h4
  refine ⟨?_, ?_, h1⟩ <;> omega

open scoped Classical in
/-- The entries of a matrix at one level. -/
def level {N : ℕ} (A : Matrix (Fin N) (Fin N) ℝ) (n : ℕ) : Matrix (Fin N) (Fin N) ℝ :=
  fun i j => if Level n i j then A i j else 0

/-- The doubling. -/
def doubled {N : ℕ} (A : Matrix (Fin N) (Fin N) ℝ) : ℕ → Matrix (Fin N) (Fin N) ℝ
  | 0 => 1
  | n + 1 => doubled A n - doubled A n * level A n * doubled A n

/-- The matrix doubled so far. -/
def upto {N : ℕ} (A : Matrix (Fin N) (Fin N) ℝ) : ℕ → Matrix (Fin N) (Fin N) ℝ
  | 0 => 1
  | n + 1 => upto A n + level A n

variable {N : ℕ} (A : Matrix (Fin N) (Fin N) ℝ) (hA : ∀ i j, A i j ≠ 0 → j < i)
include hA

theorem level_bits {n : ℕ} {i j : Fin N} (h : level A n i j ≠ 0) :
    i.val / 2 ^ n % 2 = 1 ∧ j.val / 2 ^ n % 2 = 0 ∧ i.val / 2 ^ (n + 1) = j.val / 2 ^ (n + 1) := by
  unfold level at h
  by_cases hl : Level n i j
  · rw [if_pos hl] at h
    exact hl.bits (hA i j h)
  · rw [if_neg hl] at h
    exact absurd rfl h

omit hA in
theorem mul_ne {P Q : Matrix (Fin N) (Fin N) ℝ} {i j : Fin N} (h : (P * Q) i j ≠ 0) : ∃ a, P i a ≠ 0 ∧ Q a j ≠ 0 := by
  rw [Matrix.mul_apply] at h
  obtain ⟨a, -, ha⟩ := Finset.exists_ne_zero_of_sum_ne_zero h
  exact ⟨a, left_ne_zero_of_mul ha, right_ne_zero_of_mul ha⟩

omit hA in
theorem div_succ {n i j : ℕ} (h : i / 2 ^ n = j / 2 ^ n) : i / 2 ^ (n + 1) = j / 2 ^ (n + 1) := by
  rw [pow_succ, ← Nat.div_div_eq_div_mul, ← Nat.div_div_eq_div_mul, h]

/-- After `n` doublings the result is in diagonal blocks of `2 ^ n`. -/
theorem doubled_block (n : ℕ) (i j : Fin N) (h : doubled A n i j ≠ 0) : i.val / 2 ^ n = j.val / 2 ^ n := by
  induction n generalizing i j with
  | zero =>
    by_contra e
    exact h (Matrix.one_apply_ne fun h => e (by rw [h]))
  | succ n ih =>
    by_contra e
    have h0 : doubled A n i j = 0 := by
      by_contra h'
      exact e (div_succ (ih i j h'))
    have h1 : (doubled A n * level A n * doubled A n) i j ≠ 0 := fun h' => h (by
      rw [doubled, Matrix.sub_apply, h0, h', sub_zero])
    obtain ⟨b, hb, hbj⟩ := mul_ne h1
    obtain ⟨a, hia, hab⟩ := mul_ne hb
    exact e ((div_succ (ih i a hia)).trans ((level_bits A hA hab).2.2.trans (div_succ (ih b j hbj))))

theorem level_sandwich (n : ℕ) : level A n * doubled A n * level A n = 0 := by
  ext i j
  by_contra h
  obtain ⟨b, hb, hbj⟩ := mul_ne h
  obtain ⟨a, hia, hab⟩ := mul_ne hb
  have h1 := (level_bits A hA hia).2.1
  have h2 := (level_bits A hA hbj).1
  have h3 := doubled_block A hA n a b hab
  omega

/-- The doubling inverts what is doubled so far. -/
theorem doubled_mul (n : ℕ) : doubled A n * upto A n = 1 := by
  induction n with
  | zero => exact mul_one _
  | succ n ih =>
    have h := level_sandwich A hA n
    calc doubled A (n + 1) * upto A (n + 1)
        = doubled A n * upto A n + doubled A n * level A n - doubled A n * level A n * (doubled A n * upto A n)
          - doubled A n * (level A n * doubled A n * level A n) := by
          simp only [doubled, upto]
          noncomm_ring
      _ = 1 := by rw [ih, h]; simp

omit hA in
/-- What is doubled after `n` steps. -/
theorem upto_at (n : ℕ) (i j : Fin N) :
    upto A n i j = (1 : Matrix (Fin N) (Fin N) ℝ) i j + if i ≠ j ∧ i.val / 2 ^ n = j.val / 2 ^ n then A i j else 0 := by
  induction n with
  | zero =>
    simp only [upto, pow_zero, Nat.div_one]
    rw [if_neg (fun h => h.1 (Fin.ext h.2)), add_zero]
  | succ n ih =>
    rw [upto, Matrix.add_apply, ih, add_assoc]
    congr 1
    unfold level Level
    rw [xor_lt (n + 1), ← not_lt, xor_lt n]
    by_cases h : i = j
    · subst h
      simp
    · by_cases h1 : i.val / 2 ^ n = j.val / 2 ^ n
      · simp [h, h1, div_succ h1]
      · by_cases h2 : i.val / 2 ^ (n + 1) = j.val / 2 ^ (n + 1) <;> simp [h, h1, h2]

/-- A matrix in diagonal blocks of `2 ^ n` is inverted by `n` doublings. -/
theorem doubled_inv (n : ℕ) (hb : ∀ i j, A i j ≠ 0 → i.val / 2 ^ n = j.val / 2 ^ n) : doubled A n * (1 + A) = 1 := by
  refine Eq.trans (congrArg (doubled A n * ·) ?_) (doubled_mul A hA n)
  ext i j
  rw [upto_at, Matrix.add_apply]
  refine congrArg ((1 : Matrix (Fin N) (Fin N) ℝ) i j + ·) ?_
  by_cases h : A i j = 0
  · simp [h]
  · rw [if_pos ⟨fun e => absurd (hA i j h) (by simp [e]), hb i j h⟩]

/-- The substitution, repeated. -/
def substituted {n : ℕ} (B : Matrix (Fin n) (Fin n) ℝ) : ℕ → Matrix (Fin n) (Fin n) ℝ
  | 0 => 0
  | k + 1 => 1 - B * substituted B k

omit hA in
theorem substituted_rest {n : ℕ} (B : Matrix (Fin n) (Fin n) ℝ) (k : ℕ) : 1 - (1 + B) * substituted B k = (-B) ^ k := by
  induction k with
  | zero => simp [substituted]
  | succ k ih =>
    rw [pow_succ', ← ih, substituted]
    noncomm_ring

theorem pow_lower (k : ℕ) (i j : Fin N) (h : ((-A) ^ k) i j ≠ 0) : j.val + k ≤ i.val := by
  induction k generalizing i j with
  | zero =>
    by_contra e
    exact h (by rw [pow_zero]; exact Matrix.one_apply_ne fun h => e (by rw [h]; omega))
  | succ k ih =>
    rw [pow_succ'] at h
    obtain ⟨a, h1, h2⟩ := mul_ne h
    have := ih a j h2
    have := hA i a (fun h => h1 (by simp [h]))
    have : a.val < i.val := this
    omega

/-- As many substitutions as there are rows invert the matrix. -/
theorem substituted_inv : (1 + A) * substituted A N = 1 := by
  have h : (-A) ^ N = 0 := by
    ext i j
    by_contra h
    have := pow_lower A hA N i j h
    omega
  have := substituted_rest A N
  rw [h, sub_eq_zero] at this
  exact this.symm

omit hA

/-- A sum over 256 rows whose terms vanish outside a chunk of 64. -/
theorem sum_chunk {M : Type*} [AddCommMonoid M] (c : Fin 4) (f : Fin 256 → M) (h : ∀ j, j.val / 64 ≠ c.val → f j = 0) :
    ∑ j, f j = ∑ i : Fin 64, f ⟨c * 64 + i, by omega⟩ := by
  symm
  refine Finset.sum_of_injOn (fun i : Fin 64 => (⟨c * 64 + i, by omega⟩ : Fin 256)) ?_ (fun _ _ => Finset.mem_coe.mpr (Finset.mem_univ _)) ?_
    fun _ _ => rfl
  · intro a _ b _ e
    have := congrArg Fin.val e
    exact Fin.ext (by simpa using this)
  · intro j _ hj
    refine h j fun e => hj ⟨⟨j.val % 64, by omega⟩, Finset.mem_coe.mpr (Finset.mem_univ _), Fin.ext ?_⟩
    show c.val * 64 + j.val % 64 = j.val
    omega

/-- The block of a chunk. -/
def block (A : Matrix (Fin 256) (Fin 256) ℝ) (c : Fin 4) : Matrix (Fin 64) (Fin 64) ℝ :=
  fun i j => A ⟨c * 64 + i, by omega⟩ ⟨c * 64 + j, by omega⟩

/-- The doubling of all chunks at once is the substitution in each. -/
theorem doubled_eq (A : Matrix (Fin 256) (Fin 256) ℝ) (hA : ∀ i j, A i j ≠ 0 → j < i)
    (hb : ∀ i j, A i j ≠ 0 → i.val / 64 = j.val / 64) (c : Fin 4) : block (doubled A 6) c = substituted (block A c) 64 := by
  have h1 := doubled_inv A hA 6 hb
  have h2 : (1 + block A c) * substituted (block A c) 64 = 1 := substituted_inv (block A c) fun i j h => by
    have : c.val * 64 + j.val < c.val * 64 + i.val := hA _ _ h
    show j.val < i.val
    omega
  have h3 : block (doubled A 6) c * (1 + block A c) = 1 := by
    ext i j
    have h := congrFun (congrFun h1 ⟨c * 64 + i, by omega⟩) ⟨c * 64 + j, by omega⟩
    have hz : ∀ a : Fin 256, a.val / 64 ≠ c.val → doubled A 6 ⟨c * 64 + i, by omega⟩ a * (1 + A) a ⟨c * 64 + j, by omega⟩ = 0 := fun a ha => by
      have : doubled A 6 ⟨c * 64 + i, by omega⟩ a = 0 := by
        by_contra h'
        have := doubled_block A hA 6 _ _ h'
        simp only [show (2 : ℕ) ^ 6 = 64 from rfl] at this
        omega
      rw [this, zero_mul]
    rw [Matrix.mul_apply, sum_chunk c _ hz] at h
    · rw [Matrix.mul_apply]
      refine Eq.trans (Finset.sum_congr rfl fun a _ => ?_) (h.trans ?_)
      · refine congrArg (fun x => doubled A 6 ⟨c * 64 + i, by omega⟩ ⟨c * 64 + a, by omega⟩ * x) ?_
        simp [Matrix.add_apply, block, Matrix.one_apply, Fin.ext_iff]
      · simp [Matrix.one_apply, Fin.ext_iff]
  calc block (doubled A 6) c = block (doubled A 6) c * ((1 + block A c) * substituted (block A c) 64) := by rw [h2, mul_one]
    _ = substituted (block A c) 64 := by rw [← mul_assoc, h3, one_mul]

/-- Outside the chunks the doubling is zero. -/
theorem doubled_zero (A : Matrix (Fin 256) (Fin 256) ℝ) (hA : ∀ i j, A i j ≠ 0 → j < i) (i j : Fin 256)
    (h : j.val / 64 ≠ i.val / 64) : doubled A 6 i j = 0 := by
  by_contra h'
  exact h (doubled_block A hA 6 i j h').symm

end Scan
-- ==== Proof.ScanSpec.lean ====
/- One head of the DeltaNet recurrence over its four chunks, from its keys, values and gates. -/
module

public import proofs.«01_k».proof.Proof.ScanMath
public import Idealize.ShloMosaic.Lib.Pointwise

@[expose] public noncomputable section

namespace Scan

open Idealize.ShloMosaic

/-- The row of a chunk. -/
def row (c : Fin 4) (i : Fin 64) : Fin 256 := ⟨c * 64 + i, by omega⟩

variable (T : Fin 4 → Fin 64 → Fin 64 → EReal) (K V : Fin 256 → Fin 128 → EReal) (G B : Fin 256 → EReal)

/-- The values as the state is to hold them, and the keys by which the state is read. -/
def wval (c : Fin 4) (i : Fin 64) (e : Fin 128) : EReal := ∑ j : Fin 64, T c i j * (V (row c j) e * B (row c j))
def kcum (c : Fin 4) (i : Fin 64) (d : Fin 128) : EReal :=
  ∑ j : Fin 64, T c i j * (K (row c j) d * B (row c j) * Ideal.exp (G (row c j)))

/-- The keys by which the state is written. -/
def tail (c : Fin 4) (i : Fin 64) (d : Fin 128) : EReal := K (row c i) d * Ideal.exp (G (row c 63) - G (row c i))

/-- The state after a chunk, from the state before it. -/
def step (c : Fin 4) (S : Fin 128 → Fin 128 → EReal) (d e : Fin 128) : EReal :=
  S d e * Ideal.exp (G (row c 63))
    + ∑ i : Fin 64, tail K G c i d * (wval T V B c i e - ∑ d' : Fin 128, kcum T K G B c i d' * S d' e)

/-- The state after the last chunk. -/
def final (S : Fin 128 → Fin 128 → EReal) : Fin 128 → Fin 128 → EReal :=
  step T K V G B 3 (step T K V G B 2 (step T K V G B 1 (step T K V G B 0 S)))

/-- The matrix of a head whose keys and gates are real numbers. -/
def mat (K : Fin 256 → Fin 128 → ℝ) (G B : Fin 256 → ℝ) : Matrix (Fin 256) (Fin 256) ℝ := fun i j =>
  if i.val / 64 = j.val / 64 ∧ j < i then (∑ d : Fin 128, K i d * B i * K j d) * Real.exp (G i - G j) else 0

/-- The inverse of one and the matrix, chunk by chunk. -/
def inv (K : Fin 256 → Fin 128 → ℝ) (G B : Fin 256 → ℝ) (c : Fin 4) (i j : Fin 64) : EReal :=
  (substituted (block (mat K G B) c) 64 i j : EReal)

theorem mat_lower (K : Fin 256 → Fin 128 → ℝ) (G B : Fin 256 → ℝ) (i j : Fin 256) (h : mat K G B i j ≠ 0) : j < i := by
  unfold mat at h
  split at h
  · rename_i h'; exact h'.2
  · exact absurd rfl h

theorem mat_chunk (K : Fin 256 → Fin 128 → ℝ) (G B : Fin 256 → ℝ) (i j : Fin 256) (h : mat K G B i j ≠ 0) :
    i.val / 64 = j.val / 64 := by
  unfold mat at h
  split at h
  · rename_i h'; exact h'.1
  · exact absurd rfl h

end Scan

end
-- ==== Proof.ScanEntry.lean ====
/- The entries of what one head of the DeltaNet kernel leaves of a state. -/
module

public import proofs.«01_k».proof.Proof.ScanHead
public import proofs.«01_k».proof.Proof.ScanSpec
public import proofs.«01_k».proof.Proof.Softmax
public import Idealize.ShloMosaic.Lib.Pipeline.ValueKit
public import Idealize.ShloMosaic.Lib.WordCmp

set_option maxRecDepth 16384

@[expose] public noncomputable section

namespace Cert.ScanIdeal.Head

open Idealize.ShloMosaic Idealize.ShloMosaic.TcCoe Idealize.SL.Sem
open Cert.ScanIdeal Cert.ScanIdeal.Gen

theorem eye_at (i j : Fin 256) : eye (ix2 i j) = 1#1 ↔ i = j := by
  pointwise [eye, k0_pay6, rows, cols]
  rw [WordCmp.cmpi_eq_ofNat_eq_one_iff (by omega) (by omega)]
  exact Fin.val_inj

/-- The chunk of a row, as the masks compute it. -/
theorem chunk_at : ∀ i : Fin 256,
    Scalar.select
      (IntOp.andi
        (IntOp.cmpi CmpIPredicate.ne
          (IntOp.subi (BitVec.setWidth 32 (IntOp.cmpi CmpIPredicate.sgt (BitVec.ofNat 32 i.val) 0#32))
            (BitVec.setWidth 32 (IntOp.cmpi CmpIPredicate.slt (BitVec.ofNat 32 i.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 i.val) 64#32) 0#32))
      (IntOp.subi (IntOp.divsi ArithUnit.vector (BitVec.ofNat 32 i.val) 64#32) 1#32)
      (IntOp.divsi ArithUnit.vector (BitVec.ofNat 32 i.val) 64#32) = BitVec.ofNat 32 (i.val / 64) := by
  decide +kernel

theorem chunk_at' : ∀ i : Fin 256,
    Scalar.select
      (IntOp.andi
        (IntOp.cmpi CmpIPredicate.ne
          (IntOp.subi (BitVec.setWidth 32 (IntOp.cmpi CmpIPredicate.sgt (BitVec.ofNat 32 i.val) 0#32))
            (BitVec.setWidth 32 (IntOp.cmpi CmpIPredicate.slt (BitVec.ofNat 32 i.val) 0#32)))
          (Scalar.subi 1#32 0#32))
        (IntOp.cmpi CmpIPredicate.ne (IntOp.remsi ArithUnit.vector (BitVec.ofNat 32 i.val) 64#32) 0#32))
      (IntOp.subi (IntOp.divsi ArithUnit.vector (BitVec.ofNat 32 i.val) 64#32) 1#32)
      (IntOp.divsi ArithUnit.vector (BitVec.ofNat 32 i.val) 64#32) = BitVec.ofNat 32 (i.val / 64) := by
  decide +kernel

theorem strict_at (i j : Fin 256) : strict (ix2 i j) = 1#1 ↔ i.val / 64 = j.val / 64 ∧ j < i := by
  pointwise [strict, k0_pay8, k0_pay5, k0_pay2, k0_pay3, k0_pay4, rows, cols]
  rw [chunk_at, chunk_at', IntOp.andi_eq_one, WordCmp.cmpi_eq_ofNat_eq_one_iff (by omega) (by omega),
    WordCmp.cmpi_sgt_ofNat_eq_one_iff (by omega) (by omega)]
  exact Iff.rfl

theorem incl_at (i j : Fin 256) : incl (ix2 i j) = 1#1 ↔ i.val / 64 = j.val / 64 ∧ j ≤ i := by
  pointwise [incl, k0_pay7, k0_pay5, k0_pay2, k0_pay3, k0_pay4, rows, cols]
  rw [chunk_at, chunk_at', IntOp.andi_eq_one, WordCmp.cmpi_eq_ofNat_eq_one_iff (by omega) (by omega),
    WordCmp.cmpi_sge_ofNat_eq_one_iff (by omega) (by omega)]
  exact Iff.rfl

theorem place_at : ∀ i : Fin 256, IntOp.addi (IntOp.muli (BitVec.ofNat 32 (i.val / 64)) 64#32) 63#32
    = BitVec.ofNat 32 (i.val / 64 * 64 + 63) := by
  decide +kernel

theorem last_at (i j : Fin 256) : last (ix2 i j) = 1#1 ↔ j.val = i.val / 64 * 64 + 63 := by
  pointwise [last, k0_pay9, rows, cols]
  rw [chunk_at, place_at, WordCmp.cmpi_eq_ofNat_eq_one_iff (by omega) (by omega)]

theorem lvl_at (i j : Fin 256) : lvl (ix2 i j) = BitVec.ofNat 32 (i.val ^^^ j.val) := by
  pointwise [lvl, k0_pay10, rows, cols]
  exact (BitVec.ofNat_xor ..).symm

theorem xor_small (i j : Fin 256) : i.val ^^^ j.val < 256 := Nat.xor_lt_two_pow (n := 8) i.2 j.2

/-- A sum whose one term is under a mask. -/
theorem sum_one (c : Fin 256 → BitVec 1) (f : Fin 256 → EReal) (i : Fin 256) (h : ∀ j, c j = 1#1 ↔ j = i) :
    ∑ j, Scalar.select (c j) (f j) 0 = f i := by
  rw [Finset.sum_eq_single i]
  · exact if_pos ((h i).mpr rfl)
  · intro j _ hj; exact if_neg fun h' => hj ((h j).mp h')
  · intro h'; exact absurd (Finset.mem_univ i) h'

variable (k v : Vec Ideal S1x256x128 .f32) (g b : Vec Ideal S1x1x1x1x256 .f32) (S : Vec Ideal S1x128x128 .f32)

theorem gc_at (i : Fin 256) : k0_pay16 (F := Ideal) eye g (ix2 i 0) = g (ix5 0 0 0 0 i) := by
  pointwise [k0_pay16, k0_pay15]
  exact sum_one (fun j => eye (ix2 i j)) (fun j => g (ix5 0 0 0 0 j)) i fun j => (eye_at i j).trans eq_comm

theorem bc_at (i : Fin 256) : k0_pay18 (F := Ideal) eye b (ix2 i 0) = b (ix5 0 0 0 0 i) := by
  pointwise [k0_pay18]
  exact sum_one (fun j => eye (ix2 i j)) (fun j => b (ix5 0 0 0 0 j)) i fun j => (eye_at i j).trans eq_comm

theorem glast_at (i : Fin 256) : k0_pay17 (F := Ideal) last g (ix2 i 0) = g (ix5 0 0 0 0 ⟨i.val / 64 * 64 + 63, by omega⟩) := by
  pointwise [k0_pay17, k0_pay15]
  exact sum_one (fun j => last (ix2 i j)) (fun j => g (ix5 0 0 0 0 j)) _ fun j => (last_at i j).trans (Fin.ext_iff (b := ⟨i.val / 64 * 64 + 63, by omega⟩)).symm

variable (K : Fin 256 → Fin 128 → ℝ) (G B : Fin 256 → ℝ)
  (hk : ∀ i d, k (ix3 0 i d) = (K i d : EReal)) (hg : ∀ i, g (ix5 0 0 0 0 i) = (G i : EReal))
  (hb : ∀ i, b (ix5 0 0 0 0 i) = (B i : EReal))

include hk hg hb in
theorem mat_at (i j : Fin 256) : mat k g b (ix2 i j) = (Scan.mat K G B i j : EReal) := by
  pointwise [mat, k0_pay24, k0_pay20, k0_pay21, k0_pay12, k0_pay23, k0_pay19, k0_pay15]
  unfold Scan.mat
  by_cases h : i.val / 64 = j.val / 64 ∧ j < i
  · rw [if_pos h, (strict_at i j).mpr h, (incl_at i j).mpr ⟨h.1, h.2.le⟩, gc_at, bc_at]
    simp only [hk, hg, hb]
    refine (if_pos rfl).trans ?_
    rw [EReal.coe_mul, Softmax.coe_sum]
    refine congrArg₂ (fun a b : EReal => a * b) (Finset.sum_congr rfl fun d _ => ?_) ?_
    · rw [EReal.coe_mul, EReal.coe_mul]
    · refine (congrArg Ideal.exp (if_pos rfl)).trans ?_
      rw [← EReal.coe_sub, Ideal.exp_coe]
  · rw [if_neg h]
    exact if_neg fun h' => h ((strict_at i j).mp h')

theorem mul_select (c : BitVec 1) (x y : EReal) : Scalar.select c (x * y) 0 = x * Scalar.select c y 0 := by
  unfold Scalar.select
  split
  · rfl
  · exact (mul_zero x).symm

/-- One step of the doubling. -/
def stage (A P : FVec Ideal S256x256 .f32) (lo hi : BitVec 32) : FVec Ideal S256x256 .f32 :=
  subf P (matmul dot_S256x256_S256x256_S256x256_1_0_0_1_n_n none
    (truncf .bf16 (matmul dot_S256x256_S256x256_S256x256_1_0_0_1_n_n none (truncf .bf16 P bitsLt_bf16_f32)
      (truncf .bf16 (select (andi (cmpi .sge lvl (broadcast S256x256 lo)) (cmpi .slt lvl (broadcast S256x256 hi))) A
        (broadcast S256x256 (Scalar.ofBits .f32 0x00000000#32))) bitsLt_bf16_f32)
      (constant S256x256 .f32 0x00000000#32)) bitsLt_bf16_f32)
    (truncf .bf16 P bitsLt_bf16_f32) (constant S256x256 .f32 0x00000000#32))

/-- What the doubling starts with. -/
def start (A : FVec Ideal S256x256 .f32) : FVec Ideal S256x256 .f32 :=
  subf (select eye (broadcast S256x256 (Scalar.ofBits .f32 0x3F800000#32)) (broadcast S256x256 (Scalar.ofBits .f32 0x00000000#32)))
    (select (cmpi .eq lvl (broadcast S256x256 1#32)) A (broadcast S256x256 (Scalar.ofBits .f32 0x00000000#32)))

theorem inv_eq : inv k g b = stage (mat k g b) (stage (mat k g b) (stage (mat k g b) (stage (mat k g b)
    (stage (mat k g b) (start (mat k g b)) 2#32 4#32) 4#32 8#32) 8#32 16#32) 16#32 32#32) 32#32 64#32 := rfl

theorem stage_at (A P : FVec Ideal S256x256 .f32) (a p : Matrix (Fin 256) (Fin 256) ℝ) (n : ℕ) (hn : 2 ^ (n + 1) < 2 ^ 31)
    (hA : ∀ i j, A (ix2 i j) = (a i j : EReal)) (hP : ∀ i j, P (ix2 i j) = (p i j : EReal)) (i j : Fin 256) :
    stage A P (BitVec.ofNat 32 (2 ^ n)) (BitVec.ofNat 32 (2 ^ (n + 1))) (ix2 i j)
      = ((p - p * Scan.level a n * p) i j : ℝ) := by
  have hm : ∀ x y : Fin 256, Scalar.select (IntOp.andi (IntOp.cmpi CmpIPredicate.sge (BitVec.ofNat 32 (x.val ^^^ y.val)) (BitVec.ofNat 32 (2 ^ n)))
      (IntOp.cmpi CmpIPredicate.slt (BitVec.ofNat 32 (x.val ^^^ y.val)) (BitVec.ofNat 32 (2 ^ (n + 1))))) (A (ix2 x y)) (0 : EReal)
      = (Scan.level a n x y : EReal) := fun x y => by
    have hx := xor_small x y
    have h2 : 2 ^ n < 2 ^ 31 := lt_trans (Nat.pow_lt_pow_right (by omega) (by omega)) hn
    have hi : IntOp.andi (IntOp.cmpi CmpIPredicate.sge (BitVec.ofNat 32 (x.val ^^^ y.val)) (BitVec.ofNat 32 (2 ^ n)))
        (IntOp.cmpi CmpIPredicate.slt (BitVec.ofNat 32 (x.val ^^^ y.val)) (BitVec.ofNat 32 (2 ^ (n + 1)))) = 1#1
        ↔ Scan.Level n x y := by
      rw [IntOp.andi_eq_one, WordCmp.cmpi_sge_ofNat_eq_one_iff (by omega) (by omega),
        WordCmp.cmpi_slt_ofNat_eq_one_iff (by omega) (by omega)]
      exact Iff.rfl
    unfold Scan.level
    by_cases h : Scan.Level n x y
    · rw [if_pos h, ← hA]; exact if_pos (hi.mpr h)
    · rw [if_neg h]; exact if_neg fun h' => h (hi.mp h')
  pointwise [stage]
  simp only [lvl_at]
  rw [Matrix.sub_apply, EReal.coe_sub, Matrix.mul_apply, Softmax.coe_sum]
  refine congrArg₂ (fun a b : EReal => a - b) (hP i j) (Finset.sum_congr rfl fun l _ => ?_)
  rw [EReal.coe_mul, Matrix.mul_apply, Softmax.coe_sum]
  refine congrArg₂ (fun a b : EReal => a * b) (Finset.sum_congr rfl fun l' _ => ?_) (hP l j)
  rw [EReal.coe_mul]
  exact (mul_select _ _ _).trans (congrArg₂ (fun a b : EReal => a * b) (hP i l') (hm l' l))

theorem start_at (A : FVec Ideal S256x256 .f32) (a : Matrix (Fin 256) (Fin 256) ℝ)
    (hA : ∀ i j, A (ix2 i j) = (a i j : EReal)) (i j : Fin 256) : start A (ix2 i j) = (Scan.doubled a 1 i j : EReal) := by
  have h1 : Scan.doubled a 1 = 1 - Scan.level a 0 := by
    show 1 - 1 * Scan.level a 0 * 1 = _
    rw [one_mul, mul_one]
  pointwise [start]
  rw [lvl_at, h1, Matrix.sub_apply, EReal.coe_sub]
  refine congrArg₂ (fun a b : EReal => a - b) ?_ ?_
  · by_cases h : i = j
    · subst h
      rw [Matrix.one_apply_eq]
      exact (if_pos ((eye_at i i).mpr rfl)).trans EReal.coe_one.symm
    · rw [Matrix.one_apply_ne h]
      exact (if_neg fun h' => h ((eye_at i j).mp h')).trans EReal.coe_zero.symm
  · have hi : IntOp.cmpi CmpIPredicate.eq (BitVec.ofNat 32 (i.val ^^^ j.val)) 1#32 = 1#1 ↔ Scan.Level 0 i j := by
      have hx := xor_small i j
      refine (WordCmp.cmpi_eq_ofNat_eq_one_iff (w := 32) (b := 1) (by omega) (by omega)).trans ?_
      unfold Scan.Level
      omega
    unfold Scan.level
    by_cases h : Scan.Level 0 i j
    · rw [if_pos h, ← hA]; exact if_pos (hi.mpr h)
    · rw [if_neg h]; exact if_neg fun h' => h (hi.mp h')

include hk hg hb in
theorem inv_at (i j : Fin 256) : inv k g b (ix2 i j) = (Scan.doubled (Scan.mat K G B) 6 i j : EReal) := by
  have hm := mat_at k g b K G B hk hg hb
  rw [inv_eq]
  exact stage_at _ _ _ _ 5 (by decide) hm (stage_at _ _ _ _ 4 (by decide) hm (stage_at _ _ _ _ 3 (by decide) hm
    (stage_at _ _ _ _ 2 (by decide) hm (stage_at _ _ _ _ 1 (by decide) hm (start_at _ _ hm))))) i j

include hk hg hb in
/-- A chunk's rows of the inverse meet only that chunk's columns. -/
theorem inv_sum (c : Fin 4) (i : Fin 64) (f : Fin 256 → EReal) :
    ∑ j : Fin 256, inv k g b (ix2 (Scan.row c i) j) * f j = ∑ j : Fin 64, Scan.inv K G B c i j * f (Scan.row c j) := by
  have hr : (Scan.row c i).val / 64 = c.val := by unfold Scan.row; dsimp only; omega
  refine (Scan.sum_chunk c _ fun j hj => ?_).trans (Finset.sum_congr rfl fun j _ => ?_)
  · rw [inv_at k g b K G B hk hg hb, Scan.doubled_zero _ (Scan.mat_lower K G B) _ _ (hr ▸ hj), EReal.coe_zero, zero_mul]
  · refine congrArg (fun x : EReal => x * f (Scan.row c j)) ((inv_at k g b K G B hk hg hb _ _).trans ?_)
    unfold Scan.inv
    rw [← Scan.doubled_eq _ (Scan.mat_lower K G B) (Scan.mat_chunk K G B)]
    rfl

/-- The keys, the values and the gates of the head as numbers. -/
abbrev keyOf : Fin 256 → Fin 128 → EReal := fun i d => k (ix3 0 i d)
abbrev gateOf : Fin 256 → EReal := fun i => g (ix5 0 0 0 0 i)

include hk hg hb in
theorem wval_at (c : Fin 4) (i : Fin 64) (r : Fin 256) (hr : r = Scan.row c i) (e : Fin 128) :
    wval k v g b (ix2 r e) = Scan.wval (Scan.inv K G B) (keyOf v) (gateOf b) c i e := by
  subst hr
  pointwise [wval, k0_pay32, k0_pay31, vals, k0_pay22, k0_pay13]
  simp only [bc_at]
  exact inv_sum k g b K G B hk hg hb c i fun j => v (ix3 0 j e) * b (ix5 0 0 0 0 j)

include hk hg hb in
theorem kcum_at (c : Fin 4) (i : Fin 64) (r : Fin 256) (hr : r = Scan.row c i) (e : Fin 128) :
    kcum k v g b (ix2 r e) = Scan.kcum (Scan.inv K G B) (keyOf k) (gateOf g) (gateOf b) c i e := by
  subst hr
  pointwise [kcum, k0_pay33, k0_pay31, keys, k0_pay21, k0_pay12, k0_pay30, k0_pay29]
  simp only [bc_at, gc_at]
  exact inv_sum k g b K G B hk hg hb c i fun j => k (ix3 0 j e) * b (ix5 0 0 0 0 j) * Ideal.exp (g (ix5 0 0 0 0 j))

/-- The gate at the end of a row's chunk. -/
theorem glast_row (c : Fin 4) (r : Fin 256) (hr : r.val / 64 = c.val) :
    k0_pay17 (F := Ideal) last g (ix2 r 0) = gateOf g (Scan.row c 63) := by
  rw [glast_at]
  refine congrArg (fun x => g (ix5 0 0 0 0 x)) (Fin.ext ?_)
  show r.val / 64 * 64 + 63 = c.val * 64 + 63
  rw [hr]

theorem tail_at (c : Fin 4) (i : Fin 64) (r : Fin 256) (hr : r = Scan.row c i) (e : Fin 128) :
    tail k g (ix2 r e) = Scan.tail (keyOf k) (gateOf g) c i e := by
  have h : r.val / 64 = c.val := by subst hr; unfold Scan.row; dsimp only; omega
  pointwise [tail, k0_pay35, k0_pay12]
  rw [glast_row g c r h, gc_at, hr]
  rfl

include hk hg hb in
/-- What one chunk makes of the state before it. -/
theorem chunk_step (c : Fin 4) (l : Fin 256) (hl : l.val / 64 = c.val) (r : Fin 64 → Fin 256) (hr : ∀ i, r i = Scan.row c i)
    (S : Fin 128 → Fin 128 → EReal) (d e : Fin 128) :
    S d e * Ideal.exp (k0_pay17 (F := Ideal) last g (ix2 l 0))
        + ∑ x : Fin 64, tail k g (ix2 (r x) d) * (wval k v g b (ix2 (r x) e) - ∑ y : Fin 128, kcum k v g b (ix2 (r x) y) * S y e)
      = Scan.step (Scan.inv K G B) (keyOf k) (keyOf v) (gateOf g) (gateOf b) c S d e := by
  rw [glast_row g c l hl]
  refine congrArg (fun z : EReal => S d e * Ideal.exp (gateOf g (Scan.row c 63)) + z) (Finset.sum_congr rfl fun x _ => ?_)
  rw [tail_at k g c x _ (hr x), wval_at k v g b K G B hk hg hb c x _ (hr x)]
  refine congrArg (fun z : EReal => Scan.tail (keyOf k) (gateOf g) c x d * (Scan.wval (Scan.inv K G B) (keyOf v) (gateOf b) c x e - z))
    (Finset.sum_congr rfl fun y _ => ?_)
  rw [kcum_at k v g b K G B hk hg hb c x _ (hr x)]

/-- The states after the first three chunks. -/
def state1 : FVec Ideal S128x128 .f32 :=
  k0_pay40 (k0_pay12 k) (k0_pay14 S) (k0_pay16 eye g) (k0_pay17 last g) (keys k b) (vals v b) (inv k g b) (k0_pay30 (k0_pay16 eye g))
def state2 : FVec Ideal S128x128 .f32 := k0_pay46 (kept k v g b S) (added k v g b S)
def state3 : FVec Ideal S128x128 .f32 :=
  k0_pay49 (k0_pay17 last g) (wval k v g b) (kcum k v g b) (tail k g) (kept k v g b S) (added k v g b S)

include hk hg hb in
theorem state1_at (d e : Fin 128) : state1 k v g b S (ix2 d e)
    = Scan.step (Scan.inv K G B) (keyOf k) (keyOf v) (gateOf g) (gateOf b) 0 (fun d e => S (ix3 0 d e)) d e := by
  refine Eq.trans ?_ (chunk_step k v g b K G B hk hg hb 0 0 rfl (fun x => ⟨x.val, by omega⟩)
    (fun i => Fin.ext (by show i.val = 0 * 64 + i.val; omega)) _ d e)
  pointwise [state1, k0_pay40, k0_pay38, k0_pay37, k0_pay14]
  rfl

include hk hg hb in
theorem state2_at (d e : Fin 128) : state2 k v g b S (ix2 d e)
    = Scan.step (Scan.inv K G B) (keyOf k) (keyOf v) (gateOf g) (gateOf b) 1 (fun d e => state1 k v g b S (ix2 d e)) d e := by
  refine Eq.trans ?_ (chunk_step k v g b K G B hk hg hb 1 64 rfl (fun x => ⟨64 + x.val, by omega⟩) (fun i => Fin.ext rfl) _ d e)
  pointwise [state2, k0_pay46, kept, added, k0_pay44, k0_pay45, k0_pay42, k0_pay41]
  rfl

include hk hg hb in
theorem state3_at (d e : Fin 128) : state3 k v g b S (ix2 d e)
    = Scan.step (Scan.inv K G B) (keyOf k) (keyOf v) (gateOf g) (gateOf b) 2 (fun d e => state2 k v g b S (ix2 d e)) d e := by
  refine Eq.trans ?_ (chunk_step k v g b K G B hk hg hb 2 128 rfl (fun x => ⟨128 + x.val, by omega⟩) (fun i => Fin.ext rfl) _ d e)
  pointwise [state3, k0_pay49, k0_pay48, k0_pay47]
  rfl

include hk hg hb in
theorem head_at (d e : Fin 128) : head k v g b S (ix3 0 d e)
    = Scan.final (Scan.inv K G B) (keyOf k) (keyOf v) (gateOf g) (gateOf b) (fun d e => S (ix3 0 d e)) d e := by
  refine Eq.trans (b := Scan.step (Scan.inv K G B) (keyOf k) (keyOf v) (gateOf g) (gateOf b) 3 (fun d e => state3 k v g b S (ix2 d e)) d e) ?_ ?_
  · refine Eq.trans ?_ (chunk_step k v g b K G B hk hg hb 3 192 rfl (fun x => ⟨192 + x.val, by omega⟩) (fun i => Fin.ext rfl) _ d e)
    pointwise [head, k0_pay52, k0_pay51, k0_pay50]
    rfl
  · unfold Scan.final
    rw [← funext₂ (state1_at k v g b S K G B hk hg hb), ← funext₂ (state2_at k v g b S K G B hk hg hb),
      ← funext₂ (state3_at k v g b S K G B hk hg hb)]

end Cert.ScanIdeal.Head

end
-- ==== Proof.ScanRef.lean ====
/- The reference of the DeltaNet recurrence, read at one entry of its result. -/
module

public import proofs.«01_k».proof.Proof.Gen.RefScanIdeal.Run
public import proofs.«01_k».proof.Proof.ScanSpec
public import proofs.«01_k».proof.Proof.Softmax
public import Idealize.ShloMosaic.Lib.Pointwise
public import Idealize.ShloMosaic.Lib.WordCmp
public import Idealize.ShloMosaic.Lib.Claim

set_option maxRecDepth 16384

@[expose] public noncomputable section

namespace Cert.RefScanIdeal.Scan

open Idealize.ShloMosaic Idealize.ShloMosaic.TcCoe Idealize.SL.Sem
open Idealize.ShloMosaic.StableHlo
open Cert.RefScanIdeal Cert.RefScanIdeal.Gen Cert.RefScanIdeal.Value

variable {F : FTy → Type} [FloatOps F]

/-! The operations after the loop, in five stretches: what the chunks share, and each chunk. -/

abbrev part0 : List (HloOp τ sig (Elt F)) :=
  [ StableHlo.binary main_v40_4 main_v23 main_v41 ((fun l r => Host.dotGeneral dot_S32x16x4x64x64_S32x16x4x64x128_S32x16x4x64x128_4_3_3_4_012_012 none l r) : (⟨S32x16x4x64x64, .f32⟩ : BufTy).Contents (Elt F) → (⟨S32x16x4x64x128, .f32⟩ : BufTy).Contents (Elt F) → (⟨S32x16x4x64x128, .f32⟩ : BufTy).Contents (Elt F)),
    StableHlo.unary main_v11 main_v42 (Host.exp : (⟨S32x16x4x64, .f32⟩ : BufTy).Contents (Elt F) → (⟨S32x16x4x64, .f32⟩ : BufTy).Contents (Elt F)),
    StableHlo.unary main_v42 main_v43 (broadcastInDim S32x16x4x64x1 ![0, 1, 2, 3] bcast_S32x16x4x64_S32x16x4x64x1_0_1_2_3 : (⟨S32x16x4x64, .f32⟩ : BufTy).Contents (Elt F) → (⟨S32x16x4x64x1, .f32⟩ : BufTy).Contents (Elt F)),
    StableHlo.unary main_v43 main_v44 (broadcastInDim S32x16x4x64x128 ![0, 1, 2, 3, 4] bcast_S32x16x4x64x1_S32x16x4x64x128_0_1_2_3_4 : (⟨S32x16x4x64x1, .f32⟩ : BufTy).Contents (Elt F) → (⟨S32x16x4x64x128, .f32⟩ : BufTy).Contents (Elt F)),
    StableHlo.binary main_v20 main_v44 main_v45 (mulf : (⟨S32x16x4x64x128, .f32⟩ : BufTy).Contents (Elt F) → (⟨S32x16x4x64x128, .f32⟩ : BufTy).Contents (Elt F) → (⟨S32x16x4x64x128, .f32⟩ : BufTy).Contents (Elt F)),
    StableHlo.binary main_v40_4 main_v45 main_v46 ((fun l r => Host.dotGeneral dot_S32x16x4x64x64_S32x16x4x64x128_S32x16x4x64x128_4_3_3_4_012_012 none l r) : (⟨S32x16x4x64x64, .f32⟩ : BufTy).Contents (Elt F) → (⟨S32x16x4x64x128, .f32⟩ : BufTy).Contents (Elt F) → (⟨S32x16x4x64x128, .f32⟩ : BufTy).Contents (Elt F)),
    StableHlo.unary main_v11 main_v47 ((extractStridedSlice S32x16x4x1 ![0, 0, 0, 63] · slices_S32x16x4x64_S32x16x4x1_0_0_0_63) : (⟨S32x16x4x64, .f32⟩ : BufTy).Contents (Elt F) → (⟨S32x16x4x1, .f32⟩ : BufTy).Contents (Elt F)),
    StableHlo.reshape main_v47 main_v48 (rfl : (.f32 : EltTy) = .f32) shapeCasts_S32x16x4x1_S32x16x4,
    StableHlo.unary main_v48 main_v49 (broadcastInDim S32x16x4x1 ![0, 1, 2] bcast_S32x16x4_S32x16x4x1_0_1_2 : (⟨S32x16x4, .f32⟩ : BufTy).Contents (Elt F) → (⟨S32x16x4x1, .f32⟩ : BufTy).Contents (Elt F)),
    StableHlo.unary main_v49 main_v50 (broadcastInDim S32x16x4x64 ![0, 1, 2, 3] bcast_S32x16x4x1_S32x16x4x64_0_1_2_3 : (⟨S32x16x4x1, .f32⟩ : BufTy).Contents (Elt F) → (⟨S32x16x4x64, .f32⟩ : BufTy).Contents (Elt F)),
    StableHlo.binary main_v50 main_v11 main_v51 (subf : (⟨S32x16x4x64, .f32⟩ : BufTy).Contents (Elt F) → (⟨S32x16x4x64, .f32⟩ : BufTy).Contents (Elt F) → (⟨S32x16x4x64, .f32⟩ : BufTy).Contents (Elt F)),
    StableHlo.unary main_v51 main_v52 (Host.exp : (⟨S32x16x4x64, .f32⟩ : BufTy).Contents (Elt F) → (⟨S32x16x4x64, .f32⟩ : BufTy).Contents (Elt F)),
    StableHlo.unary main_v52 main_v53 (broadcastInDim S32x16x4x64x1 ![0, 1, 2, 3] bcast_S32x16x4x64_S32x16x4x64x1_0_1_2_3 : (⟨S32x16x4x64, .f32⟩ : BufTy).Contents (Elt F) → (⟨S32x16x4x64x1, .f32⟩ : BufTy).Contents (Elt F)),
    StableHlo.unary main_v53 main_v54 (broadcastInDim S32x16x4x64x128 ![0, 1, 2, 3, 4] bcast_S32x16x4x64x1_S32x16x4x64x128_0_1_2_3_4 : (⟨S32x16x4x64x1, .f32⟩ : BufTy).Contents (Elt F) → (⟨S32x16x4x64x128, .f32⟩ : BufTy).Contents (Elt F)),
    StableHlo.binary main_v2 main_v54 main_v55 (mulf : (⟨S32x16x4x64x128, .f32⟩ : BufTy).Contents (Elt F) → (⟨S32x16x4x64x128, .f32⟩ : BufTy).Contents (Elt F) → (⟨S32x16x4x64x128, .f32⟩ : BufTy).Contents (Elt F)),
    StableHlo.nullary main_cst_3 (constant S_ .f32 0x00000000#32),
    StableHlo.unary main_cst_3 main_v56 (broadcastInDim S32x16x128x128 ![] bcast_S_S32x16x128x128 : (⟨S_, .f32⟩ : BufTy).Contents (Elt F) → (⟨S32x16x128x128, .f32⟩ : BufTy).Contents (Elt F)) ]

abbrev part1 : List (HloOp τ sig (Elt F)) :=
  [ StableHlo.unary main_v41 main_v57 ((extractStridedSlice S32x16x1x64x128 ![0, 0, 0, 0, 0] · slices_S32x16x4x64x128_S32x16x1x64x128_0_0_0_0_0) : (⟨S32x16x4x64x128, .f32⟩ : BufTy).Contents (Elt F) → (⟨S32x16x1x64x128, .f32⟩ : BufTy).Contents (Elt F)),
    StableHlo.reshape main_v57 main_v58 (rfl : (.f32 : EltTy) = .f32) shapeCasts_S32x16x1x64x128_S32x16x64x128,
    StableHlo.unary main_v46 main_v59 ((extractStridedSlice S32x16x1x64x128 ![0, 0, 0, 0, 0] · slices_S32x16x4x64x128_S32x16x1x64x128_0_0_0_0_0) : (⟨S32x16x4x64x128, .f32⟩ : BufTy).Contents (Elt F) → (⟨S32x16x1x64x128, .f32⟩ : BufTy).Contents (Elt F)),
    StableHlo.reshape main_v59 main_v60 (rfl : (.f32 : EltTy) = .f32) shapeCasts_S32x16x1x64x128_S32x16x64x128,
    StableHlo.binary main_v60 main_v56 main_v61 ((fun l r => Host.dotGeneral dot_S32x16x64x128_S32x16x128x128_S32x16x64x128_3_2_2_3_01_01 none l r) : (⟨S32x16x64x128, .f32⟩ : BufTy).Contents (Elt F) → (⟨S32x16x128x128, .f32⟩ : BufTy).Contents (Elt F) → (⟨S32x16x64x128, .f32⟩ : BufTy).Contents (Elt F)),
    StableHlo.binary main_v58 main_v61 main_v62 (subf : (⟨S32x16x64x128, .f32⟩ : BufTy).Contents (Elt F) → (⟨S32x16x64x128, .f32⟩ : BufTy).Contents (Elt F) → (⟨S32x16x64x128, .f32⟩ : BufTy).Contents (Elt F)),
    StableHlo.unary main_v48 main_v63 ((extractStridedSlice S32x16x1 ![0, 0, 0] · slices_S32x16x4_S32x16x1_0_0_0) : (⟨S32x16x4, .f32⟩ : BufTy).Contents (Elt F) → (⟨S32x16x1, .f32⟩ : BufTy).Contents (Elt F)),
    StableHlo.reshape main_v63 main_v64 (rfl : (.f32 : EltTy) = .f32) shapeCasts_S32x16x1_S32x16,
    StableHlo.unary main_v64 main_v65 (Host.exp : (⟨S32x16, .f32⟩ : BufTy).Contents (Elt F) → (⟨S32x16, .f32⟩ : BufTy).Contents (Elt F)),
    StableHlo.unary main_v65 main_v66 (broadcastInDim S32x16x1x1 ![0, 1] bcast_S32x16_S32x16x1x1_0_1 : (⟨S32x16, .f32⟩ : BufTy).Contents (Elt F) → (⟨S32x16x1x1, .f32⟩ : BufTy).Contents (Elt F)),
    StableHlo.unary main_v66 main_v67 (broadcastInDim S32x16x128x128 ![0, 1, 2, 3] bcast_S32x16x1x1_S32x16x128x128_0_1_2_3 : (⟨S32x16x1x1, .f32⟩ : BufTy).Contents (Elt F) → (⟨S32x16x128x128, .f32⟩ : BufTy).Contents (Elt F)),
    StableHlo.binary main_v56 main_v67 main_v68 (mulf : (⟨S32x16x128x128, .f32⟩ : BufTy).Contents (Elt F) → (⟨S32x16x128x128, .f32⟩ : BufTy).Contents (Elt F) → (⟨S32x16x128x128, .f32⟩ : BufTy).Contents (Elt F)),
    StableHlo.unary main_v55 main_v69 ((extractStridedSlice S32x16x1x64x128 ![0, 0, 0, 0, 0] · slices_S32x16x4x64x128_S32x16x1x64x128_0_0_0_0_0) : (⟨S32x16x4x64x128, .f32⟩ : BufTy).Contents (Elt F) → (⟨S32x16x1x64x128, .f32⟩ : BufTy).Contents (Elt F)),
    StableHlo.reshape main_v69 main_v70 (rfl : (.f32 : EltTy) = .f32) shapeCasts_S32x16x1x64x128_S32x16x64x128,
    StableHlo.binary main_v70 main_v62 main_v71 ((fun l r => Host.dotGeneral dot_S32x16x64x128_S32x16x64x128_S32x16x128x128_2_2_3_3_01_01 none l r) : (⟨S32x16x64x128, .f32⟩ : BufTy).Contents (Elt F) → (⟨S32x16x64x128, .f32⟩ : BufTy).Contents (Elt F) → (⟨S32x16x128x128, .f32⟩ : BufTy).Contents (Elt F)),
    StableHlo.binary main_v68 main_v71 main_v72 (addf : (⟨S32x16x128x128, .f32⟩ : BufTy).Contents (Elt F) → (⟨S32x16x128x128, .f32⟩ : BufTy).Contents (Elt F) → (⟨S32x16x128x128, .f32⟩ : BufTy).Contents (Elt F)) ]

abbrev part2 : List (HloOp τ sig (Elt F)) :=
  [ StableHlo.unary main_v41 main_v73 ((extractStridedSlice S32x16x1x64x128 ![0, 0, 1, 0, 0] · slices_S32x16x4x64x128_S32x16x1x64x128_0_0_1_0_0) : (⟨S32x16x4x64x128, .f32⟩ : BufTy).Contents (Elt F) → (⟨S32x16x1x64x128, .f32⟩ : BufTy).Contents (Elt F)),
    StableHlo.reshape main_v73 main_v74 (rfl : (.f32 : EltTy) = .f32) shapeCasts_S32x16x1x64x128_S32x16x64x128,
    StableHlo.unary main_v46 main_v75 ((extractStridedSlice S32x16x1x64x128 ![0, 0, 1, 0, 0] · slices_S32x16x4x64x128_S32x16x1x64x128_0_0_1_0_0) : (⟨S32x16x4x64x128, .f32⟩ : BufTy).Contents (Elt F) → (⟨S32x16x1x64x128, .f32⟩ : BufTy).Contents (Elt F)),
    StableHlo.reshape main_v75 main_v76 (rfl : (.f32 : EltTy) = .f32) shapeCasts_S32x16x1x64x128_S32x16x64x128,
    StableHlo.binary main_v76 main_v72 main_v77 ((fun l r => Host.dotGeneral dot_S32x16x64x128_S32x16x128x128_S32x16x64x128_3_2_2_3_01_01 none l r) : (⟨S32x16x64x128, .f32⟩ : BufTy).Contents (Elt F) → (⟨S32x16x128x128, .f32⟩ : BufTy).Contents (Elt F) → (⟨S32x16x64x128, .f32⟩ : BufTy).Contents (Elt F)),
    StableHlo.binary main_v74 main_v77 main_v78 (subf : (⟨S32x16x64x128, .f32⟩ : BufTy).Contents (Elt F) → (⟨S32x16x64x128, .f32⟩ : BufTy).Contents (Elt F) → (⟨S32x16x64x128, .f32⟩ : BufTy).Contents (Elt F)),
    StableHlo.unary main_v48 main_v79 ((extractStridedSlice S32x16x1 ![0, 0, 1] · slices_S32x16x4_S32x16x1_0_0_1) : (⟨S32x16x4, .f32⟩ : BufTy).Contents (Elt F) → (⟨S32x16x1, .f32⟩ : BufTy).Contents (Elt F)),
    StableHlo.reshape main_v79 main_v80 (rfl : (.f32 : EltTy) = .f32) shapeCasts_S32x16x1_S32x16,
    StableHlo.unary main_v80 main_v81 (Host.exp : (⟨S32x16, .f32⟩ : BufTy).Contents (Elt F) → (⟨S32x16, .f32⟩ : BufTy).Contents (Elt F)),
    StableHlo.unary main_v81 main_v82 (broadcastInDim S32x16x1x1 ![0, 1] bcast_S32x16_S32x16x1x1_0_1 : (⟨S32x16, .f32⟩ : BufTy).Contents (Elt F) → (⟨S32x16x1x1, .f32⟩ : BufTy).Contents (Elt F)),
    StableHlo.unary main_v82 main_v83 (broadcastInDim S32x16x128x128 ![0, 1, 2, 3] bcast_S32x16x1x1_S32x16x128x128_0_1_2_3 : (⟨S32x16x1x1, .f32⟩ : BufTy).Contents (Elt F) → (⟨S32x16x128x128, .f32⟩ : BufTy).Contents (Elt F)),
    StableHlo.binary main_v72 main_v83 main_v84 (mulf : (⟨S32x16x128x128, .f32⟩ : BufTy).Contents (Elt F) → (⟨S32x16x128x128, .f32⟩ : BufTy).Contents (Elt F) → (⟨S32x16x128x128, .f32⟩ : BufTy).Contents (Elt F)),
    StableHlo.unary main_v55 main_v85 ((extractStridedSlice S32x16x1x64x128 ![0, 0, 1, 0, 0] · slices_S32x16x4x64x128_S32x16x1x64x128_0_0_1_0_0) : (⟨S32x16x4x64x128, .f32⟩ : BufTy).Contents (Elt F) → (⟨S32x16x1x64x128, .f32⟩ : BufTy).Contents (Elt F)),
    StableHlo.reshape main_v85 main_v86 (rfl : (.f32 : EltTy) = .f32) shapeCasts_S32x16x1x64x128_S32x16x64x128,
    StableHlo.binary main_v86 main_v78 main_v87 ((fun l r => Host.dotGeneral dot_S32x16x64x128_S32x16x64x128_S32x16x128x128_2_2_3_3_01_01 none l r) : (⟨S32x16x64x128, .f32⟩ : BufTy).Contents (Elt F) → (⟨S32x16x64x128, .f32⟩ : BufTy).Contents (Elt F) → (⟨S32x16x128x128, .f32⟩ : BufTy).Contents (Elt F)),
    StableHlo.binary main_v84 main_v87 main_v88 (addf : (⟨S32x16x128x128, .f32⟩ : BufTy).Contents (Elt F) → (⟨S32x16x128x128, .f32⟩ : BufTy).Contents (Elt F) → (⟨S32x16x128x128, .f32⟩ : BufTy).Contents (Elt F)) ]

abbrev part3 : List (HloOp τ sig (Elt F)) :=
  [ StableHlo.unary main_v41 main_v89 ((extractStridedSlice S32x16x1x64x128 ![0, 0, 2, 0, 0] · slices_S32x16x4x64x128_S32x16x1x64x128_0_0_2_0_0) : (⟨S32x16x4x64x128, .f32⟩ : BufTy).Contents (Elt F) → (⟨S32x16x1x64x128, .f32⟩ : BufTy).Contents (Elt F)),
    StableHlo.reshape main_v89 main_v90 (rfl : (.f32 : EltTy) = .f32) shapeCasts_S32x16x1x64x128_S32x16x64x128,
    StableHlo.unary main_v46 main_v91 ((extractStridedSlice S32x16x1x64x128 ![0, 0, 2, 0, 0] · slices_S32x16x4x64x128_S32x16x1x64x128_0_0_2_0_0) : (⟨S32x16x4x64x128, .f32⟩ : BufTy).Contents (Elt F) → (⟨S32x16x1x64x128, .f32⟩ : BufTy).Contents (Elt F)),
    StableHlo.reshape main_v91 main_v92 (rfl : (.f32 : EltTy) = .f32) shapeCasts_S32x16x1x64x128_S32x16x64x128,
    StableHlo.binary main_v92 main_v88 main_v93 ((fun l r => Host.dotGeneral dot_S32x16x64x128_S32x16x128x128_S32x16x64x128_3_2_2_3_01_01 none l r) : (⟨S32x16x64x128, .f32⟩ : BufTy).Contents (Elt F) → (⟨S32x16x128x128, .f32⟩ : BufTy).Contents (Elt F) → (⟨S32x16x64x128, .f32⟩ : BufTy).Contents (Elt F)),
    StableHlo.binary main_v90 main_v93 main_v94 (subf : (⟨S32x16x64x128, .f32⟩ : BufTy).Contents (Elt F) → (⟨S32x16x64x128, .f32⟩ : BufTy).Contents (Elt F) → (⟨S32x16x64x128, .f32⟩ : BufTy).Contents (Elt F)),
    StableHlo.unary main_v48 main_v95 ((extractStridedSlice S32x16x1 ![0, 0, 2] · slices_S32x16x4_S32x16x1_0_0_2) : (⟨S32x16x4, .f32⟩ : BufTy).Contents (Elt F) → (⟨S32x16x1, .f32⟩ : BufTy).Contents (Elt F)),
    StableHlo.reshape main_v95 main_v96 (rfl : (.f32 : EltTy) = .f32) shapeCasts_S32x16x1_S32x16,
    StableHlo.unary main_v96 main_v97 (Host.exp : (⟨S32x16, .f32⟩ : BufTy).Contents (Elt F) → (⟨S32x16, .f32⟩ : BufTy).Contents (Elt F)),
    StableHlo.unary main_v97 main_v98 (broadcastInDim S32x16x1x1 ![0, 1] bcast_S32x16_S32x16x1x1_0_1 : (⟨S32x16, .f32⟩ : BufTy).Contents (Elt F) → (⟨S32x16x1x1, .f32⟩ : BufTy).Contents (Elt F)),
    StableHlo.unary main_v98 main_v99 (broadcastInDim S32x16x128x128 ![0, 1, 2, 3] bcast_S32x16x1x1_S32x16x128x128_0_1_2_3 : (⟨S32x16x1x1, .f32⟩ : BufTy).Contents (Elt F) → (⟨S32x16x128x128, .f32⟩ : BufTy).Contents (Elt F)),
    StableHlo.binary main_v88 main_v99 main_v100 (mulf : (⟨S32x16x128x128, .f32⟩ : BufTy).Contents (Elt F) → (⟨S32x16x128x128, .f32⟩ : BufTy).Contents (Elt F) → (⟨S32x16x128x128, .f32⟩ : BufTy).Contents (Elt F)),
    StableHlo.unary main_v55 main_v101 ((extractStridedSlice S32x16x1x64x128 ![0, 0, 2, 0, 0] · slices_S32x16x4x64x128_S32x16x1x64x128_0_0_2_0_0) : (⟨S32x16x4x64x128, .f32⟩ : BufTy).Contents (Elt F) → (⟨S32x16x1x64x128, .f32⟩ : BufTy).Contents (Elt F)),
    StableHlo.reshape main_v101 main_v102 (rfl : (.f32 : EltTy) = .f32) shapeCasts_S32x16x1x64x128_S32x16x64x128,
    StableHlo.binary main_v102 main_v94 main_v103 ((fun l r => Host.dotGeneral dot_S32x16x64x128_S32x16x64x128_S32x16x128x128_2_2_3_3_01_01 none l r) : (⟨S32x16x64x128, .f32⟩ : BufTy).Contents (Elt F) → (⟨S32x16x64x128, .f32⟩ : BufTy).Contents (Elt F) → (⟨S32x16x128x128, .f32⟩ : BufTy).Contents (Elt F)),
    StableHlo.binary main_v100 main_v103 main_v104 (addf : (⟨S32x16x128x128, .f32⟩ : BufTy).Contents (Elt F) → (⟨S32x16x128x128, .f32⟩ : BufTy).Contents (Elt F) → (⟨S32x16x128x128, .f32⟩ : BufTy).Contents (Elt F)) ]

abbrev part4 : List (HloOp τ sig (Elt F)) :=
  [ StableHlo.unary main_v41 main_v105 ((extractStridedSlice S32x16x1x64x128 ![0, 0, 3, 0, 0] · slices_S32x16x4x64x128_S32x16x1x64x128_0_0_3_0_0) : (⟨S32x16x4x64x128, .f32⟩ : BufTy).Contents (Elt F) → (⟨S32x16x1x64x128, .f32⟩ : BufTy).Contents (Elt F)),
    StableHlo.reshape main_v105 main_v106 (rfl : (.f32 : EltTy) = .f32) shapeCasts_S32x16x1x64x128_S32x16x64x128,
    StableHlo.unary main_v46 main_v107 ((extractStridedSlice S32x16x1x64x128 ![0, 0, 3, 0, 0] · slices_S32x16x4x64x128_S32x16x1x64x128_0_0_3_0_0) : (⟨S32x16x4x64x128, .f32⟩ : BufTy).Contents (Elt F) → (⟨S32x16x1x64x128, .f32⟩ : BufTy).Contents (Elt F)),
    StableHlo.reshape main_v107 main_v108 (rfl : (.f32 : EltTy) = .f32) shapeCasts_S32x16x1x64x128_S32x16x64x128,
    StableHlo.binary main_v108 main_v104 main_v109 ((fun l r => Host.dotGeneral dot_S32x16x64x128_S32x16x128x128_S32x16x64x128_3_2_2_3_01_01 none l r) : (⟨S32x16x64x128, .f32⟩ : BufTy).Contents (Elt F) → (⟨S32x16x128x128, .f32⟩ : BufTy).Contents (Elt F) → (⟨S32x16x64x128, .f32⟩ : BufTy).Contents (Elt F)),
    StableHlo.binary main_v106 main_v109 main_v110 (subf : (⟨S32x16x64x128, .f32⟩ : BufTy).Contents (Elt F) → (⟨S32x16x64x128, .f32⟩ : BufTy).Contents (Elt F) → (⟨S32x16x64x128, .f32⟩ : BufTy).Contents (Elt F)),
    StableHlo.unary main_v48 main_v111 ((extractStridedSlice S32x16x1 ![0, 0, 3] · slices_S32x16x4_S32x16x1_0_0_3) : (⟨S32x16x4, .f32⟩ : BufTy).Contents (Elt F) → (⟨S32x16x1, .f32⟩ : BufTy).Contents (Elt F)),
    StableHlo.reshape main_v111 main_v112 (rfl : (.f32 : EltTy) = .f32) shapeCasts_S32x16x1_S32x16,
    StableHlo.unary main_v112 main_v113 (Host.exp : (⟨S32x16, .f32⟩ : BufTy).Contents (Elt F) → (⟨S32x16, .f32⟩ : BufTy).Contents (Elt F)),
    StableHlo.unary main_v113 main_v114 (broadcastInDim S32x16x1x1 ![0, 1] bcast_S32x16_S32x16x1x1_0_1 : (⟨S32x16, .f32⟩ : BufTy).Contents (Elt F) → (⟨S32x16x1x1, .f32⟩ : BufTy).Contents (Elt F)),
    StableHlo.unary main_v114 main_v115 (broadcastInDim S32x16x128x128 ![0, 1, 2, 3] bcast_S32x16x1x1_S32x16x128x128_0_1_2_3 : (⟨S32x16x1x1, .f32⟩ : BufTy).Contents (Elt F) → (⟨S32x16x128x128, .f32⟩ : BufTy).Contents (Elt F)),
    StableHlo.binary main_v104 main_v115 main_v116 (mulf : (⟨S32x16x128x128, .f32⟩ : BufTy).Contents (Elt F) → (⟨S32x16x128x128, .f32⟩ : BufTy).Contents (Elt F) → (⟨S32x16x128x128, .f32⟩ : BufTy).Contents (Elt F)),
    StableHlo.unary main_v55 main_v117 ((extractStridedSlice S32x16x1x64x128 ![0, 0, 3, 0, 0] · slices_S32x16x4x64x128_S32x16x1x64x128_0_0_3_0_0) : (⟨S32x16x4x64x128, .f32⟩ : BufTy).Contents (Elt F) → (⟨S32x16x1x64x128, .f32⟩ : BufTy).Contents (Elt F)),
    StableHlo.reshape main_v117 main_v118 (rfl : (.f32 : EltTy) = .f32) shapeCasts_S32x16x1x64x128_S32x16x64x128,
    StableHlo.binary main_v118 main_v110 main_v119 ((fun l r => Host.dotGeneral dot_S32x16x64x128_S32x16x64x128_S32x16x128x128_2_2_3_3_01_01 none l r) : (⟨S32x16x64x128, .f32⟩ : BufTy).Contents (Elt F) → (⟨S32x16x64x128, .f32⟩ : BufTy).Contents (Elt F) → (⟨S32x16x128x128, .f32⟩ : BufTy).Contents (Elt F)),
    StableHlo.binary main_v116 main_v119 main_v120 (addf : (⟨S32x16x128x128, .f32⟩ : BufTy).Contents (Elt F) → (⟨S32x16x128x128, .f32⟩ : BufTy).Contents (Elt F) → (⟨S32x16x128x128, .f32⟩ : BufTy).Contents (Elt F)) ]

set_option maxRecDepth 100000 in
theorem parts : (hostOps0_3 : List (HloOp τ sig (Elt F))) = part0 ++ (part1 ++ (part2 ++ (part3 ++ part4))) := rfl

variable (V : Valuation τ sig (Elt Ideal)) (p : Fin 32) (h : Fin 16)

/-- The state after a chunk, from what the chunk shares with the others and the state before it. -/
def chunk (last : EReal) (tail w kc : Fin 64 → Fin 128 → EReal) (S : Fin 128 → Fin 128 → EReal) (d e : Fin 128) : EReal :=
  S d e * Ideal.exp last + ∑ i : Fin 64, tail i d * (w i e - ∑ y : Fin 128, kc i y * S y e)

theorem chunk0 (d e : Fin 128) : after part1 V (Proc.devRef .tc main_v72) (ix4 p h d e)
    = chunk (V (Proc.devRef .tc main_v48) (ix3 p h 0)) (fun i d => V (Proc.devRef .tc main_v55) (ix5 p h 0 i d))
      (fun i e => V (Proc.devRef .tc main_v41) (ix5 p h 0 i e)) (fun i y => V (Proc.devRef .tc main_v46) (ix5 p h 0 i y))
      (fun d e => V (Proc.devRef .tc main_v56) (ix4 p h d e)) d e := by
  after_reads_simp
  pointwise [chunk]

theorem keep0 : after part1 V (Proc.devRef .tc main_v41) = V (Proc.devRef .tc main_v41)
    ∧ after part1 V (Proc.devRef .tc main_v46) = V (Proc.devRef .tc main_v46)
    ∧ after part1 V (Proc.devRef .tc main_v48) = V (Proc.devRef .tc main_v48)
    ∧ after part1 V (Proc.devRef .tc main_v55) = V (Proc.devRef .tc main_v55) := by
  refine ⟨?_, ?_, ?_, ?_⟩ <;> after_reads_simp

theorem chunk1 (d e : Fin 128) : after part2 V (Proc.devRef .tc main_v88) (ix4 p h d e)
    = chunk (V (Proc.devRef .tc main_v48) (ix3 p h 1)) (fun i d => V (Proc.devRef .tc main_v55) (ix5 p h 1 i d))
      (fun i e => V (Proc.devRef .tc main_v41) (ix5 p h 1 i e)) (fun i y => V (Proc.devRef .tc main_v46) (ix5 p h 1 i y))
      (fun d e => V (Proc.devRef .tc main_v72) (ix4 p h d e)) d e := by
  after_reads_simp
  pointwise [chunk]

theorem keep1 : after part2 V (Proc.devRef .tc main_v41) = V (Proc.devRef .tc main_v41)
    ∧ after part2 V (Proc.devRef .tc main_v46) = V (Proc.devRef .tc main_v46)
    ∧ after part2 V (Proc.devRef .tc main_v48) = V (Proc.devRef .tc main_v48)
    ∧ after part2 V (Proc.devRef .tc main_v55) = V (Proc.devRef .tc main_v55) := by
  refine ⟨?_, ?_, ?_, ?_⟩ <;> after_reads_simp

theorem chunk2 (d e : Fin 128) : after part3 V (Proc.devRef .tc main_v104) (ix4 p h d e)
    = chunk (V (Proc.devRef .tc main_v48) (ix3 p h 2)) (fun i d => V (Proc.devRef .tc main_v55) (ix5 p h 2 i d))
      (fun i e => V (Proc.devRef .tc main_v41) (ix5 p h 2 i e)) (fun i y => V (Proc.devRef .tc main_v46) (ix5 p h 2 i y))
      (fun d e => V (Proc.devRef .tc main_v88) (ix4 p h d e)) d e := by
  after_reads_simp
  pointwise [chunk]

theorem keep2 : after part3 V (Proc.devRef .tc main_v41) = V (Proc.devRef .tc main_v41)
    ∧ after part3 V (Proc.devRef .tc main_v46) = V (Proc.devRef .tc main_v46)
    ∧ after part3 V (Proc.devRef .tc main_v48) = V (Proc.devRef .tc main_v48)
    ∧ after part3 V (Proc.devRef .tc main_v55) = V (Proc.devRef .tc main_v55) := by
  refine ⟨?_, ?_, ?_, ?_⟩ <;> after_reads_simp

theorem chunk3 (d e : Fin 128) : after part4 V (Proc.devRef .tc main_v120) (ix4 p h d e)
    = chunk (V (Proc.devRef .tc main_v48) (ix3 p h 3)) (fun i d => V (Proc.devRef .tc main_v55) (ix5 p h 3 i d))
      (fun i e => V (Proc.devRef .tc main_v41) (ix5 p h 3 i e)) (fun i y => V (Proc.devRef .tc main_v46) (ix5 p h 3 i y))
      (fun d e => V (Proc.devRef .tc main_v104) (ix4 p h d e)) d e := by
  after_reads_simp
  pointwise [chunk]

theorem keep3 : after part4 V (Proc.devRef .tc main_v41) = V (Proc.devRef .tc main_v41)
    ∧ after part4 V (Proc.devRef .tc main_v46) = V (Proc.devRef .tc main_v46)
    ∧ after part4 V (Proc.devRef .tc main_v48) = V (Proc.devRef .tc main_v48)
    ∧ after part4 V (Proc.devRef .tc main_v55) = V (Proc.devRef .tc main_v55) := by
  refine ⟨?_, ?_, ?_, ?_⟩ <;> after_reads_simp

/-- The head's values and keys times their gate, its keys, its gate, and the inverse, as the loop leaves them. -/
structure Leaves (T : Fin 4 → Fin 64 → Fin 64 → EReal) (K W : Fin 256 → Fin 128 → EReal) (G B : Fin 256 → EReal) : Prop where
  inv : ∀ c i j, V (Proc.devRef .tc main_v40_4) (ix5 p h c i j) = T c i j
  key : ∀ c i d, V (Proc.devRef .tc main_v2) (ix5 p h c i d) = K (_root_.Scan.row c i) d
  keyGate : ∀ c i d, V (Proc.devRef .tc main_v20) (ix5 p h c i d) = K (_root_.Scan.row c i) d * B (_root_.Scan.row c i)
  valueGate : ∀ c i d, V (Proc.devRef .tc main_v23) (ix5 p h c i d) = W (_root_.Scan.row c i) d * B (_root_.Scan.row c i)
  gate : ∀ c i, V (Proc.devRef .tc main_v11) (ix4 p h c i) = G (_root_.Scan.row c i)

variable {V p h} {T : Fin 4 → Fin 64 → Fin 64 → EReal} {K W : Fin 256 → Fin 128 → EReal} {G B : Fin 256 → EReal}

theorem shared_41 (H : Leaves V p h T K W G B) (c : Fin 4) (i : Fin 64) (e : Fin 128) :
    after part0 V (Proc.devRef .tc main_v41) (ix5 p h c i e) = _root_.Scan.wval T W B c i e := by
  after_reads_simp
  pointwise
  refine @Finset.sum_congr _ EReal _ _ _ _ _ rfl fun j _ => ?_
  exact congrArg₂ (fun a b : EReal => a * b) (H.inv c i j) (H.valueGate c j e)

theorem shared_46 (H : Leaves V p h T K W G B) (c : Fin 4) (i : Fin 64) (d : Fin 128) :
    after part0 V (Proc.devRef .tc main_v46) (ix5 p h c i d) = _root_.Scan.kcum T K G B c i d := by
  after_reads_simp
  pointwise
  refine @Finset.sum_congr _ EReal _ _ _ _ _ rfl fun j _ => ?_
  exact congrArg₂ (fun a b : EReal => a * b) (H.inv c i j)
    (congrArg₂ (fun a b : EReal => a * b) (H.keyGate c j d) (congrArg Ideal.exp (H.gate c j)))

theorem shared_48 (H : Leaves V p h T K W G B) (c : Fin 4) :
    after part0 V (Proc.devRef .tc main_v48) (ix3 p h c) = G (_root_.Scan.row c 63) := by
  after_reads_simp
  pointwise
  exact H.gate c 63

theorem shared_55 (H : Leaves V p h T K W G B) (c : Fin 4) (i : Fin 64) (d : Fin 128) :
    after part0 V (Proc.devRef .tc main_v55) (ix5 p h c i d) = _root_.Scan.tail K G c i d := by
  after_reads_simp
  pointwise
  exact congrArg₂ (fun a b : EReal => a * b) (H.key c i d)
    (congrArg Ideal.exp (congrArg₂ (fun a b : EReal => a - b) (H.gate c 63) (H.gate c i)))

theorem shared_56 (d e : Fin 128) : after part0 V (Proc.devRef .tc main_v56) (ix4 p h d e) = (0 : EReal) := by
  after_reads_simp
  pointwise

/-- What a chunk shares with the others is what the recurrence takes. -/
theorem chunk_eq (H : Leaves V p h T K W G B) (V' : Valuation τ sig (Elt Ideal)) (c : Fin 4)
    (h41 : V' (Proc.devRef .tc main_v41) = after part0 V (Proc.devRef .tc main_v41))
    (h46 : V' (Proc.devRef .tc main_v46) = after part0 V (Proc.devRef .tc main_v46))
    (h48 : V' (Proc.devRef .tc main_v48) = after part0 V (Proc.devRef .tc main_v48))
    (h55 : V' (Proc.devRef .tc main_v55) = after part0 V (Proc.devRef .tc main_v55)) (S : Fin 128 → Fin 128 → EReal) (d e : Fin 128) :
    chunk (V' (Proc.devRef .tc main_v48) (ix3 p h c)) (fun i d => V' (Proc.devRef .tc main_v55) (ix5 p h c i d))
      (fun i e => V' (Proc.devRef .tc main_v41) (ix5 p h c i e)) (fun i y => V' (Proc.devRef .tc main_v46) (ix5 p h c i y)) S d e
      = _root_.Scan.step T K W G B c S d e := by
  rw [h41, h46, h48, h55]
  rw [shared_48 H c, show (fun i d => after part0 V (Proc.devRef .tc main_v55) (ix5 p h c i d)) = _root_.Scan.tail K G c from
      funext₂ fun i d => shared_55 H c i d, show (fun i d => after part0 V (Proc.devRef .tc main_v41) (ix5 p h c i d)) = _root_.Scan.wval T W B c from
      funext₂ fun i d => shared_41 H c i d, show (fun i d => after part0 V (Proc.devRef .tc main_v46) (ix5 p h c i d)) = _root_.Scan.kcum T K G B c from
      funext₂ fun i d => shared_46 H c i d]
  rfl

/-- The state the reference ends with. -/
theorem after_at (H : Leaves V p h T K W G B) (d e : Fin 128) :
    after hostOps0_3 V (Proc.devRef .tc main_v120) (ix4 p h d e) = _root_.Scan.final T K W G B (fun _ _ => 0) d e := by
  simp only [parts, after_append]
  obtain ⟨a0, b0, c0, d0⟩ := keep0 (after part0 V)
  obtain ⟨a1, b1, c1, d1⟩ := keep1 (after part1 (after part0 V))
  obtain ⟨a2, b2, c2, d2⟩ := keep2 (after part2 (after part1 (after part0 V)))
  rw [chunk3, chunk_eq H _ 3 (a2.trans (a1.trans a0)) (b2.trans (b1.trans b0)) (c2.trans (c1.trans c0)) (d2.trans (d1.trans d0))]
  unfold _root_.Scan.final
  refine congrArg (fun S => _root_.Scan.step T K W G B 3 S d e) (funext₂ fun d e => ?_)
  rw [chunk2, chunk_eq H _ 2 (a1.trans a0) (b1.trans b0) (c1.trans c0) (d1.trans d0)]
  refine congrArg (fun S => _root_.Scan.step T K W G B 2 S d e) (funext₂ fun d e => ?_)
  rw [chunk1, chunk_eq H _ 1 a0 b0 c0 d0]
  refine congrArg (fun S => _root_.Scan.step T K W G B 1 S d e) (funext₂ fun d e => ?_)
  rw [chunk0, chunk_eq H _ 0 rfl rfl rfl rfl]
  refine congrArg (fun S => _root_.Scan.step T K W G B 0 S d e) (funext₂ fun d e => ?_)
  exact shared_56 d e

variable (m : (ℓ : Loc nD τ sig) → Buf (Elt Ideal) ℓ) (c : Dev nD) (p : Fin 32) (h : Fin 16)

/-- A head's keys, values and gates in the arguments. -/
def key (x : FVec Ideal S32x256x6144 .f32) (r : Fin 256) (d : Fin 128) : EReal := x (ix3 p r ⟨2048 + h * 128 + d, by omega⟩)
def value (x : FVec Ideal S32x256x6144 .f32) (r : Fin 256) (d : Fin 128) : EReal := x (ix3 p r ⟨4096 + h * 128 + d, by omega⟩)
def beta (y : FVec Ideal S32x1x4x16x256 .f32) (r : Fin 256) : EReal := y (ix5 p 0 0 h r)
def gate (y : FVec Ideal S32x1x4x16x256 .f32) (r : Fin 256) : EReal := y (ix5 p 0 2 h r)

theorem entry_2 (k : Fin 4) (i : Fin 64) (d : Fin 128) : entryContents preI m c (Proc.devRef .tc main_v2) (ix5 p h k i d)
    = key p h (m ((c : Thread nD τ).loc main_arg0)) (_root_.Scan.row k i) d := by
  simp only [entryContents, afterL_cons, afterL_nil]
  after_reads_simp
  pointwise [key, _root_.Scan.row]
  exact congrArg _ (congrArg (ix3 _ _) (Fin.ext (by simp only []; omega)))

theorem entry_11 (k : Fin 4) (i : Fin 64) : entryContents preI m c (Proc.devRef .tc main_v11) (ix4 p h k i)
    = gate p h (m ((c : Thread nD τ).loc main_arg1)) (_root_.Scan.row k i) := by
  simp only [entryContents, afterL_cons, afterL_nil]
  after_reads_simp
  pointwise [gate, _root_.Scan.row]

theorem entry_20 (k : Fin 4) (i : Fin 64) (d : Fin 128) : entryContents preI m c (Proc.devRef .tc main_v20) (ix5 p h k i d)
    = key p h (m ((c : Thread nD τ).loc main_arg0)) (_root_.Scan.row k i) d * beta p h (m ((c : Thread nD τ).loc main_arg1)) (_root_.Scan.row k i) := by
  simp only [entryContents, afterL_cons, afterL_nil]
  after_reads_simp
  pointwise [key, beta, _root_.Scan.row]
  exact congrArg₂ (fun a b : EReal => a * b) (congrArg _ (congrArg (ix3 _ _) (Fin.ext (by simp only []; omega)))) rfl

theorem entry_23 (k : Fin 4) (i : Fin 64) (d : Fin 128) : entryContents preI m c (Proc.devRef .tc main_v23) (ix5 p h k i d)
    = value p h (m ((c : Thread nD τ).loc main_arg0)) (_root_.Scan.row k i) d * beta p h (m ((c : Thread nD τ).loc main_arg1)) (_root_.Scan.row k i) := by
  simp only [entryContents, afterL_cons, afterL_nil]
  after_reads_simp
  pointwise [value, beta, _root_.Scan.row]
  exact congrArg₂ (fun a b : EReal => a * b) (congrArg _ (congrArg (ix3 _ _) (Fin.ext (by simp only []; omega)))) rfl

theorem mask_at (i j : Fin 64) : IntOp.cmpi CmpIPredicate.sgt (BitVec.ofNat 32 i.val) (BitVec.ofNat 32 j.val) = 1#1 ↔ j < i :=
  WordCmp.cmpi_sgt_ofNat_eq_one_iff (by omega) (by omega)

theorem eye_at (i j : Fin 64) : IntOp.cmpi CmpIPredicate.eq (IntOp.addi (BitVec.ofNat 32 i.val) 0#32) (BitVec.ofNat 32 j.val) = 1#1
    ↔ i = j := by
  refine Iff.trans ?_ Fin.val_inj
  rw [show IntOp.addi (BitVec.ofNat 32 i.val) 0#32 = BitVec.ofNat 32 i.val from BitVec.add_zero _]
  exact WordCmp.cmpi_eq_ofNat_eq_one_iff (by omega) (by omega)

theorem block_at (K : Fin 256 → Fin 128 → ℝ) (G B : Fin 256 → ℝ) (k : Fin 4) (i j : Fin 64) :
    _root_.Scan.block (_root_.Scan.mat K G B) k i j = if j < i then
      (∑ d : Fin 128, K (_root_.Scan.row k i) d * B (_root_.Scan.row k i) * K (_root_.Scan.row k j) d)
        * Real.exp (G (_root_.Scan.row k i) - G (_root_.Scan.row k j)) else 0 := by
  unfold _root_.Scan.block _root_.Scan.mat
  refine if_congr ⟨fun h' => ?_, fun h' => ⟨?_, ?_⟩⟩ rfl rfl
  · have := Fin.lt_def.mp h'.2
    dsimp only at this
    exact Fin.lt_def.mpr (by omega)
  · dsimp only; omega
  · exact Fin.lt_def.mpr (by have := Fin.lt_def.mp h'; dsimp only; omega)

variable (KR : Fin 256 → Fin 128 → ℝ) (GR BR : Fin 256 → ℝ)
  (hk : ∀ r d, key p h (m ((c : Thread nD τ).loc main_arg0)) r d = (KR r d : EReal))
  (hg : ∀ r, gate p h (m ((c : Thread nD τ).loc main_arg1)) r = (GR r : EReal))
  (hb : ∀ r, beta p h (m ((c : Thread nD τ).loc main_arg1)) r = (BR r : EReal))

include hk hg hb in
theorem entry_A (k : Fin 4) (i j : Fin 64) : entryContents preI m c (Proc.devRef .tc main_v40_0) (ix5 p h k i j)
    = (_root_.Scan.block (_root_.Scan.mat KR GR BR) k i j : EReal) := by
  refine Eq.trans (b := Scalar.select (IntOp.cmpi CmpIPredicate.sgt (BitVec.ofNat 32 i.val) (BitVec.ofNat 32 j.val))
    ((∑ x : Fin 128, key p h (m ((c : Thread nD τ).loc main_arg0)) (_root_.Scan.row k i) x
      * beta p h (m ((c : Thread nD τ).loc main_arg1)) (_root_.Scan.row k i)
      * key p h (m ((c : Thread nD τ).loc main_arg0)) (_root_.Scan.row k j) x)
      * Ideal.exp (gate p h (m ((c : Thread nD τ).loc main_arg1)) (_root_.Scan.row k i) - gate p h (m ((c : Thread nD τ).loc main_arg1)) (_root_.Scan.row k j)))
    (0 : EReal)) ?_ ?_
  · simp only [entryContents, afterL_cons, afterL_nil]
    after_reads_simp
    simp only [id_eq, TRef.toBuf, TRef.ofBuf, cast_eq]
    pointwise [key, beta, gate, _root_.Scan.row]
    refine congrArg (fun z : EReal => Scalar.select _ z (0 : EReal)) (congrArg (fun z : EReal => z * _) ?_)
    refine @Finset.sum_congr _ EReal _ _ _ _ _ rfl fun x _ => ?_
    have hx : ∀ hl : 2048 + (h.val * 128 + x.val) < 6144, (⟨2048 + (h.val * 128 + x.val), hl⟩ : Fin 6144) = ⟨2048 + h.val * 128 + x.val, by omega⟩ := fun _ => Fin.ext (by simp only []; omega)
    rw [hx]
  · simp only [hk, hg, hb]
    rw [block_at]
    by_cases hij : j < i
    · rw [if_pos hij]
      refine (if_pos ((mask_at i j).mpr hij)).trans ?_
      rw [EReal.coe_mul, Softmax.coe_sum, ← Ideal.exp_coe, EReal.coe_sub]
      refine congrArg₂ (fun a b : EReal => a * b) (Finset.sum_congr rfl fun d _ => ?_) rfl
      rw [EReal.coe_mul, EReal.coe_mul]
    · rw [if_neg hij]
      exact if_neg fun h' => hij ((mask_at i j).mp h')

theorem entry_eye (i j : Fin 64) : entryContents preI m c (Proc.devRef .tc main_v40_1) (ix2 i j)
    = ((1 : Matrix (Fin 64) (Fin 64) ℝ) i j : EReal) := by
  simp only [entryContents, afterL_cons, afterL_nil]
  after_reads_simp
  simp only [id_eq]
  pointwise
  by_cases hij : i = j
  · rw [(eye_at i j).mpr hij, hij, Matrix.one_apply_eq]
    show (((1#1 : BitVec 1).toNat : ℝ) : EReal) = ((1 : ℝ) : EReal)
    simp
  · rw [show IntOp.cmpi CmpIPredicate.eq (IntOp.addi (BitVec.ofNat 32 i.val) 0#32) (BitVec.ofNat 32 j.val) = 0#1 from
      (BitVec.eq_zero_or_eq_one _).resolve_right fun h' => hij ((eye_at i j).mp h'), Matrix.one_apply_ne hij]
    show (((0#1 : BitVec 1).toNat : ℝ) : EReal) = ((0 : ℝ) : EReal)
    simp

theorem entry_T (k : Fin 4) (i j : Fin 64) : entryContents preI m c (Proc.devRef .tc main_v40_4) (ix5 p h k i j) = (0 : EReal) := by
  simp only [entryContents, afterL_cons, afterL_nil]
  after_reads_simp
  simp only [id_eq]
  pointwise

/-- One step of the loop on the inverse. -/
theorem step_T (V : Valuation τ sig (Elt Ideal)) (k : Fin 4) (A I T : Matrix (Fin 64) (Fin 64) ℝ)
    (hA : ∀ i j, V (Proc.devRef .tc main_v40_0) (ix5 p h k i j) = (A i j : EReal))
    (hI : ∀ i j, V (Proc.devRef .tc main_v40_1) (ix2 i j) = (I i j : EReal))
    (hT : ∀ i j, V (Proc.devRef .tc main_v40_4) (ix5 p h k i j) = (T i j : EReal)) (i j : Fin 64) :
    STEP V (Proc.devRef .tc main_v40_4) (ix5 p h k i j) = ((I - A * T) i j : EReal) := by
  rw [STEP_main_v40_4]
  simp only [step_main_v40_4, id_eq]
  pointwise
  rw [Matrix.sub_apply, EReal.coe_sub, Matrix.mul_apply, Softmax.coe_sum]
  refine congrArg₂ (fun a b : EReal => a - b) (hI i j) ?_
  refine @Finset.sum_congr _ EReal _ _ _ _ _ rfl fun x _ => ?_
  rw [EReal.coe_mul]
  exact congrArg₂ (fun a b : EReal => a * b) (hA i x) (hT x j)

include hk hg hb in
/-- The loop substitutes. -/
theorem loop_at (k : Fin 4) (n : ℕ) : (∀ i j, STEP^[n] (entryContents preI m c) (Proc.devRef .tc main_v40_0) (ix5 p h k i j)
      = (_root_.Scan.block (_root_.Scan.mat KR GR BR) k i j : EReal))
    ∧ (∀ i j, STEP^[n] (entryContents preI m c) (Proc.devRef .tc main_v40_1) (ix2 i j) = ((1 : Matrix (Fin 64) (Fin 64) ℝ) i j : EReal))
    ∧ (∀ i j, STEP^[n] (entryContents preI m c) (Proc.devRef .tc main_v40_4) (ix5 p h k i j)
      = (_root_.Scan.substituted (_root_.Scan.block (_root_.Scan.mat KR GR BR) k) n i j : EReal)) := by
  induction n with
  | zero => exact ⟨entry_A m c p h KR GR BR hk hg hb k, entry_eye m c, entry_T m c p h k⟩
  | succ n ih =>
    simp only [Function.iterate_succ_apply']
    refine ⟨fun i j => ?_, fun i j => ?_, fun i j => step_T p h _ k _ _ _ ih.1 ih.2.1 ih.2.2 i j⟩
    · rw [STEP_main_v40_0]; exact ih.1 i j
    · rw [STEP_main_v40_1]; exact ih.2.1 i j

/-- A buffer the loop does not write is as it was. -/
theorem kept (r : Ref sig .tc) (hb : r ∉ while0Ops0_W) (hc : r ∉ condOps_W) (k : ℕ) :
    after condOps (atK m k c) (Proc.devRef .tc r) = entryContents preI m c (Proc.devRef .tc r) := by
  induction k with
  | zero => exact after_of_writes_sub condOps _ condOps_writes hc
  | succ k ih =>
    rw [after_of_writes_sub condOps _ condOps_writes hc]
    exact (after_of_writes_sub while0Ops0 _ while0Ops0_writes hb).trans ih

include hk hg hb in
/-- What the loop leaves to the four chunks. -/
theorem leaves : Leaves (after condOps (atK m 64 c)) p h (_root_.Scan.inv KR GR BR) (key p h (m ((c : Thread nD τ).loc main_arg0)))
    (value p h (m ((c : Thread nD τ).loc main_arg0))) (gate p h (m ((c : Thread nD τ).loc main_arg1)))
    (beta p h (m ((c : Thread nD τ).loc main_arg1))) := by
  refine ⟨fun k i j => ?_, fun k i d => ?_, fun k i d => ?_, fun k i d => ?_, fun k i => ?_⟩
  · rw [after_of_writes_sub condOps _ condOps_writes (by decide +kernel), atK_agree m c 64 main_v40_4 (by decide)]
    exact (loop_at m c p h KR GR BR hk hg hb k 64).2.2 i j
  · rw [kept m c main_v2 (by decide +kernel) (by decide +kernel)]; exact entry_2 m c p h k i d
  · rw [kept m c main_v20 (by decide +kernel) (by decide +kernel)]; exact entry_20 m c p h k i d
  · rw [kept m c main_v23 (by decide +kernel) (by decide +kernel)]; exact entry_23 m c p h k i d
  · rw [kept m c main_v11 (by decide +kernel) (by decide +kernel)]; exact entry_11 m c p h k i

include hk hg hb in
/-- The reference's result at one entry. -/
theorem result_at (d e : Fin 128) : finalContents condOps preI bodyI postI 64 m c (Proc.devRef .tc main_v120) (ix4 p h d e)
    = _root_.Scan.final (_root_.Scan.inv KR GR BR) (key p h (m ((c : Thread nD τ).loc main_arg0)))
      (value p h (m ((c : Thread nD τ).loc main_arg0))) (gate p h (m ((c : Thread nD τ).loc main_arg1)))
      (beta p h (m ((c : Thread nD τ).loc main_arg1))) (fun _ _ => 0) d e :=
  after_at (leaves m c p h KR GR BR hk hg hb) d e

theorem after_args (V : Valuation τ sig (Elt Ideal)) :
    after hostOps0_3 V (Proc.devRef .tc main_arg0) = V (Proc.devRef .tc main_arg0)
    ∧ after hostOps0_3 V (Proc.devRef .tc main_arg1) = V (Proc.devRef .tc main_arg1) := by
  simp only [parts, after_append]
  constructor <;> after_reads_simp

theorem entry_args : entryContents preI m c (Proc.devRef .tc main_arg0) = m ((c : Thread nD τ).loc main_arg0)
    ∧ entryContents preI m c (Proc.devRef .tc main_arg1) = m ((c : Thread nD τ).loc main_arg1) := by
  simp only [entryContents, afterL_cons, afterL_nil]
  constructor <;> after_reads_simp <;> rfl

/-- The reference terminates with its result, and its arguments as they were. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v120) = finalContents condOps preI bodyI postI 64 m c (Proc.devRef .tc main_v120)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨h c main_v120 rfl,
      (h c main_arg0 rfl).trans ((after_args _).1.trans
        ((kept m c main_arg0 (by decide +kernel) (by decide +kernel) 64).trans (entry_args m c).1)),
      (h c main_arg1 rfl).trans ((after_args _).2.trans
        ((kept m c main_arg1 (by decide +kernel) (by decide +kernel) 64).trans (entry_args m c).2))⟩)
    (run_fold m ρ)

end Cert.RefScanIdeal.Scan

end
-- ==== Proof.ScanValue.lean ====
/- The DeltaNet kernel leaves the state that its reference leaves. -/
module

public import proofs.«01_k».proof.Proof.ScanEntry
public import proofs.«01_k».proof.Proof.ScanRef
public import proofs.«01_k».proof.Proof.Gen.ScanIdeal.Frame
public import Idealize.ShloMosaic.Lib.Pipeline.ValueKit
public import Idealize.ShloMosaic.Lib.Claim
public import Idealize.ShloMosaic.Lib.Pipeline.ReadBack

set_option maxRecDepth 16384

@[expose] public noncomputable section

namespace Cert.ScanIdeal.Scan

open Idealize.ShloMosaic Idealize.ShloMosaic.TcCoe Idealize.SL.Sem
open Cert.ScanIdeal Cert.ScanIdeal.Gen
open Cert.RefScanIdeal.Scan (key value beta gate)

variable (m : (ℓ : Loc nD τ sig) → Buf (Elt Ideal) ℓ)

/-- The block every window reads or writes at a grid point. -/
theorem index_at : ∀ t : Fin cfg0.N, win0_1.index t = ![t.val / 4, 0, 4 + t.val % 4]
    ∧ win0_2.index t = ![t.val / 4, 0, 8 + t.val % 4] ∧ win0_3.index t = ![t.val / 4, 0, 0, 0, 0]
    ∧ win0_4.index t = ![0, 0, 0, 0, 0]
    ∧ win0_6.index t = ![t.val / 4, t.val % 4, 0, 0] :=
  (by decide +kernel : ∀ t : Fin grid0.N, _)

/-- The sequence and the heads of a grid point. -/
def seqOf (t : Fin cfg0.N) : Fin 32 := ⟨t.val / 4, by have := lt_of_lt_of_eq t.isLt N_0; omega⟩
def headOf (t : Fin cfg0.N) (h : Fin 4) : Fin 16 := ⟨t.val % 4 * 4 + h, by omega⟩

theorem off1_at : ∀ (t : Fin cfg0.N) (h : Fin 4), k0_off1 (grid0.coords t) (BitVec.ofNat 32 h.val) = ![0, 0, 2, t.val % 4 * 4 + h.val, 0] :=
  (by decide +kernel : ∀ (t : Fin grid0.N) (h : Fin 4), _)

theorem off2_at : ∀ (t : Fin cfg0.N) (h : Fin 4), k0_off2 (grid0.coords t) (BitVec.ofNat 32 h.val) = ![0, 0, 0, t.val % 4 * 4 + h.val, 0] :=
  (by decide +kernel : ∀ (t : Fin grid0.N) (h : Fin 4), _)

/-- The keys of a head, as a step reads them. -/
theorem key_at (c : Dev nD) (t : Fin cfg0.N) (h : Fin 4) (o : ℕ) (ho : o = h.val * 128) (inb) (r : Fin 256) (d : Fin 128) :
    View.ld (iblk m c 1 t) (Rect.unit (s := S1x256x512) ![0, 0, o] ![1, 256, 128] inb) (ix3 0 r d)
      = key (seqOf t) (headOf t h) (m ((c : Thread nD τ).loc main_arg0)) r d := by
  refine (View.ld_unit_apply_of _ _ _ _ _ (ix3 0 r ⟨h.val * 128 + d, by omega⟩) fun a => ?_).trans ?_
  · match a with
    | 0 => rfl
    | 1 => exact (Nat.zero_add _).symm
    | 2 => subst ho; rfl
  · unfold key seqOf headOf
    blk_point [iblk, V, index_at t]

theorem value_at (c : Dev nD) (t : Fin cfg0.N) (h : Fin 4) (o : ℕ) (ho : o = h.val * 128) (inb) (r : Fin 256) (d : Fin 128) :
    View.ld (iblk m c 2 t) (Rect.unit (s := S1x256x512) ![0, 0, o] ![1, 256, 128] inb) (ix3 0 r d)
      = value (seqOf t) (headOf t h) (m ((c : Thread nD τ).loc main_arg0)) r d := by
  refine (View.ld_unit_apply_of _ _ _ _ _ (ix3 0 r ⟨h.val * 128 + d, by omega⟩) fun a => ?_).trans ?_
  · match a with
    | 0 => rfl
    | 1 => exact (Nat.zero_add _).symm
    | 2 => subst ho; rfl
  · unfold value seqOf headOf
    blk_point [iblk, V, index_at t]

/-- The gates of a head, as a step reads them. -/
theorem gate_at (c : Dev nD) (t : Fin cfg0.N) (h : Fin 4) (o : Fin 5 → ℕ) (ho : o = ![0, 0, 2, t.val % 4 * 4 + h.val, 0]) (inb) (r : Fin 256) :
    View.ld (iblk m c 3 t) (Rect.unit (s := S1x1x4x16x256) o ![1, 1, 1, 1, 256] inb) (ix5 0 0 0 0 r)
      = gate (seqOf t) (headOf t h) (m ((c : Thread nD τ).loc main_arg1)) r := by
  subst ho
  refine (View.ld_unit_apply_of _ _ _ _ _ (ix5 0 0 2 (headOf t h) r) fun a => ?_).trans ?_
  · match a with
    | 0 => rfl
    | 1 => rfl
    | 2 => rfl
    | 3 => rfl
    | 4 => exact (Nat.zero_add _).symm
  · unfold gate seqOf headOf
    blk_point [iblk, V, index_at t]

theorem beta_at (c : Dev nD) (t : Fin cfg0.N) (h : Fin 4) (o : Fin 5 → ℕ) (ho : o = ![0, 0, 0, t.val % 4 * 4 + h.val, 0]) (inb) (r : Fin 256) :
    View.ld (iblk m c 3 t) (Rect.unit (s := S1x1x4x16x256) o ![1, 1, 1, 1, 256] inb) (ix5 0 0 0 0 r)
      = beta (seqOf t) (headOf t h) (m ((c : Thread nD τ).loc main_arg1)) r := by
  subst ho
  refine (View.ld_unit_apply_of _ _ _ _ _ (ix5 0 0 0 (headOf t h) r) fun a => ?_).trans ?_
  · match a with
    | 0 => rfl
    | 1 => rfl
    | 2 => rfl
    | 3 => rfl
    | 4 => exact (Nat.zero_add _).symm
  · unfold beta seqOf headOf
    blk_point [iblk, V, index_at t]

/-- The state that a step starts with is zero. -/
theorem fill_at (c : Dev nD) (t : Fin cfg0.N) (y) : k0_pay1 (F := Ideal) (iblk m c 4 t) y = (0 : EReal) := by
  obtain ⟨h, r, l, rfl⟩ : ∃ (h : Fin 4) (r l : Fin 128), y = ix3 h r l := ⟨y 0, y 1, y 2, eq_ix3 y⟩
  pointwise [k0_pay1]
  blk_point [iblk, V, index_at t]

theorem stored_at (L : List (View.Piece (Elt Ideal) S4x128x128 .f32)) (h : Fin 4) (r l : Fin 128) :
    k0_pay178 ((View.whole cc0_scratch0).readCov L (Rect.unit ![0, 0, 0] ![4, 128, 128] inb_S4x128x128_S4x128x128_0_0_0).toLoadRect) (ix4 0 h r l)
      = View.canon L (ix3 h r l) := by
  rw [View.readCov_eq_canon']
  pointwise [k0_pay178]

/-- A head reads its own part of the filled state: the heads before it have stored elsewhere. -/
theorem read_0 (Z : S4x128x128.Idx → Elt Ideal .f32)  :
    (View.whole cc0_scratch0).readCov (Val := Elt Ideal) [⟨Rect.unit ![0, 0, 0] ![4, 128, 128] inb_S4x128x128_S4x128x128_0_0_0, Z⟩] (Rect.unit ![0, 0, 0] ![1, 128, 128] inb_S4x128x128_S1x128x128_0_0_0).toLoadRect
      = View.ld Z (Rect.unit ![0, 0, 0] ![1, 128, 128] inb_S4x128x128_S1x128x128_0_0_0) := by
  exact View.readCov_fill _ _ _ _ _ (by decide)

theorem read_1 (Z : S4x128x128.Idx → Elt Ideal .f32) (w0 : S1x128x128.Idx → Elt Ideal .f32) :
    (View.whole cc0_scratch0).readCov (Val := Elt Ideal) [⟨Rect.unit ![0, 0, 0] ![1, 128, 128] inb_S4x128x128_S1x128x128_0_0_0, w0⟩, ⟨Rect.unit ![0, 0, 0] ![4, 128, 128] inb_S4x128x128_S4x128x128_0_0_0, Z⟩] (Rect.unit ![1, 0, 0] ![1, 128, 128] inb_S4x128x128_S1x128x128_1_0_0).toLoadRect
      = View.ld Z (Rect.unit ![1, 0, 0] ![1, 128, 128] inb_S4x128x128_S1x128x128_1_0_0) := by
  rw [View.readCov_skip _ _ _ _ _ (by decide)]
  exact View.readCov_fill _ _ _ _ _ (by decide)

theorem read_2 (Z : S4x128x128.Idx → Elt Ideal .f32) (w0 w1 : S1x128x128.Idx → Elt Ideal .f32) :
    (View.whole cc0_scratch0).readCov (Val := Elt Ideal) [⟨Rect.unit ![1, 0, 0] ![1, 128, 128] inb_S4x128x128_S1x128x128_1_0_0, w1⟩, ⟨Rect.unit ![0, 0, 0] ![1, 128, 128] inb_S4x128x128_S1x128x128_0_0_0, w0⟩, ⟨Rect.unit ![0, 0, 0] ![4, 128, 128] inb_S4x128x128_S4x128x128_0_0_0, Z⟩] (Rect.unit ![2, 0, 0] ![1, 128, 128] inb_S4x128x128_S1x128x128_2_0_0).toLoadRect
      = View.ld Z (Rect.unit ![2, 0, 0] ![1, 128, 128] inb_S4x128x128_S1x128x128_2_0_0) := by
  rw [View.readCov_skip _ _ _ _ _ (by decide)]
  rw [View.readCov_skip _ _ _ _ _ (by decide)]
  exact View.readCov_fill _ _ _ _ _ (by decide)

theorem read_3 (Z : S4x128x128.Idx → Elt Ideal .f32) (w0 w1 w2 : S1x128x128.Idx → Elt Ideal .f32) :
    (View.whole cc0_scratch0).readCov (Val := Elt Ideal) [⟨Rect.unit ![2, 0, 0] ![1, 128, 128] inb_S4x128x128_S1x128x128_2_0_0, w2⟩, ⟨Rect.unit ![1, 0, 0] ![1, 128, 128] inb_S4x128x128_S1x128x128_1_0_0, w1⟩, ⟨Rect.unit ![0, 0, 0] ![1, 128, 128] inb_S4x128x128_S1x128x128_0_0_0, w0⟩, ⟨Rect.unit ![0, 0, 0] ![4, 128, 128] inb_S4x128x128_S4x128x128_0_0_0, Z⟩] (Rect.unit ![3, 0, 0] ![1, 128, 128] inb_S4x128x128_S1x128x128_3_0_0).toLoadRect
      = View.ld Z (Rect.unit ![3, 0, 0] ![1, 128, 128] inb_S4x128x128_S1x128x128_3_0_0) := by
  rw [View.readCov_skip _ _ _ _ _ (by decide)]
  rw [View.readCov_skip _ _ _ _ _ (by decide)]
  rw [View.readCov_skip _ _ _ _ _ (by decide)]
  exact View.readCov_fill _ _ _ _ _ (by decide)

/-- A head's final state, of the arguments. -/
def result (p : Fin 32) (h : Fin 16) (x : FVec Ideal S32x256x6144 .f32) (y : FVec Ideal S32x1x4x16x256 .f32)
    (K : Fin 256 → Fin 128 → ℝ) (G B : Fin 256 → ℝ) : Fin 128 → Fin 128 → EReal :=
  _root_.Scan.final (_root_.Scan.inv K G B) (key p h x) (value p h x) (gate p h y) (beta p h y) (fun _ _ => 0)

theorem head_eq (p : Fin 32) (h : Fin 16) (X : FVec Ideal S32x256x6144 .f32) (Y : FVec Ideal S32x1x4x16x256 .f32)
    (K : Fin 256 → Fin 128 → ℝ) (G B : Fin 256 → ℝ) (rk : ∀ r d, key p h X r d = (K r d : EReal))
    (rg : ∀ r, gate p h Y r = (G r : EReal)) (rb : ∀ r, beta p h Y r = (B r : EReal))
    (k v : Vec Ideal S1x256x128 .f32) (g b : Vec Ideal S1x1x1x1x256 .f32) (S : Vec Ideal S1x128x128 .f32)
    (hk : ∀ r d, k (ix3 0 r d) = key p h X r d) (hv : ∀ r d, v (ix3 0 r d) = value p h X r d)
    (hg : ∀ r, g (ix5 0 0 0 0 r) = gate p h Y r) (hb : ∀ r, b (ix5 0 0 0 0 r) = beta p h Y r)
    (hS : ∀ y, S y = (0 : EReal)) (x : S1x128x128.Idx) (d e : Fin 128) (h1 : d.val = (x 1).val) (h2 : e.val = (x 2).val) :
    Head.head k v g b S x = result p h X Y K G B d e := by
  obtain ⟨z, d', e', rfl⟩ : ∃ (z : Fin 1) (d' e' : Fin 128), x = ix3 z d' e' := ⟨x 0, x 1, x 2, eq_ix3 x⟩
  obtain rfl : d = d' := Fin.ext h1
  obtain rfl : e = e' := Fin.ext h2
  obtain rfl : z = 0 := Subsingleton.elim _ _
  refine (Head.head_at k v g b S K G B (fun r d => (hk r d).trans (rk r d)) (fun r => (hg r).trans (rg r))
    (fun r => (hb r).trans (rb r)) d e).trans ?_
  unfold result
  rw [show Head.keyOf k = key p h X from funext₂ hk, show Head.keyOf v = value p h X from funext₂ hv,
    show Head.gateOf g = gate p h Y from funext hg, show Head.gateOf b = beta p h Y from funext hb,
    show (fun d e => S (ix3 0 d e)) = (fun _ _ => (0 : EReal)) from funext₂ fun d e => hS _]

/-- Stores that cover an index hide what was there before. -/
theorem drop_fill {S : Shape} {e : EltTy} (p3 p2 p1 p0 pZ : View.Piece (Elt Ideal) S e) (y : S.Idx)
    (hc : ∃ p ∈ [p3, p2, p1, p0], y ∈ p.1.set) :
    View.canon [p3, p2, p1, p0, pZ] y = View.canon [p3, p2, p1, p0] y := by
  have step : ∀ (p : View.Piece (Elt Ideal) S e) (L L' : List (View.Piece (Elt Ideal) S e)),
      (y ∉ p.1.set → View.canon L y = View.canon L' y) → View.canon (p :: L) y = View.canon (p :: L') y := by
    intro p L L' h
    by_cases hm : y ∈ p.1.set
    · obtain ⟨x, rfl⟩ := p.1.exists_idx_of_mem hm
      show View.canon (p :: L) (p.1.emb x) = View.canon (p :: L') (p.1.emb x)
      rw [View.canon_cons_emb, View.canon_cons_emb]
    · rw [View.canon_cons_of_not_mem _ _ hm, View.canon_cons_of_not_mem _ _ hm, h hm]
  refine step _ _ _ fun h3 => step _ _ _ fun h2 => step _ _ _ fun h1 => step _ _ _ fun h0 => ?_
  obtain ⟨p, hp, hy⟩ := hc
  simp only [List.mem_cons, List.not_mem_nil, or_false] at hp
  rcases hp with rfl | rfl | rfl | rfl
  · exact absurd hy h3
  · exact absurd hy h2
  · exact absurd hy h1
  · exact absurd hy h0

/-- The four heads' stores hide what was there before. -/
theorem stored_drop (Z : S4x128x128.Idx → Elt Ideal .f32) (w0 w1 w2 w3 : S1x128x128.Idx → Elt Ideal .f32) (y : S4x128x128.Idx) :
    View.canon (Val := Elt Ideal) [⟨Rect.unit ![3, 0, 0] ![1, 128, 128] inb_S4x128x128_S1x128x128_3_0_0, w3⟩,
        ⟨Rect.unit ![2, 0, 0] ![1, 128, 128] inb_S4x128x128_S1x128x128_2_0_0, w2⟩,
        ⟨Rect.unit ![1, 0, 0] ![1, 128, 128] inb_S4x128x128_S1x128x128_1_0_0, w1⟩,
        ⟨Rect.unit ![0, 0, 0] ![1, 128, 128] inb_S4x128x128_S1x128x128_0_0_0, w0⟩,
        ⟨Rect.unit ![0, 0, 0] ![4, 128, 128] inb_S4x128x128_S4x128x128_0_0_0, Z⟩] y
      = View.canon (Val := Elt Ideal) [⟨Rect.unit ![3, 0, 0] ![1, 128, 128] inb_S4x128x128_S1x128x128_3_0_0, w3⟩,
        ⟨Rect.unit ![2, 0, 0] ![1, 128, 128] inb_S4x128x128_S1x128x128_2_0_0, w2⟩,
        ⟨Rect.unit ![1, 0, 0] ![1, 128, 128] inb_S4x128x128_S1x128x128_1_0_0, w1⟩,
        ⟨Rect.unit ![0, 0, 0] ![1, 128, 128] inb_S4x128x128_S1x128x128_0_0_0, w0⟩] y :=
  drop_fill _ _ _ _ _ y (View.cover_of_tiled_head _ _ _ rfl y)

section Real

variable (K : Fin 32 → Fin 16 → Fin 256 → Fin 128 → ℝ) (G B : Fin 32 → Fin 16 → Fin 256 → ℝ) (c : Dev nD)
  (rk : ∀ p h r d, key p h (m ((c : Thread nD τ).loc main_arg0)) r d = (K p h r d : EReal))
  (rg : ∀ p h r, gate p h (m ((c : Thread nD τ).loc main_arg1)) r = (G p h r : EReal))
  (rb : ∀ p h r, beta p h (m ((c : Thread nD τ).loc main_arg1)) r = (B p h r : EReal))

include rk rg rb in
set_option maxHeartbeats 1000000 in
theorem outs (t : Fin cfg0.N) (h : Fin 4) (r l : Fin 128) : (outsAt0 m c t).2 (ix4 0 h r l)
    = result (seqOf t) (headOf t h) (m ((c : Thread nD τ).loc main_arg0)) (m ((c : Thread nD τ).loc main_arg1))
      (K (seqOf t) (headOf t h)) (G (seqOf t) (headOf t h)) (B (seqOf t) (headOf t h)) r l := by
  unfold outsAt0
  dsimp only
  frame_out
  refine (stored_at _ h r l).trans ?_
  with_reducible refine (stored_drop _ _ _ _ _ _).trans ?_
  canon_tiles x hx
  · generalize hS : k0_pay140 (F := Ideal) _ = S'
    obtain rfl := hS.symm.trans (congrArg (k0_pay140 (F := Ideal)) (read_3 _ _ _ _))
    with_reducible refine (congrFun (Head.head_3 _ _ _ _ _) x).trans ?_
    obtain rfl : h = 3 := Fin.ext (by have e : h.val = 3 + (x 0).val := hx0; show h.val = 3; omega)
    with_reducible refine head_eq _ _ _ _ _ _ _ (rk _ _) (rg _ _) (rb _ _) _ _ _ _ _ ?_ ?_ ?_ ?_ ?_ x r l ?_ ?_
    · with_reducible exact fun r d => key_at m c t 3 _ (by decide) _ r d
    · with_reducible exact fun r d => value_at m c t 3 _ (by decide) _ r d
    · exact fun r => gate_at m c t 3 _ (off1_at t 3) _ r
    · exact fun r => beta_at m c t 3 _ (off2_at t 3) _ r
    · exact fun y => fill_at m c t _
    · exact hx1
    · exact hx2
  · generalize hS : k0_pay98 (F := Ideal) _ = S'
    obtain rfl := hS.symm.trans (congrArg (k0_pay98 (F := Ideal)) (read_2 _ _ _))
    with_reducible refine (congrFun (Head.head_2 _ _ _ _ _) x).trans ?_
    obtain rfl : h = 2 := Fin.ext (by have e : h.val = 2 + (x 0).val := hx0; show h.val = 2; omega)
    with_reducible refine head_eq _ _ _ _ _ _ _ (rk _ _) (rg _ _) (rb _ _) _ _ _ _ _ ?_ ?_ ?_ ?_ ?_ x r l ?_ ?_
    · with_reducible exact fun r d => key_at m c t 2 _ (by decide) _ r d
    · with_reducible exact fun r d => value_at m c t 2 _ (by decide) _ r d
    · exact fun r => gate_at m c t 2 _ (off1_at t 2) _ r
    · exact fun r => beta_at m c t 2 _ (off2_at t 2) _ r
    · exact fun y => fill_at m c t _
    · exact hx1
    · exact hx2
  · generalize hS : k0_pay57 (F := Ideal) _ = S'
    obtain rfl := hS.symm.trans (congrArg (k0_pay57 (F := Ideal)) (read_1 _ _))
    with_reducible refine (congrFun (Head.head_1 _ _ _ _ _) x).trans ?_
    obtain rfl : h = 1 := Fin.ext (by have e : h.val = 1 + (x 0).val := hx0; show h.val = 1; omega)
    with_reducible refine head_eq _ _ _ _ _ _ _ (rk _ _) (rg _ _) (rb _ _) _ _ _ _ _ ?_ ?_ ?_ ?_ ?_ x r l ?_ ?_
    · with_reducible exact fun r d => key_at m c t 1 _ (by decide) _ r d
    · with_reducible exact fun r d => value_at m c t 1 _ (by decide) _ r d
    · exact fun r => gate_at m c t 1 _ (off1_at t 1) _ r
    · exact fun r => beta_at m c t 1 _ (off2_at t 1) _ r
    · exact fun y => fill_at m c t _
    · exact hx1
    · exact hx2
  · with_reducible refine (congrFun (Head.head_0 _ _ _ _ _) x).trans ?_
    obtain rfl : h = 0 := Fin.ext (by have e : h.val = (x 0).val := hx0; show h.val = 0; omega)
    with_reducible refine head_eq _ _ _ _ _ _ _ (rk _ _) (rg _ _) (rb _ _) _ _ _ _ _ ?_ ?_ ?_ ?_ ?_ x r l ?_ ?_
    · with_reducible exact fun r d => key_at m c t 0 _ (by decide) _ r d
    · with_reducible exact fun r d => value_at m c t 0 _ (by decide) _ r d
    · exact fun r => gate_at m c t 0 _ (off1_at t 0) _ r
    · exact fun r => beta_at m c t 0 _ (off2_at t 0) _ r
    · exact fun y => (congrFun (read_0 _) y).trans (fill_at m c t _)
    · exact hx1
    · exact hx2

/-- The final states of all heads. -/
def states : S32x16x128x128.Idx → EReal := fun i =>
  result (i 0) (i 1) (m ((c : Thread nD τ).loc main_arg0)) (m ((c : Thread nD τ).loc main_arg1))
    (K (i 0) (i 1)) (G (i 0) (i 1)) (B (i 0) (i 1)) (i 2) (i 3)

include rk rg rb in
/-- The states of every step lie where the reference's do. -/
theorem point (t : Fin cfg0.N) (y) : (outsAt0 m c t).2 y = states m K G B c (((cfg0.win 6).blk t).view.emb y) := by
  obtain ⟨z, h, r, l, rfl⟩ : ∃ (z : Fin 1) (h : Fin 4) (r l : Fin 128), y = ix4 z h r l := ⟨y 0, y 1, y 2, y 3, eq_ix4 y⟩
  obtain rfl : z = 0 := Subsingleton.elim _ _
  refine (outs m K G B c rk rg rb t h r l).trans
    (congrArg (states m K G B c) (a₁ := ix4 (seqOf t) (headOf t h) r l) (funext fun a => Fin.ext ?_))
  unfold seqOf headOf
  match a with
  | 0 => blk_simp [index_at t]; rfl
  | 1 => blk_simp [index_at t]
  | 2 => blk_simp [index_at t]
  | 3 => blk_simp [index_at t]

include rk rg rb in
theorem final_states : (dats m 0 c).arrAt 6 (cfgs 0).N = states m K G B c := by
  refine (dats m 0 c).arrAt_eq_of_covers 6 _ (by decide +kernel) fun t hf y => ?_
  blk_simp
  rw [after0_6]
  exact point m K G B c rk rg rb t _

end Real

/-- The kernel's states are the reference's, where the keys, the betas and the gates are real. -/
theorem final (c : Dev nD) (m' : (ℓ : Loc Cert.RefScanIdeal.nD Cert.RefScanIdeal.τ Cert.RefScanIdeal.sig) → Buf (Elt Ideal) ℓ)
    (c' : Dev Cert.RefScanIdeal.nD)
    (h0 : m' ((c' : Thread Cert.RefScanIdeal.nD Cert.RefScanIdeal.τ).loc Cert.RefScanIdeal.main_arg0) = m ((c : Thread nD τ).loc main_arg0))
    (h1 : m' ((c' : Thread Cert.RefScanIdeal.nD Cert.RefScanIdeal.τ).loc Cert.RefScanIdeal.main_arg1) = m ((c : Thread nD τ).loc main_arg1))
    (hr : ∀ (p : Fin 32) (r : Fin 256),
      (∀ d : Fin 2048, ∃ a : ℝ, (m ((c : Thread nD τ).loc main_arg0) (ix3 p r ⟨2048 + d, by omega⟩) : EReal) = (a : EReal))
      ∧ (∀ k : Fin 16, ∃ a : ℝ, (m ((c : Thread nD τ).loc main_arg1) (ix5 p 0 0 k r) : EReal) = (a : EReal))
      ∧ ∀ k : Fin 16, ∃ a : ℝ, (m ((c : Thread nD τ).loc main_arg1) (ix5 p 0 2 k r) : EReal) = (a : EReal)) :
    (dats m 0 c).arrAt 6 (cfgs 0).N = StableHlo.finalContents Cert.RefScanIdeal.Value.condOps Cert.RefScanIdeal.Value.preI
      Cert.RefScanIdeal.Value.bodyI Cert.RefScanIdeal.Value.postI 64 m' c' (Proc.devRef .tc Cert.RefScanIdeal.main_v120) := by
  have hk : ∀ (p : Fin 32) (h : Fin 16) (r : Fin 256) (d : Fin 128),
      ∃ a : ℝ, key p h (m ((c : Thread nD τ).loc main_arg0)) r d = (a : EReal) := fun p h r d => by
    obtain ⟨a, ha⟩ := (hr p r).1 ⟨h.val * 128 + d.val, by omega⟩
    refine ⟨a, Eq.trans ?_ ha⟩
    unfold key
    exact congrArg _ (congrArg (ix3 p r) (Fin.ext (Nat.add_assoc ..)))
  choose K rk using hk
  choose B rb using fun (p : Fin 32) (h : Fin 16) (r : Fin 256) => (hr p r).2.1 h
  choose G rg using fun (p : Fin 32) (h : Fin 16) (r : Fin 256) => (hr p r).2.2 h
  refine (final_states m K G B c rk rg rb).trans (funext fun i => ?_)
  obtain ⟨p, h, d, e, rfl⟩ : ∃ (p : Fin 32) (h : Fin 16) (d e : Fin 128), i = ix4 p h d e := ⟨i 0, i 1, i 2, i 3, eq_ix4 i⟩
  refine Eq.trans ?_ (Cert.RefScanIdeal.Scan.result_at m' c' p h (K p h) (G p h) (B p h)
    (by rw [h0]; exact rk p h) (by rw [h1]; exact rg p h) (by rw [h1]; exact rb p h) d e).symm
  rw [h0, h1]
  rfl

end Cert.ScanIdeal.Scan

end
-- ==== Proof.lean ====
/- The claims about eleven calls of the layer, assembled: the latent attention, the two MLP blocks, the four projections of the
   context tokens, the projection after the gates, the calls that make the keys, values and queries from their latents, and the
   DeltaNet recurrence. For each call:
   the kernel and its idealized form terminate, fault nowhere and leave their arguments alone; so does the reference; the idealized
   form is the kernel's own operations; and the idealized form computes the reference over the extended reals. -/
module

public import proofs.«01_k».proof.Defs
public import proofs.«01_k».proof.Proof.Gen.Kernel.Frame
public import proofs.«01_k».proof.Proof.Gen.KernelIdeal.Frame
public import proofs.«01_k».proof.Proof.Gen.Mlp.Frame
public import proofs.«01_k».proof.Proof.Gen.MlpIdeal.Frame
public import proofs.«01_k».proof.Proof.Gen.Scan.Frame
public import proofs.«01_k».proof.Proof.Gen.ScanIdeal.Frame
public import proofs.«01_k».proof.Proof.Gen.RefScanIdeal.Run
public import proofs.«01_k».proof.Proof.Gen.MlpCtx.Frame
public import proofs.«01_k».proof.Proof.Gen.MlpCtxIdeal.Frame
public import proofs.«01_k».proof.Proof.Gen.RefMlpCtxIdeal.Run
public import proofs.«01_k».proof.Proof.Gen.ProjNa.Frame
public import proofs.«01_k».proof.Proof.Gen.ProjNaIdeal.Frame
public import proofs.«01_k».proof.Proof.Gen.ProjDn.Frame
public import proofs.«01_k».proof.Proof.Gen.ProjDnIdeal.Frame
public import proofs.«01_k».proof.Proof.Gen.ProjZg.Frame
public import proofs.«01_k».proof.Proof.Gen.ProjZgIdeal.Frame
public import proofs.«01_k».proof.Proof.Gen.ProjSmall.Frame
public import proofs.«01_k».proof.Proof.Gen.ProjSmallIdeal.Frame
public import proofs.«01_k».proof.Proof.Gen.Merge.Frame
public import proofs.«01_k».proof.Proof.Gen.MergeIdeal.Frame
public import proofs.«01_k».proof.Proof.Gen.MlaKv.Frame
public import proofs.«01_k».proof.Proof.Gen.MlaKvIdeal.Frame
public import proofs.«01_k».proof.Proof.Gen.RefKvIdeal.Run
public import proofs.«01_k».proof.Proof.Gen.MlaQ.Frame
public import proofs.«01_k».proof.Proof.Gen.MlaQIdeal.Frame
public import proofs.«01_k».proof.Proof.Gen.RefQIdeal.Run
public import proofs.«01_k».proof.Proof.Gen.RefDnIdeal.Run
public import proofs.«01_k».proof.Proof.Gen.RefZgIdeal.Run
public import proofs.«01_k».proof.Proof.Gen.RefSmallIdeal.Run
public import proofs.«01_k».proof.Proof.Gen.RefMergeIdeal.Run
public import proofs.«01_k».proof.Proof.Gen.ReferenceIdeal.Run
public import proofs.«01_k».proof.Proof.Gen.RefMlpIdeal.Run
public import proofs.«01_k».proof.Proof.Gen.RefNaIdeal.Run
public import proofs.«01_k».proof.Proof.Gen.Pre_finite
public import proofs.«01_k».proof.Proof.Gen.Pre_finite_scan
public import proofs.«01_k».proof.Proof.AttnPre
public import proofs.«01_k».proof.Proof.AttnValue
public import proofs.«01_k».proof.Proof.MlpValue
public import proofs.«01_k».proof.Proof.MlpcValue
public import proofs.«01_k».proof.Proof.ProjValue
public import proofs.«01_k».proof.Proof.DnValue
public import proofs.«01_k».proof.Proof.ZgValue
public import proofs.«01_k».proof.Proof.SmallValue
public import proofs.«01_k».proof.Proof.MergeValue
public import proofs.«01_k».proof.Proof.KvValue
public import proofs.«01_k».proof.Proof.QValue
public import proofs.«01_k».proof.Proof.ScanPre
public import proofs.«01_k».proof.Proof.ScanValue
public import Idealize.ShloMosaic.Adequacy
public import Idealize.ShloMosaic.Init
public import Idealize.ShloMosaic.Lib.Claim

set_option maxRecDepth 16384

@[expose] public noncomputable section

namespace Cert.Proof

open Idealize.ShloMosaic Idealize.SL.Sem

/-! ## Every program terminates, faults nowhere and leaves its arguments as they were -/

theorem quiescent_Kernel : Cert.quiescent_Kernel := fun m g _ => Cert.Kernel.Gen.frame m g

theorem quiescent_KernelIdeal : Cert.quiescent_KernelIdeal := fun m g _ => Cert.KernelIdeal.Gen.frame m g

theorem quiescent_KernelIdeal_pre_finite : Cert.quiescent_KernelIdeal_pre_finite := fun m g _ => Cert.KernelIdeal.Gen.frame m g

theorem quiescent_ReferenceIdeal : Cert.quiescent_ReferenceIdeal := fun m g _ =>
  θ_run_mono (Cert.ReferenceIdeal.Value.run m g) fun r h => ⟨fun c => (h c).2, sem_eq_zero_of_no_sems (by decide) r.2⟩

theorem quiescent_ReferenceIdeal_pre_finite : Cert.quiescent_ReferenceIdeal_pre_finite := fun m g _ =>
  θ_run_mono (Cert.ReferenceIdeal.Value.run m g) fun r h => ⟨fun c => (h c).2, sem_eq_zero_of_no_sems (by decide) r.2⟩

theorem quiescent_Mlp : Cert.quiescent_Mlp := fun m g _ => Cert.Mlp.Gen.frame m g

theorem quiescent_MlpIdeal : Cert.quiescent_MlpIdeal := fun m g _ => Cert.MlpIdeal.Gen.frame m g

theorem quiescent_RefMlpIdeal : Cert.quiescent_RefMlpIdeal := fun m g _ =>
  θ_run_mono (Cert.RefMlpIdeal.Value.run m g) fun r h => ⟨fun c => (h c).2, sem_eq_zero_of_no_sems (by decide) r.2⟩

theorem quiescent_ProjNa : Cert.quiescent_ProjNa := fun m g _ => Cert.ProjNa.Gen.frame m g

theorem quiescent_ProjNaIdeal : Cert.quiescent_ProjNaIdeal := fun m g _ => Cert.ProjNaIdeal.Gen.frame m g

theorem quiescent_RefNaIdeal : Cert.quiescent_RefNaIdeal := fun m g _ =>
  θ_run_mono (Cert.RefNaIdeal.Value.run m g) fun r h => ⟨fun c => (h c).2, sem_eq_zero_of_no_sems (by decide) r.2⟩

theorem quiescent_ProjDn : Cert.quiescent_ProjDn := fun m g _ => Cert.ProjDn.Gen.frame m g

theorem quiescent_ProjDnIdeal : Cert.quiescent_ProjDnIdeal := fun m g _ => Cert.ProjDnIdeal.Gen.frame m g

theorem quiescent_RefDnIdeal : Cert.quiescent_RefDnIdeal := fun m g _ =>
  θ_run_mono (Cert.RefDnIdeal.Value.run m g) fun r h => ⟨fun c => (h c).2, sem_eq_zero_of_no_sems (by decide) r.2⟩

theorem quiescent_ProjZg : Cert.quiescent_ProjZg := fun m g _ => Cert.ProjZg.Gen.frame m g

theorem quiescent_ProjZgIdeal : Cert.quiescent_ProjZgIdeal := fun m g _ => Cert.ProjZgIdeal.Gen.frame m g

theorem quiescent_RefZgIdeal : Cert.quiescent_RefZgIdeal := fun m g _ =>
  θ_run_mono (Cert.RefZgIdeal.Value.run m g) fun r h => ⟨fun c => (h c).2, sem_eq_zero_of_no_sems (by decide) r.2⟩

theorem quiescent_ProjSmall : Cert.quiescent_ProjSmall := fun m g _ => Cert.ProjSmall.Gen.frame m g

theorem quiescent_ProjSmallIdeal : Cert.quiescent_ProjSmallIdeal := fun m g _ => Cert.ProjSmallIdeal.Gen.frame m g

theorem quiescent_RefSmallIdeal : Cert.quiescent_RefSmallIdeal := fun m g _ =>
  θ_run_mono (Cert.RefSmallIdeal.Value.run m g) fun r h => ⟨fun c => (h c).2, sem_eq_zero_of_no_sems (by decide) r.2⟩

theorem quiescent_Merge : Cert.quiescent_Merge := fun m g _ => Cert.Merge.Gen.frame m g

theorem quiescent_MergeIdeal : Cert.quiescent_MergeIdeal := fun m g _ => Cert.MergeIdeal.Gen.frame m g

theorem quiescent_RefMergeIdeal : Cert.quiescent_RefMergeIdeal := fun m g _ =>
  θ_run_mono (Cert.RefMergeIdeal.Value.run m g) fun r h => ⟨fun c => (h c).2, sem_eq_zero_of_no_sems (by decide) r.2⟩

theorem quiescent_MlpCtx : Cert.quiescent_MlpCtx := fun m g _ => Cert.MlpCtx.Gen.frame m g

theorem quiescent_MlpCtxIdeal : Cert.quiescent_MlpCtxIdeal := fun m g _ => Cert.MlpCtxIdeal.Gen.frame m g

theorem quiescent_RefMlpCtxIdeal : Cert.quiescent_RefMlpCtxIdeal := fun m g _ =>
  θ_run_mono (Cert.RefMlpCtxIdeal.Value.run m g) fun r h => ⟨fun c => (h c).2, sem_eq_zero_of_no_sems (by decide) r.2⟩

theorem quiescent_MlaKv : Cert.quiescent_MlaKv := fun m g _ => Cert.MlaKv.Gen.frame m g

theorem quiescent_MlaKvIdeal : Cert.quiescent_MlaKvIdeal := fun m g _ => Cert.MlaKvIdeal.Gen.frame m g

theorem quiescent_RefKvIdeal : Cert.quiescent_RefKvIdeal := fun m g _ =>
  θ_run_mono (Cert.RefKvIdeal.Value.run m g) fun r h => ⟨fun c => (h c).2.2.2, sem_eq_zero_of_no_sems (by decide) r.2⟩

theorem quiescent_MlaQ : Cert.quiescent_MlaQ := fun m g _ => Cert.MlaQ.Gen.frame m g

theorem quiescent_MlaQIdeal : Cert.quiescent_MlaQIdeal := fun m g _ => Cert.MlaQIdeal.Gen.frame m g

theorem quiescent_RefQIdeal : Cert.quiescent_RefQIdeal := fun m g _ =>
  θ_run_mono (Cert.RefQIdeal.Value.run m g) fun r h => ⟨fun c => (h c).2, sem_eq_zero_of_no_sems (by decide) r.2⟩

theorem quiescent_Scan : Cert.quiescent_Scan := fun m g _ => Cert.Scan.Gen.frame m g

theorem quiescent_ScanIdeal : Cert.quiescent_ScanIdeal := fun m g _ => Cert.ScanIdeal.Gen.frame m g

theorem quiescent_ScanIdeal_pre_finite_scan : Cert.quiescent_ScanIdeal_pre_finite_scan := fun m g _ => Cert.ScanIdeal.Gen.frame m g

theorem quiescent_RefScanIdeal : Cert.quiescent_RefScanIdeal := fun m g _ =>
  θ_run_mono (Cert.RefScanIdeal.Scan.run m g) fun r h => ⟨fun c => (h c).2, sem_eq_zero_of_no_sems (by decide) r.2⟩

theorem quiescent_RefScanIdeal_pre_finite_scan : Cert.quiescent_RefScanIdeal_pre_finite_scan := fun m g _ =>
  θ_run_mono (Cert.RefScanIdeal.Scan.run m g) fun r h => ⟨fun c => (h c).2, sem_eq_zero_of_no_sems (by decide) r.2⟩

/-! ## Values -/

set_option maxHeartbeats 1600000 in
/-- The attention kernel's result is the reference's, where the queries and the keys are real. -/
theorem algebraic_KernelIdeal_ReferenceIdeal_pre_finite : Cert.algebraic_KernelIdeal_ReferenceIdeal_pre_finite := by
  pair_intro
  · run_from Cert.KernelIdeal.Gen.run_main m g
  · run_from Cert.ReferenceIdeal.Value.run m' g'
    exact (Cert.KernelIdeal.Attn.final m c (Cert.Pre_finite.Read.real _ _ _ (hpre c)).1 (Cert.Pre_finite.Read.real _ _ _ (hpre c)).2).symm

set_option maxHeartbeats 1600000 in
/-- The MLP kernel's result is the reference's. -/
theorem algebraic_MlpIdeal_RefMlpIdeal : Cert.algebraic_MlpIdeal_RefMlpIdeal := by
  pair_intro
  · run_from Cert.MlpIdeal.Gen.run_main m g
  · run_from Cert.RefMlpIdeal.Value.run m' g'
    obtain ⟨h0, h1, h2, h3, h4, h5, h6, h7⟩ := hagree c
    rw [Cert.RefMlpIdeal.Mlp.result_eq, h0, h1, h2, h3, h4, h5, h6, h7]
    exact (Cert.MlpIdeal.Mlp.final m c).symm

theorem algebraic_MlpCtxIdeal_RefMlpCtxIdeal : Cert.algebraic_MlpCtxIdeal_RefMlpCtxIdeal := by
  pair_intro
  · run_from Cert.MlpCtxIdeal.Gen.run_main m g
  · run_from Cert.RefMlpCtxIdeal.Value.run m' g'
    obtain ⟨h0, h1, h2, h3, h4, h5, h6, h7⟩ := hagree c
    rw [Cert.RefMlpCtxIdeal.Mlp.result_eq, h0, h1, h2, h3, h4, h5, h6, h7]
    exact (Cert.MlpCtxIdeal.Mlp.final m c).symm

set_option maxHeartbeats 1600000 in
/-- The projection kernel's result is the reference's. -/
theorem algebraic_ProjNaIdeal_RefNaIdeal : Cert.algebraic_ProjNaIdeal_RefNaIdeal := by
  pair_intro
  · run_from Cert.ProjNaIdeal.Gen.run_main m g
  · run_from Cert.RefNaIdeal.Value.run m' g'
    exact (Cert.ProjNaIdeal.Proj.final m c).symm

set_option maxHeartbeats 1600000 in
/-- The projection to DeltaNet's columns is the reference's. -/
theorem algebraic_ProjDnIdeal_RefDnIdeal : Cert.algebraic_ProjDnIdeal_RefDnIdeal := by
  pair_intro
  · run_from Cert.ProjDnIdeal.Gen.run_main m g
  · run_from Cert.RefDnIdeal.Value.run m' g'
    exact (Cert.ProjDnIdeal.Proj.final m c).symm

set_option maxHeartbeats 1600000 in
/-- The projection to the gates' columns is the reference's. -/
theorem algebraic_ProjZgIdeal_RefZgIdeal : Cert.algebraic_ProjZgIdeal_RefZgIdeal := by
  pair_intro
  · run_from Cert.ProjZgIdeal.Gen.run_main m g
  · run_from Cert.RefZgIdeal.Value.run m' g'
    rw [(hagree c).2.2.2.2]
    exact (Cert.ProjZgIdeal.Proj.final m c).symm

set_option maxHeartbeats 1600000 in
/-- The projection to the latents and the small gates is the reference's. -/
theorem algebraic_ProjSmallIdeal_RefSmallIdeal : Cert.algebraic_ProjSmallIdeal_RefSmallIdeal := by
  pair_intro
  · run_from Cert.ProjSmallIdeal.Gen.run_main m g
  · run_from Cert.RefSmallIdeal.Value.run m' g'
    obtain ⟨h0, h1, h2, h3, h4⟩ := hagree c
    rw [Cert.RefSmallIdeal.Proj.result_eq, h0, h1, h2, h3, h4]
    exact (Cert.ProjSmallIdeal.Proj.final m c).symm

set_option maxHeartbeats 1600000 in
/-- The last projection, with its gates, norm and residual, is the reference's. -/
theorem algebraic_MergeIdeal_RefMergeIdeal : Cert.algebraic_MergeIdeal_RefMergeIdeal := by
  pair_intro
  · run_from Cert.MergeIdeal.Gen.run_main m g
  · run_from Cert.RefMergeIdeal.Value.run m' g'
    obtain ⟨h0, h1, h2, h3, h4, h5, h6, h7⟩ := hagree c
    rw [Cert.RefMergeIdeal.Out.result_eq, h0, h1, h2, h3, h4, h5, h6, h7]
    exact (Cert.MergeIdeal.Out.final m c).symm

set_option maxHeartbeats 1600000 in
/-- The keys, the values and the normed latents are the reference's. -/
theorem algebraic_MlaKvIdeal_RefKvIdeal : Cert.algebraic_MlaKvIdeal_RefKvIdeal := by
  pair_intro
  · run_from Cert.MlaKvIdeal.Gen.run_main m g
  · run_from Cert.RefKvIdeal.Value.run m' g'
    · rw [(hagree c).2.2]
      exact (Cert.MlaKvIdeal.Latents.final_keys m c).symm
    · exact (Cert.MlaKvIdeal.Latents.final_values m c).symm
    · exact (Cert.MlaKvIdeal.Latents.final_normed m c).symm

/-- The constant of the queries' kernel is the scale it stands for. -/
theorem preserves_MlaQ_MlaQIdeal : Cert.preserves_MlaQ_MlaQIdeal :=
  IdealRules.named_const.statement Cert.MlaQIdeal.κ "s" .f32 0x3D93CD3A#32 (((Real.sqrt 192)⁻¹ : ℝ) : EReal) rfl

set_option maxHeartbeats 1600000 in
/-- The queries are the reference's. -/
theorem algebraic_MlaQIdeal_RefQIdeal : Cert.algebraic_MlaQIdeal_RefQIdeal := by
  pair_intro
  · run_from Cert.MlaQIdeal.Gen.run_main m g
  · run_from Cert.RefQIdeal.Value.run m' g'
    rw [(hagree c).2.2]
    exact (Cert.MlaQIdeal.Latents.final m c).symm

set_option maxHeartbeats 1600000 in
/-- The state the DeltaNet kernel ends with is the reference's, where the keys, the betas and the gates are real. -/
theorem algebraic_ScanIdeal_RefScanIdeal_pre_finite_scan : Cert.algebraic_ScanIdeal_RefScanIdeal_pre_finite_scan := by
  pair_intro
  · run_from Cert.ScanIdeal.Gen.run_main m g
  · run_from Cert.RefScanIdeal.Scan.run m' g'
    exact (Cert.ScanIdeal.Scan.final m c m' c (hagree c).1 (hagree c).2 (Cert.Pre_finite_scan.Read.real _ _ (hpre c))).symm

theorem claim : Cert.Claim :=
  ⟨Cert.Kernel.Gen.facts, Cert.KernelIdeal.Gen.facts, Cert.ReferenceIdeal.Gen.facts, Cert.Mlp.Gen.facts, Cert.MlpIdeal.Gen.facts,
   Cert.RefMlpIdeal.Gen.facts, Cert.ProjNa.Gen.facts, Cert.ProjNaIdeal.Gen.facts, Cert.RefNaIdeal.Gen.facts, Cert.ProjDn.Gen.facts,
   Cert.ProjDnIdeal.Gen.facts, Cert.RefDnIdeal.Gen.facts, Cert.ProjZg.Gen.facts, Cert.ProjZgIdeal.Gen.facts, Cert.RefZgIdeal.Gen.facts,
   Cert.ProjSmall.Gen.facts, Cert.ProjSmallIdeal.Gen.facts, Cert.RefSmallIdeal.Gen.facts, Cert.Merge.Gen.facts,
   Cert.MergeIdeal.Gen.facts, Cert.RefMergeIdeal.Gen.facts, Cert.MlaKv.Gen.facts, Cert.MlaKvIdeal.Gen.facts,
   Cert.RefKvIdeal.Gen.facts, Cert.MlaQ.Gen.facts, Cert.MlaQIdeal.Gen.facts, Cert.RefQIdeal.Gen.facts,
   Cert.MlpCtx.Gen.facts, Cert.MlpCtxIdeal.Gen.facts, Cert.RefMlpCtxIdeal.Gen.facts, Cert.Scan.Gen.facts,
   Cert.ScanIdeal.Gen.facts, Cert.RefScanIdeal.Gen.facts, Cert.Pre_finite.Gen.facts, Cert.Pre_finite_scan.Gen.facts,
   quiescent_Kernel, quiescent_KernelIdeal, quiescent_KernelIdeal_pre_finite, quiescent_ReferenceIdeal,
   quiescent_ReferenceIdeal_pre_finite, quiescent_Mlp, quiescent_MlpIdeal, quiescent_RefMlpIdeal, quiescent_ProjNa,
   quiescent_ProjNaIdeal, quiescent_RefNaIdeal, quiescent_ProjDn, quiescent_ProjDnIdeal, quiescent_RefDnIdeal, quiescent_ProjZg,
   quiescent_ProjZgIdeal, quiescent_RefZgIdeal, quiescent_ProjSmall, quiescent_ProjSmallIdeal, quiescent_RefSmallIdeal,
   quiescent_Merge, quiescent_MergeIdeal, quiescent_RefMergeIdeal, quiescent_MlaKv, quiescent_MlaKvIdeal, quiescent_RefKvIdeal,
   quiescent_MlaQ, quiescent_MlaQIdeal, quiescent_RefQIdeal, quiescent_MlpCtx, quiescent_MlpCtxIdeal, quiescent_RefMlpCtxIdeal,
   quiescent_Scan, quiescent_ScanIdeal, quiescent_ScanIdeal_pre_finite_scan, quiescent_RefScanIdeal,
   quiescent_RefScanIdeal_pre_finite_scan,
   trivial, algebraic_KernelIdeal_ReferenceIdeal_pre_finite, trivial, algebraic_MlpIdeal_RefMlpIdeal,
   trivial, algebraic_ProjNaIdeal_RefNaIdeal, trivial, algebraic_ProjDnIdeal_RefDnIdeal, trivial, algebraic_ProjZgIdeal_RefZgIdeal,
   trivial, algebraic_ProjSmallIdeal_RefSmallIdeal, trivial, algebraic_MergeIdeal_RefMergeIdeal,
   trivial, algebraic_MlaKvIdeal_RefKvIdeal, preserves_MlaQ_MlaQIdeal, algebraic_MlaQIdeal_RefQIdeal,
   trivial, algebraic_MlpCtxIdeal_RefMlpCtxIdeal, trivial, algebraic_ScanIdeal_RefScanIdeal_pre_finite_scan⟩

end Cert.Proof

end
